-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v6_0)) (v1 : (c : Dev Cert.KernelIdeal.nD) → Buf (Elt Ideal) ((c.tc : Thread Cert.KernelIdeal.nD Cert.KernelIdeal.τ).loc Cert.KernelIdeal.main_v6_1)) (v2 : (c : Dev Cert.KernelIdeal.nD) → Buf (Elt Ideal) ((c.tc : Thread Cert.KernelIdeal.nD Cert.KernelIdeal.τ).loc Cert.KernelIdeal.main_v8)) (v3 : (c : Dev Cert.KernelIdeal.nD) → Buf (Elt Ideal) ((c.tc : Thread Cert.KernelIdeal.nD Cert.KernelIdeal.τ).loc Cert.KernelIdeal.main_v3_0)) (v4 : (c : Dev Cert.KernelIdeal.nD) → Buf (Elt Ideal) ((c.tc : Thread Cert.KernelIdeal.nD Cert.KernelIdeal.τ).loc Cert.KernelIdeal.main_v3_2)) (v5 : (c : Dev Cert.KernelIdeal.nD) → Buf (Elt Ideal) ((c.tc : Thread Cert.KernelIdeal.nD Cert.KernelIdeal.τ).loc Cert.KernelIdeal.main_v3_3)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v6_0) = v0 c
          ∧ r.2.mem ((c.tc : Thread Cert.KernelIdeal.nD Cert.KernelIdeal.τ).loc Cert.KernelIdeal.main_v6_1) = v1 c
          ∧ r.2.mem ((c.tc : Thread Cert.KernelIdeal.nD Cert.KernelIdeal.τ).loc Cert.KernelIdeal.main_v8) = v2 c
          ∧ r.2.mem ((c.tc : Thread Cert.KernelIdeal.nD Cert.KernelIdeal.τ).loc Cert.KernelIdeal.main_v3_0) = v3 c
          ∧ r.2.mem ((c.tc : Thread Cert.KernelIdeal.nD Cert.KernelIdeal.τ).loc Cert.KernelIdeal.main_v3_2) = v4 c
          ∧ r.2.mem ((c.tc : Thread Cert.KernelIdeal.nD Cert.KernelIdeal.τ).loc Cert.KernelIdeal.main_v3_3) = v5 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v84) = v0 c
          ∧ r.2.mem ((c.tc : Thread Cert.ReferenceIdeal.nD Cert.ReferenceIdeal.τ).loc Cert.ReferenceIdeal.main_v92) = v1 c
          ∧ r.2.mem ((c.tc : Thread Cert.ReferenceIdeal.nD Cert.ReferenceIdeal.τ).loc Cert.ReferenceIdeal.main_v50) = v2 c
          ∧ r.2.mem ((c.tc : Thread Cert.ReferenceIdeal.nD Cert.ReferenceIdeal.τ).loc Cert.ReferenceIdeal.main_v93) = v3 c
          ∧ r.2.mem ((c.tc : Thread Cert.ReferenceIdeal.nD Cert.ReferenceIdeal.τ).loc Cert.ReferenceIdeal.main_v19) = v4 c
          ∧ r.2.mem ((c.tc : Thread Cert.ReferenceIdeal.nD Cert.ReferenceIdeal.τ).loc Cert.ReferenceIdeal.main_v22) = v5 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S8x768x7168 : Shape := ⟨3, ![8, 768, 7168]⟩
abbrev S8x768x56 : Shape := ⟨3, ![8, 768, 56]⟩
abbrev S18432x7168 : Shape := ⟨2, ![18432, 7168]⟩
abbrev S18432x56 : Shape := ⟨2, ![18432, 56]⟩
abbrev S8x768x18432 : Shape := ⟨3, ![8, 768, 18432]⟩
abbrev S6144x7168 : Shape := ⟨2, ![6144, 7168]⟩
abbrev S6144x56 : Shape := ⟨2, ![6144, 56]⟩
abbrev S256x7168 : Shape := ⟨2, ![256, 7168]⟩
abbrev S256x56 : Shape := ⟨2, ![256, 56]⟩
abbrev S256x1 : Shape := ⟨2, ![256, 1]⟩
abbrev S256x128 : Shape := ⟨2, ![256, 128]⟩
abbrev S64x7168 : Shape := ⟨2, ![64, 7168]⟩
abbrev S64x56 : Shape := ⟨2, ![64, 56]⟩
abbrev S64x128 : Shape := ⟨2, ![64, 128]⟩
abbrev S64 : Shape := ⟨1, ![64]⟩
abbrev S64x1 : Shape := ⟨2, ![64, 1]⟩
abbrev S6144x18432 : Shape := ⟨2, ![6144, 18432]⟩
abbrev S18432x6144 : Shape := ⟨2, ![18432, 6144]⟩
abbrev S8x512 : Shape := ⟨2, ![8, 512]⟩
abbrev S768x7168 : Shape := ⟨2, ![768, 7168]⟩
abbrev S512x7168 : Shape := ⟨2, ![512, 7168]⟩
abbrev S512x768 : Shape := ⟨2, ![512, 768]⟩
abbrev S768x512 : Shape := ⟨2, ![768, 512]⟩
abbrev S96x8x512 : Shape := ⟨3, ![96, 8, 512]⟩
abbrev S768x6144 : Shape := ⟨2, ![768, 6144]⟩
abbrev S6144x512 : Shape := ⟨2, ![6144, 512]⟩
abbrev S768x56 : Shape := ⟨2, ![768, 56]⟩
abbrev S768 : Shape := ⟨1, ![768]⟩
abbrev S768x1 : Shape := ⟨2, ![768, 1]⟩
abbrev S768x128 : Shape := ⟨2, ![768, 128]⟩
abbrev S_ : Shape := ⟨0, ![]⟩

abbrev nBuf : Space → Nat
  | .hbm => 24
  | .vmem => 52
  | .smem => 0
  | _ => 0

abbrev bufTy : (tb : Table) → Fin (tcTables nBuf tb) → BufTy
  | .hbm, ⟨0, _⟩ => ⟨S8x768x7168, .fp8e4m3⟩
  | .hbm, ⟨1, _⟩ => ⟨S8x768x56, .f32⟩
  | .hbm, ⟨2, _⟩ => ⟨S18432x7168, .f32⟩
  | .hbm, ⟨3, _⟩ => ⟨S18432x56, .f32⟩
  | .hbm, ⟨4, _⟩ => ⟨S18432x56, .f32⟩
  | .hbm, ⟨5, _⟩ => ⟨S8x768x18432, .bf16⟩
  | .hbm, ⟨6, _⟩ => ⟨S6144x7168, .fp8e4m3⟩
  | .hbm, ⟨7, _⟩ => ⟨S6144x56, .f32⟩
  | .hbm, ⟨8, _⟩ => ⟨S6144x7168, .bf16⟩
  | .hbm, ⟨9, _⟩ => ⟨S18432x7168, .i8⟩
  | .hbm, ⟨10, _⟩ => ⟨S18432x7168, .bf16⟩
  | .hbm, ⟨11, _⟩ => ⟨S18432x56, .f32⟩
  | .hbm, ⟨12, _⟩ => ⟨S18432x56, .f32⟩
  | .hbm, ⟨13, _⟩ => ⟨S18432x56, .f32⟩
  | .hbm, ⟨14, _⟩ => ⟨S18432x56, .f32⟩
  | .hbm, ⟨15, _⟩ => ⟨S6144x18432, .bf16⟩
  | .hbm, ⟨16, _⟩ => ⟨S18432x6144, .bf16⟩
  | .hbm, ⟨17, _⟩ => ⟨S8x512, .f32⟩
  | .hbm, ⟨18, _⟩ => ⟨S18432x56, .f32⟩
  | .hbm, ⟨19, _⟩ => ⟨S18432x56, .f32⟩
  | .hbm, ⟨20, _⟩ => ⟨S_, .f32⟩
  | .hbm, ⟨21, _⟩ => ⟨S_, .f32⟩
  | .hbm, ⟨22, _⟩ => ⟨S_, .f32⟩
  | .hbm, ⟨23, _⟩ => ⟨S_, .f32⟩
  | .local _ .vmem, ⟨0, _⟩ => ⟨S256x7168, .fp8e4m3⟩
  | .local _ .vmem, ⟨1, _⟩ => ⟨S256x7168, .fp8e4m3⟩
  | .local _ .vmem, ⟨2, _⟩ => ⟨S256x56, .f32⟩
  | .local _ .vmem, ⟨3, _⟩ => ⟨S256x56, .f32⟩
  | .local _ .vmem, ⟨4, _⟩ => ⟨S256x7168, .bf16⟩
  | .local _ .vmem, ⟨5, _⟩ => ⟨S256x7168, .bf16⟩
  | .local _ .vmem, ⟨6, _⟩ => ⟨S64x7168, .f32⟩
  | .local _ .vmem, ⟨7, _⟩ => ⟨S64x7168, .f32⟩
  | .local _ .vmem, ⟨8, _⟩ => ⟨S64x56, .f32⟩
  | .local _ .vmem, ⟨9, _⟩ => ⟨S64x56, .f32⟩
  | .local _ .vmem, ⟨10, _⟩ => ⟨S64x56, .f32⟩
  | .local _ .vmem, ⟨11, _⟩ => ⟨S64x56, .f32⟩
  | .local _ .vmem, ⟨12, _⟩ => ⟨S64x7168, .i8⟩
  | .local _ .vmem, ⟨13, _⟩ => ⟨S64x7168, .i8⟩
  | .local _ .vmem, ⟨14, _⟩ => ⟨S64x7168, .bf16⟩
  | .local _ .vmem, ⟨15, _⟩ => ⟨S64x7168, .bf16⟩
  | .local _ .vmem, ⟨16, _⟩ => ⟨S64x56, .f32⟩
  | .local _ .vmem, ⟨17, _⟩ => ⟨S64x56, .f32⟩
  | .local _ .vmem, ⟨18, _⟩ => ⟨S64x56, .f32⟩
  | .local _ .vmem, ⟨19, _⟩ => ⟨S64x56, .f32⟩
  | .local _ .vmem, ⟨20, _⟩ => ⟨S64x56, .f32⟩
  | .local _ .vmem, ⟨21, _⟩ => ⟨S64x56, .f32⟩
  | .local _ .vmem, ⟨22, _⟩ => ⟨S64x56, .f32⟩
  | .local _ .vmem, ⟨23, _⟩ => ⟨S64x56, .f32⟩
  | .local _ .vmem, ⟨24, _⟩ => ⟨S768x7168, .bf16⟩
  | .local _ .vmem, ⟨25, _⟩ => ⟨S768x7168, .bf16⟩
  | .local _ .vmem, ⟨26, _⟩ => ⟨S512x7168, .bf16⟩
  | .local _ .vmem, ⟨27, _⟩ => ⟨S512x7168, .bf16⟩
  | .local _ .vmem, ⟨28, _⟩ => ⟨S512x768, .bf16⟩
  | .local _ .vmem, ⟨29, _⟩ => ⟨S512x768, .bf16⟩
  | .local _ .vmem, ⟨30, _⟩ => ⟨S768x512, .bf16⟩
  | .local _ .vmem, ⟨31, _⟩ => ⟨S768x512, .bf16⟩
  | .local _ .vmem, ⟨32, _⟩ => ⟨S8x512, .f32⟩
  | .local _ .vmem, ⟨33, _⟩ => ⟨S768x6144, .bf16⟩
  | .local _ .vmem, ⟨34, _⟩ => ⟨S768x6144, .bf16⟩
  | .local _ .vmem, ⟨35, _⟩ => ⟨S6144x512, .bf16⟩
  | .local _ .vmem, ⟨36, _⟩ => ⟨S6144x512, .bf16⟩
  | .local _ .vmem, ⟨37, _⟩ => ⟨S768x512, .f32⟩
  | .local _ .vmem, ⟨38, _⟩ => ⟨S768x512, .f32⟩
  | .local _ .vmem, ⟨39, _⟩ => ⟨S768x56, .f32⟩
  | .local _ .vmem, ⟨40, _⟩ => ⟨S768x56, .f32⟩
  | .local _ .vmem, ⟨41, _⟩ => ⟨S768x56, .f32⟩
  | .local _ .vmem, ⟨42, _⟩ => ⟨S768x56, .f32⟩
  | .local _ .vmem, ⟨43, _⟩ => ⟨S768x56, .f32⟩
  | .local _ .vmem, ⟨44, _⟩ => ⟨S768x56, .f32⟩
  | .local _ .vmem, ⟨45, _⟩ => ⟨S768x56, .f32⟩
  | .local _ .vmem, ⟨46, _⟩ => ⟨S768x56, .f32⟩
  | .local _ .vmem, ⟨47, _⟩ => ⟨S768x56, .f32⟩
  | .local _ .vmem, ⟨48, _⟩ => ⟨S768x56, .f32⟩
  | .local _ .vmem, ⟨49, _⟩ => ⟨S768x56, .f32⟩
  | .local _ .vmem, ⟨50, _⟩ => ⟨S768x56, .f32⟩
  | .local _ .vmem, ⟨51, _⟩ => ⟨S768x56, .f32⟩
  | _, _ => ⟨S8x768x7168, .fp8e4m3⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | .vmem, ⟨40, _⟩ => true
  | .vmem, ⟨41, _⟩ => true
  | .vmem, ⟨42, _⟩ => true
  | .vmem, ⟨43, _⟩ => true
  | .vmem, ⟨44, _⟩ => true
  | .vmem, ⟨45, _⟩ => true
  | .vmem, ⟨46, _⟩ => true
  | .vmem, ⟨47, _⟩ => true
  | .vmem, ⟨48, _⟩ => true
  | .vmem, ⟨49, _⟩ => true
  | .vmem, ⟨50, _⟩ => true
  | .vmem, ⟨51, _⟩ => true
  | _, _ => false

abbrev semScoped : Fin 0 → Bool
  | ⟨_, h⟩ => absurd h (Nat.not_lt_zero _)

abbrev dmaSemScoped : Fin 51 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | ⟨45, _⟩ => true
  | ⟨46, _⟩ => true
  | ⟨47, _⟩ => true
  | ⟨48, _⟩ => true
  | ⟨49, _⟩ => true
  | ⟨50, _⟩ => true
  | _ => false

abbrev sig : RefSig :=
  ofTc nBuf bufTy 0 51 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3_0 : Ref sig .tc := ⟨.hbm, 9, rfl⟩
abbrev main_v3_1 : Ref sig .tc := ⟨.hbm, 10, rfl⟩
abbrev main_v3_2 : Ref sig .tc := ⟨.hbm, 11, rfl⟩
abbrev main_v3_3 : Ref sig .tc := ⟨.hbm, 12, rfl⟩
abbrev main_v3_4 : Ref sig .tc := ⟨.hbm, 13, rfl⟩
abbrev main_v3_5 : Ref sig .tc := ⟨.hbm, 14, rfl⟩
abbrev main_v4 : Ref sig .tc := ⟨.hbm, 15, rfl⟩
abbrev main_v5_0 : Ref sig .tc := ⟨.hbm, 16, rfl⟩
abbrev main_v5_1 : Ref sig .tc := ⟨.hbm, 17, rfl⟩
abbrev main_v6_0 : Ref sig .tc := ⟨.hbm, 18, rfl⟩
abbrev main_v6_1 : Ref sig .tc := ⟨.hbm, 19, rfl⟩
abbrev main_cst : Ref sig .tc := ⟨.hbm, 20, rfl⟩
abbrev main_v7 : Ref sig .tc := ⟨.hbm, 21, rfl⟩
abbrev main_cst_0 : Ref sig .tc := ⟨.hbm, 22, rfl⟩
abbrev main_v8 : Ref sig .tc := ⟨.hbm, 23, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc1_stg0_0 : Ref sig .tc := ⟨.vmem, 6, rfl⟩
abbrev cc1_stg0_1 : Ref sig .tc := ⟨.vmem, 7, rfl⟩
abbrev cc1_stg1_0 : Ref sig .tc := ⟨.vmem, 8, rfl⟩
abbrev cc1_stg1_1 : Ref sig .tc := ⟨.vmem, 9, rfl⟩
abbrev cc1_stg2_0 : Ref sig .tc := ⟨.vmem, 10, rfl⟩
abbrev cc1_stg2_1 : Ref sig .tc := ⟨.vmem, 11, rfl⟩
abbrev cc1_stg3_0 : Ref sig .tc := ⟨.vmem, 12, rfl⟩
abbrev cc1_stg3_1 : Ref sig .tc := ⟨.vmem, 13, rfl⟩
abbrev cc1_stg4_0 : Ref sig .tc := ⟨.vmem, 14, rfl⟩
abbrev cc1_stg4_1 : Ref sig .tc := ⟨.vmem, 15, rfl⟩
abbrev cc1_stg5_0 : Ref sig .tc := ⟨.vmem, 16, rfl⟩
abbrev cc1_stg5_1 : Ref sig .tc := ⟨.vmem, 17, rfl⟩
abbrev cc1_stg6_0 : Ref sig .tc := ⟨.vmem, 18, rfl⟩
abbrev cc1_stg6_1 : Ref sig .tc := ⟨.vmem, 19, rfl⟩
abbrev cc1_stg7_0 : Ref sig .tc := ⟨.vmem, 20, rfl⟩
abbrev cc1_stg7_1 : Ref sig .tc := ⟨.vmem, 21, rfl⟩
abbrev cc1_stg8_0 : Ref sig .tc := ⟨.vmem, 22, rfl⟩
abbrev cc1_stg8_1 : Ref sig .tc := ⟨.vmem, 23, rfl⟩
abbrev cc2_stg0_0 : Ref sig .tc := ⟨.vmem, 24, rfl⟩
abbrev cc2_stg0_1 : Ref sig .tc := ⟨.vmem, 25, rfl⟩
abbrev cc2_stg1_0 : Ref sig .tc := ⟨.vmem, 26, rfl⟩
abbrev cc2_stg1_1 : Ref sig .tc := ⟨.vmem, 27, rfl⟩
abbrev cc2_stg2_0 : Ref sig .tc := ⟨.vmem, 28, rfl⟩
abbrev cc2_stg2_1 : Ref sig .tc := ⟨.vmem, 29, rfl⟩
abbrev cc2_stg3_0 : Ref sig .tc := ⟨.vmem, 30, rfl⟩
abbrev cc2_stg3_1 : Ref sig .tc := ⟨.vmem, 31, rfl⟩
abbrev cc2_stg4_0 : Ref sig .tc := ⟨.vmem, 32, rfl⟩
abbrev cc3_stg0_0 : Ref sig .tc := ⟨.vmem, 33, rfl⟩
abbrev cc3_stg0_1 : Ref sig .tc := ⟨.vmem, 34, rfl⟩
abbrev cc3_stg1_0 : Ref sig .tc := ⟨.vmem, 35, rfl⟩
abbrev cc3_stg1_1 : Ref sig .tc := ⟨.vmem, 36, rfl⟩
abbrev cc3_stg2_0 : Ref sig .tc := ⟨.vmem, 37, rfl⟩
abbrev cc3_stg2_1 : Ref sig .tc := ⟨.vmem, 38, rfl⟩
abbrev cc3_stg3_0 : Ref sig .tc := ⟨.vmem, 39, rfl⟩
abbrev cc3_stg3_1 : Ref sig .tc := ⟨.vmem, 40, rfl⟩
abbrev cc3_stg4_0 : Ref sig .tc := ⟨.vmem, 41, rfl⟩
abbrev cc3_stg4_1 : Ref sig .tc := ⟨.vmem, 42, rfl⟩
abbrev cc3_stg5_0 : Ref sig .tc := ⟨.vmem, 43, rfl⟩
abbrev cc3_stg5_1 : Ref sig .tc := ⟨.vmem, 44, rfl⟩
abbrev cc3_stg6_0 : Ref sig .tc := ⟨.vmem, 45, rfl⟩
abbrev cc3_stg6_1 : Ref sig .tc := ⟨.vmem, 46, rfl⟩
abbrev cc3_stg7_0 : Ref sig .tc := ⟨.vmem, 47, rfl⟩
abbrev cc3_stg7_1 : Ref sig .tc := ⟨.vmem, 48, rfl⟩
abbrev cc3_stg8_0 : Ref sig .tc := ⟨.vmem, 49, rfl⟩
abbrev cc3_stg8_1 : Ref sig .tc := ⟨.vmem, 50, rfl⟩
abbrev cc3_scratch0 : Ref sig .tc := ⟨.vmem, 51, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc1_sem0_0 : DmaSem sig := 6
abbrev cc1_sem0_1 : DmaSem sig := 7
abbrev cc1_sem1_0 : DmaSem sig := 8
abbrev cc1_sem1_1 : DmaSem sig := 9
abbrev cc1_sem2_0 : DmaSem sig := 10
abbrev cc1_sem2_1 : DmaSem sig := 11
abbrev cc1_sem3_0 : DmaSem sig := 12
abbrev cc1_sem3_1 : DmaSem sig := 13
abbrev cc1_sem4_0 : DmaSem sig := 14
abbrev cc1_sem4_1 : DmaSem sig := 15
abbrev cc1_sem5_0 : DmaSem sig := 16
abbrev cc1_sem5_1 : DmaSem sig := 17
abbrev cc1_sem6_0 : DmaSem sig := 18
abbrev cc1_sem6_1 : DmaSem sig := 19
abbrev cc1_sem7_0 : DmaSem sig := 20
abbrev cc1_sem7_1 : DmaSem sig := 21
abbrev cc1_sem8_0 : DmaSem sig := 22
abbrev cc1_sem8_1 : DmaSem sig := 23
abbrev cc2_sem0_0 : DmaSem sig := 24
abbrev cc2_sem0_1 : DmaSem sig := 25
abbrev cc2_sem1_0 : DmaSem sig := 26
abbrev cc2_sem1_1 : DmaSem sig := 27
abbrev cc2_sem2_0 : DmaSem sig := 28
abbrev cc2_sem2_1 : DmaSem sig := 29
abbrev cc2_sem3_0 : DmaSem sig := 30
abbrev cc2_sem3_1 : DmaSem sig := 31
abbrev cc2_sem4_0 : DmaSem sig := 32
abbrev cc3_sem0_0 : DmaSem sig := 33
abbrev cc3_sem0_1 : DmaSem sig := 34
abbrev cc3_sem1_0 : DmaSem sig := 35
abbrev cc3_sem1_1 : DmaSem sig := 36
abbrev cc3_sem2_0 : DmaSem sig := 37
abbrev cc3_sem2_1 : DmaSem sig := 38
abbrev cc3_sem3_0 : DmaSem sig := 39
abbrev cc3_sem3_1 : DmaSem sig := 40
abbrev cc3_sem4_0 : DmaSem sig := 41
abbrev cc3_sem4_1 : DmaSem sig := 42
abbrev cc3_sem5_0 : DmaSem sig := 43
abbrev cc3_sem5_1 : DmaSem sig := 44
abbrev cc3_sem6_0 : DmaSem sig := 45
abbrev cc3_sem6_1 : DmaSem sig := 46
abbrev cc3_sem7_0 : DmaSem sig := 47
abbrev cc3_sem7_1 : DmaSem sig := 48
abbrev cc3_sem8_0 : DmaSem sig := 49
abbrev cc3_sem8_1 : DmaSem sig := 50

abbrev nD : Nat := 1
abbrev τ : Topo := Topo.v7x

variable {F : FTy → Type} [FloatOps F]

abbrev grid0 : Pipeline.Grid := ⟨1, ![24], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x7168 .fp8e4m3 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x56 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x7168 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := ⟨1, ![288], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_3 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_4 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_5 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_6 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_7 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_8 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S64x7168 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S64x56 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 2 → Memref sig .tc .vmem S64x56 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev stage1_3 : Fin 2 → Memref sig .tc .vmem S64x7168 .i8 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true]

abbrev stage1_4 : Fin 2 → Memref sig .tc .vmem S64x7168 .bf16 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![true]

abbrev stage1_5 : Fin 2 → Memref sig .tc .vmem S64x56 .f32 := fun | 0 => Memref.whole cc1_stg5_0 | 1 => Memref.whole cc1_stg5_1 | ⟨_ + 2, h⟩ => absurd h (Nat.not_lt.2 (Nat.le_add_left _ _))
abbrev sem1_5 : Fin 2 → DmaSem sig := fun | 0 => cc1_sem5_0 | 1 => cc1_sem5_1 | ⟨_ + 2, h⟩ => absurd h (Nat.not_lt.2 (Nat.le_add_left _ _))
abbrev reads1_5 : Fin grid1.rank → Bool := ![true]

abbrev stage1_6 : Fin 2 → Memref sig .tc .vmem S64x56 .f32 := fun | 0 => Memref.whole cc1_stg6_0 | 1 => Memref.whole cc1_stg6_1 | ⟨_ + 2, h⟩ => absurd h (Nat.not_lt.2 (Nat.le_add_left _ _))
abbrev sem1_6 : Fin 2 → DmaSem sig := fun | 0 => cc1_sem6_0 | 1 => cc1_sem6_1 | ⟨_ + 2, h⟩ => absurd h (Nat.not_lt.2 (Nat.le_add_left _ _))
abbrev reads1_6 : Fin grid1.rank → Bool := ![true]

abbrev stage1_7 : Fin 2 → Memref sig .tc .vmem S64x56 .f32 := fun | 0 => Memref.whole cc1_stg7_0 | 1 => Memref.whole cc1_stg7_1 | ⟨_ + 2, h⟩ => absurd h (Nat.not_lt.2 (Nat.le_add_left _ _))
abbrev sem1_7 : Fin 2 → DmaSem sig := fun | 0 => cc1_sem7_0 | 1 => cc1_sem7_1 | ⟨_ + 2, h⟩ => absurd h (Nat.not_lt.2 (Nat.le_add_left _ _))
abbrev reads1_7 : Fin grid1.rank → Bool := ![true]

abbrev stage1_8 : Fin 2 → Memref sig .tc .vmem S64x56 .f32 := fun | 0 => Memref.whole cc1_stg8_0 | 1 => Memref.whole cc1_stg8_1 | ⟨_ + 2, h⟩ => absurd h (Nat.not_lt.2 (Nat.le_add_left _ _))
abbrev sem1_8 : Fin 2 → DmaSem sig := fun | 0 => cc1_sem8_0 | 1 => cc1_sem8_1 | ⟨_ + 2, h⟩ => absurd h (Nat.not_lt.2 (Nat.le_add_left _ _))
abbrev reads1_8 : Fin grid1.rank → Bool := ![true]

abbrev grid2 : Pipeline.Grid := ⟨2, ![24, 12], ![false, false]⟩

def cc2_transform_0 (i : grid2.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc2_transform_2 (i : grid2.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc2_transform_3 (i : grid2.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc2_transform_4 (i : grid2.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

abbrev stage2_0 : Fin 2 → Memref sig .tc .vmem S768x7168 .bf16 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true, false]

abbrev stage2_1 : Fin 2 → Memref sig .tc .vmem S512x7168 .bf16 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![false, true]

abbrev stage2_2 : Fin 2 → Memref sig .tc .vmem S512x768 .bf16 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true, true]

abbrev stage2_3 : Fin 2 → Memref sig .tc .vmem S768x512 .bf16 := fun | 0 => Memref.whole cc2_stg3_0 | 1 => Memref.whole cc2_stg3_1 | ⟨_ + 2, h⟩ => absurd h (Nat.not_lt.2 (Nat.le_add_left _ _))
abbrev sem2_3 : Fin 2 → DmaSem sig := fun | 0 => cc2_sem3_0 | 1 => cc2_sem3_1 | ⟨_ + 2, h⟩ => absurd h (Nat.not_lt.2 (Nat.le_add_left _ _))
abbrev reads2_3 : Fin grid2.rank → Bool := ![true, true]

abbrev stage2_4 : Fin 1 → Memref sig .tc .vmem S8x512 .f32 := fun | 0 => Memref.whole cc2_stg4_0 | ⟨_ + 1, h⟩ => absurd h (Nat.not_lt.2 (Nat.le_add_left _ _))
abbrev sem2_4 : Fin 1 → DmaSem sig := fun | 0 => cc2_sem4_0 | ⟨_ + 1, h⟩ => absurd h (Nat.not_lt.2 (Nat.le_add_left _ _))
abbrev reads2_4 : Fin grid2.rank → Bool := ![false, false]

abbrev grid3 : Pipeline.Grid := ⟨2, ![24, 14], ![false, false]⟩

def k3_cond2 (i : grid3.Coords) : BitVec 1 :=
  let arg1 : BitVec 32 := BitVec.ofNat 32 (i 1).val
  let c13_i32 : BitVec 32 := 13#32
  let v199 : BitVec 1 := Scalar.cmpi .eq arg1 c13_i32
  let v200 : BitVec 32 := Scalar.extui v199
  let c0_i32_86 : BitVec 32 := 0#32
  let v201 : BitVec 1 := Scalar.cmpi .ne v200 c0_i32_86
  v201

def cc3_transform_0 (i : grid3.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc3_transform_2 (i : grid3.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc3_transform_3 (i : grid3.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc3_transform_4 (i : grid3.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc3_transform_5 (i : grid3.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc3_transform_6 (i : grid3.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc3_transform_7 (i : grid3.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc3_transform_8 (i : grid3.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage3_0 : Fin 2 → Memref sig .tc .vmem S768x6144 .bf16 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true, false]

abbrev stage3_1 : Fin 2 → Memref sig .tc .vmem S6144x512 .bf16 := fun | 0 => Memref.whole cc3_stg1_0 | 1 => Memref.whole cc3_stg1_1 | ⟨_ + 2, h⟩ => absurd h (Nat.not_lt.2 (Nat.le_add_left _ _))
abbrev sem3_1 : Fin 2 → DmaSem sig := fun | 0 => cc3_sem1_0 | 1 => cc3_sem1_1 | ⟨_ + 2, h⟩ => absurd h (Nat.not_lt.2 (Nat.le_add_left _ _))
abbrev reads3_1 : Fin grid3.rank → Bool := ![false, true]

abbrev stage3_2 : Fin 2 → Memref sig .tc .vmem S768x512 .f32 := fun | 0 => Memref.whole cc3_stg2_0 | 1 => Memref.whole cc3_stg2_1 | ⟨_ + 2, h⟩ => absurd h (Nat.not_lt.2 (Nat.le_add_left _ _))
abbrev sem3_2 : Fin 2 → DmaSem sig := fun | 0 => cc3_sem2_0 | 1 => cc3_sem2_1 | ⟨_ + 2, h⟩ => absurd h (Nat.not_lt.2 (Nat.le_add_left _ _))
abbrev reads3_2 : Fin grid3.rank → Bool := ![true, true]

abbrev stage3_3 : Fin 2 → Memref sig .tc .vmem S768x56 .f32 := fun | 0 => Memref.whole cc3_stg3_0 | 1 => Memref.whole cc3_stg3_1 | ⟨_ + 2, h⟩ => absurd h (Nat.not_lt.2 (Nat.le_add_left _ _))
abbrev sem3_3 : Fin 2 → DmaSem sig := fun | 0 => cc3_sem3_0 | 1 => cc3_sem3_1 | ⟨_ + 2, h⟩ => absurd h (Nat.not_lt.2 (Nat.le_add_left _ _))
abbrev reads3_3 : Fin grid3.rank → Bool := ![true, false]

abbrev stage3_4 : Fin 2 → Memref sig .tc .vmem S768x56 .f32 := fun | 0 => Memref.whole cc3_stg4_0 | 1 => Memref.whole cc3_stg4_1 | ⟨_ + 2, h⟩ => absurd h (Nat.not_lt.2 (Nat.le_add_left _ _))
abbrev sem3_4 : Fin 2 → DmaSem sig := fun | 0 => cc3_sem4_0 | 1 => cc3_sem4_1 | ⟨_ + 2, h⟩ => absurd h (Nat.not_lt.2 (Nat.le_add_left _ _))
abbrev reads3_4 : Fin grid3.rank → Bool := ![true, false]

abbrev stage3_5 : Fin 2 → Memref sig .tc .vmem S768x56 .f32 := fun | 0 => Memref.whole cc3_stg5_0 | 1 => Memref.whole cc3_stg5_1 | ⟨_ + 2, h⟩ => absurd h (Nat.not_lt.2 (Nat.le_add_left _ _))
abbrev sem3_5 : Fin 2 → DmaSem sig := fun | 0 => cc3_sem5_0 | 1 => cc3_sem5_1 | ⟨_ + 2, h⟩ => absurd h (Nat.not_lt.2 (Nat.le_add_left _ _))
abbrev reads3_5 : Fin grid3.rank → Bool := ![true, false]

abbrev stage3_6 : Fin 2 → Memref sig .tc .vmem S768x56 .f32 := fun | 0 => Memref.whole cc3_stg6_0 | 1 => Memref.whole cc3_stg6_1 | ⟨_ + 2, h⟩ => absurd h (Nat.not_lt.2 (Nat.le_add_left _ _))
abbrev sem3_6 : Fin 2 → DmaSem sig := fun | 0 => cc3_sem6_0 | 1 => cc3_sem6_1 | ⟨_ + 2, h⟩ => absurd h (Nat.not_lt.2 (Nat.le_add_left _ _))
abbrev reads3_6 : Fin grid3.rank → Bool := ![true, false]

abbrev stage3_7 : Fin 2 → Memref sig .tc .vmem S768x56 .f32 := fun | 0 => Memref.whole cc3_stg7_0 | 1 => Memref.whole cc3_stg7_1 | ⟨_ + 2, h⟩ => absurd h (Nat.not_lt.2 (Nat.le_add_left _ _))
abbrev sem3_7 : Fin 2 → DmaSem sig := fun | 0 => cc3_sem7_0 | 1 => cc3_sem7_1 | ⟨_ + 2, h⟩ => absurd h (Nat.not_lt.2 (Nat.le_add_left _ _))
abbrev reads3_7 : Fin grid3.rank → Bool := ![true, false]

abbrev stage3_8 : Fin 2 → Memref sig .tc .vmem S768x56 .f32 := fun | 0 => Memref.whole cc3_stg8_0 | 1 => Memref.whole cc3_stg8_1 | ⟨_ + 2, h⟩ => absurd h (Nat.not_lt.2 (Nat.le_add_left _ _))
abbrev sem3_8 : Fin 2 → DmaSem sig := fun | 0 => cc3_sem8_0 | 1 => cc3_sem8_1 | ⟨_ + 2, h⟩ => absurd h (Nat.not_lt.2 (Nat.le_add_left _ _))
abbrev reads3_8 : Fin grid3.rank → Bool := ![true, false]
-- ==== ReferenceIdeal.lean ====
abbrev S8x768x7168 : Shape := ⟨3, ![8, 768, 7168]⟩
abbrev S8x768x56 : Shape := ⟨3, ![8, 768, 56]⟩
abbrev S18432x7168 : Shape := ⟨2, ![18432, 7168]⟩
abbrev S18432x56 : Shape := ⟨2, ![18432, 56]⟩
abbrev S8x768x18432 : Shape := ⟨3, ![8, 768, 18432]⟩
abbrev S18432x56x128 : Shape := ⟨3, ![18432, 56, 128]⟩
abbrev S_ : Shape := ⟨0, ![]⟩
abbrev S18432x56x1 : Shape := ⟨3, ![18432, 56, 1]⟩
abbrev S8x768x56x128 : Shape := ⟨4, ![8, 768, 56, 128]⟩
abbrev S8x768x56x1 : Shape := ⟨4, ![8, 768, 56, 1]⟩

abbrev nBuf : Space → Nat
  | .hbm => 123
  | .vmem => 5
  | .smem => 0
  | _ => 0

abbrev bufTy : (tb : Table) → Fin (tcTables nBuf tb) → BufTy
  | .hbm, ⟨0, _⟩ => ⟨S8x768x7168, .fp8e4m3⟩
  | .hbm, ⟨1, _⟩ => ⟨S8x768x56, .f32⟩
  | .hbm, ⟨2, _⟩ => ⟨S18432x7168, .f32⟩
  | .hbm, ⟨3, _⟩ => ⟨S18432x56, .f32⟩
  | .hbm, ⟨4, _⟩ => ⟨S18432x56, .f32⟩
  | .hbm, ⟨5, _⟩ => ⟨S8x768x18432, .bf16⟩
  | .hbm, ⟨6, _⟩ => ⟨S18432x56x128, .f32⟩
  | .hbm, ⟨7, _⟩ => ⟨S_, .f32⟩
  | .hbm, ⟨8, _⟩ => ⟨S18432x56, .f32⟩
  | .hbm, ⟨9, _⟩ => ⟨S_, .f32⟩
  | .hbm, ⟨10, _⟩ => ⟨S18432x56, .f32⟩
  | .hbm, ⟨11, _⟩ => ⟨S18432x56, .f32⟩
  | .hbm, ⟨12, _⟩ => ⟨S18432x56, .f32⟩
  | .hbm, ⟨13, _⟩ => ⟨S_, .f32⟩
  | .hbm, ⟨14, _⟩ => ⟨S18432x56, .f32⟩
  | .hbm, ⟨15, _⟩ => ⟨S18432x56, .f32⟩
  | .hbm, ⟨16, _⟩ => ⟨S_, .f32⟩
  | .hbm, ⟨17, _⟩ => ⟨S18432x56, .f32⟩
  | .hbm, ⟨18, _⟩ => ⟨S18432x56, .f32⟩
  | .hbm, ⟨19, _⟩ => ⟨S18432x56, .f32⟩
  | .hbm, ⟨20, _⟩ => ⟨S18432x56, .f32⟩
  | .hbm, ⟨21, _⟩ => ⟨S18432x56, .f32⟩
  | .hbm, ⟨22, _⟩ => ⟨S_, .f32⟩
  | .hbm, ⟨23, _⟩ => ⟨S18432x56, .f32⟩
  | .hbm, ⟨24, _⟩ => ⟨S18432x56, .f32⟩
  | .hbm, ⟨25, _⟩ => ⟨S_, .f32⟩
  | .hbm, ⟨26, _⟩ => ⟨S18432x56, .f32⟩
  | .hbm, ⟨27, _⟩ => ⟨S18432x56, .f32⟩
  | .hbm, ⟨28, _⟩ => ⟨S18432x56, .f32⟩
  | .hbm, ⟨29, _⟩ => ⟨S18432x56, .f32⟩
  | .hbm, ⟨30, _⟩ => ⟨S_, .f32⟩
  | .hbm, ⟨31, _⟩ => ⟨S18432x56, .f32⟩
  | .hbm, ⟨32, _⟩ => ⟨S18432x56, .f32⟩
  | .hbm, ⟨33, _⟩ => ⟨S18432x56, .f32⟩
  | .hbm, ⟨34, _⟩ => ⟨S18432x56, .f32⟩
  | .hbm, ⟨35, _⟩ => ⟨S18432x56, .f32⟩
  | .hbm, ⟨36, _⟩ => ⟨S18432x56x1, .f32⟩
  | .hbm, ⟨37, _⟩ => ⟨S18432x56x128, .f32⟩
  | .hbm, ⟨38, _⟩ => ⟨S18432x56x128, .f32⟩
  | .hbm, ⟨39, _⟩ => ⟨S18432x56x128, .f32⟩
  | .hbm, ⟨40, _⟩ => ⟨S18432x56x1, .f32⟩
  | .hbm, ⟨41, _⟩ => ⟨S18432x56x128, .f32⟩
  | .hbm, ⟨42, _⟩ => ⟨S18432x56x128, .f32⟩
  | .hbm, ⟨43, _⟩ => ⟨S8x768x7168, .bf16⟩
  | .hbm, ⟨44, _⟩ => ⟨S18432x56x128, .i8⟩
  | .hbm, ⟨45, _⟩ => ⟨S18432x56x128, .f32⟩
  | .hbm, ⟨46, _⟩ => ⟨S18432x56x1, .f32⟩
  | .hbm, ⟨47, _⟩ => ⟨S18432x56x128, .f32⟩
  | .hbm, ⟨48, _⟩ => ⟨S18432x56x128, .f32⟩
  | .hbm, ⟨49, _⟩ => ⟨S18432x56x1, .f32⟩
  | .hbm, ⟨50, _⟩ => ⟨S18432x56x128, .f32⟩
  | .hbm, ⟨51, _⟩ => ⟨S18432x56x128, .f32⟩
  | .hbm, ⟨52, _⟩ => ⟨S18432x56x128, .bf16⟩
  | .hbm, ⟨53, _⟩ => ⟨S18432x7168, .bf16⟩
  | .hbm, ⟨54, _⟩ => ⟨S8x768x56x128, .bf16⟩
  | .hbm, ⟨55, _⟩ => ⟨S8x768x56, .bf16⟩
  | .hbm, ⟨56, _⟩ => ⟨S8x768x56x1, .bf16⟩
  | .hbm, ⟨57, _⟩ => ⟨S8x768x56x128, .bf16⟩
  | .hbm, ⟨58, _⟩ => ⟨S8x768x56x128, .bf16⟩
  | .hbm, ⟨59, _⟩ => ⟨S8x768x7168, .bf16⟩
  | .hbm, ⟨60, _⟩ => ⟨S8x768x18432, .f32⟩
  | .hbm, ⟨61, _⟩ => ⟨S8x768x18432, .f32⟩
  | .hbm, ⟨62, _⟩ => ⟨S8x768x18432, .f32⟩
  | .hbm, ⟨63, _⟩ => ⟨S8x768x18432, .f32⟩
  | .hbm, ⟨64, _⟩ => ⟨S_, .f32⟩
  | .hbm, ⟨65, _⟩ => ⟨S_, .f32⟩
  | .hbm, ⟨66, _⟩ => ⟨S_, .f32⟩
  | .hbm, ⟨67, _⟩ => ⟨S_, .f32⟩
  | .hbm, ⟨68, _⟩ => ⟨S8x768x18432, .bf16⟩
  | .hbm, ⟨69, _⟩ => ⟨S18432x7168, .f32⟩
  | .hbm, ⟨70, _⟩ => ⟨S_, .f32⟩
  | .hbm, ⟨71, _⟩ => ⟨S18432x7168, .f32⟩
  | .hbm, ⟨72, _⟩ => ⟨S18432x7168, .f32⟩
  | .hbm, ⟨73, _⟩ => ⟨S_, .f32⟩
  | .hbm, ⟨74, _⟩ => ⟨S18432x56x128, .f32⟩
  | .hbm, ⟨75, _⟩ => ⟨S18432x56x128, .i1⟩
  | .hbm, ⟨76, _⟩ => ⟨S_, .f32⟩
  | .hbm, ⟨77, _⟩ => ⟨S18432x56x128, .f32⟩
  | .hbm, ⟨78, _⟩ => ⟨S18432x56x128, .i1⟩
  | .hbm, ⟨79, _⟩ => ⟨S18432x56x128, .i1⟩
  | .hbm, ⟨80, _⟩ => ⟨S18432x56x128, .f32⟩
  | .hbm, ⟨81, _⟩ => ⟨S18432x56x128, .f32⟩
  | .hbm, ⟨82, _⟩ => ⟨S18432x56x128, .f32⟩
  | .hbm, ⟨83, _⟩ => ⟨S18432x56x128, .f32⟩
  | .hbm, ⟨84, _⟩ => ⟨S18432x56x128, .f32⟩
  | .hbm, ⟨85, _⟩ => ⟨S_, .f32⟩
  | .hbm, ⟨86, _⟩ => ⟨S18432x56, .f32⟩
  | .hbm, ⟨87, _⟩ => ⟨S18432x56, .f32⟩
  | .hbm, ⟨88, _⟩ => ⟨S18432x56, .f32⟩
  | .hbm, ⟨89, _⟩ => ⟨S_, .f32⟩
  | .hbm, ⟨90, _⟩ => ⟨S18432x56, .f32⟩
  | .hbm, ⟨91, _⟩ => ⟨S18432x56, .f32⟩
  | .hbm, ⟨92, _⟩ => ⟨S_, .f32⟩
  | .hbm, ⟨93, _⟩ => ⟨S18432x56, .f32⟩
  | .hbm, ⟨94, _⟩ => ⟨S18432x56, .f32⟩
  | .hbm, ⟨95, _⟩ => ⟨S18432x56, .f32⟩
  | .hbm, ⟨96, _⟩ => ⟨S18432x56, .f32⟩
  | .hbm, ⟨97, _⟩ => ⟨S_, .f32⟩
  | .hbm, ⟨98, _⟩ => ⟨S18432x56, .f32⟩
  | .hbm, ⟨99, _⟩ => ⟨S18432x56, .f32⟩
  | .hbm, ⟨100, _⟩ => ⟨S_, .f32⟩
  | .hbm, ⟨101, _⟩ => ⟨S18432x56, .f32⟩
  | .hbm, ⟨102, _⟩ => ⟨S18432x56, .f32⟩
  | .hbm, ⟨103, _⟩ => ⟨S18432x56, .f32⟩
  | .hbm, ⟨104, _⟩ => ⟨S_, .f32⟩
  | .hbm, ⟨105, _⟩ => ⟨S18432x56, .f32⟩
  | .hbm, ⟨106, _⟩ => ⟨S18432x56, .f32⟩
  | .hbm, ⟨107, _⟩ => ⟨S18432x56, .f32⟩
  | .hbm, ⟨108, _⟩ => ⟨S18432x56, .f32⟩
  | .hbm, ⟨109, _⟩ => ⟨S_, .f32⟩
  | .hbm, ⟨110, _⟩ => ⟨S18432x56, .f32⟩
  | .hbm, ⟨111, _⟩ => ⟨S18432x56, .f32⟩
  | .hbm, ⟨112, _⟩ => ⟨S18432x56, .f32⟩
  | .hbm, ⟨113, _⟩ => ⟨S18432x56, .f32⟩
  | .hbm, ⟨114, _⟩ => ⟨S_, .f32⟩
  | .hbm, ⟨115, _⟩ => ⟨S18432x56, .f32⟩
  | .hbm, ⟨116, _⟩ => ⟨S18432x56, .f32⟩
  | .hbm, ⟨117, _⟩ => ⟨S18432x56, .f32⟩
  | .hbm, ⟨118, _⟩ => ⟨S18432x56, .f32⟩
  | .hbm, ⟨119, _⟩ => ⟨S_, .f32⟩
  | .hbm, ⟨120, _⟩ => ⟨S18432x56, .f32⟩
  | .hbm, ⟨121, _⟩ => ⟨S18432x56, .f32⟩
  | .hbm, ⟨122, _⟩ => ⟨S18432x7168, .i8⟩
  | .local _ .vmem, ⟨0, _⟩ => ⟨S8x768x7168, .fp8e4m3⟩
  | .local _ .vmem, ⟨1, _⟩ => ⟨S18432x56x128, .f32⟩
  | .local _ .vmem, ⟨2, _⟩ => ⟨S8x768x7168, .bf16⟩
  | .local _ .vmem, ⟨3, _⟩ => ⟨S18432x56x128, .i8⟩
  | .local _ .vmem, ⟨4, _⟩ => ⟨S18432x56x128, .f32⟩
  | _, _ => ⟨S8x768x7168, .fp8e4m3⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_cst : Ref sig .tc := ⟨.hbm, 7, rfl⟩
abbrev main_v1 : Ref sig .tc := ⟨.hbm, 8, rfl⟩
abbrev main_cst_0 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_cst_1 : Ref sig .tc := ⟨.hbm, 13, rfl⟩
abbrev main_v5 : Ref sig .tc := ⟨.hbm, 14, rfl⟩
abbrev main_v6 : Ref sig .tc := ⟨.hbm, 15, rfl⟩
abbrev main_cst_2 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_cst_3 : Ref sig .tc := ⟨.hbm, 22, rfl⟩
abbrev main_v12 : Ref sig .tc := ⟨.hbm, 23, rfl⟩
abbrev main_v13 : Ref sig .tc := ⟨.hbm, 24, rfl⟩
abbrev main_cst_4 : Ref sig .tc := ⟨.hbm, 25, rfl⟩
abbrev main_v14 : Ref sig .tc := ⟨.hbm, 26, rfl⟩
abbrev main_v15 : Ref sig .tc := ⟨.hbm, 27, rfl⟩
abbrev main_v16 : Ref sig .tc := ⟨.hbm, 28, rfl⟩
abbrev main_v17 : Ref sig .tc := ⟨.hbm, 29, rfl⟩
abbrev main_cst_5 : Ref sig .tc := ⟨.hbm, 30, rfl⟩
abbrev main_v18 : Ref sig .tc := ⟨.hbm, 31, rfl⟩
abbrev main_v19 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩
abbrev main_v27 : Ref sig .tc := ⟨.hbm, 40, rfl⟩
abbrev main_v28 : Ref sig .tc := ⟨.hbm, 41, rfl⟩
abbrev main_v29 : Ref sig .tc := ⟨.hbm, 42, rfl⟩
abbrev main_v30_0 : Ref sig .tc := ⟨.hbm, 43, rfl⟩
abbrev main_v30_1 : Ref sig .tc := ⟨.hbm, 44, rfl⟩
abbrev main_v30_2 : Ref sig .tc := ⟨.hbm, 45, rfl⟩
abbrev main_v31 : Ref sig .tc := ⟨.hbm, 46, rfl⟩
abbrev main_v32 : Ref sig .tc := ⟨.hbm, 47, rfl⟩
abbrev main_v33 : Ref sig .tc := ⟨.hbm, 48, rfl⟩
abbrev main_v34 : Ref sig .tc := ⟨.hbm, 49, rfl⟩
abbrev main_v35 : Ref sig .tc := ⟨.hbm, 50, rfl⟩
abbrev main_v36 : Ref sig .tc := ⟨.hbm, 51, rfl⟩
abbrev main_v37 : Ref sig .tc := ⟨.hbm, 52, rfl⟩
abbrev main_v38 : Ref sig .tc := ⟨.hbm, 53, rfl⟩
abbrev main_v39 : Ref sig .tc := ⟨.hbm, 54, rfl⟩
abbrev main_v40 : Ref sig .tc := ⟨.hbm, 55, rfl⟩
abbrev main_v41 : Ref sig .tc := ⟨.hbm, 56, rfl⟩
abbrev main_v42 : Ref sig .tc := ⟨.hbm, 57, rfl⟩
abbrev main_v43 : Ref sig .tc := ⟨.hbm, 58, rfl⟩
abbrev main_v44 : Ref sig .tc := ⟨.hbm, 59, rfl⟩
abbrev main_v45 : Ref sig .tc := ⟨.hbm, 60, rfl⟩
abbrev main_v46 : Ref sig .tc := ⟨.hbm, 61, rfl⟩
abbrev main_v47 : Ref sig .tc := ⟨.hbm, 62, rfl⟩
abbrev main_v48 : Ref sig .tc := ⟨.hbm, 63, rfl⟩
abbrev main_cst_6 : Ref sig .tc := ⟨.hbm, 64, rfl⟩
abbrev main_v49 : Ref sig .tc := ⟨.hbm, 65, rfl⟩
abbrev main_cst_7 : Ref sig .tc := ⟨.hbm, 66, rfl⟩
abbrev main_v50 : Ref sig .tc := ⟨.hbm, 67, rfl⟩
abbrev main_v51 : Ref sig .tc := ⟨.hbm, 68, rfl⟩
abbrev main_v52 : Ref sig .tc := ⟨.hbm, 69, rfl⟩
abbrev main_cst_8 : Ref sig .tc := ⟨.hbm, 70, rfl⟩
abbrev main_v53 : Ref sig .tc := ⟨.hbm, 71, rfl⟩
abbrev main_v54 : Ref sig .tc := ⟨.hbm, 72, rfl⟩
abbrev main_cst_9 : Ref sig .tc := ⟨.hbm, 73, rfl⟩
abbrev main_v55 : Ref sig .tc := ⟨.hbm, 74, rfl⟩
abbrev main_v56 : Ref sig .tc := ⟨.hbm, 75, rfl⟩
abbrev main_cst_10 : Ref sig .tc := ⟨.hbm, 76, rfl⟩
abbrev main_v57 : Ref sig .tc := ⟨.hbm, 77, rfl⟩
abbrev main_v58 : Ref sig .tc := ⟨.hbm, 78, rfl⟩
abbrev main_v59 : Ref sig .tc := ⟨.hbm, 79, rfl⟩
abbrev main_v60 : Ref sig .tc := ⟨.hbm, 80, rfl⟩
abbrev main_v61 : Ref sig .tc := ⟨.hbm, 81, rfl⟩
abbrev main_v62 : Ref sig .tc := ⟨.hbm, 82, rfl⟩
abbrev main_v63 : Ref sig .tc := ⟨.hbm, 83, rfl⟩
abbrev main_v64 : Ref sig .tc := ⟨.hbm, 84, rfl⟩
abbrev main_cst_11 : Ref sig .tc := ⟨.hbm, 85, rfl⟩
abbrev main_v65 : Ref sig .tc := ⟨.hbm, 86, rfl⟩
abbrev main_v66 : Ref sig .tc := ⟨.hbm, 87, rfl⟩
abbrev main_v67 : Ref sig .tc := ⟨.hbm, 88, rfl⟩
abbrev main_cst_12 : Ref sig .tc := ⟨.hbm, 89, rfl⟩
abbrev main_v68 : Ref sig .tc := ⟨.hbm, 90, rfl⟩
abbrev main_v69 : Ref sig .tc := ⟨.hbm, 91, rfl⟩
abbrev main_cst_13 : Ref sig .tc := ⟨.hbm, 92, rfl⟩
abbrev main_v70 : Ref sig .tc := ⟨.hbm, 93, rfl⟩
abbrev main_v71 : Ref sig .tc := ⟨.hbm, 94, rfl⟩
abbrev main_v72 : Ref sig .tc := ⟨.hbm, 95, rfl⟩
abbrev main_v73 : Ref sig .tc := ⟨.hbm, 96, rfl⟩
abbrev main_cst_14 : Ref sig .tc := ⟨.hbm, 97, rfl⟩
abbrev main_v74 : Ref sig .tc := ⟨.hbm, 98, rfl⟩
abbrev main_v75 : Ref sig .tc := ⟨.hbm, 99, rfl⟩
abbrev main_cst_15 : Ref sig .tc := ⟨.hbm, 100, rfl⟩
abbrev main_v76 : Ref sig .tc := ⟨.hbm, 101, rfl⟩
abbrev main_v77 : Ref sig .tc := ⟨.hbm, 102, rfl⟩
abbrev main_v78 : Ref sig .tc := ⟨.hbm, 103, rfl⟩
abbrev main_cst_16 : Ref sig .tc := ⟨.hbm, 104, rfl⟩
abbrev main_v79 : Ref sig .tc := ⟨.hbm, 105, rfl⟩
abbrev main_v80 : Ref sig .tc := ⟨.hbm, 106, rfl⟩
abbrev main_v81 : Ref sig .tc := ⟨.hbm, 107, rfl⟩
abbrev main_v82 : Ref sig .tc := ⟨.hbm, 108, rfl⟩
abbrev main_cst_17 : Ref sig .tc := ⟨.hbm, 109, rfl⟩
abbrev main_v83 : Ref sig .tc := ⟨.hbm, 110, rfl⟩
abbrev main_v84 : Ref sig .tc := ⟨.hbm, 111, rfl⟩
abbrev main_v85 : Ref sig .tc := ⟨.hbm, 112, rfl⟩
abbrev main_v86 : Ref sig .tc := ⟨.hbm, 113, rfl⟩
abbrev main_cst_18 : Ref sig .tc := ⟨.hbm, 114, rfl⟩
abbrev main_v87 : Ref sig .tc := ⟨.hbm, 115, rfl⟩
abbrev main_v88 : Ref sig .tc := ⟨.hbm, 116, rfl⟩
abbrev main_v89 : Ref sig .tc := ⟨.hbm, 117, rfl⟩
abbrev main_v90 : Ref sig .tc := ⟨.hbm, 118, rfl⟩
abbrev main_cst_19 : Ref sig .tc := ⟨.hbm, 119, rfl⟩
abbrev main_v91 : Ref sig .tc := ⟨.hbm, 120, rfl⟩
abbrev main_v92 : Ref sig .tc := ⟨.hbm, 121, rfl⟩
abbrev main_v93 : Ref sig .tc := ⟨.hbm, 122, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4

abbrev nD : Nat := 1
abbrev τ : Topo := Topo.v7x

variable {F : FTy → Type} [FloatOps F]

abbrev grid0 : Pipeline.Grid := .none

abbrev stage0_0 : Fin 1 → Memref sig .tc .vmem S8x768x7168 .fp8e4m3 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S18432x56x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S8x768x7168 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S18432x56x128 .i8 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S18432x56x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
-- ==== Proof.KernelIdeal.Region0.lean ====
/- Region 0 at the contents `V` it is entered from: its body at every point, and its proof data. -/
module

public import proofs.«01_k».proof.Proof.Gen.KernelIdeal.Launch
public import proofs.«01_k».proof.Proof.Gen.KernelIdeal.Skeleton
public import proofs.«01_k».proof.Proof.Gen.KernelIdeal.Points
public import Idealize.ShloMosaic.Lib.Pipeline.FrameBody
public import Idealize.ShloMosaic.Lib.Pipeline.RegionsLoop
public import Idealize.ShloMosaic.Lib.Pipeline.FrameSuffix
public import Idealize.ShloMosaic.Lib.Ring
public import Idealize.ShloMosaic.Lib.Tactic
public import Idealize.ShloMosaic.Lib.UnfoldOut
public import Idealize.ShloMosaic.Lib.WordCmp

@[expose] public section

-- membership in a rectangle of production extents (`View.cover_of_tiled`): the elaborator's structural look
-- recurses once per coordinate of the long axes
set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

section Regions
-- the TensorCore's buffer contents when a region is entered: the parameter every region's half is stated at, which
-- the run instantiates per region
variable (V : (c : Dev nD) → (b : Ref sig .tc) → Buf (Elt F) ((c : Thread nD τ).loc b))

/-! # REGION 0 of @main: custom_call 0, `cc0_dequant_x` (pipeline 0), at the entry contents `V` -/

/-! ## The windows' blocks -/

/-- Window `w`'s block at point `t`, read off its array as the region finds it (`V`). -/
noncomputable def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- Input window 0's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)
/-- Input window 1's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)

/-! ## The body's accesses -/

abbrev r0_0 : Rect S256x56 := Rect.unit (s := S256x56) ![0, 0] S256x1.size inb_S256x56_S256x1_0_0
abbrev r0_1 : Rect S256x7168 := Rect.unit (s := S256x7168) ![0, 0] S256x128.size inb_S256x7168_S256x128_0_0
abbrev r0_2 : Rect S256x56 := Rect.unit (s := S256x56) ![0, 1] S256x1.size inb_S256x56_S256x1_0_1
abbrev r0_3 : Rect S256x7168 := Rect.unit (s := S256x7168) ![0, 128] S256x128.size inb_S256x7168_S256x128_0_128
abbrev r0_4 : Rect S256x56 := Rect.unit (s := S256x56) ![0, 2] S256x1.size inb_S256x56_S256x1_0_2
abbrev r0_5 : Rect S256x7168 := Rect.unit (s := S256x7168) ![0, 256] S256x128.size inb_S256x7168_S256x128_0_256
abbrev r0_6 : Rect S256x56 := Rect.unit (s := S256x56) ![0, 3] S256x1.size inb_S256x56_S256x1_0_3
abbrev r0_7 : Rect S256x7168 := Rect.unit (s := S256x7168) ![0, 384] S256x128.size inb_S256x7168_S256x128_0_384
abbrev r0_8 : Rect S256x56 := Rect.unit (s := S256x56) ![0, 4] S256x1.size inb_S256x56_S256x1_0_4
abbrev r0_9 : Rect S256x7168 := Rect.unit (s := S256x7168) ![0, 512] S256x128.size inb_S256x7168_S256x128_0_512
abbrev r0_10 : Rect S256x56 := Rect.unit (s := S256x56) ![0, 5] S256x1.size inb_S256x56_S256x1_0_5
abbrev r0_11 : Rect S256x7168 := Rect.unit (s := S256x7168) ![0, 640] S256x128.size inb_S256x7168_S256x128_0_640
abbrev r0_12 : Rect S256x56 := Rect.unit (s := S256x56) ![0, 6] S256x1.size inb_S256x56_S256x1_0_6
abbrev r0_13 : Rect S256x7168 := Rect.unit (s := S256x7168) ![0, 768] S256x128.size inb_S256x7168_S256x128_0_768
abbrev r0_14 : Rect S256x56 := Rect.unit (s := S256x56) ![0, 7] S256x1.size inb_S256x56_S256x1_0_7
abbrev r0_15 : Rect S256x7168 := Rect.unit (s := S256x7168) ![0, 896] S256x128.size inb_S256x7168_S256x128_0_896
abbrev r0_16 : Rect S256x56 := Rect.unit (s := S256x56) ![0, 8] S256x1.size inb_S256x56_S256x1_0_8
abbrev r0_17 : Rect S256x7168 := Rect.unit (s := S256x7168) ![0, 1024] S256x128.size inb_S256x7168_S256x128_0_1024
abbrev r0_18 : Rect S256x56 := Rect.unit (s := S256x56) ![0, 9] S256x1.size inb_S256x56_S256x1_0_9
abbrev r0_19 : Rect S256x7168 := Rect.unit (s := S256x7168) ![0, 1152] S256x128.size inb_S256x7168_S256x128_0_1152
abbrev r0_20 : Rect S256x56 := Rect.unit (s := S256x56) ![0, 10] S256x1.size inb_S256x56_S256x1_0_10
abbrev r0_21 : Rect S256x7168 := Rect.unit (s := S256x7168) ![0, 1280] S256x128.size inb_S256x7168_S256x128_0_1280
abbrev r0_22 : Rect S256x56 := Rect.unit (s := S256x56) ![0, 11] S256x1.size inb_S256x56_S256x1_0_11
abbrev r0_23 : Rect S256x7168 := Rect.unit (s := S256x7168) ![0, 1408] S256x128.size inb_S256x7168_S256x128_0_1408
abbrev r0_24 : Rect S256x56 := Rect.unit (s := S256x56) ![0, 12] S256x1.size inb_S256x56_S256x1_0_12
abbrev r0_25 : Rect S256x7168 := Rect.unit (s := S256x7168) ![0, 1536] S256x128.size inb_S256x7168_S256x128_0_1536
abbrev r0_26 : Rect S256x56 := Rect.unit (s := S256x56) ![0, 13] S256x1.size inb_S256x56_S256x1_0_13
abbrev r0_27 : Rect S256x7168 := Rect.unit (s := S256x7168) ![0, 1664] S256x128.size inb_S256x7168_S256x128_0_1664
abbrev r0_28 : Rect S256x56 := Rect.unit (s := S256x56) ![0, 14] S256x1.size inb_S256x56_S256x1_0_14
abbrev r0_29 : Rect S256x7168 := Rect.unit (s := S256x7168) ![0, 1792] S256x128.size inb_S256x7168_S256x128_0_1792
abbrev r0_30 : Rect S256x56 := Rect.unit (s := S256x56) ![0, 15] S256x1.size inb_S256x56_S256x1_0_15
abbrev r0_31 : Rect S256x7168 := Rect.unit (s := S256x7168) ![0, 1920] S256x128.size inb_S256x7168_S256x128_0_1920
abbrev r0_32 : Rect S256x56 := Rect.unit (s := S256x56) ![0, 16] S256x1.size inb_S256x56_S256x1_0_16
abbrev r0_33 : Rect S256x7168 := Rect.unit (s := S256x7168) ![0, 2048] S256x128.size inb_S256x7168_S256x128_0_2048
abbrev r0_34 : Rect S256x56 := Rect.unit (s := S256x56) ![0, 17] S256x1.size inb_S256x56_S256x1_0_17
abbrev r0_35 : Rect S256x7168 := Rect.unit (s := S256x7168) ![0, 2176] S256x128.size inb_S256x7168_S256x128_0_2176
abbrev r0_36 : Rect S256x56 := Rect.unit (s := S256x56) ![0, 18] S256x1.size inb_S256x56_S256x1_0_18
abbrev r0_37 : Rect S256x7168 := Rect.unit (s := S256x7168) ![0, 2304] S256x128.size inb_S256x7168_S256x128_0_2304
abbrev r0_38 : Rect S256x56 := Rect.unit (s := S256x56) ![0, 19] S256x1.size inb_S256x56_S256x1_0_19
abbrev r0_39 : Rect S256x7168 := Rect.unit (s := S256x7168) ![0, 2432] S256x128.size inb_S256x7168_S256x128_0_2432
abbrev r0_40 : Rect S256x56 := Rect.unit (s := S256x56) ![0, 20] S256x1.size inb_S256x56_S256x1_0_20
abbrev r0_41 : Rect S256x7168 := Rect.unit (s := S256x7168) ![0, 2560] S256x128.size inb_S256x7168_S256x128_0_2560
abbrev r0_42 : Rect S256x56 := Rect.unit (s := S256x56) ![0, 21] S256x1.size inb_S256x56_S256x1_0_21
abbrev r0_43 : Rect S256x7168 := Rect.unit (s := S256x7168) ![0, 2688] S256x128.size inb_S256x7168_S256x128_0_2688
abbrev r0_44 : Rect S256x56 := Rect.unit (s := S256x56) ![0, 22] S256x1.size inb_S256x56_S256x1_0_22
abbrev r0_45 : Rect S256x7168 := Rect.unit (s := S256x7168) ![0, 2816] S256x128.size inb_S256x7168_S256x128_0_2816
abbrev r0_46 : Rect S256x56 := Rect.unit (s := S256x56) ![0, 23] S256x1.size inb_S256x56_S256x1_0_23
abbrev r0_47 : Rect S256x7168 := Rect.unit (s := S256x7168) ![0, 2944] S256x128.size inb_S256x7168_S256x128_0_2944
abbrev r0_48 : Rect S256x56 := Rect.unit (s := S256x56) ![0, 24] S256x1.size inb_S256x56_S256x1_0_24
abbrev r0_49 : Rect S256x7168 := Rect.unit (s := S256x7168) ![0, 3072] S256x128.size inb_S256x7168_S256x128_0_3072
abbrev r0_50 : Rect S256x56 := Rect.unit (s := S256x56) ![0, 25] S256x1.size inb_S256x56_S256x1_0_25
abbrev r0_51 : Rect S256x7168 := Rect.unit (s := S256x7168) ![0, 3200] S256x128.size inb_S256x7168_S256x128_0_3200
abbrev r0_52 : Rect S256x56 := Rect.unit (s := S256x56) ![0, 26] S256x1.size inb_S256x56_S256x1_0_26
abbrev r0_53 : Rect S256x7168 := Rect.unit (s := S256x7168) ![0, 3328] S256x128.size inb_S256x7168_S256x128_0_3328
abbrev r0_54 : Rect S256x56 := Rect.unit (s := S256x56) ![0, 27] S256x1.size inb_S256x56_S256x1_0_27
abbrev r0_55 : Rect S256x7168 := Rect.unit (s := S256x7168) ![0, 3456] S256x128.size inb_S256x7168_S256x128_0_3456
abbrev r0_56 : Rect S256x56 := Rect.unit (s := S256x56) ![0, 28] S256x1.size inb_S256x56_S256x1_0_28
abbrev r0_57 : Rect S256x7168 := Rect.unit (s := S256x7168) ![0, 3584] S256x128.size inb_S256x7168_S256x128_0_3584
abbrev r0_58 : Rect S256x56 := Rect.unit (s := S256x56) ![0, 29] S256x1.size inb_S256x56_S256x1_0_29
abbrev r0_59 : Rect S256x7168 := Rect.unit (s := S256x7168) ![0, 3712] S256x128.size inb_S256x7168_S256x128_0_3712
abbrev r0_60 : Rect S256x56 := Rect.unit (s := S256x56) ![0, 30] S256x1.size inb_S256x56_S256x1_0_30
abbrev r0_61 : Rect S256x7168 := Rect.unit (s := S256x7168) ![0, 3840] S256x128.size inb_S256x7168_S256x128_0_3840
abbrev r0_62 : Rect S256x56 := Rect.unit (s := S256x56) ![0, 31] S256x1.size inb_S256x56_S256x1_0_31
abbrev r0_63 : Rect S256x7168 := Rect.unit (s := S256x7168) ![0, 3968] S256x128.size inb_S256x7168_S256x128_0_3968
abbrev r0_64 : Rect S256x56 := Rect.unit (s := S256x56) ![0, 32] S256x1.size inb_S256x56_S256x1_0_32
abbrev r0_65 : Rect S256x7168 := Rect.unit (s := S256x7168) ![0, 4096] S256x128.size inb_S256x7168_S256x128_0_4096
abbrev r0_66 : Rect S256x56 := Rect.unit (s := S256x56) ![0, 33] S256x1.size inb_S256x56_S256x1_0_33
abbrev r0_67 : Rect S256x7168 := Rect.unit (s := S256x7168) ![0, 4224] S256x128.size inb_S256x7168_S256x128_0_4224
abbrev r0_68 : Rect S256x56 := Rect.unit (s := S256x56) ![0, 34] S256x1.size inb_S256x56_S256x1_0_34
abbrev r0_69 : Rect S256x7168 := Rect.unit (s := S256x7168) ![0, 4352] S256x128.size inb_S256x7168_S256x128_0_4352
abbrev r0_70 : Rect S256x56 := Rect.unit (s := S256x56) ![0, 35] S256x1.size inb_S256x56_S256x1_0_35
abbrev r0_71 : Rect S256x7168 := Rect.unit (s := S256x7168) ![0, 4480] S256x128.size inb_S256x7168_S256x128_0_4480
abbrev r0_72 : Rect S256x56 := Rect.unit (s := S256x56) ![0, 36] S256x1.size inb_S256x56_S256x1_0_36
abbrev r0_73 : Rect S256x7168 := Rect.unit (s := S256x7168) ![0, 4608] S256x128.size inb_S256x7168_S256x128_0_4608
abbrev r0_74 : Rect S256x56 := Rect.unit (s := S256x56) ![0, 37] S256x1.size inb_S256x56_S256x1_0_37
abbrev r0_75 : Rect S256x7168 := Rect.unit (s := S256x7168) ![0, 4736] S256x128.size inb_S256x7168_S256x128_0_4736
abbrev r0_76 : Rect S256x56 := Rect.unit (s := S256x56) ![0, 38] S256x1.size inb_S256x56_S256x1_0_38
abbrev r0_77 : Rect S256x7168 := Rect.unit (s := S256x7168) ![0, 4864] S256x128.size inb_S256x7168_S256x128_0_4864
abbrev r0_78 : Rect S256x56 := Rect.unit (s := S256x56) ![0, 39] S256x1.size inb_S256x56_S256x1_0_39
abbrev r0_79 : Rect S256x7168 := Rect.unit (s := S256x7168) ![0, 4992] S256x128.size inb_S256x7168_S256x128_0_4992
abbrev r0_80 : Rect S256x56 := Rect.unit (s := S256x56) ![0, 40] S256x1.size inb_S256x56_S256x1_0_40
abbrev r0_81 : Rect S256x7168 := Rect.unit (s := S256x7168) ![0, 5120] S256x128.size inb_S256x7168_S256x128_0_5120
abbrev r0_82 : Rect S256x56 := Rect.unit (s := S256x56) ![0, 41] S256x1.size inb_S256x56_S256x1_0_41
abbrev r0_83 : Rect S256x7168 := Rect.unit (s := S256x7168) ![0, 5248] S256x128.size inb_S256x7168_S256x128_0_5248
abbrev r0_84 : Rect S256x56 := Rect.unit (s := S256x56) ![0, 42] S256x1.size inb_S256x56_S256x1_0_42
abbrev r0_85 : Rect S256x7168 := Rect.unit (s := S256x7168) ![0, 5376] S256x128.size inb_S256x7168_S256x128_0_5376
abbrev r0_86 : Rect S256x56 := Rect.unit (s := S256x56) ![0, 43] S256x1.size inb_S256x56_S256x1_0_43
abbrev r0_87 : Rect S256x7168 := Rect.unit (s := S256x7168) ![0, 5504] S256x128.size inb_S256x7168_S256x128_0_5504
abbrev r0_88 : Rect S256x56 := Rect.unit (s := S256x56) ![0, 44] S256x1.size inb_S256x56_S256x1_0_44
abbrev r0_89 : Rect S256x7168 := Rect.unit (s := S256x7168) ![0, 5632] S256x128.size inb_S256x7168_S256x128_0_5632
abbrev r0_90 : Rect S256x56 := Rect.unit (s := S256x56) ![0, 45] S256x1.size inb_S256x56_S256x1_0_45
abbrev r0_91 : Rect S256x7168 := Rect.unit (s := S256x7168) ![0, 5760] S256x128.size inb_S256x7168_S256x128_0_5760
abbrev r0_92 : Rect S256x56 := Rect.unit (s := S256x56) ![0, 46] S256x1.size inb_S256x56_S256x1_0_46
abbrev r0_93 : Rect S256x7168 := Rect.unit (s := S256x7168) ![0, 5888] S256x128.size inb_S256x7168_S256x128_0_5888
abbrev r0_94 : Rect S256x56 := Rect.unit (s := S256x56) ![0, 47] S256x1.size inb_S256x56_S256x1_0_47
abbrev r0_95 : Rect S256x7168 := Rect.unit (s := S256x7168) ![0, 6016] S256x128.size inb_S256x7168_S256x128_0_6016
abbrev r0_96 : Rect S256x56 := Rect.unit (s := S256x56) ![0, 48] S256x1.size inb_S256x56_S256x1_0_48
abbrev r0_97 : Rect S256x7168 := Rect.unit (s := S256x7168) ![0, 6144] S256x128.size inb_S256x7168_S256x128_0_6144
abbrev r0_98 : Rect S256x56 := Rect.unit (s := S256x56) ![0, 49] S256x1.size inb_S256x56_S256x1_0_49
abbrev r0_99 : Rect S256x7168 := Rect.unit (s := S256x7168) ![0, 6272] S256x128.size inb_S256x7168_S256x128_0_6272
abbrev r0_100 : Rect S256x56 := Rect.unit (s := S256x56) ![0, 50] S256x1.size inb_S256x56_S256x1_0_50
abbrev r0_101 : Rect S256x7168 := Rect.unit (s := S256x7168) ![0, 6400] S256x128.size inb_S256x7168_S256x128_0_6400
abbrev r0_102 : Rect S256x56 := Rect.unit (s := S256x56) ![0, 51] S256x1.size inb_S256x56_S256x1_0_51
abbrev r0_103 : Rect S256x7168 := Rect.unit (s := S256x7168) ![0, 6528] S256x128.size inb_S256x7168_S256x128_0_6528
abbrev r0_104 : Rect S256x56 := Rect.unit (s := S256x56) ![0, 52] S256x1.size inb_S256x56_S256x1_0_52
abbrev r0_105 : Rect S256x7168 := Rect.unit (s := S256x7168) ![0, 6656] S256x128.size inb_S256x7168_S256x128_0_6656
abbrev r0_106 : Rect S256x56 := Rect.unit (s := S256x56) ![0, 53] S256x1.size inb_S256x56_S256x1_0_53
abbrev r0_107 : Rect S256x7168 := Rect.unit (s := S256x7168) ![0, 6784] S256x128.size inb_S256x7168_S256x128_0_6784
abbrev r0_108 : Rect S256x56 := Rect.unit (s := S256x56) ![0, 54] S256x1.size inb_S256x56_S256x1_0_54
abbrev r0_109 : Rect S256x7168 := Rect.unit (s := S256x7168) ![0, 6912] S256x128.size inb_S256x7168_S256x128_0_6912
abbrev r0_110 : Rect S256x56 := Rect.unit (s := S256x56) ![0, 55] S256x1.size inb_S256x56_S256x1_0_55
abbrev r0_111 : Rect S256x7168 := Rect.unit (s := S256x7168) ![0, 7040] S256x128.size inb_S256x7168_S256x128_0_7040

/-! ## What the body leaves in each output window's buffer -/

/-- Window 2's staging buffer after the body, from the input windows' blocks: its 56 stores as pieces, LAST
    FIRST (Lib/Pipeline/FrameBody.lean `View.canon`; the payloads are the skeleton's). -/
def out0_2 (x0 : Vec F S256x7168 .fp8e4m3) (x1 : Vec F S256x56 .f32) : Vec F S256x7168 .bf16 :=
  View.canon [⟨r0_111, k0_pay1 (k0_pay69 (View.ld x1 r0_110)) (View.ld x0 r0_111)⟩,
    ⟨r0_109, k0_pay68 (View.ld x1 r0_108) (View.ld x0 r0_109)⟩,
    ⟨r0_107, k0_pay67 (View.ld x1 r0_106) (View.ld x0 r0_107)⟩,
    ⟨r0_105, k0_pay66 (k0_pay65 (View.ld x1 r0_104)) (View.ld x0 r0_105)⟩,
    ⟨r0_103, k0_pay64 (View.ld x1 r0_102) (View.ld x0 r0_103)⟩,
    ⟨r0_101, k0_pay63 (View.ld x1 r0_100) (View.ld x0 r0_101)⟩,
    ⟨r0_99, k0_pay62 (View.ld x1 r0_98) (View.ld x0 r0_99)⟩,
    ⟨r0_97, k0_pay61 (k0_pay59 (View.ld x0 r0_97)) (k0_pay60 (View.ld x1 r0_96))⟩,
    ⟨r0_95, k0_pay58 (View.ld x1 r0_94) (View.ld x0 r0_95)⟩,
    ⟨r0_93, k0_pay57 (View.ld x1 r0_92) (View.ld x0 r0_93)⟩,
    ⟨r0_91, k0_pay56 (View.ld x1 r0_90) (View.ld x0 r0_91)⟩,
    ⟨r0_89, k0_pay55 (View.ld x1 r0_88) (View.ld x0 r0_89)⟩,
    ⟨r0_87, k0_pay54 (View.ld x1 r0_86) (View.ld x0 r0_87)⟩,
    ⟨r0_85, k0_pay53 (View.ld x1 r0_84) (View.ld x0 r0_85)⟩,
    ⟨r0_83, k0_pay52 (View.ld x1 r0_82) (View.ld x0 r0_83)⟩,
    ⟨r0_81, k0_pay51 (View.ld x1 r0_80) (View.ld x0 r0_81)⟩,
    ⟨r0_79, k0_pay50 (View.ld x1 r0_78) (View.ld x0 r0_79)⟩,
    ⟨r0_77, k0_pay49 (View.ld x1 r0_76) (View.ld x0 r0_77)⟩,
    ⟨r0_75, k0_pay48 (k0_pay47 (View.ld x1 r0_74)) (View.ld x0 r0_75)⟩,
    ⟨r0_73, k0_pay46 (View.ld x1 r0_72) (View.ld x0 r0_73)⟩,
    ⟨r0_71, k0_pay45 (View.ld x1 r0_70) (View.ld x0 r0_71)⟩,
    ⟨r0_69, k0_pay44 (View.ld x1 r0_68) (View.ld x0 r0_69)⟩,
    ⟨r0_67, k0_pay43 (k0_pay41 (View.ld x0 r0_67)) (k0_pay42 (View.ld x1 r0_66))⟩,
    ⟨r0_65, k0_pay40 (View.ld x1 r0_64) (View.ld x0 r0_65)⟩,
    ⟨r0_63, k0_pay39 (View.ld x1 r0_62) (View.ld x0 r0_63)⟩,
    ⟨r0_61, k0_pay38 (View.ld x1 r0_60) (View.ld x0 r0_61)⟩,
    ⟨r0_59, k0_pay37 (View.ld x1 r0_58) (View.ld x0 r0_59)⟩,
    ⟨r0_57, k0_pay36 (View.ld x1 r0_56) (View.ld x0 r0_57)⟩,
    ⟨r0_55, k0_pay35 (View.ld x1 r0_54) (View.ld x0 r0_55)⟩,
    ⟨r0_53, k0_pay34 (View.ld x1 r0_52) (View.ld x0 r0_53)⟩,
    ⟨r0_51, k0_pay33 (View.ld x1 r0_50) (View.ld x0 r0_51)⟩,
    ⟨r0_49, k0_pay32 (View.ld x1 r0_48) (View.ld x0 r0_49)⟩,
    ⟨r0_47, k0_pay31 (View.ld x1 r0_46) (View.ld x0 r0_47)⟩,
    ⟨r0_45, k0_pay30 (k0_pay29 (View.ld x1 r0_44)) (View.ld x0 r0_45)⟩,
    ⟨r0_43, k0_pay28 (View.ld x1 r0_42) (View.ld x0 r0_43)⟩,
    ⟨r0_41, k0_pay27 (View.ld x1 r0_40) (View.ld x0 r0_41)⟩,
    ⟨r0_39, k0_pay26 (View.ld x1 r0_38) (View.ld x0 r0_39)⟩,
    ⟨r0_37, k0_pay25 (k0_pay23 (View.ld x0 r0_37)) (k0_pay24 (View.ld x1 r0_36))⟩,
    ⟨r0_35, k0_pay22 (View.ld x1 r0_34) (View.ld x0 r0_35)⟩,
    ⟨r0_33, k0_pay21 (View.ld x1 r0_32) (View.ld x0 r0_33)⟩,
    ⟨r0_31, k0_pay20 (View.ld x1 r0_30) (View.ld x0 r0_31)⟩,
    ⟨r0_29, k0_pay19 (View.ld x1 r0_28) (View.ld x0 r0_29)⟩,
    ⟨r0_27, k0_pay18 (View.ld x1 r0_26) (View.ld x0 r0_27)⟩,
    ⟨r0_25, k0_pay17 (View.ld x1 r0_24) (View.ld x0 r0_25)⟩,
    ⟨r0_23, k0_pay16 (View.ld x1 r0_22) (View.ld x0 r0_23)⟩,
    ⟨r0_21, k0_pay15 (View.ld x1 r0_20) (View.ld x0 r0_21)⟩,
    ⟨r0_19, k0_pay14 (View.ld x1 r0_18) (View.ld x0 r0_19)⟩,
    ⟨r0_17, k0_pay13 (View.ld x1 r0_16) (View.ld x0 r0_17)⟩,
    ⟨r0_15, k0_pay12 (k0_pay11 (View.ld x1 r0_14)) (View.ld x0 r0_15)⟩,
    ⟨r0_13, k0_pay10 (View.ld x1 r0_12) (View.ld x0 r0_13)⟩,
    ⟨r0_11, k0_pay9 (View.ld x1 r0_10) (View.ld x0 r0_11)⟩,
    ⟨r0_9, k0_pay8 (View.ld x1 r0_8) (View.ld x0 r0_9)⟩,
    ⟨r0_7, k0_pay7 (k0_pay5 (View.ld x0 r0_7)) (k0_pay6 (View.ld x1 r0_6))⟩,
    ⟨r0_5, k0_pay4 (View.ld x1 r0_4) (View.ld x0 r0_5)⟩,
    ⟨r0_3, k0_pay3 (View.ld x1 r0_2) (View.ld x0 r0_3)⟩,
    ⟨r0_1, k0_pay2 (View.ld x1 r0_0) (View.ld x0 r0_1)⟩]

/-- Its stores tile the buffer (checked by evaluation), so they cover it. -/
theorem cover0_2 (p0 : Vec F S256x128 .bf16) (p1 : Vec F S256x128 .bf16) (p2 : Vec F S256x128 .bf16) (p3 : Vec F S256x128 .bf16) (p4 : Vec F S256x128 .bf16) (p5 : Vec F S256x128 .bf16) (p6 : Vec F S256x128 .bf16) (p7 : Vec F S256x128 .bf16) (p8 : Vec F S256x128 .bf16) (p9 : Vec F S256x128 .bf16) (p10 : Vec F S256x128 .bf16) (p11 : Vec F S256x128 .bf16) (p12 : Vec F S256x128 .bf16) (p13 : Vec F S256x128 .bf16) (p14 : Vec F S256x128 .bf16) (p15 : Vec F S256x128 .bf16) (p16 : Vec F S256x128 .bf16) (p17 : Vec F S256x128 .bf16) (p18 : Vec F S256x128 .bf16) (p19 : Vec F S256x128 .bf16) (p20 : Vec F S256x128 .bf16) (p21 : Vec F S256x128 .bf16) (p22 : Vec F S256x128 .bf16) (p23 : Vec F S256x128 .bf16) (p24 : Vec F S256x128 .bf16) (p25 : Vec F S256x128 .bf16) (p26 : Vec F S256x128 .bf16) (p27 : Vec F S256x128 .bf16) (p28 : Vec F S256x128 .bf16) (p29 : Vec F S256x128 .bf16) (p30 : Vec F S256x128 .bf16) (p31 : Vec F S256x128 .bf16) (p32 : Vec F S256x128 .bf16) (p33 : Vec F S256x128 .bf16) (p34 : Vec F S256x128 .bf16) (p35 : Vec F S256x128 .bf16) (p36 : Vec F S256x128 .bf16) (p37 : Vec F S256x128 .bf16) (p38 : Vec F S256x128 .bf16) (p39 : Vec F S256x128 .bf16) (p40 : Vec F S256x128 .bf16) (p41 : Vec F S256x128 .bf16) (p42 : Vec F S256x128 .bf16) (p43 : Vec F S256x128 .bf16) (p44 : Vec F S256x128 .bf16) (p45 : Vec F S256x128 .bf16) (p46 : Vec F S256x128 .bf16) (p47 : Vec F S256x128 .bf16) (p48 : Vec F S256x128 .bf16) (p49 : Vec F S256x128 .bf16) (p50 : Vec F S256x128 .bf16) (p51 : Vec F S256x128 .bf16) (p52 : Vec F S256x128 .bf16) (p53 : Vec F S256x128 .bf16) (p54 : Vec F S256x128 .bf16) (p55 : Vec F S256x128 .bf16) (y : S256x7168.Idx) :
    ∃ pc ∈ ([⟨r0_111, p0⟩, ⟨r0_109, p1⟩, ⟨r0_107, p2⟩, ⟨r0_105, p3⟩, ⟨r0_103, p4⟩, ⟨r0_101, p5⟩, ⟨r0_99, p6⟩, ⟨r0_97, p7⟩, ⟨r0_95, p8⟩, ⟨r0_93, p9⟩, ⟨r0_91, p10⟩, ⟨r0_89, p11⟩, ⟨r0_87, p12⟩, ⟨r0_85, p13⟩, ⟨r0_83, p14⟩, ⟨r0_81, p15⟩, ⟨r0_79, p16⟩, ⟨r0_77, p17⟩, ⟨r0_75, p18⟩, ⟨r0_73, p19⟩, ⟨r0_71, p20⟩, ⟨r0_69, p21⟩, ⟨r0_67, p22⟩, ⟨r0_65, p23⟩, ⟨r0_63, p24⟩, ⟨r0_61, p25⟩, ⟨r0_59, p26⟩, ⟨r0_57, p27⟩, ⟨r0_55, p28⟩, ⟨r0_53, p29⟩, ⟨r0_51, p30⟩, ⟨r0_49, p31⟩, ⟨r0_47, p32⟩, ⟨r0_45, p33⟩, ⟨r0_43, p34⟩, ⟨r0_41, p35⟩, ⟨r0_39, p36⟩, ⟨r0_37, p37⟩, ⟨r0_35, p38⟩, ⟨r0_33, p39⟩, ⟨r0_31, p40⟩, ⟨r0_29, p41⟩, ⟨r0_27, p42⟩, ⟨r0_25, p43⟩, ⟨r0_23, p44⟩, ⟨r0_21, p45⟩, ⟨r0_19, p46⟩, ⟨r0_17, p47⟩, ⟨r0_15, p48⟩, ⟨r0_13, p49⟩, ⟨r0_11, p50⟩, ⟨r0_9, p51⟩, ⟨r0_7, p52⟩, ⟨r0_5, p53⟩, ⟨r0_3, p54⟩, ⟨r0_1, p55⟩] : List (View.Piece (Elt F) S256x7168 .bf16)), y ∈ pc.1.set :=
  View.cover_of_tiled [⟨r0_111, p0⟩, ⟨r0_109, p1⟩, ⟨r0_107, p2⟩, ⟨r0_105, p3⟩, ⟨r0_103, p4⟩, ⟨r0_101, p5⟩, ⟨r0_99, p6⟩, ⟨r0_97, p7⟩, ⟨r0_95, p8⟩, ⟨r0_93, p9⟩, ⟨r0_91, p10⟩, ⟨r0_89, p11⟩, ⟨r0_87, p12⟩, ⟨r0_85, p13⟩, ⟨r0_83, p14⟩, ⟨r0_81, p15⟩, ⟨r0_79, p16⟩, ⟨r0_77, p17⟩, ⟨r0_75, p18⟩, ⟨r0_73, p19⟩, ⟨r0_71, p20⟩, ⟨r0_69, p21⟩, ⟨r0_67, p22⟩, ⟨r0_65, p23⟩, ⟨r0_63, p24⟩, ⟨r0_61, p25⟩, ⟨r0_59, p26⟩, ⟨r0_57, p27⟩, ⟨r0_55, p28⟩, ⟨r0_53, p29⟩, ⟨r0_51, p30⟩, ⟨r0_49, p31⟩, ⟨r0_47, p32⟩, ⟨r0_45, p33⟩, ⟨r0_43, p34⟩, ⟨r0_41, p35⟩, ⟨r0_39, p36⟩, ⟨r0_37, p37⟩, ⟨r0_35, p38⟩, ⟨r0_33, p39⟩, ⟨r0_31, p40⟩, ⟨r0_29, p41⟩, ⟨r0_27, p42⟩, ⟨r0_25, p43⟩, ⟨r0_23, p44⟩, ⟨r0_21, p45⟩, ⟨r0_19, p46⟩, ⟨r0_17, p47⟩, ⟨r0_15, p48⟩, ⟨r0_13, p49⟩, ⟨r0_11, p50⟩, ⟨r0_9, p51⟩, ⟨r0_7, p52⟩, ⟨r0_5, p53⟩, ⟨r0_3, p54⟩, ⟨r0_1, p55⟩] S256x128.size (by rfl) y

/-! ## The body's triple -/

set_option maxHeartbeats 1024000 in
/-- The kernel body on whole staging memrefs, the inputs' at read contents `xW` and the outputs' at anything, runs to
    the continuation holding the inputs' as they were and each output's at `out0_W` of the inputs': the printed functions
    are their skeletons (`Gen.*_eq_skeleton`), which `sl_exec` runs (Lib/Exec.lean), through every part call. -/
theorem sound_kernel0 (c : Dev nD) (E : Set ℕ) (i : grid0.Coords) (arg1 : Memref sig .tc .vmem S256x7168 .fp8e4m3) (harg1 : arg1.IsWhole) (arg2 : Memref sig .tc .vmem S256x56 .f32) (harg2 : arg2.IsWhole) (arg3 : Memref sig .tc .vmem S256x7168 .bf16) (harg3 : arg3.IsWhole)
    (x0 : Vec F S256x7168 .fp8e4m3) (x1 : Vec F S256x56 .f32) (K : PUnit → sProp 𝕄) :
    iprop(owns (c : Thread nD τ) arg1 fullShare x0 ∗ owns (c : Thread nD τ) arg2 fullShare x1 ∗ (∃ d, owns (c : Thread nD τ) arg3 fullShare d)
        ∗ (iprop(owns (c : Thread nD τ) arg1 fullShare x0 ∗ owns (c : Thread nD τ) arg2 fullShare x1 ∗ owns (c : Thread nD τ) arg3 fullShare (out0_2 x0 x1)) -∗ K ⟨⟩))
      ⊢ wp frame (wpE (defs₀ (F := F)) Variants.none c none) E (cc0_dequant_x i arg1 harg1 arg2 harg2 arg3 harg3) K := by
  simp only [cc0_dequant_x_eq_skeleton]; unfold cc0_dequant_x_skel
  simp only [k0_part15_eq_skeleton, k0_part1_eq_skeleton, k0_part2_eq_skeleton, k0_part3_eq_skeleton, k0_part4_eq_skeleton, k0_part5_eq_skeleton, k0_part6_eq_skeleton, k0_part7_eq_skeleton, k0_part8_eq_skeleton, k0_part9_eq_skeleton, k0_part10_eq_skeleton, k0_part11_eq_skeleton, k0_part12_eq_skeleton, k0_part13_eq_skeleton, k0_part14_eq_skeleton]
  unfold owns
  iintro ⟨⟨%f0, %hf0, H0⟩, ⟨%f1, %hf1, H1⟩, ⟨%d2, %f2, -, H2⟩, Hk⟩
  subst hf0 hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  exact View.read_writes_eq_canon _ _ _ (cover0_2 _ _ _ _ _ _ _ _ _ _ _ _ _ _ _ _ _ _ _ _ _ _ _ _ _ _ _ _ _ _ _ _ _ _ _ _ _ _ _ _ _ _ _ _ _ _ _ _ _ _ _ _ _ _ _ _)

/-! ## The pipeline's proof data -/

/-- The proof data of pipeline 0 on core `c`: the arrays as the region finds them (`V`); after the body at
    point `t` each input's buffer at its block and each output's at `out0_W` of the input blocks; the invariant the
    class's (Lib/Pipeline/Frame.lean `ΦA`: the scoped rest and the generator register, untouched); nothing owed;
    full shares. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => out0_2 (iblk0 V c 0 t) (iblk0 V c 1 t)
  Φ _ := Pipeline.ΦA spec0 c
  q _ := fullShare
  owed _ := 0

/-- The proof data's arrays are the region-entry contents, by projecting the definition (`dsimp`): a region record cites
    this for its arrays rather than have Lean unfold `V`, the fold through @main up to the region's entry. -/
theorem A_eq0 (c : Dev nD) (w : Fin cfg0.W) : (dat0 V c).A w = V c (Pipeline.arrRef spec0 w) := by
  dsimp only [dat0]

/-- What the body leaves, window by window (the proof data's `match` reduced by `dsimp`, never `rfl`: Lib/Pipeline.lean `Dat`). -/
theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = out0_2 (iblk0 V c 0 t) (iblk0 V c 1 t) := by dsimp only [dat0]

/-- Each input's current staging buffer holds its block at every point, fetched there or not (`beforeK_W_of`). -/
theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d

/-! ## The body obligation, at a generic point -/

/-- What the body is called with at point `t` (Lib/Pipeline.lean `BodyObligation`'s precondition, the windows one by one), -/
def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d)))

/-- and what it returns. -/
def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t))

/-- The body at any point: the inputs' memrefs hold their blocks (`before0_W`), so `sound_kernel0` applies; the invariant and
    the core's `owes` pass through unread. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1]
  rw [show (dat0 V c).Φ t.succ = (dat0 V c).Φ t.castSucc from rfl,
    show (dat0 V c).owesAt () t.succ = (dat0 V c).owesAt () t.castSucc from rfl,
    after0_0, after0_1, after0_2]
  iintro ⟨HΦ, Ho, ⟨%d0, H0⟩, ⟨%d1, H1⟩, ⟨%d2, H2⟩⟩
  iapply (sound_kernel0 c Set.univ (grid0.coords t) _ _ _ _ _ _ (iblk0 V c 0 t) (iblk0 V c 1 t) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

/-- The body table's row at point `t`'s slots is the body as `bodyAt0` spells it. -/
theorem defs₀_row0 (t : Fin cfg0.N) :
    defs₀ (F := F) .tc cfg0.body (cfg0.bodyArgs t (cfg0.slots t)) = bodyAt0 t := by
  unfold defs₀; rw [Defs.onTc_tc]

/-- The library's body obligation, at every point: the body's triple restated (Lib/Pipeline/FrameBody.lean `triple_restated`). -/
theorem body_obligation0 (c : Dev nD) : BodyObligation (dat0 (F := F) V c) (defs₀ (F := F)) Variants.none () Set.univ := fun t => by
  rw [bigSep_W0, bigSep_W0, defs₀_row0]
  exact triple_restated (sound_body0 V c t) rfl .rfl fun _ => .rfl

end Regions

end Cert.KernelIdeal.Gen

end
-- ==== Proof.KernelIdeal.Region1.lean ====
/- Region 1 at the contents `V` it is entered from: its body at every point, and its proof data. -/
module

public import proofs.«01_k».proof.Proof.Gen.KernelIdeal.Launch
public import proofs.«01_k».proof.Proof.Gen.KernelIdeal.Skeleton
public import proofs.«01_k».proof.Proof.Gen.KernelIdeal.Points
public import Idealize.ShloMosaic.Lib.Pipeline.FrameBody
public import Idealize.ShloMosaic.Lib.Pipeline.RegionsLoop
public import Idealize.ShloMosaic.Lib.Pipeline.FrameSuffix
public import Idealize.ShloMosaic.Lib.Ring
public import Idealize.ShloMosaic.Lib.Tactic
public import Idealize.ShloMosaic.Lib.UnfoldOut
public import Idealize.ShloMosaic.Lib.WordCmp

@[expose] public section

-- membership in a rectangle of production extents (`View.cover_of_tiled`): the elaborator's structural look
-- recurses once per coordinate of the long axes
set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

section Regions
-- the TensorCore's buffer contents when a region is entered: the parameter every region's half is stated at, which
-- the run instantiates per region
variable (V : (c : Dev nD) → (b : Ref sig .tc) → Buf (Elt F) ((c : Thread nD τ).loc b))

/-! # REGION 1 of @main: custom_call 1, `cc1_quant_w` (pipeline 1), at the entry contents `V` -/

/-! ## The windows' blocks -/

/-- Window `w`'s block at point `t`, read off its array as the region finds it (`V`). -/
noncomputable def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- Input window 0's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)
/-- Input window 1's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)
/-- Input window 2's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before1_2_of {c : Dev nD} (dat : Dat τ (Elt F) Unit ℕ (UR sig nD τ) ℕ cfg1 c) (hA : dat.A 2 = V c (Pipeline.arrRef spec1 2))
    (hafter : ∀ t, dat.after 2 t = iblk1 V c 2 t) (t : Fin cfg1.N) (d) : dat.before 2 t d = iblk1 V c 2 t :=
  (dat.before_in_eq_fetched 2 rfl (fun _ => rfl) (fun _ _ _ => rfl) (fun t => by rw [hafter]; unfold Dat.blockOf iblk1; rw [hA]; try rfl) t d).trans
    (by unfold Dat.fetched Dat.blockOf iblk1; rw [hA]; try rfl)

/-! ## The body's accesses -/

abbrev r1_0 : Rect S64x7168 := Rect.unit (s := S64x7168) ![0, 0] S64x128.size inb_S64x7168_S64x128_0_0
abbrev r1_1 : Rect S64x7168 := Rect.unit (s := S64x7168) ![0, 128] S64x128.size inb_S64x7168_S64x128_0_128
abbrev r1_2 : Rect S64x7168 := Rect.unit (s := S64x7168) ![0, 256] S64x128.size inb_S64x7168_S64x128_0_256
abbrev r1_3 : Rect S64x7168 := Rect.unit (s := S64x7168) ![0, 384] S64x128.size inb_S64x7168_S64x128_0_384
abbrev r1_4 : Rect S64x7168 := Rect.unit (s := S64x7168) ![0, 512] S64x128.size inb_S64x7168_S64x128_0_512
abbrev r1_5 : Rect S64x7168 := Rect.unit (s := S64x7168) ![0, 640] S64x128.size inb_S64x7168_S64x128_0_640
abbrev r1_6 : Rect S64x7168 := Rect.unit (s := S64x7168) ![0, 768] S64x128.size inb_S64x7168_S64x128_0_768
abbrev r1_7 : Rect S64x7168 := Rect.unit (s := S64x7168) ![0, 896] S64x128.size inb_S64x7168_S64x128_0_896
abbrev r1_8 : Rect S64x7168 := Rect.unit (s := S64x7168) ![0, 1024] S64x128.size inb_S64x7168_S64x128_0_1024
abbrev r1_9 : Rect S64x7168 := Rect.unit (s := S64x7168) ![0, 1152] S64x128.size inb_S64x7168_S64x128_0_1152
abbrev r1_10 : Rect S64x7168 := Rect.unit (s := S64x7168) ![0, 1280] S64x128.size inb_S64x7168_S64x128_0_1280
abbrev r1_11 : Rect S64x7168 := Rect.unit (s := S64x7168) ![0, 1408] S64x128.size inb_S64x7168_S64x128_0_1408
abbrev r1_12 : Rect S64x7168 := Rect.unit (s := S64x7168) ![0, 1536] S64x128.size inb_S64x7168_S64x128_0_1536
abbrev r1_13 : Rect S64x7168 := Rect.unit (s := S64x7168) ![0, 1664] S64x128.size inb_S64x7168_S64x128_0_1664
abbrev r1_14 : Rect S64x7168 := Rect.unit (s := S64x7168) ![0, 1792] S64x128.size inb_S64x7168_S64x128_0_1792
abbrev r1_15 : Rect S64x7168 := Rect.unit (s := S64x7168) ![0, 1920] S64x128.size inb_S64x7168_S64x128_0_1920
abbrev r1_16 : Rect S64x7168 := Rect.unit (s := S64x7168) ![0, 2048] S64x128.size inb_S64x7168_S64x128_0_2048
abbrev r1_17 : Rect S64x7168 := Rect.unit (s := S64x7168) ![0, 2176] S64x128.size inb_S64x7168_S64x128_0_2176
abbrev r1_18 : Rect S64x7168 := Rect.unit (s := S64x7168) ![0, 2304] S64x128.size inb_S64x7168_S64x128_0_2304
abbrev r1_19 : Rect S64x7168 := Rect.unit (s := S64x7168) ![0, 2432] S64x128.size inb_S64x7168_S64x128_0_2432
abbrev r1_20 : Rect S64x7168 := Rect.unit (s := S64x7168) ![0, 2560] S64x128.size inb_S64x7168_S64x128_0_2560
abbrev r1_21 : Rect S64x7168 := Rect.unit (s := S64x7168) ![0, 2688] S64x128.size inb_S64x7168_S64x128_0_2688
abbrev r1_22 : Rect S64x7168 := Rect.unit (s := S64x7168) ![0, 2816] S64x128.size inb_S64x7168_S64x128_0_2816
abbrev r1_23 : Rect S64x7168 := Rect.unit (s := S64x7168) ![0, 2944] S64x128.size inb_S64x7168_S64x128_0_2944
abbrev r1_24 : Rect S64x7168 := Rect.unit (s := S64x7168) ![0, 3072] S64x128.size inb_S64x7168_S64x128_0_3072
abbrev r1_25 : Rect S64x7168 := Rect.unit (s := S64x7168) ![0, 3200] S64x128.size inb_S64x7168_S64x128_0_3200
abbrev r1_26 : Rect S64x7168 := Rect.unit (s := S64x7168) ![0, 3328] S64x128.size inb_S64x7168_S64x128_0_3328
abbrev r1_27 : Rect S64x7168 := Rect.unit (s := S64x7168) ![0, 3456] S64x128.size inb_S64x7168_S64x128_0_3456
abbrev r1_28 : Rect S64x7168 := Rect.unit (s := S64x7168) ![0, 3584] S64x128.size inb_S64x7168_S64x128_0_3584
abbrev r1_29 : Rect S64x7168 := Rect.unit (s := S64x7168) ![0, 3712] S64x128.size inb_S64x7168_S64x128_0_3712
abbrev r1_30 : Rect S64x7168 := Rect.unit (s := S64x7168) ![0, 3840] S64x128.size inb_S64x7168_S64x128_0_3840
abbrev r1_31 : Rect S64x7168 := Rect.unit (s := S64x7168) ![0, 3968] S64x128.size inb_S64x7168_S64x128_0_3968
abbrev r1_32 : Rect S64x7168 := Rect.unit (s := S64x7168) ![0, 4096] S64x128.size inb_S64x7168_S64x128_0_4096
abbrev r1_33 : Rect S64x7168 := Rect.unit (s := S64x7168) ![0, 4224] S64x128.size inb_S64x7168_S64x128_0_4224
abbrev r1_34 : Rect S64x7168 := Rect.unit (s := S64x7168) ![0, 4352] S64x128.size inb_S64x7168_S64x128_0_4352
abbrev r1_35 : Rect S64x7168 := Rect.unit (s := S64x7168) ![0, 4480] S64x128.size inb_S64x7168_S64x128_0_4480
abbrev r1_36 : Rect S64x7168 := Rect.unit (s := S64x7168) ![0, 4608] S64x128.size inb_S64x7168_S64x128_0_4608
abbrev r1_37 : Rect S64x7168 := Rect.unit (s := S64x7168) ![0, 4736] S64x128.size inb_S64x7168_S64x128_0_4736
abbrev r1_38 : Rect S64x7168 := Rect.unit (s := S64x7168) ![0, 4864] S64x128.size inb_S64x7168_S64x128_0_4864
abbrev r1_39 : Rect S64x7168 := Rect.unit (s := S64x7168) ![0, 4992] S64x128.size inb_S64x7168_S64x128_0_4992
abbrev r1_40 : Rect S64x7168 := Rect.unit (s := S64x7168) ![0, 5120] S64x128.size inb_S64x7168_S64x128_0_5120
abbrev r1_41 : Rect S64x7168 := Rect.unit (s := S64x7168) ![0, 5248] S64x128.size inb_S64x7168_S64x128_0_5248
abbrev r1_42 : Rect S64x7168 := Rect.unit (s := S64x7168) ![0, 5376] S64x128.size inb_S64x7168_S64x128_0_5376
abbrev r1_43 : Rect S64x7168 := Rect.unit (s := S64x7168) ![0, 5504] S64x128.size inb_S64x7168_S64x128_0_5504
abbrev r1_44 : Rect S64x7168 := Rect.unit (s := S64x7168) ![0, 5632] S64x128.size inb_S64x7168_S64x128_0_5632
abbrev r1_45 : Rect S64x7168 := Rect.unit (s := S64x7168) ![0, 5760] S64x128.size inb_S64x7168_S64x128_0_5760
abbrev r1_46 : Rect S64x7168 := Rect.unit (s := S64x7168) ![0, 5888] S64x128.size inb_S64x7168_S64x128_0_5888
abbrev r1_47 : Rect S64x7168 := Rect.unit (s := S64x7168) ![0, 6016] S64x128.size inb_S64x7168_S64x128_0_6016
abbrev r1_48 : Rect S64x7168 := Rect.unit (s := S64x7168) ![0, 6144] S64x128.size inb_S64x7168_S64x128_0_6144
abbrev r1_49 : Rect S64x7168 := Rect.unit (s := S64x7168) ![0, 6272] S64x128.size inb_S64x7168_S64x128_0_6272
abbrev r1_50 : Rect S64x7168 := Rect.unit (s := S64x7168) ![0, 6400] S64x128.size inb_S64x7168_S64x128_0_6400
abbrev r1_51 : Rect S64x7168 := Rect.unit (s := S64x7168) ![0, 6528] S64x128.size inb_S64x7168_S64x128_0_6528
abbrev r1_52 : Rect S64x7168 := Rect.unit (s := S64x7168) ![0, 6656] S64x128.size inb_S64x7168_S64x128_0_6656
abbrev r1_53 : Rect S64x7168 := Rect.unit (s := S64x7168) ![0, 6784] S64x128.size inb_S64x7168_S64x128_0_6784
abbrev r1_54 : Rect S64x7168 := Rect.unit (s := S64x7168) ![0, 6912] S64x128.size inb_S64x7168_S64x128_0_6912
abbrev r1_55 : Rect S64x7168 := Rect.unit (s := S64x7168) ![0, 7040] S64x128.size inb_S64x7168_S64x128_0_7040
abbrev r1_56 : Rect S64x56 := Rect.unit (s := S64x56) ![0, 0] S64x56.size inb_S64x56_S64x56_0_0

/-! ## What the body leaves in each output window's buffer -/

/-! ### Values of the body that the stores' payloads, spelt out, would write more than once

    Each is a vector the body binds (often a part call's result), stated over the input windows' blocks and
    numbered on from the skeleton's payload functions (`k1_pay362` …, after `k1_pay361`), so that
    `out1_W` and the values after it name it instead of spelling it out (`unfold_out out1_W` opens a canon
    with them, `unfold_payloads` opens them with the payloads); the comment after each is the printed function's
    name for the value (a count appended where that name is bound again). -/

def k1_pay362 (x0 : Vec F S64x7168 .f32) (x1 : Vec F S64x56 .f32) (x2 : Vec F S64x56 .f32) : IVec S64x56 32 :=
  iota .tc S64x56 32 [1] iota_S64x56_d1_w32 -- `v0`
def k1_pay363 (x0 : Vec F S64x7168 .f32) (x1 : Vec F S64x56 .f32) (x2 : Vec F S64x56 .f32) : FVec F S64x56 .f32 :=
  k1_pay60 (k1_pay362 x0 x1 x2) (k1_pay58 (k1_pay362 x0 x1 x2) (k1_pay56 (k1_pay362 x0 x1 x2) (k1_pay53 (k1_pay362 x0 x1 x2) (k1_pay49 (k1_pay362 x0 x1 x2) (k1_pay48 (k1_pay362 x0 x1 x2) (k1_pay45 (k1_pay362 x0 x1 x2) (k1_pay41 (k1_pay362 x0 x1 x2) (k1_pay38 (k1_pay362 x0 x1 x2) (k1_pay36 (k1_pay362 x0 x1 x2) (k1_pay33 (k1_pay362 x0 x1 x2) (k1_pay29 (k1_pay362 x0 x1 x2) (k1_pay28 (k1_pay362 x0 x1 x2) (k1_pay25 (k1_pay362 x0 x1 x2) (k1_pay21 (k1_pay362 x0 x1 x2) (k1_pay18 (k1_pay362 x0 x1 x2) (k1_pay16 (k1_pay362 x0 x1 x2) (k1_pay13 (k1_pay362 x0 x1 x2) (k1_pay9 (k1_pay362 x0 x1 x2) (k1_pay8 (View.ld x0 r1_0) (View.ld x0 r1_1) (View.ld x0 r1_2)) (View.ld x0 r1_3) (View.ld x0 r1_4)) (k1_pay11 (k1_pay362 x0 x1 x2)) (k1_pay12 (View.ld x0 r1_5)) (View.ld x0 r1_6) (View.ld x0 r1_7)) (View.ld x0 r1_8) (k1_pay15 (k1_pay362 x0 x1 x2)) (View.ld x0 r1_9) (View.ld x0 r1_10)) (View.ld x0 r1_11) (View.ld x0 r1_12) (View.ld x0 r1_13)) (View.ld x0 r1_14) (View.ld x0 r1_15) (View.ld x0 r1_16)) (View.ld x0 r1_17) (View.ld x0 r1_18) (View.ld x0 r1_19)) (View.ld x0 r1_20) (View.ld x0 r1_21) (View.ld x0 r1_22)) (View.ld x0 r1_23) (View.ld x0 r1_24)) (k1_pay31 (k1_pay362 x0 x1 x2)) (k1_pay32 (View.ld x0 r1_25)) (View.ld x0 r1_26) (View.ld x0 r1_27)) (View.ld x0 r1_28) (k1_pay35 (k1_pay362 x0 x1 x2)) (View.ld x0 r1_29) (View.ld x0 r1_30)) (View.ld x0 r1_31) (View.ld x0 r1_32) (View.ld x0 r1_33)) (View.ld x0 r1_34) (View.ld x0 r1_35) (View.ld x0 r1_36)) (View.ld x0 r1_37) (View.ld x0 r1_38) (View.ld x0 r1_39)) (View.ld x0 r1_40) (View.ld x0 r1_41) (View.ld x0 r1_42)) (View.ld x0 r1_43) (View.ld x0 r1_44)) (k1_pay51 (k1_pay362 x0 x1 x2)) (k1_pay52 (View.ld x0 r1_45)) (View.ld x0 r1_46) (View.ld x0 r1_47)) (View.ld x0 r1_48) (k1_pay55 (k1_pay362 x0 x1 x2)) (View.ld x0 r1_49) (View.ld x0 r1_50)) (View.ld x0 r1_51) (View.ld x0 r1_52) (View.ld x0 r1_53)) (View.ld x0 r1_54) (View.ld x0 r1_55) -- `v835`
def k1_pay364 (x0 : Vec F S64x7168 .f32) (x1 : Vec F S64x56 .f32) (x2 : Vec F S64x56 .f32) : FVec F S64x56 .f32 :=
  k1_pay61 (k1_pay362 x0 x1 x2) (k1_pay59 (k1_pay362 x0 x1 x2) (k1_pay57 (k1_pay362 x0 x1 x2) (k1_pay54 (k1_pay362 x0 x1 x2) (k1_pay50 (k1_pay362 x0 x1 x2) (k1_pay47 (k1_pay362 x0 x1 x2) (k1_pay44 (k1_pay362 x0 x1 x2) (k1_pay40 (k1_pay362 x0 x1 x2) (k1_pay39 (k1_pay362 x0 x1 x2) (k1_pay37 (k1_pay362 x0 x1 x2) (k1_pay34 (k1_pay362 x0 x1 x2) (k1_pay30 (k1_pay362 x0 x1 x2) (k1_pay27 (k1_pay362 x0 x1 x2) (k1_pay24 (k1_pay362 x0 x1 x2) (k1_pay20 (k1_pay362 x0 x1 x2) (k1_pay19 (k1_pay362 x0 x1 x2) (k1_pay17 (k1_pay362 x0 x1 x2) (k1_pay14 (k1_pay362 x0 x1 x2) (k1_pay10 (k1_pay362 x0 x1 x2) (k1_pay7 (View.ld x0 r1_0) (View.ld x0 r1_1)) (View.ld x0 r1_2) (View.ld x0 r1_3) (View.ld x0 r1_4)) (View.ld x0 r1_5) (View.ld x0 r1_6) (View.ld x0 r1_7)) (View.ld x0 r1_8) (View.ld x0 r1_9) (View.ld x0 r1_10)) (View.ld x0 r1_11) (View.ld x0 r1_12) (View.ld x0 r1_13)) (View.ld x0 r1_14) (View.ld x0 r1_15)) (k1_pay22 (k1_pay362 x0 x1 x2)) (k1_pay23 (View.ld x0 r1_16)) (View.ld x0 r1_17) (View.ld x0 r1_18)) (View.ld x0 r1_19) (k1_pay26 (k1_pay362 x0 x1 x2)) (View.ld x0 r1_20) (View.ld x0 r1_21)) (View.ld x0 r1_22) (View.ld x0 r1_23) (View.ld x0 r1_24)) (View.ld x0 r1_25) (View.ld x0 r1_26) (View.ld x0 r1_27)) (View.ld x0 r1_28) (View.ld x0 r1_29) (View.ld x0 r1_30)) (View.ld x0 r1_31) (View.ld x0 r1_32) (View.ld x0 r1_33)) (View.ld x0 r1_34) (View.ld x0 r1_35)) (k1_pay42 (k1_pay362 x0 x1 x2)) (k1_pay43 (View.ld x0 r1_36)) (View.ld x0 r1_37) (View.ld x0 r1_38)) (View.ld x0 r1_39) (k1_pay46 (k1_pay362 x0 x1 x2)) (View.ld x0 r1_40) (View.ld x0 r1_41)) (View.ld x0 r1_42) (View.ld x0 r1_43) (View.ld x0 r1_44)) (View.ld x0 r1_45) (View.ld x0 r1_46) (View.ld x0 r1_47)) (View.ld x0 r1_48) (View.ld x0 r1_49) (View.ld x0 r1_50)) (View.ld x0 r1_51) (View.ld x0 r1_52) (View.ld x0 r1_53)) (View.ld x0 r1_54) (View.ld x0 r1_55) -- `v842`
def k1_pay365 (x0 : Vec F S64x7168 .f32) (x1 : Vec F S64x56 .f32) (x2 : Vec F S64x56 .f32) : FVec F S64x56 .f32 :=
  k1_pay62 (View.ld x1 r1_56) -- `v850`
def k1_pay366 (x0 : Vec F S64x7168 .f32) (x1 : Vec F S64x56 .f32) (x2 : Vec F S64x56 .f32) : FVec F S64x56 .f32 :=
  k1_pay63 (F := F) -- `v852`
def k1_pay367 (x0 : Vec F S64x7168 .f32) (x1 : Vec F S64x56 .f32) (x2 : Vec F S64x56 .f32) : FVec F S64x56 .f32 :=
  k1_pay66 (k1_pay363 x0 x1 x2) (k1_pay364 x0 x1 x2) (k1_pay365 x0 x1 x2) (View.ld x2 r1_56) (k1_pay366 x0 x1 x2) -- `v863`
def k1_pay368 (x0 : Vec F S64x7168 .f32) (x1 : Vec F S64x56 .f32) (x2 : Vec F S64x56 .f32) : FVec F S64x56 .f32 :=
  k1_pay67 (k1_pay363 x0 x1 x2) (k1_pay364 x0 x1 x2) (k1_pay365 x0 x1 x2) (View.ld x2 r1_56) (k1_pay366 x0 x1 x2) -- `v867`
def k1_pay369 (x0 : Vec F S64x7168 .f32) (x1 : Vec F S64x56 .f32) (x2 : Vec F S64x56 .f32) : FVec F S64x1 .f32 :=
  k1_pay71 (k1_pay363 x0 x1 x2) (k1_pay364 x0 x1 x2) (k1_pay365 x0 x1 x2) (View.ld x2 r1_56) (k1_pay366 x0 x1 x2) -- `v887`
def k1_pay370 (x0 : Vec F S64x7168 .f32) (x1 : Vec F S64x56 .f32) (x2 : Vec F S64x56 .f32) : FVec F S64x128 .f32 :=
  k1_pay72 (k1_pay363 x0 x1 x2) (k1_pay364 x0 x1 x2) (k1_pay365 x0 x1 x2) (View.ld x2 r1_56) (k1_pay366 x0 x1 x2) -- `v889`
def k1_pay371 (x0 : Vec F S64x7168 .f32) (x1 : Vec F S64x56 .f32) (x2 : Vec F S64x56 .f32) : FVec F S64x1 .f32 :=
  k1_pay81 (k1_pay367 x0 x1 x2) -- `v928`
def k1_pay372 (x0 : Vec F S64x7168 .f32) (x1 : Vec F S64x56 .f32) (x2 : Vec F S64x56 .f32) : FVec F S64x1 .f32 :=
  k1_pay82 (k1_pay368 x0 x1 x2) -- `v929`
def k1_pay373 (x0 : Vec F S64x7168 .f32) (x1 : Vec F S64x56 .f32) (x2 : Vec F S64x56 .f32) : FVec F S64x1 .f32 :=
  k1_pay91 (k1_pay367 x0 x1 x2) -- `v970`
def k1_pay374 (x0 : Vec F S64x7168 .f32) (x1 : Vec F S64x56 .f32) (x2 : Vec F S64x56 .f32) : FVec F S64x1 .f32 :=
  k1_pay92 (k1_pay368 x0 x1 x2) -- `v971`
def k1_pay375 (x0 : Vec F S64x7168 .f32) (x1 : Vec F S64x56 .f32) (x2 : Vec F S64x56 .f32) : FVec F S64x128 .f32 :=
  k1_pay182 (k1_pay367 x0 x1 x2) (k1_pay368 x0 x1 x2) (View.ld x0 r1_21) -- `v1336`
def k1_pay376 (x0 : Vec F S64x7168 .f32) (x1 : Vec F S64x56 .f32) (x2 : Vec F S64x56 .f32) : FVec F S64x128 .f32 :=
  k1_pay183 (F := F) -- `v1337`
def k1_pay377 (x0 : Vec F S64x7168 .f32) (x1 : Vec F S64x56 .f32) (x2 : Vec F S64x56 .f32) : FVec F S64x128 .f32 :=
  k1_pay194 (k1_pay367 x0 x1 x2) (k1_pay368 x0 x1 x2) (View.ld x0 r1_23) -- `v1376`
def k1_pay378 (x0 : Vec F S64x7168 .f32) (x1 : Vec F S64x56 .f32) (x2 : Vec F S64x56 .f32) : FVec F S64x128 .f32 :=
  k1_pay195 (F := F) -- `v1377`
def k1_pay379 (x0 : Vec F S64x7168 .f32) (x1 : Vec F S64x56 .f32) (x2 : Vec F S64x56 .f32) : FVec F S64x128 .f32 :=
  k1_pay206 (k1_pay367 x0 x1 x2) (k1_pay368 x0 x1 x2) (View.ld x0 r1_25) -- `v1418`
def k1_pay380 (x0 : Vec F S64x7168 .f32) (x1 : Vec F S64x56 .f32) (x2 : Vec F S64x56 .f32) : FVec F S64x128 .f32 :=
  k1_pay217 (k1_pay367 x0 x1 x2) (View.ld x0 r1_27) -- `v1458`
def k1_pay381 (x0 : Vec F S64x7168 .f32) (x1 : Vec F S64x56 .f32) (x2 : Vec F S64x56 .f32) : FVec F S64x128 .f32 :=
  k1_pay218 (k1_pay368 x0 x1 x2) -- `v1459`
def k1_pay382 (x0 : Vec F S64x7168 .f32) (x1 : Vec F S64x56 .f32) (x2 : Vec F S64x56 .f32) : FVec F S64x1 .f32 :=
  k1_pay228 (k1_pay368 x0 x1 x2) -- `v1496`
def k1_pay383 (x0 : Vec F S64x7168 .f32) (x1 : Vec F S64x56 .f32) (x2 : Vec F S64x56 .f32) : FVec F S64x128 .f32 :=
  k1_pay229 (k1_pay367 x0 x1 x2) (View.ld x0 r1_29) -- `v1499`
def k1_pay384 (x0 : Vec F S64x7168 .f32) (x1 : Vec F S64x56 .f32) (x2 : Vec F S64x56 .f32) : FVec F S64x1 .f32 :=
  k1_pay238 (k1_pay367 x0 x1 x2) -- `v1537`
def k1_pay385 (x0 : Vec F S64x7168 .f32) (x1 : Vec F S64x56 .f32) (x2 : Vec F S64x56 .f32) : FVec F S64x1 .f32 :=
  k1_pay239 (k1_pay368 x0 x1 x2) -- `v1538`
def k1_pay386 (x0 : Vec F S64x7168 .f32) (x1 : Vec F S64x56 .f32) (x2 : Vec F S64x56 .f32) : FVec F S64x1 .f32 :=
  k1_pay248 (k1_pay367 x0 x1 x2) -- `v1579`
def k1_pay387 (x0 : Vec F S64x7168 .f32) (x1 : Vec F S64x56 .f32) (x2 : Vec F S64x56 .f32) : FVec F S64x1 .f32 :=
  k1_pay249 (k1_pay368 x0 x1 x2) -- `v1580`
def k1_pay388 (x0 : Vec F S64x7168 .f32) (x1 : Vec F S64x56 .f32) (x2 : Vec F S64x56 .f32) : FVec F S64x1 .f32 :=
  k1_pay258 (k1_pay367 x0 x1 x2) -- `v1621`
def k1_pay389 (x0 : Vec F S64x7168 .f32) (x1 : Vec F S64x56 .f32) (x2 : Vec F S64x56 .f32) : FVec F S64x128 .f32 :=
  k1_pay337 (k1_pay367 x0 x1 x2) (k1_pay368 x0 x1 x2) (View.ld x0 r1_50) -- `v1947`
def k1_pay390 (x0 : Vec F S64x7168 .f32) (x1 : Vec F S64x56 .f32) (x2 : Vec F S64x56 .f32) : FVec F S64x128 .f32 :=
  k1_pay347 (k1_pay367 x0 x1 x2) (k1_pay368 x0 x1 x2) (View.ld x0 r1_52) -- `v1987`
def k1_pay391 (x0 : Vec F S64x7168 .f32) (x1 : Vec F S64x56 .f32) (x2 : Vec F S64x56 .f32) : FVec F S64x128 .f32 :=
  k1_pay358 (k1_pay367 x0 x1 x2) (k1_pay368 x0 x1 x2) (View.ld x0 r1_54) -- `v2027`

/-- Window 3's staging buffer after the body, from the input windows' blocks: its 56 stores as pieces, LAST
    FIRST (Lib/Pipeline/FrameBody.lean `View.canon`; the payloads are the skeleton's and the values stated above). -/
def out1_3 (x0 : Vec F S64x7168 .f32) (x1 : Vec F S64x56 .f32) (x2 : Vec F S64x56 .f32) : Vec F S64x7168 .i8 :=
  View.canon [⟨r1_55, k1_pay5 (k1_pay367 x0 x1 x2) (k1_pay368 x0 x1 x2) (View.ld x0 r1_55)⟩,
    ⟨r1_54, k1_pay360 (k1_pay391 x0 x1 x2) (Scalar.ofBits .f32 0x00000000#32) (Scalar.ofBits .f32 0x41700000#32)⟩,
    ⟨r1_53, k1_pay354 (k1_pay367 x0 x1 x2) (k1_pay368 x0 x1 x2) (View.ld x0 r1_53)⟩,
    ⟨r1_52, k1_pay349 (Scalar.ofBits .f32 0x41700000#32) (k1_pay390 x0 x1 x2)⟩,
    ⟨r1_51, k1_pay343 (k1_pay367 x0 x1 x2) (k1_pay368 x0 x1 x2) (View.ld x0 r1_51)⟩,
    ⟨r1_50, k1_pay338 (k1_pay389 x0 x1 x2)⟩,
    ⟨r1_49, k1_pay333 (k1_pay367 x0 x1 x2) (k1_pay368 x0 x1 x2) (View.ld x0 r1_49)⟩,
    ⟨r1_48, k1_pay328 (k1_pay367 x0 x1 x2) (k1_pay368 x0 x1 x2) (View.ld x0 r1_48)⟩,
    ⟨r1_47, k1_pay323 (k1_pay367 x0 x1 x2) (k1_pay368 x0 x1 x2) (View.ld x0 r1_47)⟩,
    ⟨r1_46, k1_pay318 (k1_pay367 x0 x1 x2) (k1_pay368 x0 x1 x2) (View.ld x0 r1_46)⟩,
    ⟨r1_45, k1_pay313 (k1_pay367 x0 x1 x2) (k1_pay368 x0 x1 x2) (View.ld x0 r1_45)⟩,
    ⟨r1_44, k1_pay308 (k1_pay367 x0 x1 x2) (k1_pay368 x0 x1 x2) (View.ld x0 r1_44)⟩,
    ⟨r1_43, k1_pay303 (k1_pay367 x0 x1 x2) (k1_pay368 x0 x1 x2) (View.ld x0 r1_43)⟩,
    ⟨r1_42, k1_pay297 (k1_pay367 x0 x1 x2) (k1_pay368 x0 x1 x2) (View.ld x0 r1_42)⟩,
    ⟨r1_41, k1_pay292 (k1_pay367 x0 x1 x2) (k1_pay368 x0 x1 x2) (View.ld x0 r1_41)⟩,
    ⟨r1_40, k1_pay286 (k1_pay367 x0 x1 x2) (k1_pay368 x0 x1 x2) (View.ld x0 r1_40)⟩,
    ⟨r1_39, k1_pay281 (k1_pay367 x0 x1 x2) (k1_pay368 x0 x1 x2) (View.ld x0 r1_39)⟩,
    ⟨r1_38, k1_pay276 (k1_pay367 x0 x1 x2) (k1_pay368 x0 x1 x2) (View.ld x0 r1_38)⟩,
    ⟨r1_37, k1_pay271 (k1_pay367 x0 x1 x2) (k1_pay368 x0 x1 x2) (View.ld x0 r1_37)⟩,
    ⟨r1_36, k1_pay266 (k1_pay367 x0 x1 x2) (k1_pay368 x0 x1 x2) (View.ld x0 r1_36)⟩,
    ⟨r1_35, k1_pay261 (k1_pay368 x0 x1 x2) (k1_pay388 x0 x1 x2) (View.ld x0 r1_35)⟩,
    ⟨r1_34, k1_pay256 (k1_pay367 x0 x1 x2) (k1_pay368 x0 x1 x2) (View.ld x0 r1_34)⟩,
    ⟨r1_33, k1_pay251 (k1_pay386 x0 x1 x2) (k1_pay387 x0 x1 x2) (View.ld x0 r1_33)⟩,
    ⟨r1_32, k1_pay246 (k1_pay367 x0 x1 x2) (k1_pay368 x0 x1 x2) (View.ld x0 r1_32)⟩,
    ⟨r1_31, k1_pay241 (k1_pay384 x0 x1 x2) (k1_pay385 x0 x1 x2) (View.ld x0 r1_31)⟩,
    ⟨r1_30, k1_pay236 (k1_pay367 x0 x1 x2) (k1_pay368 x0 x1 x2) (View.ld x0 r1_30)⟩,
    ⟨r1_29, k1_pay231 (k1_pay382 x0 x1 x2) (k1_pay383 x0 x1 x2)⟩,
    ⟨r1_28, k1_pay225 (k1_pay367 x0 x1 x2) (k1_pay368 x0 x1 x2) (View.ld x0 r1_28)⟩,
    ⟨r1_27, k1_pay220 (k1_pay380 x0 x1 x2) (k1_pay381 x0 x1 x2)⟩,
    ⟨r1_26, k1_pay213 (k1_pay367 x0 x1 x2) (k1_pay368 x0 x1 x2) (View.ld x0 r1_26)⟩,
    ⟨r1_25, k1_pay208 (k1_pay379 x0 x1 x2) (Scalar.ofBits .f32 0x00000000#32)⟩,
    ⟨r1_24, k1_pay202 (k1_pay367 x0 x1 x2) (k1_pay368 x0 x1 x2) (View.ld x0 r1_24)⟩,
    ⟨r1_23, k1_pay197 (k1_pay377 x0 x1 x2) (Scalar.ofBits .f32 0x41700000#32) (k1_pay378 x0 x1 x2)⟩,
    ⟨r1_22, k1_pay190 (k1_pay367 x0 x1 x2) (k1_pay368 x0 x1 x2) (View.ld x0 r1_22)⟩,
    ⟨r1_21, k1_pay185 (k1_pay375 x0 x1 x2) (k1_pay376 x0 x1 x2)⟩,
    ⟨r1_20, k1_pay178 (k1_pay367 x0 x1 x2) (k1_pay368 x0 x1 x2) (View.ld x0 r1_20)⟩,
    ⟨r1_19, k1_pay173 (k1_pay172 (k1_pay367 x0 x1 x2) (k1_pay368 x0 x1 x2) (View.ld x0 r1_19))⟩,
    ⟨r1_18, k1_pay167 (k1_pay367 x0 x1 x2) (k1_pay368 x0 x1 x2) (View.ld x0 r1_18)⟩,
    ⟨r1_17, k1_pay162 (k1_pay367 x0 x1 x2) (k1_pay368 x0 x1 x2) (View.ld x0 r1_17)⟩,
    ⟨r1_16, k1_pay157 (k1_pay367 x0 x1 x2) (k1_pay368 x0 x1 x2) (View.ld x0 r1_16)⟩,
    ⟨r1_15, k1_pay152 (k1_pay367 x0 x1 x2) (k1_pay368 x0 x1 x2) (View.ld x0 r1_15)⟩,
    ⟨r1_14, k1_pay147 (k1_pay367 x0 x1 x2) (k1_pay368 x0 x1 x2) (View.ld x0 r1_14)⟩,
    ⟨r1_13, k1_pay141 (k1_pay367 x0 x1 x2) (k1_pay368 x0 x1 x2) (View.ld x0 r1_13)⟩,
    ⟨r1_12, k1_pay136 (k1_pay367 x0 x1 x2) (k1_pay368 x0 x1 x2) (View.ld x0 r1_12)⟩,
    ⟨r1_11, k1_pay129 (k1_pay367 x0 x1 x2) (k1_pay368 x0 x1 x2) (View.ld x0 r1_11)⟩,
    ⟨r1_10, k1_pay124 (k1_pay367 x0 x1 x2) (k1_pay368 x0 x1 x2) (View.ld x0 r1_10)⟩,
    ⟨r1_9, k1_pay119 (k1_pay367 x0 x1 x2) (k1_pay368 x0 x1 x2) (View.ld x0 r1_9)⟩,
    ⟨r1_8, k1_pay114 (k1_pay367 x0 x1 x2) (k1_pay368 x0 x1 x2) (View.ld x0 r1_8)⟩,
    ⟨r1_7, k1_pay109 (k1_pay367 x0 x1 x2) (k1_pay368 x0 x1 x2) (View.ld x0 r1_7)⟩,
    ⟨r1_6, k1_pay104 (k1_pay367 x0 x1 x2) (k1_pay368 x0 x1 x2) (View.ld x0 r1_6)⟩,
    ⟨r1_5, k1_pay99 (k1_pay367 x0 x1 x2) (k1_pay368 x0 x1 x2) (View.ld x0 r1_5)⟩,
    ⟨r1_4, k1_pay94 (k1_pay373 x0 x1 x2) (k1_pay374 x0 x1 x2) (View.ld x0 r1_4)⟩,
    ⟨r1_3, k1_pay89 (k1_pay367 x0 x1 x2) (k1_pay368 x0 x1 x2) (View.ld x0 r1_3)⟩,
    ⟨r1_2, k1_pay84 (k1_pay371 x0 x1 x2) (k1_pay372 x0 x1 x2) (View.ld x0 r1_2)⟩,
    ⟨r1_1, k1_pay79 (k1_pay367 x0 x1 x2) (k1_pay368 x0 x1 x2) (View.ld x0 r1_1)⟩,
    ⟨r1_0, k1_pay74 (k1_pay369 x0 x1 x2) (View.ld x0 r1_0) (k1_pay370 x0 x1 x2)⟩]

/-- Its stores tile the buffer (checked by evaluation), so they cover it. -/
theorem cover1_3 (p0 : Vec F S64x128 .i8) (p1 : Vec F S64x128 .i8) (p2 : Vec F S64x128 .i8) (p3 : Vec F S64x128 .i8) (p4 : Vec F S64x128 .i8) (p5 : Vec F S64x128 .i8) (p6 : Vec F S64x128 .i8) (p7 : Vec F S64x128 .i8) (p8 : Vec F S64x128 .i8) (p9 : Vec F S64x128 .i8) (p10 : Vec F S64x128 .i8) (p11 : Vec F S64x128 .i8) (p12 : Vec F S64x128 .i8) (p13 : Vec F S64x128 .i8) (p14 : Vec F S64x128 .i8) (p15 : Vec F S64x128 .i8) (p16 : Vec F S64x128 .i8) (p17 : Vec F S64x128 .i8) (p18 : Vec F S64x128 .i8) (p19 : Vec F S64x128 .i8) (p20 : Vec F S64x128 .i8) (p21 : Vec F S64x128 .i8) (p22 : Vec F S64x128 .i8) (p23 : Vec F S64x128 .i8) (p24 : Vec F S64x128 .i8) (p25 : Vec F S64x128 .i8) (p26 : Vec F S64x128 .i8) (p27 : Vec F S64x128 .i8) (p28 : Vec F S64x128 .i8) (p29 : Vec F S64x128 .i8) (p30 : Vec F S64x128 .i8) (p31 : Vec F S64x128 .i8) (p32 : Vec F S64x128 .i8) (p33 : Vec F S64x128 .i8) (p34 : Vec F S64x128 .i8) (p35 : Vec F S64x128 .i8) (p36 : Vec F S64x128 .i8) (p37 : Vec F S64x128 .i8) (p38 : Vec F S64x128 .i8) (p39 : Vec F S64x128 .i8) (p40 : Vec F S64x128 .i8) (p41 : Vec F S64x128 .i8) (p42 : Vec F S64x128 .i8) (p43 : Vec F S64x128 .i8) (p44 : Vec F S64x128 .i8) (p45 : Vec F S64x128 .i8) (p46 : Vec F S64x128 .i8) (p47 : Vec F S64x128 .i8) (p48 : Vec F S64x128 .i8) (p49 : Vec F S64x128 .i8) (p50 : Vec F S64x128 .i8) (p51 : Vec F S64x128 .i8) (p52 : Vec F S64x128 .i8) (p53 : Vec F S64x128 .i8) (p54 : Vec F S64x128 .i8) (p55 : Vec F S64x128 .i8) (y : S64x7168.Idx) :
    ∃ pc ∈ ([⟨r1_55, p0⟩, ⟨r1_54, p1⟩, ⟨r1_53, p2⟩, ⟨r1_52, p3⟩, ⟨r1_51, p4⟩, ⟨r1_50, p5⟩, ⟨r1_49, p6⟩, ⟨r1_48, p7⟩, ⟨r1_47, p8⟩, ⟨r1_46, p9⟩, ⟨r1_45, p10⟩, ⟨r1_44, p11⟩, ⟨r1_43, p12⟩, ⟨r1_42, p13⟩, ⟨r1_41, p14⟩, ⟨r1_40, p15⟩, ⟨r1_39, p16⟩, ⟨r1_38, p17⟩, ⟨r1_37, p18⟩, ⟨r1_36, p19⟩, ⟨r1_35, p20⟩, ⟨r1_34, p21⟩, ⟨r1_33, p22⟩, ⟨r1_32, p23⟩, ⟨r1_31, p24⟩, ⟨r1_30, p25⟩, ⟨r1_29, p26⟩, ⟨r1_28, p27⟩, ⟨r1_27, p28⟩, ⟨r1_26, p29⟩, ⟨r1_25, p30⟩, ⟨r1_24, p31⟩, ⟨r1_23, p32⟩, ⟨r1_22, p33⟩, ⟨r1_21, p34⟩, ⟨r1_20, p35⟩, ⟨r1_19, p36⟩, ⟨r1_18, p37⟩, ⟨r1_17, p38⟩, ⟨r1_16, p39⟩, ⟨r1_15, p40⟩, ⟨r1_14, p41⟩, ⟨r1_13, p42⟩, ⟨r1_12, p43⟩, ⟨r1_11, p44⟩, ⟨r1_10, p45⟩, ⟨r1_9, p46⟩, ⟨r1_8, p47⟩, ⟨r1_7, p48⟩, ⟨r1_6, p49⟩, ⟨r1_5, p50⟩, ⟨r1_4, p51⟩, ⟨r1_3, p52⟩, ⟨r1_2, p53⟩, ⟨r1_1, p54⟩, ⟨r1_0, p55⟩] : List (View.Piece (Elt F) S64x7168 .i8)), y ∈ pc.1.set :=
  View.cover_of_tiled [⟨r1_55, p0⟩, ⟨r1_54, p1⟩, ⟨r1_53, p2⟩, ⟨r1_52, p3⟩, ⟨r1_51, p4⟩, ⟨r1_50, p5⟩, ⟨r1_49, p6⟩, ⟨r1_48, p7⟩, ⟨r1_47, p8⟩, ⟨r1_46, p9⟩, ⟨r1_45, p10⟩, ⟨r1_44, p11⟩, ⟨r1_43, p12⟩, ⟨r1_42, p13⟩, ⟨r1_41, p14⟩, ⟨r1_40, p15⟩, ⟨r1_39, p16⟩, ⟨r1_38, p17⟩, ⟨r1_37, p18⟩, ⟨r1_36, p19⟩, ⟨r1_35, p20⟩, ⟨r1_34, p21⟩, ⟨r1_33, p22⟩, ⟨r1_32, p23⟩, ⟨r1_31, p24⟩, ⟨r1_30, p25⟩, ⟨r1_29, p26⟩, ⟨r1_28, p27⟩, ⟨r1_27, p28⟩, ⟨r1_26, p29⟩, ⟨r1_25, p30⟩, ⟨r1_24, p31⟩, ⟨r1_23, p32⟩, ⟨r1_22, p33⟩, ⟨r1_21, p34⟩, ⟨r1_20, p35⟩, ⟨r1_19, p36⟩, ⟨r1_18, p37⟩, ⟨r1_17, p38⟩, ⟨r1_16, p39⟩, ⟨r1_15, p40⟩, ⟨r1_14, p41⟩, ⟨r1_13, p42⟩, ⟨r1_12, p43⟩, ⟨r1_11, p44⟩, ⟨r1_10, p45⟩, ⟨r1_9, p46⟩, ⟨r1_8, p47⟩, ⟨r1_7, p48⟩, ⟨r1_6, p49⟩, ⟨r1_5, p50⟩, ⟨r1_4, p51⟩, ⟨r1_3, p52⟩, ⟨r1_2, p53⟩, ⟨r1_1, p54⟩, ⟨r1_0, p55⟩] S64x128.size (by rfl) y

/-- Window 4's staging buffer after the body, from the input windows' blocks: its 56 stores as pieces, LAST
    FIRST (Lib/Pipeline/FrameBody.lean `View.canon`; the payloads are the skeleton's and the values stated above). -/
def out1_4 (x0 : Vec F S64x7168 .f32) (x1 : Vec F S64x56 .f32) (x2 : Vec F S64x56 .f32) : Vec F S64x7168 .bf16 :=
  View.canon [⟨r1_55, k1_pay6 (k1_pay367 x0 x1 x2) (k1_pay368 x0 x1 x2) (View.ld x0 r1_55)⟩,
    ⟨r1_54, k1_pay1 (k1_pay356 (k1_pay367 x0 x1 x2)) (k1_pay359 (k1_pay391 x0 x1 x2) (Scalar.ofBits .f32 0x00000000#32) (Scalar.ofBits .f32 0x41700000#32)) (k1_pay361 (k1_pay357 (k1_pay368 x0 x1 x2)))⟩,
    ⟨r1_53, k1_pay355 (k1_pay367 x0 x1 x2) (k1_pay368 x0 x1 x2) (View.ld x0 r1_53)⟩,
    ⟨r1_52, k1_pay350 (k1_pay345 (k1_pay367 x0 x1 x2)) (k1_pay346 (k1_pay368 x0 x1 x2)) (Scalar.ofBits .f32 0x41700000#32) (k1_pay390 x0 x1 x2)⟩,
    ⟨r1_51, k1_pay344 (k1_pay367 x0 x1 x2) (k1_pay368 x0 x1 x2) (View.ld x0 r1_51)⟩,
    ⟨r1_50, k1_pay339 (k1_pay335 (k1_pay367 x0 x1 x2)) (k1_pay336 (k1_pay368 x0 x1 x2)) (k1_pay389 x0 x1 x2)⟩,
    ⟨r1_49, k1_pay334 (k1_pay367 x0 x1 x2) (k1_pay368 x0 x1 x2) (View.ld x0 r1_49)⟩,
    ⟨r1_48, k1_pay329 (k1_pay325 (k1_pay367 x0 x1 x2)) (k1_pay326 (k1_pay368 x0 x1 x2)) (k1_pay327 (k1_pay367 x0 x1 x2) (k1_pay368 x0 x1 x2) (View.ld x0 r1_48))⟩,
    ⟨r1_47, k1_pay324 (k1_pay367 x0 x1 x2) (k1_pay368 x0 x1 x2) (View.ld x0 r1_47)⟩,
    ⟨r1_46, k1_pay319 (k1_pay315 (k1_pay367 x0 x1 x2)) (k1_pay316 (k1_pay368 x0 x1 x2)) (k1_pay317 (k1_pay367 x0 x1 x2) (k1_pay368 x0 x1 x2) (View.ld x0 r1_46))⟩,
    ⟨r1_45, k1_pay314 (k1_pay367 x0 x1 x2) (k1_pay368 x0 x1 x2) (View.ld x0 r1_45)⟩,
    ⟨r1_44, k1_pay309 (k1_pay305 (k1_pay367 x0 x1 x2)) (k1_pay306 (k1_pay368 x0 x1 x2)) (k1_pay307 (k1_pay367 x0 x1 x2) (k1_pay368 x0 x1 x2) (View.ld x0 r1_44))⟩,
    ⟨r1_43, k1_pay304 (k1_pay367 x0 x1 x2) (k1_pay368 x0 x1 x2) (View.ld x0 r1_43)⟩,
    ⟨r1_42, k1_pay299 (k1_pay294 (k1_pay367 x0 x1 x2)) (k1_pay298 (k1_pay367 x0 x1 x2) (k1_pay368 x0 x1 x2) (View.ld x0 r1_42))⟩,
    ⟨r1_41, k1_pay293 (k1_pay367 x0 x1 x2) (k1_pay368 x0 x1 x2) (View.ld x0 r1_41)⟩,
    ⟨r1_40, k1_pay288 (k1_pay287 (k1_pay367 x0 x1 x2) (k1_pay368 x0 x1 x2) (View.ld x0 r1_40))⟩,
    ⟨r1_39, k1_pay282 (k1_pay367 x0 x1 x2) (k1_pay368 x0 x1 x2) (View.ld x0 r1_39)⟩,
    ⟨r1_38, k1_pay277 (k1_pay367 x0 x1 x2) (k1_pay368 x0 x1 x2) (View.ld x0 r1_38)⟩,
    ⟨r1_37, k1_pay272 (k1_pay367 x0 x1 x2) (k1_pay368 x0 x1 x2) (View.ld x0 r1_37)⟩,
    ⟨r1_36, k1_pay267 (k1_pay367 x0 x1 x2) (k1_pay368 x0 x1 x2) (View.ld x0 r1_36)⟩,
    ⟨r1_35, k1_pay262 (k1_pay368 x0 x1 x2) (k1_pay388 x0 x1 x2) (View.ld x0 r1_35)⟩,
    ⟨r1_34, k1_pay257 (k1_pay367 x0 x1 x2) (k1_pay368 x0 x1 x2) (View.ld x0 r1_34)⟩,
    ⟨r1_33, k1_pay252 (k1_pay386 x0 x1 x2) (k1_pay387 x0 x1 x2) (View.ld x0 r1_33)⟩,
    ⟨r1_32, k1_pay247 (k1_pay367 x0 x1 x2) (k1_pay368 x0 x1 x2) (View.ld x0 r1_32)⟩,
    ⟨r1_31, k1_pay242 (k1_pay384 x0 x1 x2) (k1_pay385 x0 x1 x2) (View.ld x0 r1_31)⟩,
    ⟨r1_30, k1_pay237 (k1_pay367 x0 x1 x2) (k1_pay368 x0 x1 x2) (View.ld x0 r1_30)⟩,
    ⟨r1_29, k1_pay232 (k1_pay227 (k1_pay367 x0 x1 x2)) (k1_pay382 x0 x1 x2) (k1_pay383 x0 x1 x2)⟩,
    ⟨r1_28, k1_pay226 (k1_pay367 x0 x1 x2) (k1_pay368 x0 x1 x2) (View.ld x0 r1_28)⟩,
    ⟨r1_27, k1_pay221 (k1_pay215 (k1_pay367 x0 x1 x2)) (k1_pay216 (k1_pay368 x0 x1 x2)) (k1_pay380 x0 x1 x2) (k1_pay381 x0 x1 x2)⟩,
    ⟨r1_26, k1_pay214 (k1_pay367 x0 x1 x2) (k1_pay368 x0 x1 x2) (View.ld x0 r1_26)⟩,
    ⟨r1_25, k1_pay209 (k1_pay204 (k1_pay367 x0 x1 x2)) (k1_pay205 (k1_pay368 x0 x1 x2)) (k1_pay379 x0 x1 x2) (Scalar.ofBits .f32 0x00000000#32)⟩,
    ⟨r1_24, k1_pay203 (k1_pay367 x0 x1 x2) (k1_pay368 x0 x1 x2) (View.ld x0 r1_24)⟩,
    ⟨r1_23, k1_pay198 (k1_pay192 (k1_pay367 x0 x1 x2)) (k1_pay193 (k1_pay368 x0 x1 x2)) (k1_pay377 x0 x1 x2) (Scalar.ofBits .f32 0x41700000#32) (k1_pay378 x0 x1 x2)⟩,
    ⟨r1_22, k1_pay191 (k1_pay367 x0 x1 x2) (k1_pay368 x0 x1 x2) (View.ld x0 r1_22)⟩,
    ⟨r1_21, k1_pay186 (k1_pay180 (k1_pay367 x0 x1 x2)) (k1_pay181 (k1_pay368 x0 x1 x2)) (k1_pay375 x0 x1 x2) (k1_pay376 x0 x1 x2)⟩,
    ⟨r1_20, k1_pay179 (k1_pay367 x0 x1 x2) (k1_pay368 x0 x1 x2) (View.ld x0 r1_20)⟩,
    ⟨r1_19, k1_pay174 (k1_pay169 (k1_pay367 x0 x1 x2)) (k1_pay170 (k1_pay368 x0 x1 x2)) (k1_pay171 (k1_pay367 x0 x1 x2) (k1_pay368 x0 x1 x2) (View.ld x0 r1_19))⟩,
    ⟨r1_18, k1_pay168 (k1_pay367 x0 x1 x2) (k1_pay368 x0 x1 x2) (View.ld x0 r1_18)⟩,
    ⟨r1_17, k1_pay163 (k1_pay159 (k1_pay367 x0 x1 x2)) (k1_pay160 (k1_pay368 x0 x1 x2)) (k1_pay161 (k1_pay367 x0 x1 x2) (k1_pay368 x0 x1 x2) (View.ld x0 r1_17))⟩,
    ⟨r1_16, k1_pay158 (k1_pay367 x0 x1 x2) (k1_pay368 x0 x1 x2) (View.ld x0 r1_16)⟩,
    ⟨r1_15, k1_pay153 (k1_pay149 (k1_pay367 x0 x1 x2)) (k1_pay150 (k1_pay368 x0 x1 x2)) (k1_pay151 (k1_pay367 x0 x1 x2) (k1_pay368 x0 x1 x2) (View.ld x0 r1_15))⟩,
    ⟨r1_14, k1_pay148 (k1_pay367 x0 x1 x2) (k1_pay368 x0 x1 x2) (View.ld x0 r1_14)⟩,
    ⟨r1_13, k1_pay143 (k1_pay138 (k1_pay367 x0 x1 x2)) (k1_pay140 (k1_pay367 x0 x1 x2) (k1_pay368 x0 x1 x2) (View.ld x0 r1_13)) (k1_pay142 (k1_pay368 x0 x1 x2))⟩,
    ⟨r1_12, k1_pay137 (k1_pay367 x0 x1 x2) (k1_pay368 x0 x1 x2) (View.ld x0 r1_12)⟩,
    ⟨r1_11, k1_pay132 (k1_pay130 (k1_pay367 x0 x1 x2) (k1_pay368 x0 x1 x2) (View.ld x0 r1_11)) (k1_pay131 (k1_pay367 x0 x1 x2))⟩,
    ⟨r1_10, k1_pay125 (k1_pay367 x0 x1 x2) (k1_pay368 x0 x1 x2) (View.ld x0 r1_10)⟩,
    ⟨r1_9, k1_pay120 (k1_pay367 x0 x1 x2) (k1_pay368 x0 x1 x2) (View.ld x0 r1_9)⟩,
    ⟨r1_8, k1_pay115 (k1_pay367 x0 x1 x2) (k1_pay368 x0 x1 x2) (View.ld x0 r1_8)⟩,
    ⟨r1_7, k1_pay110 (k1_pay367 x0 x1 x2) (k1_pay368 x0 x1 x2) (View.ld x0 r1_7)⟩,
    ⟨r1_6, k1_pay105 (k1_pay367 x0 x1 x2) (k1_pay368 x0 x1 x2) (View.ld x0 r1_6)⟩,
    ⟨r1_5, k1_pay100 (k1_pay367 x0 x1 x2) (k1_pay368 x0 x1 x2) (View.ld x0 r1_5)⟩,
    ⟨r1_4, k1_pay95 (k1_pay373 x0 x1 x2) (k1_pay374 x0 x1 x2) (View.ld x0 r1_4)⟩,
    ⟨r1_3, k1_pay90 (k1_pay367 x0 x1 x2) (k1_pay368 x0 x1 x2) (View.ld x0 r1_3)⟩,
    ⟨r1_2, k1_pay85 (k1_pay371 x0 x1 x2) (k1_pay372 x0 x1 x2) (View.ld x0 r1_2)⟩,
    ⟨r1_1, k1_pay80 (k1_pay367 x0 x1 x2) (k1_pay368 x0 x1 x2) (View.ld x0 r1_1)⟩,
    ⟨r1_0, k1_pay75 (k1_pay70 (k1_pay363 x0 x1 x2) (k1_pay364 x0 x1 x2) (k1_pay365 x0 x1 x2) (View.ld x2 r1_56) (k1_pay366 x0 x1 x2)) (k1_pay369 x0 x1 x2) (View.ld x0 r1_0) (k1_pay370 x0 x1 x2)⟩]

/-- Its stores tile the buffer (checked by evaluation), so they cover it. -/
theorem cover1_4 (p0 : Vec F S64x128 .bf16) (p1 : Vec F S64x128 .bf16) (p2 : Vec F S64x128 .bf16) (p3 : Vec F S64x128 .bf16) (p4 : Vec F S64x128 .bf16) (p5 : Vec F S64x128 .bf16) (p6 : Vec F S64x128 .bf16) (p7 : Vec F S64x128 .bf16) (p8 : Vec F S64x128 .bf16) (p9 : Vec F S64x128 .bf16) (p10 : Vec F S64x128 .bf16) (p11 : Vec F S64x128 .bf16) (p12 : Vec F S64x128 .bf16) (p13 : Vec F S64x128 .bf16) (p14 : Vec F S64x128 .bf16) (p15 : Vec F S64x128 .bf16) (p16 : Vec F S64x128 .bf16) (p17 : Vec F S64x128 .bf16) (p18 : Vec F S64x128 .bf16) (p19 : Vec F S64x128 .bf16) (p20 : Vec F S64x128 .bf16) (p21 : Vec F S64x128 .bf16) (p22 : Vec F S64x128 .bf16) (p23 : Vec F S64x128 .bf16) (p24 : Vec F S64x128 .bf16) (p25 : Vec F S64x128 .bf16) (p26 : Vec F S64x128 .bf16) (p27 : Vec F S64x128 .bf16) (p28 : Vec F S64x128 .bf16) (p29 : Vec F S64x128 .bf16) (p30 : Vec F S64x128 .bf16) (p31 : Vec F S64x128 .bf16) (p32 : Vec F S64x128 .bf16) (p33 : Vec F S64x128 .bf16) (p34 : Vec F S64x128 .bf16) (p35 : Vec F S64x128 .bf16) (p36 : Vec F S64x128 .bf16) (p37 : Vec F S64x128 .bf16) (p38 : Vec F S64x128 .bf16) (p39 : Vec F S64x128 .bf16) (p40 : Vec F S64x128 .bf16) (p41 : Vec F S64x128 .bf16) (p42 : Vec F S64x128 .bf16) (p43 : Vec F S64x128 .bf16) (p44 : Vec F S64x128 .bf16) (p45 : Vec F S64x128 .bf16) (p46 : Vec F S64x128 .bf16) (p47 : Vec F S64x128 .bf16) (p48 : Vec F S64x128 .bf16) (p49 : Vec F S64x128 .bf16) (p50 : Vec F S64x128 .bf16) (p51 : Vec F S64x128 .bf16) (p52 : Vec F S64x128 .bf16) (p53 : Vec F S64x128 .bf16) (p54 : Vec F S64x128 .bf16) (p55 : Vec F S64x128 .bf16) (y : S64x7168.Idx) :
    ∃ pc ∈ ([⟨r1_55, p0⟩, ⟨r1_54, p1⟩, ⟨r1_53, p2⟩, ⟨r1_52, p3⟩, ⟨r1_51, p4⟩, ⟨r1_50, p5⟩, ⟨r1_49, p6⟩, ⟨r1_48, p7⟩, ⟨r1_47, p8⟩, ⟨r1_46, p9⟩, ⟨r1_45, p10⟩, ⟨r1_44, p11⟩, ⟨r1_43, p12⟩, ⟨r1_42, p13⟩, ⟨r1_41, p14⟩, ⟨r1_40, p15⟩, ⟨r1_39, p16⟩, ⟨r1_38, p17⟩, ⟨r1_37, p18⟩, ⟨r1_36, p19⟩, ⟨r1_35, p20⟩, ⟨r1_34, p21⟩, ⟨r1_33, p22⟩, ⟨r1_32, p23⟩, ⟨r1_31, p24⟩, ⟨r1_30, p25⟩, ⟨r1_29, p26⟩, ⟨r1_28, p27⟩, ⟨r1_27, p28⟩, ⟨r1_26, p29⟩, ⟨r1_25, p30⟩, ⟨r1_24, p31⟩, ⟨r1_23, p32⟩, ⟨r1_22, p33⟩, ⟨r1_21, p34⟩, ⟨r1_20, p35⟩, ⟨r1_19, p36⟩, ⟨r1_18, p37⟩, ⟨r1_17, p38⟩, ⟨r1_16, p39⟩, ⟨r1_15, p40⟩, ⟨r1_14, p41⟩, ⟨r1_13, p42⟩, ⟨r1_12, p43⟩, ⟨r1_11, p44⟩, ⟨r1_10, p45⟩, ⟨r1_9, p46⟩, ⟨r1_8, p47⟩, ⟨r1_7, p48⟩, ⟨r1_6, p49⟩, ⟨r1_5, p50⟩, ⟨r1_4, p51⟩, ⟨r1_3, p52⟩, ⟨r1_2, p53⟩, ⟨r1_1, p54⟩, ⟨r1_0, p55⟩] : List (View.Piece (Elt F) S64x7168 .bf16)), y ∈ pc.1.set :=
  View.cover_of_tiled [⟨r1_55, p0⟩, ⟨r1_54, p1⟩, ⟨r1_53, p2⟩, ⟨r1_52, p3⟩, ⟨r1_51, p4⟩, ⟨r1_50, p5⟩, ⟨r1_49, p6⟩, ⟨r1_48, p7⟩, ⟨r1_47, p8⟩, ⟨r1_46, p9⟩, ⟨r1_45, p10⟩, ⟨r1_44, p11⟩, ⟨r1_43, p12⟩, ⟨r1_42, p13⟩, ⟨r1_41, p14⟩, ⟨r1_40, p15⟩, ⟨r1_39, p16⟩, ⟨r1_38, p17⟩, ⟨r1_37, p18⟩, ⟨r1_36, p19⟩, ⟨r1_35, p20⟩, ⟨r1_34, p21⟩, ⟨r1_33, p22⟩, ⟨r1_32, p23⟩, ⟨r1_31, p24⟩, ⟨r1_30, p25⟩, ⟨r1_29, p26⟩, ⟨r1_28, p27⟩, ⟨r1_27, p28⟩, ⟨r1_26, p29⟩, ⟨r1_25, p30⟩, ⟨r1_24, p31⟩, ⟨r1_23, p32⟩, ⟨r1_22, p33⟩, ⟨r1_21, p34⟩, ⟨r1_20, p35⟩, ⟨r1_19, p36⟩, ⟨r1_18, p37⟩, ⟨r1_17, p38⟩, ⟨r1_16, p39⟩, ⟨r1_15, p40⟩, ⟨r1_14, p41⟩, ⟨r1_13, p42⟩, ⟨r1_12, p43⟩, ⟨r1_11, p44⟩, ⟨r1_10, p45⟩, ⟨r1_9, p46⟩, ⟨r1_8, p47⟩, ⟨r1_7, p48⟩, ⟨r1_6, p49⟩, ⟨r1_5, p50⟩, ⟨r1_4, p51⟩, ⟨r1_3, p52⟩, ⟨r1_2, p53⟩, ⟨r1_1, p54⟩, ⟨r1_0, p55⟩] S64x128.size (by rfl) y

/-- Window 5's staging buffer after the body, from the input windows' blocks: its 1 store as pieces, LAST
    FIRST (Lib/Pipeline/FrameBody.lean `View.canon`; the payloads are the skeleton's and the values stated above). -/
def out1_5 (x0 : Vec F S64x7168 .f32) (x1 : Vec F S64x56 .f32) (x2 : Vec F S64x56 .f32) : Vec F S64x56 .f32 :=
  View.canon [⟨r1_56, k1_pay66 (k1_pay363 x0 x1 x2) (k1_pay364 x0 x1 x2) (k1_pay365 x0 x1 x2) (View.ld x2 r1_56) (k1_pay366 x0 x1 x2)⟩]

/-- Its stores tile the buffer (checked by evaluation), so they cover it. -/
theorem cover1_5 (p0 : Vec F S64x56 .f32) (y : S64x56.Idx) :
    ∃ pc ∈ ([⟨r1_56, p0⟩] : List (View.Piece (Elt F) S64x56 .f32)), y ∈ pc.1.set :=
  View.cover_of_tiled [⟨r1_56, p0⟩] S64x56.size (by rfl) y

/-- Window 6's staging buffer after the body, from the input windows' blocks: its 1 store as pieces, LAST
    FIRST (Lib/Pipeline/FrameBody.lean `View.canon`; the payloads are the skeleton's and the values stated above). -/
def out1_6 (x0 : Vec F S64x7168 .f32) (x1 : Vec F S64x56 .f32) (x2 : Vec F S64x56 .f32) : Vec F S64x56 .f32 :=
  View.canon [⟨r1_56, k1_pay67 (k1_pay363 x0 x1 x2) (k1_pay364 x0 x1 x2) (k1_pay365 x0 x1 x2) (View.ld x2 r1_56) (k1_pay366 x0 x1 x2)⟩]

/-- Its stores tile the buffer (checked by evaluation), so they cover it. -/
theorem cover1_6 (p0 : Vec F S64x56 .f32) (y : S64x56.Idx) :
    ∃ pc ∈ ([⟨r1_56, p0⟩] : List (View.Piece (Elt F) S64x56 .f32)), y ∈ pc.1.set :=
  View.cover_of_tiled [⟨r1_56, p0⟩] S64x56.size (by rfl) y

/-- Window 7's staging buffer after the body, from the input windows' blocks: its 1 store as pieces, LAST
    FIRST (Lib/Pipeline/FrameBody.lean `View.canon`; the payloads are the skeleton's and the values stated above). -/
def out1_7 (x0 : Vec F S64x7168 .f32) (x1 : Vec F S64x56 .f32) (x2 : Vec F S64x56 .f32) : Vec F S64x56 .f32 :=
  View.canon [⟨r1_56, k1_pay68 (k1_pay363 x0 x1 x2) (k1_pay365 x0 x1 x2)⟩]

/-- Its stores tile the buffer (checked by evaluation), so they cover it. -/
theorem cover1_7 (p0 : Vec F S64x56 .f32) (y : S64x56.Idx) :
    ∃ pc ∈ ([⟨r1_56, p0⟩] : List (View.Piece (Elt F) S64x56 .f32)), y ∈ pc.1.set :=
  View.cover_of_tiled [⟨r1_56, p0⟩] S64x56.size (by rfl) y

/-- Window 8's staging buffer after the body, from the input windows' blocks: its 1 store as pieces, LAST
    FIRST (Lib/Pipeline/FrameBody.lean `View.canon`; the payloads are the skeleton's and the values stated above). -/
def out1_8 (x0 : Vec F S64x7168 .f32) (x1 : Vec F S64x56 .f32) (x2 : Vec F S64x56 .f32) : Vec F S64x56 .f32 :=
  View.canon [⟨r1_56, k1_pay69 (k1_pay364 x0 x1 x2) (View.ld x2 r1_56) (k1_pay366 x0 x1 x2)⟩]

/-- Its stores tile the buffer (checked by evaluation), so they cover it. -/
theorem cover1_8 (p0 : Vec F S64x56 .f32) (y : S64x56.Idx) :
    ∃ pc ∈ ([⟨r1_56, p0⟩] : List (View.Piece (Elt F) S64x56 .f32)), y ∈ pc.1.set :=
  View.cover_of_tiled [⟨r1_56, p0⟩] S64x56.size (by rfl) y

/-! ## The body's triple -/

set_option maxHeartbeats 63717900 in
/-- The kernel body on whole staging memrefs, the inputs' at read contents `xW` and the outputs' at anything, runs to
    the continuation holding the inputs' as they were and each output's at `out1_W` of the inputs': the printed functions
    are their skeletons (`Gen.*_eq_skeleton`), which `sl_exec` runs (Lib/Exec.lean), through every part call. -/
theorem sound_kernel1 (c : Dev nD) (E : Set ℕ) (i : grid1.Coords) (arg1 : Memref sig .tc .vmem S64x7168 .f32) (harg1 : arg1.IsWhole) (arg2 : Memref sig .tc .vmem S64x56 .f32) (harg2 : arg2.IsWhole) (arg3 : Memref sig .tc .vmem S64x56 .f32) (harg3 : arg3.IsWhole) (arg4 : Memref sig .tc .vmem S64x7168 .i8) (harg4 : arg4.IsWhole) (arg5 : Memref sig .tc .vmem S64x7168 .bf16) (harg5 : arg5.IsWhole) (arg6 : Memref sig .tc .vmem S64x56 .f32) (harg6 : arg6.IsWhole) (arg7 : Memref sig .tc .vmem S64x56 .f32) (harg7 : arg7.IsWhole) (arg8 : Memref sig .tc .vmem S64x56 .f32) (harg8 : arg8.IsWhole) (arg9 : Memref sig .tc .vmem S64x56 .f32) (harg9 : arg9.IsWhole)
    (x0 : Vec F S64x7168 .f32) (x1 : Vec F S64x56 .f32) (x2 : Vec F S64x56 .f32) (K : PUnit → sProp 𝕄) :
    iprop(owns (c : Thread nD τ) arg1 fullShare x0 ∗ owns (c : Thread nD τ) arg2 fullShare x1 ∗ owns (c : Thread nD τ) arg3 fullShare x2 ∗ (∃ d, owns (c : Thread nD τ) arg4 fullShare d) ∗ (∃ d, owns (c : Thread nD τ) arg5 fullShare d) ∗ (∃ d, owns (c : Thread nD τ) arg6 fullShare d) ∗ (∃ d, owns (c : Thread nD τ) arg7 fullShare d) ∗ (∃ d, owns (c : Thread nD τ) arg8 fullShare d) ∗ (∃ d, owns (c : Thread nD τ) arg9 fullShare d)
        ∗ (iprop(owns (c : Thread nD τ) arg1 fullShare x0 ∗ owns (c : Thread nD τ) arg2 fullShare x1 ∗ owns (c : Thread nD τ) arg3 fullShare x2 ∗ owns (c : Thread nD τ) arg4 fullShare (out1_3 x0 x1 x2) ∗ owns (c : Thread nD τ) arg5 fullShare (out1_4 x0 x1 x2) ∗ owns (c : Thread nD τ) arg6 fullShare (out1_5 x0 x1 x2) ∗ owns (c : Thread nD τ) arg7 fullShare (out1_6 x0 x1 x2) ∗ owns (c : Thread nD τ) arg8 fullShare (out1_7 x0 x1 x2) ∗ owns (c : Thread nD τ) arg9 fullShare (out1_8 x0 x1 x2)) -∗ K ⟨⟩))
      ⊢ wp frame (wpE (defs₀ (F := F)) Variants.none c none) E (cc1_quant_w i arg1 harg1 arg2 harg2 arg3 harg3 arg4 harg4 arg5 harg5 arg6 harg6 arg7 harg7 arg8 harg8 arg9 harg9) K := by
  simp only [cc1_quant_w_eq_skeleton]; unfold cc1_quant_w_skel
  simp only [k1_part50_eq_skeleton, k1_part1_eq_skeleton, k1_part2_eq_skeleton, k1_part3_eq_skeleton, k1_part4_eq_skeleton, k1_part5_eq_skeleton, k1_part6_eq_skeleton, k1_part7_eq_skeleton, k1_part8_eq_skeleton, k1_part9_eq_skeleton, k1_part10_eq_skeleton, k1_part11_eq_skeleton, k1_part12_eq_skeleton, k1_part13_eq_skeleton, k1_part14_eq_skeleton, k1_part15_eq_skeleton, k1_part16_eq_skeleton, k1_part17_eq_skeleton, k1_part18_eq_skeleton, k1_part19_eq_skeleton, k1_part20_eq_skeleton, k1_part21_eq_skeleton, k1_part22_eq_skeleton, k1_part23_eq_skeleton, k1_part24_eq_skeleton, k1_part25_eq_skeleton, k1_part26_eq_skeleton, k1_part27_eq_skeleton, k1_part28_eq_skeleton, k1_part29_eq_skeleton, k1_part30_eq_skeleton, k1_part31_eq_skeleton, k1_part32_eq_skeleton, k1_part33_eq_skeleton, k1_part34_eq_skeleton, k1_part35_eq_skeleton, k1_part36_eq_skeleton, k1_part37_eq_skeleton, k1_part38_eq_skeleton, k1_part39_eq_skeleton, k1_part40_eq_skeleton, k1_part41_eq_skeleton, k1_part42_eq_skeleton, k1_part43_eq_skeleton, k1_part44_eq_skeleton, k1_part45_eq_skeleton, k1_part46_eq_skeleton, k1_part47_eq_skeleton, k1_part48_eq_skeleton, k1_part49_eq_skeleton]
  unfold owns
  iintro ⟨⟨%f0, %hf0, H0⟩, ⟨%f1, %hf1, H1⟩, ⟨%f2, %hf2, H2⟩, ⟨%d3, %f3, -, H3⟩, ⟨%d4, %f4, -, H4⟩, ⟨%d5, %f5, -, H5⟩, ⟨%d6, %f6, -, H6⟩, ⟨%d7, %f7, -, H7⟩, ⟨%d8, %f8, -, H8⟩, Hk⟩
  subst hf0 hf1 hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists _; isplitr
    swap; · iexact H3
    ipureintro
    refine (View.read_writes_eq_canon _ _ _ (cover1_3 _ _ _ _ _ _ _ _ _ _ _ _ _ _ _ _ _ _ _ _ _ _ _ _ _ _ _ _ _ _ _ _ _ _ _ _ _ _ _ _ _ _ _ _ _ _ _ _ _ _ _ _ _ _ _ _)).trans ?_
    rfl
  isplitl [H4]
  · iexists _; isplitr
    swap; · iexact H4
    ipureintro
    refine (View.read_writes_eq_canon _ _ _ (cover1_4 _ _ _ _ _ _ _ _ _ _ _ _ _ _ _ _ _ _ _ _ _ _ _ _ _ _ _ _ _ _ _ _ _ _ _ _ _ _ _ _ _ _ _ _ _ _ _ _ _ _ _ _ _ _ _ _)).trans ?_
    rfl
  isplitl [H5]
  · iexists _; isplitr
    swap; · iexact H5
    ipureintro
    refine (View.read_writes_eq_canon _ _ _ (cover1_5 _)).trans ?_
    rfl
  isplitl [H6]
  · iexists _; isplitr
    swap; · iexact H6
    ipureintro
    refine (View.read_writes_eq_canon _ _ _ (cover1_6 _)).trans ?_
    rfl
  isplitl [H7]
  · iexists _; isplitr
    swap; · iexact H7
    ipureintro
    refine (View.read_writes_eq_canon _ _ _ (cover1_7 _)).trans ?_
    rfl
  iexists _; isplitr
  swap; · iexact H8
  ipureintro
  refine (View.read_writes_eq_canon _ _ _ (cover1_8 _)).trans ?_
  rfl

/-! ## The pipeline's proof data -/

/-- The proof data of pipeline 1 on core `c`: the arrays as the region finds them (`V`); after the body at
    point `t` each input's buffer at its block and each output's at `out1_W` of the input blocks; the invariant the
    class's (Lib/Pipeline/Frame.lean `ΦA`: the scoped rest and the generator register, untouched); nothing owed;
    full shares. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => out1_3 (iblk1 V c 0 t) (iblk1 V c 1 t) (iblk1 V c 2 t)
    | ⟨4, _⟩ => out1_4 (iblk1 V c 0 t) (iblk1 V c 1 t) (iblk1 V c 2 t)
    | ⟨5, _⟩ => out1_5 (iblk1 V c 0 t) (iblk1 V c 1 t) (iblk1 V c 2 t)
    | ⟨6, _⟩ => out1_6 (iblk1 V c 0 t) (iblk1 V c 1 t) (iblk1 V c 2 t)
    | ⟨7, _⟩ => out1_7 (iblk1 V c 0 t) (iblk1 V c 1 t) (iblk1 V c 2 t)
    | ⟨8, _⟩ => out1_8 (iblk1 V c 0 t) (iblk1 V c 1 t) (iblk1 V c 2 t)
  Φ _ := Pipeline.ΦA spec1 c
  q _ := fullShare
  owed _ := 0

/-- The proof data's arrays are the region-entry contents, by projecting the definition (`dsimp`): a region record cites
    this for its arrays rather than have Lean unfold `V`, the fold through @main up to the region's entry. -/
theorem A_eq1 (c : Dev nD) (w : Fin cfg1.W) : (dat1 V c).A w = V c (Pipeline.arrRef spec1 w) := by
  dsimp only [dat1]

/-- What the body leaves, window by window (the proof data's `match` reduced by `dsimp`, never `rfl`: Lib/Pipeline.lean `Dat`). -/
theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = out1_3 (iblk1 V c 0 t) (iblk1 V c 1 t) (iblk1 V c 2 t) := by dsimp only [dat1]
theorem after1_4 (c : Dev nD) (t : Fin cfg1.N) : (dat1 V c).after 4 t = out1_4 (iblk1 V c 0 t) (iblk1 V c 1 t) (iblk1 V c 2 t) := by dsimp only [dat1]
theorem after1_5 (c : Dev nD) (t : Fin cfg1.N) : (dat1 V c).after 5 t = out1_5 (iblk1 V c 0 t) (iblk1 V c 1 t) (iblk1 V c 2 t) := by dsimp only [dat1]
theorem after1_6 (c : Dev nD) (t : Fin cfg1.N) : (dat1 V c).after 6 t = out1_6 (iblk1 V c 0 t) (iblk1 V c 1 t) (iblk1 V c 2 t) := by dsimp only [dat1]
theorem after1_7 (c : Dev nD) (t : Fin cfg1.N) : (dat1 V c).after 7 t = out1_7 (iblk1 V c 0 t) (iblk1 V c 1 t) (iblk1 V c 2 t) := by dsimp only [dat1]
theorem after1_8 (c : Dev nD) (t : Fin cfg1.N) : (dat1 V c).after 8 t = out1_8 (iblk1 V c 0 t) (iblk1 V c 1 t) (iblk1 V c 2 t) := by dsimp only [dat1]

/-- Each input's current staging buffer holds its block at every point, fetched there or not (`beforeK_W_of`). -/
theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d
theorem before1_2 (c : Dev nD) (t : Fin cfg1.N) (d) : (dat1 V c).before 2 t d = iblk1 V c 2 t :=
  before1_2_of V (dat1 V c) (A_eq1 V c 2) (after1_2 V c) t d

/-! ## The body obligation, at a generic point -/

/-- What the body is called with at point `t` (Lib/Pipeline.lean `BodyObligation`'s precondition, the windows one by one), -/
def bodyPre1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d))
    ∗ (∃ d, owns (c : Thread nD τ) (st1_3 t) fullShare ((dat1 V c).before 3 t d))
    ∗ (∃ d, owns (c : Thread nD τ) (st1_4 t) fullShare ((dat1 V c).before 4 t d))
    ∗ (∃ d, owns (c : Thread nD τ) (st1_5 t) fullShare ((dat1 V c).before 5 t d))
    ∗ (∃ d, owns (c : Thread nD τ) (st1_6 t) fullShare ((dat1 V c).before 6 t d))
    ∗ (∃ d, owns (c : Thread nD τ) (st1_7 t) fullShare ((dat1 V c).before 7 t d))
    ∗ (∃ d, owns (c : Thread nD τ) (st1_8 t) fullShare ((dat1 V c).before 8 t d)))

/-- and what it returns. -/
def bodyPost1 (c : Dev nD) (t : Fin cfg1.N) : sProp 𝕄 :=
  iprop((dat1 V c).Φ t.succ ∗ (dat1 V c).owesAt () t.succ
    ∗ owns (c : Thread nD τ) (st1_0 t) fullShare ((dat1 V c).after 0 t)
    ∗ owns (c : Thread nD τ) (st1_1 t) fullShare ((dat1 V c).after 1 t)
    ∗ owns (c : Thread nD τ) (st1_2 t) fullShare ((dat1 V c).after 2 t)
    ∗ owns (c : Thread nD τ) (st1_3 t) fullShare ((dat1 V c).after 3 t)
    ∗ owns (c : Thread nD τ) (st1_4 t) fullShare ((dat1 V c).after 4 t)
    ∗ owns (c : Thread nD τ) (st1_5 t) fullShare ((dat1 V c).after 5 t)
    ∗ owns (c : Thread nD τ) (st1_6 t) fullShare ((dat1 V c).after 6 t)
    ∗ owns (c : Thread nD τ) (st1_7 t) fullShare ((dat1 V c).after 7 t)
    ∗ owns (c : Thread nD τ) (st1_8 t) fullShare ((dat1 V c).after 8 t))

/-- The body at any point: the inputs' memrefs hold their blocks (`before1_W`), so `sound_kernel1` applies; the invariant and
    the core's `owes` pass through unread. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2]
  rw [show (dat1 V c).Φ t.succ = (dat1 V c).Φ t.castSucc from rfl,
    show (dat1 V c).owesAt () t.succ = (dat1 V c).owesAt () t.castSucc from rfl,
    after1_0, after1_1, after1_2, after1_3, after1_4, after1_5, after1_6, after1_7, after1_8]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩⟩
  iapply (sound_kernel1 c Set.univ (grid1.coords t) _ _ _ _ _ _ _ _ _ _ _ _ _ _ _ _ _ _ (iblk1 V c 0 t) (iblk1 V c 1 t) (iblk1 V c 2 t) _)
  isplitl [H0]; · iexact H0
  isplitl [H1]; · iexact H1
  isplitl [H2]; · iexact H2
  isplitl [H3]; · iexists _; iexact H3
  isplitl [H4]; · iexists _; iexact H4
  isplitl [H5]; · iexists _; iexact H5
  isplitl [H6]; · iexists _; iexact H6
  isplitl [H7]; · iexists _; iexact H7
  isplitl [H8]; · iexists _; iexact H8
  iintro ⟨H0, H1, H2, H3, H4, H5, H6, H7, H8⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  iexact H8

/-- The body table's row at point `t`'s slots is the body as `bodyAt1` spells it. -/
theorem defs₀_row1 (t : Fin cfg1.N) :
    defs₀ (F := F) .tc cfg1.body (cfg1.bodyArgs t (cfg1.slots t)) = bodyAt1 t := by
  unfold defs₀; rw [Defs.onTc_tc]

/-- The library's body obligation, at every point: the body's triple restated (Lib/Pipeline/FrameBody.lean `triple_restated`). -/
theorem body_obligation1 (c : Dev nD) : BodyObligation (dat1 (F := F) V c) (defs₀ (F := F)) Variants.none () Set.univ := fun t => by
  rw [bigSep_W1, bigSep_W1, defs₀_row1]
  exact triple_restated (sound_body1 V c t) rfl .rfl fun _ => .rfl

end Regions

end Cert.KernelIdeal.Gen

end
-- ==== Proof.KernelIdeal.Region2.lean ====
/- Region 2 at the contents `V` it is entered from: its body at every point, and its proof data. -/
module

public import proofs.«01_k».proof.Proof.Gen.KernelIdeal.Launch
public import proofs.«01_k».proof.Proof.Gen.KernelIdeal.Skeleton
public import proofs.«01_k».proof.Proof.Gen.KernelIdeal.Points
public import Idealize.ShloMosaic.Lib.Pipeline.FrameBody
public import Idealize.ShloMosaic.Lib.Pipeline.RegionsLoop
public import Idealize.ShloMosaic.Lib.Pipeline.FrameSuffix
public import Idealize.ShloMosaic.Lib.Ring
public import Idealize.ShloMosaic.Lib.Tactic
public import Idealize.ShloMosaic.Lib.UnfoldOut
public import Idealize.ShloMosaic.Lib.WordCmp

@[expose] public section

-- membership in a rectangle of production extents (`View.cover_of_tiled`): the elaborator's structural look
-- recurses once per coordinate of the long axes
set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

section Regions
-- the TensorCore's buffer contents when a region is entered: the parameter every region's half is stated at, which
-- the run instantiates per region
variable (V : (c : Dev nD) → (b : Ref sig .tc) → Buf (Elt F) ((c : Thread nD τ).loc b))

/-! # REGION 2 of @main: custom_call 2, `cc2_forward` (pipeline 2), at the entry contents `V` — class R -/

/-! ## The windows' blocks -/

/-- Window `w`'s block at point `t`, read off its array as the region finds it (`V`). -/
noncomputable def iblk2 (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

/-- Input window 0's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before2_0_of {c : Dev nD} (dat : Dat τ (Elt F) Unit ℕ (UR sig nD τ) ℕ cfg2 c) (hA : dat.A 0 = V c (Pipeline.arrRef spec2 0))
    (hafter : ∀ t, dat.after 0 t = iblk2 V c 0 t) (t : Fin cfg2.N) (d) : dat.before 0 t d = iblk2 V c 0 t :=
  (dat.before_in_eq_fetched 0 rfl (fun _ => rfl) (fun _ _ _ => rfl) (fun t => by rw [hafter]; unfold Dat.blockOf iblk2; rw [hA]; try rfl) t d).trans
    (by unfold Dat.fetched Dat.blockOf iblk2; rw [hA]; try rfl)
/-- Input window 1's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before2_1_of {c : Dev nD} (dat : Dat τ (Elt F) Unit ℕ (UR sig nD τ) ℕ cfg2 c) (hA : dat.A 1 = V c (Pipeline.arrRef spec2 1))
    (hafter : ∀ t, dat.after 1 t = iblk2 V c 1 t) (t : Fin cfg2.N) (d) : dat.before 1 t d = iblk2 V c 1 t :=
  (dat.before_in_eq_fetched 1 rfl (fun _ => rfl) (fun _ _ _ => rfl) (fun t => by rw [hafter]; unfold Dat.blockOf iblk2; rw [hA]; try rfl) t d).trans
    (by unfold Dat.fetched Dat.blockOf iblk2; rw [hA]; try rfl)
/-- Input window 2's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before2_2_of {c : Dev nD} (dat : Dat τ (Elt F) Unit ℕ (UR sig nD τ) ℕ cfg2 c) (hA : dat.A 2 = V c (Pipeline.arrRef spec2 2))
    (hafter : ∀ t, dat.after 2 t = iblk2 V c 2 t) (t : Fin cfg2.N) (d) : dat.before 2 t d = iblk2 V c 2 t :=
  (dat.before_in_eq_fetched 2 rfl (fun _ => rfl) (fun _ _ _ => rfl) (fun t => by rw [hafter]; unfold Dat.blockOf iblk2; rw [hA]; try rfl) t d).trans
    (by unfold Dat.fetched Dat.blockOf iblk2; rw [hA]; try rfl)

/-! ## The body's branch conditions -/

/-- The condition of the body's `scf.if` 0 (`k2_h1`), from the grid coordinates (the skeleton's scalar
    chain substituted). -/
abbrev cond2_0 (i : grid2.Coords) : Prop := (Scalar.cmpi .ne (Scalar.extui (Scalar.andi (Scalar.cmpi .eq (BitVec.ofNat 32 (i 0).val) 0#32) (Scalar.cmpi .eq (BitVec.ofNat 32 (i 1).val) 0#32))) 0#32) = 1#1
/-- It holds at the first point only — by arithmetic of the point. -/
theorem hcond2_0 : ∀ t : Fin cfg2.N, cond2_0 (grid2.coords t) ↔ t.val % 288 = 0 :=
  (fun t => by
    have ht : t.val < 288 := Nat.lt_of_lt_of_eq t.isLt N_2
    have e0 : (grid2.coords t 0).val = t.val / 12 % 24 := Pipeline.Grid.coords_val t 0 (by decide) rfl
    have e1 : (grid2.coords t 1).val = t.val / 1 % 12 := Pipeline.Grid.coords_val t 1 (by decide) rfl
    simp only [cond2_0, e0, e1]
    word_cmp
   : ∀ t : Fin grid2.N, cond2_0 (grid2.coords t) ↔ t.val % 288 = 0)

/-! ## The kernel body on any staging memrefs: a subtype the run finds -/

/-- One staging buffer of output window 3, through which its contents are stated (`View.read_writes_of_cover`: the
    choice does not matter). -/
abbrev VO2_3 : View sig .tc .vmem S768x512 .bf16 := (Memref.whole cc2_stg3_0 : Memref sig .tc .vmem S768x512 .bf16).view
/-- One staging buffer of output window 4, through which its contents are stated (`View.read_writes_of_cover`: the
    choice does not matter). -/
abbrev VO2_4 : View sig .tc .vmem S8x512 .f32 := (Memref.whole cc2_stg4_0 : Memref sig .tc .vmem S8x512 .f32).view
/-- Each window's current staging memref at point `t`, spelled as the pipeline passes it (`bodyAt2`), and its wholeness. -/
abbrev ms2_0 (t : Fin cfg2.N) : Memref sig .tc .vmem S768x7168 .bf16 := win2_0.stage (cfg2.slots t 0)
abbrev hs2_0 (t : Fin cfg2.N) : (ms2_0 t).IsWhole := hstage2_0 ((cfg2.slots t 0).cast nbuf2_0)
abbrev ms2_1 (t : Fin cfg2.N) : Memref sig .tc .vmem S512x7168 .bf16 := win2_1.stage (cfg2.slots t 1)
abbrev hs2_1 (t : Fin cfg2.N) : (ms2_1 t).IsWhole := hstage2_1 ((cfg2.slots t 1).cast nbuf2_1)
abbrev ms2_2 (t : Fin cfg2.N) : Memref sig .tc .vmem S512x768 .bf16 := win2_2.stage (cfg2.slots t 2)
abbrev hs2_2 (t : Fin cfg2.N) : (ms2_2 t).IsWhole := hstage2_2 ((cfg2.slots t 2).cast nbuf2_2)
abbrev ms2_3 (t : Fin cfg2.N) : Memref sig .tc .vmem S768x512 .bf16 := win2_3.stage (cfg2.slots t 3)
abbrev hs2_3 (t : Fin cfg2.N) : (ms2_3 t).IsWhole := hstage2_3 ((cfg2.slots t 3).cast nbuf2_3)
abbrev ms2_4 (t : Fin cfg2.N) : Memref sig .tc .vmem S8x512 .f32 := win2_4.stage (cfg2.slots t 4)
abbrev hs2_4 (t : Fin cfg2.N) : (ms2_4 t).IsWhole := hstage2_4 ((cfg2.slots t 4).cast nbuf2_4)

-- (the run's proof term is large: the definition's epilogue — `abstractNestedProofs` — walks it past the default budget)
set_option maxHeartbeats 1000000 in
/-- What the body's stores leave in each output's staging memref, as pieces (last first) IN CASE A (`scf.if` 0 taken: points 0), WITH the
    proof that on whole staging memrefs — the inputs' at their contents, the other outputs' at
    anything, the body runs to the continuation holding the inputs' as they were,
    each output's buffer with its pieces written: the printed functions are their skeletons
    (`Gen.*_eq_skeleton`), which `sl_exec` runs (Lib/Exec.lean) — each `scf.if` decided by the case's hypotheses `hc·`; the pieces are
    the witness that run finds (assigned when `iexact` hands the buffer to the continuation). -/
noncomputable def kernelRun2_A (c : Dev nD) (i : grid2.Coords) (arg2 : Memref sig .tc .vmem S768x7168 .bf16) (harg2 : arg2.IsWhole) (arg3 : Memref sig .tc .vmem S512x7168 .bf16) (harg3 : arg3.IsWhole) (arg4 : Memref sig .tc .vmem S512x768 .bf16) (harg4 : arg4.IsWhole) (arg5 : Memref sig .tc .vmem S768x512 .bf16) (harg5 : arg5.IsWhole) (arg6 : Memref sig .tc .vmem S8x512 .f32) (harg6 : arg6.IsWhole) (hc0 : cond2_0 i)
    (x0 : Vec F S768x7168 .bf16) (x1 : Vec F S512x7168 .bf16) (x2 : Vec F S512x768 .bf16) :
    Σ' (L3 : List (View.Piece (Elt F) S768x512 .bf16)), { L4 : List (View.Piece (Elt F) S8x512 .f32) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ (∃ d, owns (c : Thread nD τ) arg5 fullShare d) ∗ (∃ d, owns (c : Thread nD τ) arg6 fullShare d)
            ∗ (iprop(owns (c : Thread nD τ) arg2 fullShare x0 ∗ owns (c : Thread nD τ) arg3 fullShare x1 ∗ owns (c : Thread nD τ) arg4 fullShare x2 ∗ (∃ f, arg5.view.loc (c : Thread nD τ) ↦[arg5.view.set]{fullShare} arg5.view.writes (Elt F) f L3) ∗ (∃ f, arg6.view.loc (c : Thread nD τ) ↦[arg6.view.set]{fullShare} arg6.view.writes (Elt F) f L4)) -∗ K ⟨⟩))
          ⊢ wp frame (wpE (defs₀ (F := F)) Variants.none c none) E (cc2_forward i arg2 harg2 arg3 harg3 arg4 harg4 arg5 harg5 arg6 harg6) K } := by
  refine ⟨?_, ?_, fun E K => ?run⟩
  case run =>
    simp only [cc2_forward_eq_skeleton]; unfold cc2_forward_skel
    unfold owns
    iintro ⟨⟨%f0, %hf0, H0⟩, ⟨%f1, %hf1, H1⟩, ⟨%f2, %hf2, H2⟩, ⟨%d3, %f3, -, H3⟩, ⟨%d4, %f4, -, H4⟩, Hk⟩
    obtain rfl := harg2.eq_unread hf0; obtain rfl := harg3.eq_unread hf1; obtain rfl := harg4.eq_unread hf2
    sl_exec (disch := first | sl_exact hc0)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]; · iexists _; iexact H3
    iexists _; iexact H4

/-- Case A's pieces for output 3 tile its block (1 store of `S768x512`, checked by the kernel's evaluation: Lib/Ring.lean `Piece.tiledL`, linear in the pieces, through a loop's `@[irreducible]` trip theorem too), so they cover it. -/
theorem cover2_A_3 (c : Dev nD) (i : grid2.Coords) (arg2 : Memref sig .tc .vmem S768x7168 .bf16) (harg2 : arg2.IsWhole) (arg3 : Memref sig .tc .vmem S512x7168 .bf16) (harg3 : arg3.IsWhole) (arg4 : Memref sig .tc .vmem S512x768 .bf16) (harg4 : arg4.IsWhole) (arg5 : Memref sig .tc .vmem S768x512 .bf16) (harg5 : arg5.IsWhole) (arg6 : Memref sig .tc .vmem S8x512 .f32) (harg6 : arg6.IsWhole) (hc0 : cond2_0 i)
    (x0 : Vec F S768x7168 .bf16) (x1 : Vec F S512x7168 .bf16) (x2 : Vec F S512x768 .bf16) (y : S768x512.Idx) :
    ∃ pc ∈ (kernelRun2_A c i arg2 harg2 arg3 harg3 arg4 harg4 arg5 harg5 arg6 harg6 hc0 x0 x1 x2).1, y ∈ pc.1.set :=
  View.cover_of_tiledL (kernelRun2_A c i arg2 harg2 arg3 harg3 arg4 harg4 arg5 harg5 arg6 harg6 hc0 x0 x1 x2).1 S768x512.size (by sl_kernel_rfl) y

/-- What case A leaves in output 3's staging buffer: its pieces read back over junk. -/
def out2_A_3 (c : Dev nD) (i : grid2.Coords) (arg2 : Memref sig .tc .vmem S768x7168 .bf16) (harg2 : arg2.IsWhole) (arg3 : Memref sig .tc .vmem S512x7168 .bf16) (harg3 : arg3.IsWhole) (arg4 : Memref sig .tc .vmem S512x768 .bf16) (harg4 : arg4.IsWhole) (arg5 : Memref sig .tc .vmem S768x512 .bf16) (harg5 : arg5.IsWhole) (arg6 : Memref sig .tc .vmem S8x512 .f32) (harg6 : arg6.IsWhole) (hc0 : cond2_0 i)
    (x0 : Vec F S768x7168 .bf16) (x1 : Vec F S512x7168 .bf16) (x2 : Vec F S512x768 .bf16) : Vec F S768x512 .bf16 :=
  VO2_3.read (Elt F) (VO2_3.writes (Elt F) VO2_3.junk (kernelRun2_A c i arg2 harg2 arg3 harg3 arg4 harg4 arg5 harg5 arg6 harg6 hc0 x0 x1 x2).1)

/-- Case A's pieces for output 4 tile its block (2 stores of `S8x512`, checked by the kernel's evaluation: Lib/Ring.lean `Piece.tiledL`, linear in the pieces, through a loop's `@[irreducible]` trip theorem too), so they cover it. -/
theorem cover2_A_4 (c : Dev nD) (i : grid2.Coords) (arg2 : Memref sig .tc .vmem S768x7168 .bf16) (harg2 : arg2.IsWhole) (arg3 : Memref sig .tc .vmem S512x7168 .bf16) (harg3 : arg3.IsWhole) (arg4 : Memref sig .tc .vmem S512x768 .bf16) (harg4 : arg4.IsWhole) (arg5 : Memref sig .tc .vmem S768x512 .bf16) (harg5 : arg5.IsWhole) (arg6 : Memref sig .tc .vmem S8x512 .f32) (harg6 : arg6.IsWhole) (hc0 : cond2_0 i)
    (x0 : Vec F S768x7168 .bf16) (x1 : Vec F S512x7168 .bf16) (x2 : Vec F S512x768 .bf16) (y : S8x512.Idx) :
    ∃ pc ∈ (kernelRun2_A c i arg2 harg2 arg3 harg3 arg4 harg4 arg5 harg5 arg6 harg6 hc0 x0 x1 x2).2.1, y ∈ pc.1.set :=
  View.cover_of_tiledL (kernelRun2_A c i arg2 harg2 arg3 harg3 arg4 harg4 arg5 harg5 arg6 harg6 hc0 x0 x1 x2).2.1 S8x512.size (by sl_kernel_rfl) y

/-- What case A leaves in output 4's staging buffer: its pieces read back over junk. -/
def out2_A_4 (c : Dev nD) (i : grid2.Coords) (arg2 : Memref sig .tc .vmem S768x7168 .bf16) (harg2 : arg2.IsWhole) (arg3 : Memref sig .tc .vmem S512x7168 .bf16) (harg3 : arg3.IsWhole) (arg4 : Memref sig .tc .vmem S512x768 .bf16) (harg4 : arg4.IsWhole) (arg5 : Memref sig .tc .vmem S768x512 .bf16) (harg5 : arg5.IsWhole) (arg6 : Memref sig .tc .vmem S8x512 .f32) (harg6 : arg6.IsWhole) (hc0 : cond2_0 i)
    (x0 : Vec F S768x7168 .bf16) (x1 : Vec F S512x7168 .bf16) (x2 : Vec F S512x768 .bf16) : Vec F S8x512 .f32 :=
  VO2_4.read (Elt F) (VO2_4.writes (Elt F) VO2_4.junk (kernelRun2_A c i arg2 harg2 arg3 harg3 arg4 harg4 arg5 harg5 arg6 harg6 hc0 x0 x1 x2).2.1)

-- (the run's proof term is large: the definition's epilogue — `abstractNestedProofs` — walks it past the default budget)
set_option maxHeartbeats 1000000 in
/-- What the body's stores leave in each output's staging memref, as pieces (last first) IN CASE B (`scf.if` 0 not taken: points 1, 2, … 287: 287 of 288), WITH the
    proof that on whole staging memrefs — the inputs' at their contents, the outputs it reads before covering (4) at their running contents `xo·`, the other outputs' at
    anything, the body runs to the continuation holding the inputs' as they were,
    each output's buffer with its pieces written: the printed functions are their skeletons
    (`Gen.*_eq_skeleton`), which `sl_exec` runs (Lib/Exec.lean) — each `scf.if` decided by the case's hypotheses `hc·`; the pieces are
    the witness that run finds (assigned when `iexact` hands the buffer to the continuation). -/
noncomputable def kernelRun2_B (c : Dev nD) (i : grid2.Coords) (arg2 : Memref sig .tc .vmem S768x7168 .bf16) (harg2 : arg2.IsWhole) (arg3 : Memref sig .tc .vmem S512x7168 .bf16) (harg3 : arg3.IsWhole) (arg4 : Memref sig .tc .vmem S512x768 .bf16) (harg4 : arg4.IsWhole) (arg5 : Memref sig .tc .vmem S768x512 .bf16) (harg5 : arg5.IsWhole) (arg6 : Memref sig .tc .vmem S8x512 .f32) (harg6 : arg6.IsWhole) (hc0 : ¬cond2_0 i)
    (x0 : Vec F S768x7168 .bf16) (x1 : Vec F S512x7168 .bf16) (x2 : Vec F S512x768 .bf16) (xo4 : Vec F S8x512 .f32) :
    Σ' (L3 : List (View.Piece (Elt F) S768x512 .bf16)), { L4 : List (View.Piece (Elt F) S8x512 .f32) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ (∃ d, owns (c : Thread nD τ) arg5 fullShare d) ∗ owns (c : Thread nD τ) arg6 fullShare xo4
            ∗ (iprop(owns (c : Thread nD τ) arg2 fullShare x0 ∗ owns (c : Thread nD τ) arg3 fullShare x1 ∗ owns (c : Thread nD τ) arg4 fullShare x2 ∗ (∃ f, arg5.view.loc (c : Thread nD τ) ↦[arg5.view.set]{fullShare} arg5.view.writes (Elt F) f L3) ∗ (∃ f, arg6.view.loc (c : Thread nD τ) ↦[arg6.view.set]{fullShare} arg6.view.writes (Elt F) f L4)) -∗ K ⟨⟩))
          ⊢ wp frame (wpE (defs₀ (F := F)) Variants.none c none) E (cc2_forward i arg2 harg2 arg3 harg3 arg4 harg4 arg5 harg5 arg6 harg6) K } := by
  refine ⟨?_, ?_, fun E K => ?run⟩
  case run =>
    simp only [cc2_forward_eq_skeleton]; unfold cc2_forward_skel
    unfold owns
    iintro ⟨⟨%f0, %hf0, H0⟩, ⟨%f1, %hf1, H1⟩, ⟨%f2, %hf2, H2⟩, ⟨%d3, %f3, -, H3⟩, ⟨%f4, %hf4, H4⟩, Hk⟩
    obtain rfl := harg2.eq_unread hf0; obtain rfl := harg3.eq_unread hf1; obtain rfl := harg4.eq_unread hf2; obtain rfl := harg6.eq_unread hf4
    sl_exec (disch := first | sl_exact hc0)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]; · iexists _; iexact H3
    iexists _; iexact H4

/-- Case B's pieces for output 3 tile its block (1 store of `S768x512`, checked by the kernel's evaluation: Lib/Ring.lean `Piece.tiledL`, linear in the pieces, through a loop's `@[irreducible]` trip theorem too), so they cover it. -/
theorem cover2_B_3 (c : Dev nD) (i : grid2.Coords) (arg2 : Memref sig .tc .vmem S768x7168 .bf16) (harg2 : arg2.IsWhole) (arg3 : Memref sig .tc .vmem S512x7168 .bf16) (harg3 : arg3.IsWhole) (arg4 : Memref sig .tc .vmem S512x768 .bf16) (harg4 : arg4.IsWhole) (arg5 : Memref sig .tc .vmem S768x512 .bf16) (harg5 : arg5.IsWhole) (arg6 : Memref sig .tc .vmem S8x512 .f32) (harg6 : arg6.IsWhole) (hc0 : ¬cond2_0 i)
    (x0 : Vec F S768x7168 .bf16) (x1 : Vec F S512x7168 .bf16) (x2 : Vec F S512x768 .bf16) (xo4 : Vec F S8x512 .f32) (y : S768x512.Idx) :
    ∃ pc ∈ (kernelRun2_B c i arg2 harg2 arg3 harg3 arg4 harg4 arg5 harg5 arg6 harg6 hc0 x0 x1 x2 xo4).1, y ∈ pc.1.set :=
  View.cover_of_tiledL (kernelRun2_B c i arg2 harg2 arg3 harg3 arg4 harg4 arg5 harg5 arg6 harg6 hc0 x0 x1 x2 xo4).1 S768x512.size (by sl_kernel_rfl) y

/-- What case B leaves in output 3's staging buffer: its pieces read back over junk. -/
def out2_B_3 (c : Dev nD) (i : grid2.Coords) (arg2 : Memref sig .tc .vmem S768x7168 .bf16) (harg2 : arg2.IsWhole) (arg3 : Memref sig .tc .vmem S512x7168 .bf16) (harg3 : arg3.IsWhole) (arg4 : Memref sig .tc .vmem S512x768 .bf16) (harg4 : arg4.IsWhole) (arg5 : Memref sig .tc .vmem S768x512 .bf16) (harg5 : arg5.IsWhole) (arg6 : Memref sig .tc .vmem S8x512 .f32) (harg6 : arg6.IsWhole) (hc0 : ¬cond2_0 i)
    (x0 : Vec F S768x7168 .bf16) (x1 : Vec F S512x7168 .bf16) (x2 : Vec F S512x768 .bf16) (xo4 : Vec F S8x512 .f32) : Vec F S768x512 .bf16 :=
  VO2_3.read (Elt F) (VO2_3.writes (Elt F) VO2_3.junk (kernelRun2_B c i arg2 harg2 arg3 harg3 arg4 harg4 arg5 harg5 arg6 harg6 hc0 x0 x1 x2 xo4).1)

/-- Case B's pieces for output 4 tile its block (1 store of `S8x512`, checked by the kernel's evaluation: Lib/Ring.lean `Piece.tiledL`, linear in the pieces, through a loop's `@[irreducible]` trip theorem too), so they cover it. -/
theorem cover2_B_4 (c : Dev nD) (i : grid2.Coords) (arg2 : Memref sig .tc .vmem S768x7168 .bf16) (harg2 : arg2.IsWhole) (arg3 : Memref sig .tc .vmem S512x7168 .bf16) (harg3 : arg3.IsWhole) (arg4 : Memref sig .tc .vmem S512x768 .bf16) (harg4 : arg4.IsWhole) (arg5 : Memref sig .tc .vmem S768x512 .bf16) (harg5 : arg5.IsWhole) (arg6 : Memref sig .tc .vmem S8x512 .f32) (harg6 : arg6.IsWhole) (hc0 : ¬cond2_0 i)
    (x0 : Vec F S768x7168 .bf16) (x1 : Vec F S512x7168 .bf16) (x2 : Vec F S512x768 .bf16) (xo4 : Vec F S8x512 .f32) (y : S8x512.Idx) :
    ∃ pc ∈ (kernelRun2_B c i arg2 harg2 arg3 harg3 arg4 harg4 arg5 harg5 arg6 harg6 hc0 x0 x1 x2 xo4).2.1, y ∈ pc.1.set :=
  View.cover_of_tiledL (kernelRun2_B c i arg2 harg2 arg3 harg3 arg4 harg4 arg5 harg5 arg6 harg6 hc0 x0 x1 x2 xo4).2.1 S8x512.size (by sl_kernel_rfl) y

/-- What case B leaves in output 4's staging buffer: its pieces read back over junk. -/
def out2_B_4 (c : Dev nD) (i : grid2.Coords) (arg2 : Memref sig .tc .vmem S768x7168 .bf16) (harg2 : arg2.IsWhole) (arg3 : Memref sig .tc .vmem S512x7168 .bf16) (harg3 : arg3.IsWhole) (arg4 : Memref sig .tc .vmem S512x768 .bf16) (harg4 : arg4.IsWhole) (arg5 : Memref sig .tc .vmem S768x512 .bf16) (harg5 : arg5.IsWhole) (arg6 : Memref sig .tc .vmem S8x512 .f32) (harg6 : arg6.IsWhole) (hc0 : ¬cond2_0 i)
    (x0 : Vec F S768x7168 .bf16) (x1 : Vec F S512x7168 .bf16) (x2 : Vec F S512x768 .bf16) (xo4 : Vec F S8x512 .f32) : Vec F S8x512 .f32 :=
  VO2_4.read (Elt F) (VO2_4.writes (Elt F) VO2_4.junk (kernelRun2_B c i arg2 harg2 arg3 harg3 arg4 harg4 arg5 harg5 arg6 harg6 hc0 x0 x1 x2 xo4).2.1)

/-! ## What the outputs hold after each point -/

/-- THE ACCUMULATION. What the outputs' staging buffers hold after the body at position `n` (a tuple, in window order):
    the case the closed forms select at `n`, run at the point's memrefs and input blocks, an output it reads before covering
    at what this leaves at `n - 1` (its buffer is not written back between: `before2_W_κ`). An assignment of the conditions no point meets is no case (`False.elim`). -/
def outsAt2 (c : Dev nD) : (n : ℕ) → n < cfg2.N → Vec F S768x512 .bf16 × Vec F S8x512 .f32
  | 0, hn => (out2_A_3 c (grid2.coords ⟨0, hn⟩) (ms2_0 ⟨0, hn⟩) (hs2_0 ⟨0, hn⟩) (ms2_1 ⟨0, hn⟩) (hs2_1 ⟨0, hn⟩) (ms2_2 ⟨0, hn⟩) (hs2_2 ⟨0, hn⟩) (ms2_3 ⟨0, hn⟩) (hs2_3 ⟨0, hn⟩) (ms2_4 ⟨0, hn⟩) (hs2_4 ⟨0, hn⟩) ((hcond2_0 ⟨0, hn⟩).mpr (Nat.zero_mod _)) (iblk2 V c 0 ⟨0, hn⟩) (iblk2 V c 1 ⟨0, hn⟩) (iblk2 V c 2 ⟨0, hn⟩), out2_A_4 c (grid2.coords ⟨0, hn⟩) (ms2_0 ⟨0, hn⟩) (hs2_0 ⟨0, hn⟩) (ms2_1 ⟨0, hn⟩) (hs2_1 ⟨0, hn⟩) (ms2_2 ⟨0, hn⟩) (hs2_2 ⟨0, hn⟩) (ms2_3 ⟨0, hn⟩) (hs2_3 ⟨0, hn⟩) (ms2_4 ⟨0, hn⟩) (hs2_4 ⟨0, hn⟩) ((hcond2_0 ⟨0, hn⟩).mpr (Nat.zero_mod _)) (iblk2 V c 0 ⟨0, hn⟩) (iblk2 V c 1 ⟨0, hn⟩) (iblk2 V c 2 ⟨0, hn⟩))
  | n + 1, hn =>
    if h0 : (n + 1) % 288 = 0 then
      (out2_A_3 c (grid2.coords ⟨n + 1, hn⟩) (ms2_0 ⟨n + 1, hn⟩) (hs2_0 ⟨n + 1, hn⟩) (ms2_1 ⟨n + 1, hn⟩) (hs2_1 ⟨n + 1, hn⟩) (ms2_2 ⟨n + 1, hn⟩) (hs2_2 ⟨n + 1, hn⟩) (ms2_3 ⟨n + 1, hn⟩) (hs2_3 ⟨n + 1, hn⟩) (ms2_4 ⟨n + 1, hn⟩) (hs2_4 ⟨n + 1, hn⟩) ((hcond2_0 ⟨n + 1, hn⟩).mpr h0) (iblk2 V c 0 ⟨n + 1, hn⟩) (iblk2 V c 1 ⟨n + 1, hn⟩) (iblk2 V c 2 ⟨n + 1, hn⟩), out2_A_4 c (grid2.coords ⟨n + 1, hn⟩) (ms2_0 ⟨n + 1, hn⟩) (hs2_0 ⟨n + 1, hn⟩) (ms2_1 ⟨n + 1, hn⟩) (hs2_1 ⟨n + 1, hn⟩) (ms2_2 ⟨n + 1, hn⟩) (hs2_2 ⟨n + 1, hn⟩) (ms2_3 ⟨n + 1, hn⟩) (hs2_3 ⟨n + 1, hn⟩) (ms2_4 ⟨n + 1, hn⟩) (hs2_4 ⟨n + 1, hn⟩) ((hcond2_0 ⟨n + 1, hn⟩).mpr h0) (iblk2 V c 0 ⟨n + 1, hn⟩) (iblk2 V c 1 ⟨n + 1, hn⟩) (iblk2 V c 2 ⟨n + 1, hn⟩))
    else
      (out2_B_3 c (grid2.coords ⟨n + 1, hn⟩) (ms2_0 ⟨n + 1, hn⟩) (hs2_0 ⟨n + 1, hn⟩) (ms2_1 ⟨n + 1, hn⟩) (hs2_1 ⟨n + 1, hn⟩) (ms2_2 ⟨n + 1, hn⟩) (hs2_2 ⟨n + 1, hn⟩) (ms2_3 ⟨n + 1, hn⟩) (hs2_3 ⟨n + 1, hn⟩) (ms2_4 ⟨n + 1, hn⟩) (hs2_4 ⟨n + 1, hn⟩) (fun h => h0 ((hcond2_0 ⟨n + 1, hn⟩).mp h)) (iblk2 V c 0 ⟨n + 1, hn⟩) (iblk2 V c 1 ⟨n + 1, hn⟩) (iblk2 V c 2 ⟨n + 1, hn⟩) (outsAt2 c n (Nat.lt_of_succ_lt hn)).2, out2_B_4 c (grid2.coords ⟨n + 1, hn⟩) (ms2_0 ⟨n + 1, hn⟩) (hs2_0 ⟨n + 1, hn⟩) (ms2_1 ⟨n + 1, hn⟩) (hs2_1 ⟨n + 1, hn⟩) (ms2_2 ⟨n + 1, hn⟩) (hs2_2 ⟨n + 1, hn⟩) (ms2_3 ⟨n + 1, hn⟩) (hs2_3 ⟨n + 1, hn⟩) (ms2_4 ⟨n + 1, hn⟩) (hs2_4 ⟨n + 1, hn⟩) (fun h => h0 ((hcond2_0 ⟨n + 1, hn⟩).mp h)) (iblk2 V c 0 ⟨n + 1, hn⟩) (iblk2 V c 1 ⟨n + 1, hn⟩) (iblk2 V c 2 ⟨n + 1, hn⟩) (outsAt2 c n (Nat.lt_of_succ_lt hn)).2)

/-- `outsAt2` at a point of case A: that case's contents. -/
theorem outsAt2_A (c : Dev nD) (t : Fin cfg2.N) (h0 : t.val % 288 = 0) :
    outsAt2 V c t.val t.isLt = (out2_A_3 c (grid2.coords t) (ms2_0 t) (hs2_0 t) (ms2_1 t) (hs2_1 t) (ms2_2 t) (hs2_2 t) (ms2_3 t) (hs2_3 t) (ms2_4 t) (hs2_4 t) ((hcond2_0 t).mpr h0) (iblk2 V c 0 t) (iblk2 V c 1 t) (iblk2 V c 2 t), out2_A_4 c (grid2.coords t) (ms2_0 t) (hs2_0 t) (ms2_1 t) (hs2_1 t) (ms2_2 t) (hs2_2 t) (ms2_3 t) (hs2_3 t) (ms2_4 t) (hs2_4 t) ((hcond2_0 t).mpr h0) (iblk2 V c 0 t) (iblk2 V c 1 t) (iblk2 V c 2 t)) := by
  obtain ⟨n, hn⟩ := t
  cases n with
  | zero => exact rfl
  | succ n => exact (dif_pos h0).trans rfl

/-- `outsAt2` at a point of case B: that case's contents, over what the point before left. -/
theorem outsAt2_B (c : Dev nD) (t : Fin cfg2.N) (h0 : ¬t.val % 288 = 0) :
    outsAt2 V c t.val t.isLt = (out2_B_3 c (grid2.coords t) (ms2_0 t) (hs2_0 t) (ms2_1 t) (hs2_1 t) (ms2_2 t) (hs2_2 t) (ms2_3 t) (hs2_3 t) (ms2_4 t) (hs2_4 t) (fun h => h0 ((hcond2_0 t).mp h)) (iblk2 V c 0 t) (iblk2 V c 1 t) (iblk2 V c 2 t) (outsAt2 V c (t.val - 1) (Nat.lt_of_le_of_lt (Nat.sub_le _ _) t.isLt)).2, out2_B_4 c (grid2.coords t) (ms2_0 t) (hs2_0 t) (ms2_1 t) (hs2_1 t) (ms2_2 t) (hs2_2 t) (ms2_3 t) (hs2_3 t) (ms2_4 t) (hs2_4 t) (fun h => h0 ((hcond2_0 t).mp h)) (iblk2 V c 0 t) (iblk2 V c 1 t) (iblk2 V c 2 t) (outsAt2 V c (t.val - 1) (Nat.lt_of_le_of_lt (Nat.sub_le _ _) t.isLt)).2) := by
  obtain ⟨n, hn⟩ := t
  cases n with
  | zero => exact (by exfalso; (try dsimp only at h0); exact absurd (Nat.zero_mod _) h0)
  | succ n => exact (dif_neg h0).trans rfl

/-! ## The pipeline's proof data -/

/-- The proof data of pipeline 2 on core `c`: the arrays as the region finds them (`V`); after the body at
    point `t` each input's buffer at its block and the outputs' at `outsAt2`; the invariant the class's
    (Lib/Pipeline/Frame.lean `ΦA`: the scoped rest and the generator register); nothing owed; full shares. -/
def dat2 (c : Dev nD) : Dat τ (Elt F) Unit ℕ (UR sig nD τ) ℕ cfg2 c where
  A w := V c (Pipeline.arrRef spec2 w)
  after w t := match w with
    | ⟨0, _⟩ => iblk2 V c 0 t
    | ⟨1, _⟩ => iblk2 V c 1 t
    | ⟨2, _⟩ => iblk2 V c 2 t
    | ⟨3, _⟩ => (outsAt2 V c t.val t.isLt).1
    | ⟨4, _⟩ => (outsAt2 V c t.val t.isLt).2
  Φ _ := Pipeline.ΦA spec2 c
  q _ := fullShare
  owed _ := 0

/-- The proof data's arrays are the region-entry contents, by projecting the definition (`dsimp`): a region record cites
    this for its arrays rather than have Lean unfold `V`, the fold through @main up to the region's entry. -/
theorem A_eq2 (c : Dev nD) (w : Fin cfg2.W) : (dat2 V c).A w = V c (Pipeline.arrRef spec2 w) := by
  dsimp only [dat2]

/-- What the body leaves, window by window (the proof data's `match` reduced by `dsimp`). -/
theorem after2_0 (c : Dev nD) (t : Fin cfg2.N) : (dat2 V c).after 0 t = iblk2 V c 0 t := by dsimp only [dat2]
theorem after2_1 (c : Dev nD) (t : Fin cfg2.N) : (dat2 V c).after 1 t = iblk2 V c 1 t := by dsimp only [dat2]
theorem after2_2 (c : Dev nD) (t : Fin cfg2.N) : (dat2 V c).after 2 t = iblk2 V c 2 t := by dsimp only [dat2]
theorem after2_3 (c : Dev nD) (t : Fin cfg2.N) : (dat2 V c).after 3 t = (outsAt2 V c t.val t.isLt).1 := by dsimp only [dat2]
theorem after2_4 (c : Dev nD) (t : Fin cfg2.N) : (dat2 V c).after 4 t = (outsAt2 V c t.val t.isLt).2 := by dsimp only [dat2]

/-- Each input's current staging buffer holds its block at every point, fetched there or not (`beforeK_W_of`). -/
theorem before2_0 (c : Dev nD) (t : Fin cfg2.N) (d) : (dat2 V c).before 0 t d = iblk2 V c 0 t :=
  before2_0_of V (dat2 V c) (A_eq2 V c 0) (after2_0 V c) t d
theorem before2_1 (c : Dev nD) (t : Fin cfg2.N) (d) : (dat2 V c).before 1 t d = iblk2 V c 1 t :=
  before2_1_of V (dat2 V c) (A_eq2 V c 1) (after2_1 V c) t d
theorem before2_2 (c : Dev nD) (t : Fin cfg2.N) (d) : (dat2 V c).before 2 t d = iblk2 V c 2 t :=
  before2_2_of V (dat2 V c) (A_eq2 V c 2) (after2_2 V c) t d
/-- At a point of case B output 4's current staging buffer holds what the body left at the point before: the point is
    not the first, the buffer was not written back between (`flush2_4`), the window is live and uncut (Lib/Pipeline/Frame.lean
    `Dat.before_out_kept`). -/
theorem before2_4_B (c : Dev nD) (t : Fin cfg2.N) (h0 : ¬t.val % 288 = 0) (d) :
    (dat2 V c).before 4 t d = (outsAt2 V c (t.val - 1) (Nat.lt_of_le_of_lt (Nat.sub_le _ _) t.isLt)).2 := by
  have hN : t.val < 288 := lt_of_lt_of_eq t.isLt (show cfg2.N = 288 from N_2)
  rw [Dat.before_out_kept _ 4 rfl t (by omega) (Bool.eq_false_iff.mpr fun h => by have := (flush2_4 _).mp h; dsimp only at this; omega)
    (fun _ => rfl) (fun _ _ => rfl)]
  dsimp only [dat2]

/-! ## The body obligation, at a generic point -/

/-- What the body is called with at point `t` (Lib/Pipeline.lean `BodyObligation`'s precondition, the windows one by one), -/
def bodyPre2 (c : Dev nD) (t : Fin cfg2.N) : sProp 𝕄 :=
  iprop((dat2 V c).Φ t.castSucc ∗ (dat2 V c).owesAt () t.castSucc
    ∗ (∃ d, owns (c : Thread nD τ) (ms2_0 t) fullShare ((dat2 V c).before 0 t d))
    ∗ (∃ d, owns (c : Thread nD τ) (ms2_1 t) fullShare ((dat2 V c).before 1 t d))
    ∗ (∃ d, owns (c : Thread nD τ) (ms2_2 t) fullShare ((dat2 V c).before 2 t d))
    ∗ (∃ d, owns (c : Thread nD τ) (ms2_3 t) fullShare ((dat2 V c).before 3 t d))
    ∗ (∃ d, owns (c : Thread nD τ) (ms2_4 t) fullShare ((dat2 V c).before 4 t d)))

/-- and what it returns. -/
def bodyPost2 (c : Dev nD) (t : Fin cfg2.N) : sProp 𝕄 :=
  iprop((dat2 V c).Φ t.succ ∗ (dat2 V c).owesAt () t.succ
    ∗ owns (c : Thread nD τ) (ms2_0 t) fullShare ((dat2 V c).after 0 t)
    ∗ owns (c : Thread nD τ) (ms2_1 t) fullShare ((dat2 V c).after 1 t)
    ∗ owns (c : Thread nD τ) (ms2_2 t) fullShare ((dat2 V c).after 2 t)
    ∗ owns (c : Thread nD τ) (ms2_3 t) fullShare ((dat2 V c).after 3 t)
    ∗ owns (c : Thread nD τ) (ms2_4 t) fullShare ((dat2 V c).after 4 t))

set_option maxHeartbeats 800000 in
/-- The body at any point: the inputs' memrefs hold their blocks (`before2_W`); the closed forms say which case the point is in (`by_cases`), an output the case reads before covering holds what the point before left (`before2_W_κ`); so the
    run applies; the invariant passes through unread; the core owes nothing throughout. -/
theorem sound_body2 (c : Dev nD) (t : Fin cfg2.N) :
    bodyPre2 V c t ⊢ wp frame (wpE (defs₀ (F := F)) Variants.none c none) Set.univ (bodyAt2 t) (fun _ => bodyPost2 V c t) := by
  unfold bodyPre2 bodyPost2 bodyAt2
  simp only [before2_0, before2_1, before2_2]
  rw [show (dat2 V c).Φ t.succ = (dat2 V c).Φ t.castSucc from rfl,
    show (dat2 V c).owesAt () t.succ = (dat2 V c).owesAt () t.castSucc from rfl,
    after2_0, after2_1, after2_2, after2_3, after2_4]
  have hN : t.val < 288 := lt_of_lt_of_eq t.isLt (show cfg2.N = 288 from N_2)
  by_cases h0 : t.val % 288 = 0
  · rw [outsAt2_A V c t h0]
    unfold out2_A_3 out2_A_4; (try dsimp only)
    iintro ⟨HΦ, Ho, ⟨%d0, H0⟩, ⟨%d1, H1⟩, ⟨%d2, H2⟩, ⟨%d3, H3⟩, ⟨%d4, H4⟩⟩
    iapply ((kernelRun2_A c (grid2.coords t) _ _ _ _ _ _ _ _ _ _ ((hcond2_0 t).mpr h0) (iblk2 V c 0 t) (iblk2 V c 1 t) (iblk2 V c 2 t)).2.2 Set.univ _)
    isplitl [H0]; · iexact H0
    isplitl [H1]; · iexact H1
    isplitl [H2]; · iexact H2
    isplitl [H3]; · iexists _; iexact H3
    isplitl [H4]; · iexists _; iexact H4
    iintro ⟨H0, H1, H2, ⟨%e3, H3⟩, ⟨%e4, H4⟩⟩
    isplitl [HΦ]; · iexact HΦ
    isplitl [Ho]; · iexact Ho
    isplitl [H0]; · iexact H0
    isplitl [H1]; · iexact H1
    isplitl [H2]; · iexact H2
    isplitl [H3]
    · unfold owns; iexists _; isplitr
      swap; · iexact H3
      ipureintro; exact View.read_writes_of_cover _ _ _ _ _ (cover2_A_3 c _ _ _ _ _ _ _ _ _ _ _ _ _ _ _)
    unfold owns; iexists _; isplitr
    swap; · iexact H4
    ipureintro; exact View.read_writes_of_cover _ _ _ _ _ (cover2_A_4 c _ _ _ _ _ _ _ _ _ _ _ _ _ _ _)
  · rw [outsAt2_B V c t h0]
    simp only [before2_4_B V c t h0]
    unfold out2_B_3 out2_B_4; (try dsimp only)
    iintro ⟨HΦ, Ho, ⟨%d0, H0⟩, ⟨%d1, H1⟩, ⟨%d2, H2⟩, ⟨%d3, H3⟩, ⟨%d4, H4⟩⟩
    iapply ((kernelRun2_B c (grid2.coords t) _ _ _ _ _ _ _ _ _ _ (fun h => h0 ((hcond2_0 t).mp h)) (iblk2 V c 0 t) (iblk2 V c 1 t) (iblk2 V c 2 t) _).2.2 Set.univ _)
    isplitl [H0]; · iexact H0
    isplitl [H1]; · iexact H1
    isplitl [H2]; · iexact H2
    isplitl [H3]; · iexists _; iexact H3
    isplitl [H4]; · iexact H4
    iintro ⟨H0, H1, H2, ⟨%e3, H3⟩, ⟨%e4, H4⟩⟩
    isplitl [HΦ]; · iexact HΦ
    isplitl [Ho]; · iexact Ho
    isplitl [H0]; · iexact H0
    isplitl [H1]; · iexact H1
    isplitl [H2]; · iexact H2
    isplitl [H3]
    · unfold owns; iexists _; isplitr
      swap; · iexact H3
      ipureintro; exact View.read_writes_of_cover _ _ _ _ _ (cover2_B_3 c _ _ _ _ _ _ _ _ _ _ _ _ _ _ _ _)
    unfold owns; iexists _; isplitr
    swap; · iexact H4
    ipureintro; exact View.read_writes_of_cover _ _ _ _ _ (cover2_B_4 c _ _ _ _ _ _ _ _ _ _ _ _ _ _ _ _)

/-- The body table's row at point `t`'s slots is the body as `bodyAt2` spells it. -/
theorem defs₀_row2 (t : Fin cfg2.N) :
    defs₀ (F := F) .tc cfg2.body (cfg2.bodyArgs t (cfg2.slots t)) = bodyAt2 t := by
  unfold defs₀; rw [Defs.onTc_tc]

/-- The library's body obligation, at every point: the body's triple restated (Lib/Pipeline/FrameBody.lean `triple_restated`). -/
theorem body_obligation2 (c : Dev nD) : BodyObligation (dat2 (F := F) V c) (defs₀ (F := F)) Variants.none () Set.univ := fun t => by
  rw [bigSep_W2, bigSep_W2, defs₀_row2]
  exact triple_restated (sound_body2 V c t) rfl .rfl fun _ => .rfl

end Regions

end Cert.KernelIdeal.Gen

end
-- ==== Proof.KernelIdeal.Region3.lean ====
/- Region 3 at the contents `V` it is entered from: its body at every point, and its proof data. -/
module

public import proofs.«01_k».proof.Proof.Gen.KernelIdeal.Launch
public import proofs.«01_k».proof.Proof.Gen.KernelIdeal.Skeleton
public import proofs.«01_k».proof.Proof.Gen.KernelIdeal.Points
public import Idealize.ShloMosaic.Lib.Pipeline.FrameBody
public import Idealize.ShloMosaic.Lib.Pipeline.RegionsLoop
public import Idealize.ShloMosaic.Lib.Pipeline.FrameSuffix
public import Idealize.ShloMosaic.Lib.Ring
public import Idealize.ShloMosaic.Lib.Tactic
public import Idealize.ShloMosaic.Lib.UnfoldOut
public import Idealize.ShloMosaic.Lib.WordCmp

@[expose] public section

-- membership in a rectangle of production extents (`View.cover_of_tiled`): the elaborator's structural look
-- recurses once per coordinate of the long axes
set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- The core's scoped buffers that are no staging buffer of custom_call 3, each whole at some contents:
    `cc0_stg0_0`, `cc0_stg0_1`, `cc0_stg1_0`, `cc0_stg1_1`, `cc0_stg2_0`, `cc0_stg2_1`, `cc1_stg0_0`, `cc1_stg0_1`, `cc1_stg1_0`, `cc1_stg1_1`, `cc1_stg2_0`, `cc1_stg2_1`, `cc1_stg3_0`, `cc1_stg3_1`, `cc1_stg4_0`, `cc1_stg4_1`, `cc1_stg5_0`, `cc1_stg5_1`, `cc1_stg6_0`, `cc1_stg6_1`, `cc1_stg7_0`, `cc1_stg7_1`, `cc1_stg8_0`, `cc1_stg8_1`, `cc2_stg0_0`, `cc2_stg0_1`, `cc2_stg1_0`, `cc2_stg1_1`, `cc2_stg2_0`, `cc2_stg2_1`, `cc2_stg3_0`, `cc2_stg3_1`, `cc2_stg4_0`, `cc3_scratch0`. -/
theorem scopedRest3_eq {Ix : Type} [DecidableEq Ix] {Val : EltTy → Type} {Name : Type} [DecidableEq Name] {U : Type} [URA U] {Lvl : Type} (c : Dev nD) :
    (Pipeline.scopedRest (Ix := Ix) (Name := Name) (U := U) (Lvl := Lvl) (Val := Val) spec3 c : sProp (MT nD τ sig Ix Val Name U Lvl))
      = iprop((∃ f : Buf Val ((c : Thread nD τ).loc cc0_stg0_0), ((c : Thread nD τ).loc cc0_stg0_0) ↦{fullShare} f) ∗ (∃ f : Buf Val ((c : Thread nD τ).loc cc0_stg0_1), ((c : Thread nD τ).loc cc0_stg0_1) ↦{fullShare} f) ∗ (∃ f : Buf Val ((c : Thread nD τ).loc cc0_stg1_0), ((c : Thread nD τ).loc cc0_stg1_0) ↦{fullShare} f) ∗ (∃ f : Buf Val ((c : Thread nD τ).loc cc0_stg1_1), ((c : Thread nD τ).loc cc0_stg1_1) ↦{fullShare} f) ∗ (∃ f : Buf Val ((c : Thread nD τ).loc cc0_stg2_0), ((c : Thread nD τ).loc cc0_stg2_0) ↦{fullShare} f) ∗ (∃ f : Buf Val ((c : Thread nD τ).loc cc0_stg2_1), ((c : Thread nD τ).loc cc0_stg2_1) ↦{fullShare} f) ∗ (∃ f : Buf Val ((c : Thread nD τ).loc cc1_stg0_0), ((c : Thread nD τ).loc cc1_stg0_0) ↦{fullShare} f) ∗ (∃ f : Buf Val ((c : Thread nD τ).loc cc1_stg0_1), ((c : Thread nD τ).loc cc1_stg0_1) ↦{fullShare} f) ∗ (∃ f : Buf Val ((c : Thread nD τ).loc cc1_stg1_0), ((c : Thread nD τ).loc cc1_stg1_0) ↦{fullShare} f) ∗ (∃ f : Buf Val ((c : Thread nD τ).loc cc1_stg1_1), ((c : Thread nD τ).loc cc1_stg1_1) ↦{fullShare} f) ∗ (∃ f : Buf Val ((c : Thread nD τ).loc cc1_stg2_0), ((c : Thread nD τ).loc cc1_stg2_0) ↦{fullShare} f) ∗ (∃ f : Buf Val ((c : Thread nD τ).loc cc1_stg2_1), ((c : Thread nD τ).loc cc1_stg2_1) ↦{fullShare} f) ∗ (∃ f : Buf Val ((c : Thread nD τ).loc cc1_stg3_0), ((c : Thread nD τ).loc cc1_stg3_0) ↦{fullShare} f) ∗ (∃ f : Buf Val ((c : Thread nD τ).loc cc1_stg3_1), ((c : Thread nD τ).loc cc1_stg3_1) ↦{fullShare} f) ∗ (∃ f : Buf Val ((c : Thread nD τ).loc cc1_stg4_0), ((c : Thread nD τ).loc cc1_stg4_0) ↦{fullShare} f) ∗ (∃ f : Buf Val ((c : Thread nD τ).loc cc1_stg4_1), ((c : Thread nD τ).loc cc1_stg4_1) ↦{fullShare} f) ∗ (∃ f : Buf Val ((c : Thread nD τ).loc cc1_stg5_0), ((c : Thread nD τ).loc cc1_stg5_0) ↦{fullShare} f) ∗ (∃ f : Buf Val ((c : Thread nD τ).loc cc1_stg5_1), ((c : Thread nD τ).loc cc1_stg5_1) ↦{fullShare} f) ∗ (∃ f : Buf Val ((c : Thread nD τ).loc cc1_stg6_0), ((c : Thread nD τ).loc cc1_stg6_0) ↦{fullShare} f) ∗ (∃ f : Buf Val ((c : Thread nD τ).loc cc1_stg6_1), ((c : Thread nD τ).loc cc1_stg6_1) ↦{fullShare} f) ∗ (∃ f : Buf Val ((c : Thread nD τ).loc cc1_stg7_0), ((c : Thread nD τ).loc cc1_stg7_0) ↦{fullShare} f) ∗ (∃ f : Buf Val ((c : Thread nD τ).loc cc1_stg7_1), ((c : Thread nD τ).loc cc1_stg7_1) ↦{fullShare} f) ∗ (∃ f : Buf Val ((c : Thread nD τ).loc cc1_stg8_0), ((c : Thread nD τ).loc cc1_stg8_0) ↦{fullShare} f) ∗ (∃ f : Buf Val ((c : Thread nD τ).loc cc1_stg8_1), ((c : Thread nD τ).loc cc1_stg8_1) ↦{fullShare} f) ∗ (∃ f : Buf Val ((c : Thread nD τ).loc cc2_stg0_0), ((c : Thread nD τ).loc cc2_stg0_0) ↦{fullShare} f) ∗ (∃ f : Buf Val ((c : Thread nD τ).loc cc2_stg0_1), ((c : Thread nD τ).loc cc2_stg0_1) ↦{fullShare} f) ∗ (∃ f : Buf Val ((c : Thread nD τ).loc cc2_stg1_0), ((c : Thread nD τ).loc cc2_stg1_0) ↦{fullShare} f) ∗ (∃ f : Buf Val ((c : Thread nD τ).loc cc2_stg1_1), ((c : Thread nD τ).loc cc2_stg1_1) ↦{fullShare} f) ∗ (∃ f : Buf Val ((c : Thread nD τ).loc cc2_stg2_0), ((c : Thread nD τ).loc cc2_stg2_0) ↦{fullShare} f) ∗ (∃ f : Buf Val ((c : Thread nD τ).loc cc2_stg2_1), ((c : Thread nD τ).loc cc2_stg2_1) ↦{fullShare} f) ∗ (∃ f : Buf Val ((c : Thread nD τ).loc cc2_stg3_0), ((c : Thread nD τ).loc cc2_stg3_0) ↦{fullShare} f) ∗ (∃ f : Buf Val ((c : Thread nD τ).loc cc2_stg3_1), ((c : Thread nD τ).loc cc2_stg3_1) ↦{fullShare} f) ∗ (∃ f : Buf Val ((c : Thread nD τ).loc cc2_stg4_0), ((c : Thread nD τ).loc cc2_stg4_0) ↦{fullShare} f) ∗ (∃ f : Buf Val ((c : Thread nD τ).loc cc3_scratch0), ((c : Thread nD τ).loc cc3_scratch0) ↦{fullShare} f)) :=
  Pipeline.scopedRest_eq_of_list spec3 c [cc0_stg0_0, cc0_stg0_1, cc0_stg1_0, cc0_stg1_1, cc0_stg2_0, cc0_stg2_1, cc1_stg0_0, cc1_stg0_1, cc1_stg1_0, cc1_stg1_1, cc1_stg2_0, cc1_stg2_1, cc1_stg3_0, cc1_stg3_1, cc1_stg4_0, cc1_stg4_1, cc1_stg5_0, cc1_stg5_1, cc1_stg6_0, cc1_stg6_1, cc1_stg7_0, cc1_stg7_1, cc1_stg8_0, cc1_stg8_1, cc2_stg0_0, cc2_stg0_1, cc2_stg1_0, cc2_stg1_1, cc2_stg2_0, cc2_stg2_1, cc2_stg3_0, cc2_stg3_1, cc2_stg4_0, cc3_scratch0] (by decide) (by decide)

section Regions
-- the TensorCore's buffer contents when a region is entered: the parameter every region's half is stated at, which
-- the run instantiates per region
variable (V : (c : Dev nD) → (b : Ref sig .tc) → Buf (Elt F) ((c : Thread nD τ).loc b))

/-! # REGION 3 of @main: custom_call 3, `cc3_backward` (pipeline 3), at the entry contents `V` — class R -/

/-! ## The windows' blocks -/

/-- Window `w`'s block at point `t`, read off its array as the region finds it (`V`). -/
noncomputable def iblk3 (c : Dev nD) (w : Fin cfg3.W) (t : Fin cfg3.N) : ((cfg3.win w).xblock (cfg3.grid.coords t)).Idx → Elt F (cfg3.win w).elt :=
  ((cfg3.win w).blk t).view.read (Elt F) (V c (Pipeline.arrRef spec3 w))

/-- Input window 0's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before3_0_of {c : Dev nD} (dat : Dat τ (Elt F) Unit ℕ (UR sig nD τ) ℕ cfg3 c) (hA : dat.A 0 = V c (Pipeline.arrRef spec3 0))
    (hafter : ∀ t, dat.after 0 t = iblk3 V c 0 t) (t : Fin cfg3.N) (d) : dat.before 0 t d = iblk3 V c 0 t :=
  (dat.before_in_eq_fetched 0 rfl (fun _ => rfl) (fun _ _ _ => rfl) (fun t => by rw [hafter]; unfold Dat.blockOf iblk3; rw [hA]; try rfl) t d).trans
    (by unfold Dat.fetched Dat.blockOf iblk3; rw [hA]; try rfl)
/-- Input window 1's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before3_1_of {c : Dev nD} (dat : Dat τ (Elt F) Unit ℕ (UR sig nD τ) ℕ cfg3 c) (hA : dat.A 1 = V c (Pipeline.arrRef spec3 1))
    (hafter : ∀ t, dat.after 1 t = iblk3 V c 1 t) (t : Fin cfg3.N) (d) : dat.before 1 t d = iblk3 V c 1 t :=
  (dat.before_in_eq_fetched 1 rfl (fun _ => rfl) (fun _ _ _ => rfl) (fun t => by rw [hafter]; unfold Dat.blockOf iblk3; rw [hA]; try rfl) t d).trans
    (by unfold Dat.fetched Dat.blockOf iblk3; rw [hA]; try rfl)
/-- Input window 2's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before3_2_of {c : Dev nD} (dat : Dat τ (Elt F) Unit ℕ (UR sig nD τ) ℕ cfg3 c) (hA : dat.A 2 = V c (Pipeline.arrRef spec3 2))
    (hafter : ∀ t, dat.after 2 t = iblk3 V c 2 t) (t : Fin cfg3.N) (d) : dat.before 2 t d = iblk3 V c 2 t :=
  (dat.before_in_eq_fetched 2 rfl (fun _ => rfl) (fun _ _ _ => rfl) (fun t => by rw [hafter]; unfold Dat.blockOf iblk3; rw [hA]; try rfl) t d).trans
    (by unfold Dat.fetched Dat.blockOf iblk3; rw [hA]; try rfl)
/-- Input window 3's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before3_3_of {c : Dev nD} (dat : Dat τ (Elt F) Unit ℕ (UR sig nD τ) ℕ cfg3 c) (hA : dat.A 3 = V c (Pipeline.arrRef spec3 3))
    (hafter : ∀ t, dat.after 3 t = iblk3 V c 3 t) (t : Fin cfg3.N) (d) : dat.before 3 t d = iblk3 V c 3 t :=
  (dat.before_in_eq_fetched 3 rfl (fun _ => rfl) (fun _ _ _ => rfl) (fun t => by rw [hafter]; unfold Dat.blockOf iblk3; rw [hA]; try rfl) t d).trans
    (by unfold Dat.fetched Dat.blockOf iblk3; rw [hA]; try rfl)
/-- Input window 4's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before3_4_of {c : Dev nD} (dat : Dat τ (Elt F) Unit ℕ (UR sig nD τ) ℕ cfg3 c) (hA : dat.A 4 = V c (Pipeline.arrRef spec3 4))
    (hafter : ∀ t, dat.after 4 t = iblk3 V c 4 t) (t : Fin cfg3.N) (d) : dat.before 4 t d = iblk3 V c 4 t :=
  (dat.before_in_eq_fetched 4 rfl (fun _ => rfl) (fun _ _ _ => rfl) (fun t => by rw [hafter]; unfold Dat.blockOf iblk3; rw [hA]; try rfl) t d).trans
    (by unfold Dat.fetched Dat.blockOf iblk3; rw [hA]; try rfl)
/-- Input window 5's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before3_5_of {c : Dev nD} (dat : Dat τ (Elt F) Unit ℕ (UR sig nD τ) ℕ cfg3 c) (hA : dat.A 5 = V c (Pipeline.arrRef spec3 5))
    (hafter : ∀ t, dat.after 5 t = iblk3 V c 5 t) (t : Fin cfg3.N) (d) : dat.before 5 t d = iblk3 V c 5 t :=
  (dat.before_in_eq_fetched 5 rfl (fun _ => rfl) (fun _ _ _ => rfl) (fun t => by rw [hafter]; unfold Dat.blockOf iblk3; rw [hA]; try rfl) t d).trans
    (by unfold Dat.fetched Dat.blockOf iblk3; rw [hA]; try rfl)
/-- Input window 6's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before3_6_of {c : Dev nD} (dat : Dat τ (Elt F) Unit ℕ (UR sig nD τ) ℕ cfg3 c) (hA : dat.A 6 = V c (Pipeline.arrRef spec3 6))
    (hafter : ∀ t, dat.after 6 t = iblk3 V c 6 t) (t : Fin cfg3.N) (d) : dat.before 6 t d = iblk3 V c 6 t :=
  (dat.before_in_eq_fetched 6 rfl (fun _ => rfl) (fun _ _ _ => rfl) (fun t => by rw [hafter]; unfold Dat.blockOf iblk3; rw [hA]; try rfl) t d).trans
    (by unfold Dat.fetched Dat.blockOf iblk3; rw [hA]; try rfl)

/-! ## The body's branch conditions -/

/-- The condition of the body's `scf.if` 0 (`k3_h1`), from the grid coordinates (the skeleton's scalar
    chain substituted). -/
abbrev cond3_0 (i : grid3.Coords) : Prop := (Scalar.cmpi .ne (Scalar.extui (Scalar.cmpi .eq (BitVec.ofNat 32 (i 1).val) 0#32)) 0#32) = 1#1
/-- It holds at the points ≡ 0 (mod 14) — by arithmetic of the point. -/
theorem hcond3_0 : ∀ t : Fin cfg3.N, cond3_0 (grid3.coords t) ↔ t.val % 14 = 0 :=
  (fun t => by
    have ht : t.val < 336 := Nat.lt_of_lt_of_eq t.isLt N_3
    have e0 : (grid3.coords t 0).val = t.val / 14 % 24 := Pipeline.Grid.coords_val t 0 (by decide) rfl
    have e1 : (grid3.coords t 1).val = t.val / 1 % 14 := Pipeline.Grid.coords_val t 1 (by decide) rfl
    simp only [cond3_0, e0, e1]
    word_cmp
   : ∀ t : Fin grid3.N, cond3_0 (grid3.coords t) ↔ t.val % 14 = 0)

/-- The condition of the body's `scf.if` 1 (`k3_h2`), from the grid coordinates (the skeleton's scalar
    chain substituted). -/
abbrev cond3_1 (i : grid3.Coords) : Prop := k3_cond2 i = 1#1
/-- It holds at the points ≡ 13 (mod 14) — by arithmetic of the point. -/
theorem hcond3_1 : ∀ t : Fin cfg3.N, cond3_1 (grid3.coords t) ↔ t.val % 14 = 13 :=
  (fun t => by
    have ht : t.val < 336 := Nat.lt_of_lt_of_eq t.isLt N_3
    have e0 : (grid3.coords t 0).val = t.val / 14 % 24 := Pipeline.Grid.coords_val t 0 (by decide) rfl
    have e1 : (grid3.coords t 1).val = t.val / 1 % 14 := Pipeline.Grid.coords_val t 1 (by decide) rfl
    simp only [cond3_1, k3_cond2, e0, e1]
    word_cmp
   : ∀ t : Fin grid3.N, cond3_1 (grid3.coords t) ↔ t.val % 14 = 13)

/-! ## Where the windows are idle (the printed configuration's table `Cfg.idle`) -/

/-- Window 0 is never idle (an input). -/
theorem liveAt3_0 : ∀ t : Fin cfg3.N, cfg3.idle 0 (grid3.coords t) = false := fun _ => rfl
/-- Window 1 is never idle (an input). -/
theorem liveAt3_1 : ∀ t : Fin cfg3.N, cfg3.idle 1 (grid3.coords t) = false := fun _ => rfl
/-- Window 2 is never idle (an input). -/
theorem liveAt3_2 : ∀ t : Fin cfg3.N, cfg3.idle 2 (grid3.coords t) = false := fun _ => rfl
/-- Window 3 is never idle (an input). -/
theorem liveAt3_3 : ∀ t : Fin cfg3.N, cfg3.idle 3 (grid3.coords t) = false := fun _ => rfl
/-- Window 4 is never idle (an input). -/
theorem liveAt3_4 : ∀ t : Fin cfg3.N, cfg3.idle 4 (grid3.coords t) = false := fun _ => rfl
/-- Window 5 is never idle (an input). -/
theorem liveAt3_5 : ∀ t : Fin cfg3.N, cfg3.idle 5 (grid3.coords t) = false := fun _ => rfl
/-- Window 6 is never idle (an input). -/
theorem liveAt3_6 : ∀ t : Fin cfg3.N, cfg3.idle 6 (grid3.coords t) = false := fun _ => rfl
/-- At the points of case A the printed configuration (`Cfg.idle`) calls output 7 idle: the case stores nothing into it. -/
theorem idleAt3_7_A : ∀ t : Fin cfg3.N, cond3_0 (grid3.coords t) → ¬cond3_1 (grid3.coords t) → cfg3.idle 7 (grid3.coords t) = true := by decide +kernel
/-- At the points of case A the pipeline does not write output 7's block back. -/
theorem noFlush3_7_A : ∀ t : Fin cfg3.N, cond3_0 (grid3.coords t) → ¬cond3_1 (grid3.coords t) → (cfg3.win 7).flush t = false := by decide +kernel
/-- At the points of case B the printed configuration (`Cfg.idle`) calls output 7 idle: the case stores nothing into it. -/
theorem idleAt3_7_B : ∀ t : Fin cfg3.N, ¬cond3_0 (grid3.coords t) → ¬cond3_1 (grid3.coords t) → cfg3.idle 7 (grid3.coords t) = true := by decide +kernel
/-- At the points of case B the pipeline does not write output 7's block back. -/
theorem noFlush3_7_B : ∀ t : Fin cfg3.N, ¬cond3_0 (grid3.coords t) → ¬cond3_1 (grid3.coords t) → (cfg3.win 7).flush t = false := by decide +kernel
/-- At the points of case C the printed configuration (`Cfg.idle`) calls output 7 live: the case stores into it. -/
theorem liveAt3_7_C : ∀ t : Fin cfg3.N, ¬cond3_0 (grid3.coords t) → cond3_1 (grid3.coords t) → cfg3.idle 7 (grid3.coords t) = false := by decide +kernel
/-- At the points of case A the printed configuration (`Cfg.idle`) calls output 8 idle: the case stores nothing into it. -/
theorem idleAt3_8_A : ∀ t : Fin cfg3.N, cond3_0 (grid3.coords t) → ¬cond3_1 (grid3.coords t) → cfg3.idle 8 (grid3.coords t) = true := by decide +kernel
/-- At the points of case A the pipeline does not write output 8's block back. -/
theorem noFlush3_8_A : ∀ t : Fin cfg3.N, cond3_0 (grid3.coords t) → ¬cond3_1 (grid3.coords t) → (cfg3.win 8).flush t = false := by decide +kernel
/-- At the points of case B the printed configuration (`Cfg.idle`) calls output 8 idle: the case stores nothing into it. -/
theorem idleAt3_8_B : ∀ t : Fin cfg3.N, ¬cond3_0 (grid3.coords t) → ¬cond3_1 (grid3.coords t) → cfg3.idle 8 (grid3.coords t) = true := by decide +kernel
/-- At the points of case B the pipeline does not write output 8's block back. -/
theorem noFlush3_8_B : ∀ t : Fin cfg3.N, ¬cond3_0 (grid3.coords t) → ¬cond3_1 (grid3.coords t) → (cfg3.win 8).flush t = false := by decide +kernel
/-- At the points of case C the printed configuration (`Cfg.idle`) calls output 8 live: the case stores into it. -/
theorem liveAt3_8_C : ∀ t : Fin cfg3.N, ¬cond3_0 (grid3.coords t) → cond3_1 (grid3.coords t) → cfg3.idle 8 (grid3.coords t) = false := by decide +kernel

/-! ## The kernel body on any staging memrefs: a subtype the run finds -/

/-- One staging buffer of output window 7, through which its contents are stated (`View.read_writes_of_cover`: the
    choice does not matter). -/
abbrev VO3_7 : View sig .tc .vmem S768x56 .f32 := (Memref.whole cc3_stg7_0 : Memref sig .tc .vmem S768x56 .f32).view
/-- One staging buffer of output window 8, through which its contents are stated (`View.read_writes_of_cover`: the
    choice does not matter). -/
abbrev VO3_8 : View sig .tc .vmem S768x56 .f32 := (Memref.whole cc3_stg8_0 : Memref sig .tc .vmem S768x56 .f32).view
/-- Each window's current staging memref at point `t`, spelled as the pipeline passes it (`bodyAt3`), and its wholeness. -/
abbrev ms3_0 (t : Fin cfg3.N) : Memref sig .tc .vmem S768x6144 .bf16 := win3_0.stage (cfg3.slots t 0)
abbrev hs3_0 (t : Fin cfg3.N) : (ms3_0 t).IsWhole := hstage3_0 ((cfg3.slots t 0).cast nbuf3_0)
abbrev ms3_1 (t : Fin cfg3.N) : Memref sig .tc .vmem S6144x512 .bf16 := win3_1.stage (cfg3.slots t 1)
abbrev hs3_1 (t : Fin cfg3.N) : (ms3_1 t).IsWhole := hstage3_1 ((cfg3.slots t 1).cast nbuf3_1)
abbrev ms3_2 (t : Fin cfg3.N) : Memref sig .tc .vmem S768x512 .f32 := win3_2.stage (cfg3.slots t 2)
abbrev hs3_2 (t : Fin cfg3.N) : (ms3_2 t).IsWhole := hstage3_2 ((cfg3.slots t 2).cast nbuf3_2)
abbrev ms3_3 (t : Fin cfg3.N) : Memref sig .tc .vmem S768x56 .f32 := win3_3.stage (cfg3.slots t 3)
abbrev hs3_3 (t : Fin cfg3.N) : (ms3_3 t).IsWhole := hstage3_3 ((cfg3.slots t 3).cast nbuf3_3)
abbrev ms3_4 (t : Fin cfg3.N) : Memref sig .tc .vmem S768x56 .f32 := win3_4.stage (cfg3.slots t 4)
abbrev hs3_4 (t : Fin cfg3.N) : (ms3_4 t).IsWhole := hstage3_4 ((cfg3.slots t 4).cast nbuf3_4)
abbrev ms3_5 (t : Fin cfg3.N) : Memref sig .tc .vmem S768x56 .f32 := win3_5.stage (cfg3.slots t 5)
abbrev hs3_5 (t : Fin cfg3.N) : (ms3_5 t).IsWhole := hstage3_5 ((cfg3.slots t 5).cast nbuf3_5)
abbrev ms3_6 (t : Fin cfg3.N) : Memref sig .tc .vmem S768x56 .f32 := win3_6.stage (cfg3.slots t 6)
abbrev hs3_6 (t : Fin cfg3.N) : (ms3_6 t).IsWhole := hstage3_6 ((cfg3.slots t 6).cast nbuf3_6)
abbrev ms3_7 (t : Fin cfg3.N) : Memref sig .tc .vmem S768x56 .f32 := win3_7.stage (cfg3.slots t 7)
abbrev hs3_7 (t : Fin cfg3.N) : (ms3_7 t).IsWhole := hstage3_7 ((cfg3.slots t 7).cast nbuf3_7)
abbrev ms3_8 (t : Fin cfg3.N) : Memref sig .tc .vmem S768x56 .f32 := win3_8.stage (cfg3.slots t 8)
abbrev hs3_8 (t : Fin cfg3.N) : (ms3_8 t).IsWhole := hstage3_8 ((cfg3.slots t 8).cast nbuf3_8)
/-- The scratch operands: whole scoped buffers of the kernel's own, passed beside the windows. -/
abbrev scM3_0 : Memref sig .tc .vmem S768x56 .f32 := Memref.whole cc3_scratch0
/-- The scratch `arg11` the kernel carries between points, as a view: what it holds is stated through it. -/
abbrev VS3_0 : View sig .tc .vmem S768x56 .f32 := scM3_0.view

/-- The frame kit's invariant with the scratch operands as memrefs owned at some contents (`Gen.scopedRest3_eq`,
    Lib/Memref.lean `owns_whole`): what the body obligation hands the run and takes back. -/
theorem PhiA3_eq (c : Dev nD) :
    (Pipeline.ΦA spec3 c : sProp 𝕄)
      = iprop(iprop((∃ f : Buf (Elt F) ((c : Thread nD τ).loc cc0_stg0_0), ((c : Thread nD τ).loc cc0_stg0_0) ↦{fullShare} f) ∗ (∃ f : Buf (Elt F) ((c : Thread nD τ).loc cc0_stg0_1), ((c : Thread nD τ).loc cc0_stg0_1) ↦{fullShare} f) ∗ (∃ f : Buf (Elt F) ((c : Thread nD τ).loc cc0_stg1_0), ((c : Thread nD τ).loc cc0_stg1_0) ↦{fullShare} f) ∗ (∃ f : Buf (Elt F) ((c : Thread nD τ).loc cc0_stg1_1), ((c : Thread nD τ).loc cc0_stg1_1) ↦{fullShare} f) ∗ (∃ f : Buf (Elt F) ((c : Thread nD τ).loc cc0_stg2_0), ((c : Thread nD τ).loc cc0_stg2_0) ↦{fullShare} f) ∗ (∃ f : Buf (Elt F) ((c : Thread nD τ).loc cc0_stg2_1), ((c : Thread nD τ).loc cc0_stg2_1) ↦{fullShare} f) ∗ (∃ f : Buf (Elt F) ((c : Thread nD τ).loc cc1_stg0_0), ((c : Thread nD τ).loc cc1_stg0_0) ↦{fullShare} f) ∗ (∃ f : Buf (Elt F) ((c : Thread nD τ).loc cc1_stg0_1), ((c : Thread nD τ).loc cc1_stg0_1) ↦{fullShare} f) ∗ (∃ f : Buf (Elt F) ((c : Thread nD τ).loc cc1_stg1_0), ((c : Thread nD τ).loc cc1_stg1_0) ↦{fullShare} f) ∗ (∃ f : Buf (Elt F) ((c : Thread nD τ).loc cc1_stg1_1), ((c : Thread nD τ).loc cc1_stg1_1) ↦{fullShare} f) ∗ (∃ f : Buf (Elt F) ((c : Thread nD τ).loc cc1_stg2_0), ((c : Thread nD τ).loc cc1_stg2_0) ↦{fullShare} f) ∗ (∃ f : Buf (Elt F) ((c : Thread nD τ).loc cc1_stg2_1), ((c : Thread nD τ).loc cc1_stg2_1) ↦{fullShare} f) ∗ (∃ f : Buf (Elt F) ((c : Thread nD τ).loc cc1_stg3_0), ((c : Thread nD τ).loc cc1_stg3_0) ↦{fullShare} f) ∗ (∃ f : Buf (Elt F) ((c : Thread nD τ).loc cc1_stg3_1), ((c : Thread nD τ).loc cc1_stg3_1) ↦{fullShare} f) ∗ (∃ f : Buf (Elt F) ((c : Thread nD τ).loc cc1_stg4_0), ((c : Thread nD τ).loc cc1_stg4_0) ↦{fullShare} f) ∗ (∃ f : Buf (Elt F) ((c : Thread nD τ).loc cc1_stg4_1), ((c : Thread nD τ).loc cc1_stg4_1) ↦{fullShare} f) ∗ (∃ f : Buf (Elt F) ((c : Thread nD τ).loc cc1_stg5_0), ((c : Thread nD τ).loc cc1_stg5_0) ↦{fullShare} f) ∗ (∃ f : Buf (Elt F) ((c : Thread nD τ).loc cc1_stg5_1), ((c : Thread nD τ).loc cc1_stg5_1) ↦{fullShare} f) ∗ (∃ f : Buf (Elt F) ((c : Thread nD τ).loc cc1_stg6_0), ((c : Thread nD τ).loc cc1_stg6_0) ↦{fullShare} f) ∗ (∃ f : Buf (Elt F) ((c : Thread nD τ).loc cc1_stg6_1), ((c : Thread nD τ).loc cc1_stg6_1) ↦{fullShare} f) ∗ (∃ f : Buf (Elt F) ((c : Thread nD τ).loc cc1_stg7_0), ((c : Thread nD τ).loc cc1_stg7_0) ↦{fullShare} f) ∗ (∃ f : Buf (Elt F) ((c : Thread nD τ).loc cc1_stg7_1), ((c : Thread nD τ).loc cc1_stg7_1) ↦{fullShare} f) ∗ (∃ f : Buf (Elt F) ((c : Thread nD τ).loc cc1_stg8_0), ((c : Thread nD τ).loc cc1_stg8_0) ↦{fullShare} f) ∗ (∃ f : Buf (Elt F) ((c : Thread nD τ).loc cc1_stg8_1), ((c : Thread nD τ).loc cc1_stg8_1) ↦{fullShare} f) ∗ (∃ f : Buf (Elt F) ((c : Thread nD τ).loc cc2_stg0_0), ((c : Thread nD τ).loc cc2_stg0_0) ↦{fullShare} f) ∗ (∃ f : Buf (Elt F) ((c : Thread nD τ).loc cc2_stg0_1), ((c : Thread nD τ).loc cc2_stg0_1) ↦{fullShare} f) ∗ (∃ f : Buf (Elt F) ((c : Thread nD τ).loc cc2_stg1_0), ((c : Thread nD τ).loc cc2_stg1_0) ↦{fullShare} f) ∗ (∃ f : Buf (Elt F) ((c : Thread nD τ).loc cc2_stg1_1), ((c : Thread nD τ).loc cc2_stg1_1) ↦{fullShare} f) ∗ (∃ f : Buf (Elt F) ((c : Thread nD τ).loc cc2_stg2_0), ((c : Thread nD τ).loc cc2_stg2_0) ↦{fullShare} f) ∗ (∃ f : Buf (Elt F) ((c : Thread nD τ).loc cc2_stg2_1), ((c : Thread nD τ).loc cc2_stg2_1) ↦{fullShare} f) ∗ (∃ f : Buf (Elt F) ((c : Thread nD τ).loc cc2_stg3_0), ((c : Thread nD τ).loc cc2_stg3_0) ↦{fullShare} f) ∗ (∃ f : Buf (Elt F) ((c : Thread nD τ).loc cc2_stg3_1), ((c : Thread nD τ).loc cc2_stg3_1) ↦{fullShare} f) ∗ (∃ f : Buf (Elt F) ((c : Thread nD τ).loc cc2_stg4_0), ((c : Thread nD τ).loc cc2_stg4_0) ↦{fullShare} f) ∗ (∃ d, owns (c : Thread nD τ) scM3_0 fullShare d)) ∗ (∃ r, prngReg c r)) := by
  unfold Pipeline.ΦA; rw [scopedRest3_eq]; simp only [scM3_0, owns_whole]; try rfl

-- (the run's proof term is large: the definition's epilogue — `abstractNestedProofs` — walks it past the default budget)
set_option maxHeartbeats 1000000 in
/-- What the body's stores leave in each output's staging memref, as pieces (last first) IN CASE A (`scf.if` 0 taken, `scf.if` 1 not taken: points 0, 14, … 322: 24 of 336), WITH the
    proof that on whole staging memrefs — the inputs' at their contents, the outputs it leaves idle (7, 8: no store, the window idle and not written back at the case's points) at contents `xi·` handed back untouched, the other outputs' at
    anything, a carried scratch at the contents the point before left (`xs·`) or at anything, the other scratch at anything, the body runs to the continuation holding the inputs' as they were,
    a carried scratch it stored into with its pieces written (`LS·`), the other scratch at some contents, each output's buffer with its pieces written: the printed functions are their skeletons
    (`Gen.*_eq_skeleton`), which `sl_exec` runs (Lib/Exec.lean) — each `scf.if` decided by the case's hypotheses `hc·`; the pieces are
    the witness that run finds (assigned when `iexact` hands the buffer to the continuation). -/
noncomputable def kernelRun3_A (c : Dev nD) (i : grid3.Coords) (arg2 : Memref sig .tc .vmem S768x6144 .bf16) (harg2 : arg2.IsWhole) (arg3 : Memref sig .tc .vmem S6144x512 .bf16) (harg3 : arg3.IsWhole) (arg4 : Memref sig .tc .vmem S768x512 .f32) (harg4 : arg4.IsWhole) (arg5 : Memref sig .tc .vmem S768x56 .f32) (harg5 : arg5.IsWhole) (arg6 : Memref sig .tc .vmem S768x56 .f32) (harg6 : arg6.IsWhole) (arg7 : Memref sig .tc .vmem S768x56 .f32) (harg7 : arg7.IsWhole) (arg8 : Memref sig .tc .vmem S768x56 .f32) (harg8 : arg8.IsWhole) (arg9 : Memref sig .tc .vmem S768x56 .f32) (harg9 : arg9.IsWhole) (arg10 : Memref sig .tc .vmem S768x56 .f32) (harg10 : arg10.IsWhole) (arg11 : Memref sig .tc .vmem S768x56 .f32) (harg11 : arg11.IsWhole) (hc0 : cond3_0 i) (hc1 : ¬cond3_1 i)
    (x0 : Vec F S768x6144 .bf16) (x1 : Vec F S6144x512 .bf16) (x2 : Vec F S768x512 .f32) (x3 : Vec F S768x56 .f32) (x4 : Vec F S768x56 .f32) (x5 : Vec F S768x56 .f32) (x6 : Vec F S768x56 .f32) :
    Σ' (L7 : List (View.Piece (Elt F) S768x56 .f32)), Σ' (L8 : List (View.Piece (Elt F) S768x56 .f32)), { LS0 : List (View.Piece (Elt F) S768x56 .f32) //
      ∀ (xi7 : Vec F S768x56 .f32) (xi8 : Vec F S768x56 .f32) (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare xi7 ∗ owns (c : Thread nD τ) arg10 fullShare xi8 ∗ (∃ d, owns (c : Thread nD τ) arg11 fullShare d)
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare xi7 ∗ owns (c : Thread nD τ) arg10 fullShare xi8 ∗ (∃ f, arg11.view.loc (c : Thread nD τ) ↦[arg11.view.set]{fullShare} arg11.view.writes (Elt F) f LS0)) -∗ K ⟨⟩))
          ⊢ wp frame (wpE (defs₀ (F := F)) Variants.none c none) E (cc3_backward i arg2 harg2 arg3 harg3 arg4 harg4 arg5 harg5 arg6 harg6 arg7 harg7 arg8 harg8 arg9 harg9 arg10 harg10 arg11 harg11) K } := by
  refine ⟨[], [], ?_, fun xi7 xi8 E K => ?run⟩
  case run =>
    simp only [cc3_backward_eq_skeleton]; unfold cc3_backward_skel
    simp only [k3_part1_eq_skeleton, k3_part2_eq_skeleton, k3_part3_eq_skeleton, k3_part4_eq_skeleton, k3_part5_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%ds0, %fs0, -, HS0⟩, Hk⟩
    obtain rfl := harg2.eq_unread hf0; obtain rfl := harg3.eq_unread hf1; obtain rfl := harg4.eq_unread hf2; obtain rfl := harg5.eq_unread hf3; obtain rfl := harg6.eq_unread hf4; obtain rfl := harg7.eq_unread hf5; obtain rfl := harg8.eq_unread hf6; obtain rfl := harg9.eq_unread hf7; obtain rfl := harg10.eq_unread hf8
    sl_exec (disch := first | sl_exact hc0 | sl_exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; · ipureintro; exact harg7.read_unread _
      iexact H5
    isplitl [H6]
    · iexists _; isplitr; · ipureintro; exact harg8.read_unread _
      iexact H6
    isplitl [H7]
    · iexists _; isplitr; · ipureintro; exact harg9.read_unread _
      iexact H7
    isplitl [H8]
    · iexists _; isplitr; · ipureintro; exact harg10.read_unread _
      iexact H8
    iexists _; iexact HS0

/-- Case A stores nothing into output 7 (the window is idle at its points and not written back there):
    no pieces — a placeholder (junk read back) that nothing consults, since at these points the window is neither
    written back nor read at the next point (Lib/Pipeline.lean "Idle points"). -/
def out3_A_7 (c : Dev nD) (i : grid3.Coords) (arg2 : Memref sig .tc .vmem S768x6144 .bf16) (harg2 : arg2.IsWhole) (arg3 : Memref sig .tc .vmem S6144x512 .bf16) (harg3 : arg3.IsWhole) (arg4 : Memref sig .tc .vmem S768x512 .f32) (harg4 : arg4.IsWhole) (arg5 : Memref sig .tc .vmem S768x56 .f32) (harg5 : arg5.IsWhole) (arg6 : Memref sig .tc .vmem S768x56 .f32) (harg6 : arg6.IsWhole) (arg7 : Memref sig .tc .vmem S768x56 .f32) (harg7 : arg7.IsWhole) (arg8 : Memref sig .tc .vmem S768x56 .f32) (harg8 : arg8.IsWhole) (arg9 : Memref sig .tc .vmem S768x56 .f32) (harg9 : arg9.IsWhole) (arg10 : Memref sig .tc .vmem S768x56 .f32) (harg10 : arg10.IsWhole) (arg11 : Memref sig .tc .vmem S768x56 .f32) (harg11 : arg11.IsWhole) (hc0 : cond3_0 i) (hc1 : ¬cond3_1 i)
    (x0 : Vec F S768x6144 .bf16) (x1 : Vec F S6144x512 .bf16) (x2 : Vec F S768x512 .f32) (x3 : Vec F S768x56 .f32) (x4 : Vec F S768x56 .f32) (x5 : Vec F S768x56 .f32) (x6 : Vec F S768x56 .f32) : Vec F S768x56 .f32 :=
  VO3_7.read (Elt F) (VO3_7.writes (Elt F) VO3_7.junk (kernelRun3_A c i arg2 harg2 arg3 harg3 arg4 harg4 arg5 harg5 arg6 harg6 arg7 harg7 arg8 harg8 arg9 harg9 arg10 harg10 arg11 harg11 hc0 hc1 x0 x1 x2 x3 x4 x5 x6).1)

/-- Case A stores nothing into output 8 (the window is idle at its points and not written back there):
    no pieces — a placeholder (junk read back) that nothing consults, since at these points the window is neither
    written back nor read at the next point (Lib/Pipeline.lean "Idle points"). -/
def out3_A_8 (c : Dev nD) (i : grid3.Coords) (arg2 : Memref sig .tc .vmem S768x6144 .bf16) (harg2 : arg2.IsWhole) (arg3 : Memref sig .tc .vmem S6144x512 .bf16) (harg3 : arg3.IsWhole) (arg4 : Memref sig .tc .vmem S768x512 .f32) (harg4 : arg4.IsWhole) (arg5 : Memref sig .tc .vmem S768x56 .f32) (harg5 : arg5.IsWhole) (arg6 : Memref sig .tc .vmem S768x56 .f32) (harg6 : arg6.IsWhole) (arg7 : Memref sig .tc .vmem S768x56 .f32) (harg7 : arg7.IsWhole) (arg8 : Memref sig .tc .vmem S768x56 .f32) (harg8 : arg8.IsWhole) (arg9 : Memref sig .tc .vmem S768x56 .f32) (harg9 : arg9.IsWhole) (arg10 : Memref sig .tc .vmem S768x56 .f32) (harg10 : arg10.IsWhole) (arg11 : Memref sig .tc .vmem S768x56 .f32) (harg11 : arg11.IsWhole) (hc0 : cond3_0 i) (hc1 : ¬cond3_1 i)
    (x0 : Vec F S768x6144 .bf16) (x1 : Vec F S6144x512 .bf16) (x2 : Vec F S768x512 .f32) (x3 : Vec F S768x56 .f32) (x4 : Vec F S768x56 .f32) (x5 : Vec F S768x56 .f32) (x6 : Vec F S768x56 .f32) : Vec F S768x56 .f32 :=
  VO3_8.read (Elt F) (VO3_8.writes (Elt F) VO3_8.junk (kernelRun3_A c i arg2 harg2 arg3 harg3 arg4 harg4 arg5 harg5 arg6 harg6 arg7 harg7 arg8 harg8 arg9 harg9 arg10 harg10 arg11 harg11 hc0 hc1 x0 x1 x2 x3 x4 x5 x6).2.1)

/-- Case A's pieces for scratch `arg11`, which the kernel carries between points, cover it: 5 pieces of `S768x56` tiling it (Lib/Ring.lean `Piece.tiledL`). -/
theorem scover3_A_0 (c : Dev nD) (i : grid3.Coords) (arg2 : Memref sig .tc .vmem S768x6144 .bf16) (harg2 : arg2.IsWhole) (arg3 : Memref sig .tc .vmem S6144x512 .bf16) (harg3 : arg3.IsWhole) (arg4 : Memref sig .tc .vmem S768x512 .f32) (harg4 : arg4.IsWhole) (arg5 : Memref sig .tc .vmem S768x56 .f32) (harg5 : arg5.IsWhole) (arg6 : Memref sig .tc .vmem S768x56 .f32) (harg6 : arg6.IsWhole) (arg7 : Memref sig .tc .vmem S768x56 .f32) (harg7 : arg7.IsWhole) (arg8 : Memref sig .tc .vmem S768x56 .f32) (harg8 : arg8.IsWhole) (arg9 : Memref sig .tc .vmem S768x56 .f32) (harg9 : arg9.IsWhole) (arg10 : Memref sig .tc .vmem S768x56 .f32) (harg10 : arg10.IsWhole) (arg11 : Memref sig .tc .vmem S768x56 .f32) (harg11 : arg11.IsWhole) (hc0 : cond3_0 i) (hc1 : ¬cond3_1 i)
    (x0 : Vec F S768x6144 .bf16) (x1 : Vec F S6144x512 .bf16) (x2 : Vec F S768x512 .f32) (x3 : Vec F S768x56 .f32) (x4 : Vec F S768x56 .f32) (x5 : Vec F S768x56 .f32) (x6 : Vec F S768x56 .f32) (y : S768x56.Idx) :
    ∃ pc ∈ (kernelRun3_A c i arg2 harg2 arg3 harg3 arg4 harg4 arg5 harg5 arg6 harg6 arg7 harg7 arg8 harg8 arg9 harg9 arg10 harg10 arg11 harg11 hc0 hc1 x0 x1 x2 x3 x4 x5 x6).2.2.1, y ∈ pc.1.set :=
  View.cover_of_tiledL (kernelRun3_A c i arg2 harg2 arg3 harg3 arg4 harg4 arg5 harg5 arg6 harg6 arg7 harg7 arg8 harg8 arg9 harg9 arg10 harg10 arg11 harg11 hc0 hc1 x0 x1 x2 x3 x4 x5 x6).2.2.1 S768x56.size (by sl_kernel_rfl) y

/-- What case A leaves in scratch `arg11`: its pieces read back over junk. -/
def sout3_A_0 (c : Dev nD) (i : grid3.Coords) (arg2 : Memref sig .tc .vmem S768x6144 .bf16) (harg2 : arg2.IsWhole) (arg3 : Memref sig .tc .vmem S6144x512 .bf16) (harg3 : arg3.IsWhole) (arg4 : Memref sig .tc .vmem S768x512 .f32) (harg4 : arg4.IsWhole) (arg5 : Memref sig .tc .vmem S768x56 .f32) (harg5 : arg5.IsWhole) (arg6 : Memref sig .tc .vmem S768x56 .f32) (harg6 : arg6.IsWhole) (arg7 : Memref sig .tc .vmem S768x56 .f32) (harg7 : arg7.IsWhole) (arg8 : Memref sig .tc .vmem S768x56 .f32) (harg8 : arg8.IsWhole) (arg9 : Memref sig .tc .vmem S768x56 .f32) (harg9 : arg9.IsWhole) (arg10 : Memref sig .tc .vmem S768x56 .f32) (harg10 : arg10.IsWhole) (arg11 : Memref sig .tc .vmem S768x56 .f32) (harg11 : arg11.IsWhole) (hc0 : cond3_0 i) (hc1 : ¬cond3_1 i)
    (x0 : Vec F S768x6144 .bf16) (x1 : Vec F S6144x512 .bf16) (x2 : Vec F S768x512 .f32) (x3 : Vec F S768x56 .f32) (x4 : Vec F S768x56 .f32) (x5 : Vec F S768x56 .f32) (x6 : Vec F S768x56 .f32) : Vec F S768x56 .f32 :=
  VS3_0.read (Elt F) (VS3_0.writes (Elt F) VS3_0.junk (kernelRun3_A c i arg2 harg2 arg3 harg3 arg4 harg4 arg5 harg5 arg6 harg6 arg7 harg7 arg8 harg8 arg9 harg9 arg10 harg10 arg11 harg11 hc0 hc1 x0 x1 x2 x3 x4 x5 x6).2.2.1)

-- (the run's proof term is large: the definition's epilogue — `abstractNestedProofs` — walks it past the default budget)
set_option maxHeartbeats 1000000 in
/-- What the body's stores leave in each output's staging memref, as pieces (last first) IN CASE B (`scf.if` 0 not taken, `scf.if` 1 not taken: points 1, 2, … 334: 288 of 336), WITH the
    proof that on whole staging memrefs — the inputs' at their contents, the outputs it leaves idle (7, 8: no store, the window idle and not written back at the case's points) at contents `xi·` handed back untouched, the other outputs' at
    anything, a carried scratch at the contents the point before left (`xs·`) or at anything, the other scratch at anything, the body runs to the continuation holding the inputs' as they were,
    a carried scratch it stored into with its pieces written (`LS·`), the other scratch at some contents, each output's buffer with its pieces written: the printed functions are their skeletons
    (`Gen.*_eq_skeleton`), which `sl_exec` runs (Lib/Exec.lean) — each `scf.if` decided by the case's hypotheses `hc·`; the pieces are
    the witness that run finds (assigned when `iexact` hands the buffer to the continuation). -/
noncomputable def kernelRun3_B (c : Dev nD) (i : grid3.Coords) (arg2 : Memref sig .tc .vmem S768x6144 .bf16) (harg2 : arg2.IsWhole) (arg3 : Memref sig .tc .vmem S6144x512 .bf16) (harg3 : arg3.IsWhole) (arg4 : Memref sig .tc .vmem S768x512 .f32) (harg4 : arg4.IsWhole) (arg5 : Memref sig .tc .vmem S768x56 .f32) (harg5 : arg5.IsWhole) (arg6 : Memref sig .tc .vmem S768x56 .f32) (harg6 : arg6.IsWhole) (arg7 : Memref sig .tc .vmem S768x56 .f32) (harg7 : arg7.IsWhole) (arg8 : Memref sig .tc .vmem S768x56 .f32) (harg8 : arg8.IsWhole) (arg9 : Memref sig .tc .vmem S768x56 .f32) (harg9 : arg9.IsWhole) (arg10 : Memref sig .tc .vmem S768x56 .f32) (harg10 : arg10.IsWhole) (arg11 : Memref sig .tc .vmem S768x56 .f32) (harg11 : arg11.IsWhole) (hc0 : ¬cond3_0 i) (hc1 : ¬cond3_1 i)
    (x0 : Vec F S768x6144 .bf16) (x1 : Vec F S6144x512 .bf16) (x2 : Vec F S768x512 .f32) (x3 : Vec F S768x56 .f32) (x4 : Vec F S768x56 .f32) (x5 : Vec F S768x56 .f32) (x6 : Vec F S768x56 .f32) (xs0 : Vec F S768x56 .f32) :
    Σ' (L7 : List (View.Piece (Elt F) S768x56 .f32)), Σ' (L8 : List (View.Piece (Elt F) S768x56 .f32)), { LS0 : List (View.Piece (Elt F) S768x56 .f32) //
      ∀ (xi7 : Vec F S768x56 .f32) (xi8 : Vec F S768x56 .f32) (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare xi7 ∗ owns (c : Thread nD τ) arg10 fullShare xi8 ∗ owns (c : Thread nD τ) arg11 fullShare xs0
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare xi7 ∗ owns (c : Thread nD τ) arg10 fullShare xi8 ∗ (∃ f, arg11.view.loc (c : Thread nD τ) ↦[arg11.view.set]{fullShare} arg11.view.writes (Elt F) f LS0)) -∗ K ⟨⟩))
          ⊢ wp frame (wpE (defs₀ (F := F)) Variants.none c none) E (cc3_backward i arg2 harg2 arg3 harg3 arg4 harg4 arg5 harg5 arg6 harg6 arg7 harg7 arg8 harg8 arg9 harg9 arg10 harg10 arg11 harg11) K } := by
  refine ⟨[], [], ?_, fun xi7 xi8 E K => ?run⟩
  case run =>
    simp only [cc3_backward_eq_skeleton]; unfold cc3_backward_skel
    simp only [k3_part1_eq_skeleton, k3_part2_eq_skeleton, k3_part3_eq_skeleton, k3_part4_eq_skeleton, k3_part5_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%fs0, %hfs0, HS0⟩, Hk⟩
    obtain rfl := harg2.eq_unread hf0; obtain rfl := harg3.eq_unread hf1; obtain rfl := harg4.eq_unread hf2; obtain rfl := harg5.eq_unread hf3; obtain rfl := harg6.eq_unread hf4; obtain rfl := harg7.eq_unread hf5; obtain rfl := harg8.eq_unread hf6; obtain rfl := harg9.eq_unread hf7; obtain rfl := harg10.eq_unread hf8; obtain rfl := harg11.eq_unread hfs0
    sl_exec (disch := first | sl_exact hc0 | sl_exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; · ipureintro; exact harg7.read_unread _
      iexact H5
    isplitl [H6]
    · iexists _; isplitr; · ipureintro; exact harg8.read_unread _
      iexact H6
    isplitl [H7]
    · iexists _; isplitr; · ipureintro; exact harg9.read_unread _
      iexact H7
    isplitl [H8]
    · iexists _; isplitr; · ipureintro; exact harg10.read_unread _
      iexact H8
    iexists _; iexact HS0

/-- Case B stores nothing into output 7 (the window is idle at its points and not written back there):
    no pieces — a placeholder (junk read back) that nothing consults, since at these points the window is neither
    written back nor read at the next point (Lib/Pipeline.lean "Idle points"). -/
def out3_B_7 (c : Dev nD) (i : grid3.Coords) (arg2 : Memref sig .tc .vmem S768x6144 .bf16) (harg2 : arg2.IsWhole) (arg3 : Memref sig .tc .vmem S6144x512 .bf16) (harg3 : arg3.IsWhole) (arg4 : Memref sig .tc .vmem S768x512 .f32) (harg4 : arg4.IsWhole) (arg5 : Memref sig .tc .vmem S768x56 .f32) (harg5 : arg5.IsWhole) (arg6 : Memref sig .tc .vmem S768x56 .f32) (harg6 : arg6.IsWhole) (arg7 : Memref sig .tc .vmem S768x56 .f32) (harg7 : arg7.IsWhole) (arg8 : Memref sig .tc .vmem S768x56 .f32) (harg8 : arg8.IsWhole) (arg9 : Memref sig .tc .vmem S768x56 .f32) (harg9 : arg9.IsWhole) (arg10 : Memref sig .tc .vmem S768x56 .f32) (harg10 : arg10.IsWhole) (arg11 : Memref sig .tc .vmem S768x56 .f32) (harg11 : arg11.IsWhole) (hc0 : ¬cond3_0 i) (hc1 : ¬cond3_1 i)
    (x0 : Vec F S768x6144 .bf16) (x1 : Vec F S6144x512 .bf16) (x2 : Vec F S768x512 .f32) (x3 : Vec F S768x56 .f32) (x4 : Vec F S768x56 .f32) (x5 : Vec F S768x56 .f32) (x6 : Vec F S768x56 .f32) (xs0 : Vec F S768x56 .f32) : Vec F S768x56 .f32 :=
  VO3_7.read (Elt F) (VO3_7.writes (Elt F) VO3_7.junk (kernelRun3_B c i arg2 harg2 arg3 harg3 arg4 harg4 arg5 harg5 arg6 harg6 arg7 harg7 arg8 harg8 arg9 harg9 arg10 harg10 arg11 harg11 hc0 hc1 x0 x1 x2 x3 x4 x5 x6 xs0).1)

/-- Case B stores nothing into output 8 (the window is idle at its points and not written back there):
    no pieces — a placeholder (junk read back) that nothing consults, since at these points the window is neither
    written back nor read at the next point (Lib/Pipeline.lean "Idle points"). -/
def out3_B_8 (c : Dev nD) (i : grid3.Coords) (arg2 : Memref sig .tc .vmem S768x6144 .bf16) (harg2 : arg2.IsWhole) (arg3 : Memref sig .tc .vmem S6144x512 .bf16) (harg3 : arg3.IsWhole) (arg4 : Memref sig .tc .vmem S768x512 .f32) (harg4 : arg4.IsWhole) (arg5 : Memref sig .tc .vmem S768x56 .f32) (harg5 : arg5.IsWhole) (arg6 : Memref sig .tc .vmem S768x56 .f32) (harg6 : arg6.IsWhole) (arg7 : Memref sig .tc .vmem S768x56 .f32) (harg7 : arg7.IsWhole) (arg8 : Memref sig .tc .vmem S768x56 .f32) (harg8 : arg8.IsWhole) (arg9 : Memref sig .tc .vmem S768x56 .f32) (harg9 : arg9.IsWhole) (arg10 : Memref sig .tc .vmem S768x56 .f32) (harg10 : arg10.IsWhole) (arg11 : Memref sig .tc .vmem S768x56 .f32) (harg11 : arg11.IsWhole) (hc0 : ¬cond3_0 i) (hc1 : ¬cond3_1 i)
    (x0 : Vec F S768x6144 .bf16) (x1 : Vec F S6144x512 .bf16) (x2 : Vec F S768x512 .f32) (x3 : Vec F S768x56 .f32) (x4 : Vec F S768x56 .f32) (x5 : Vec F S768x56 .f32) (x6 : Vec F S768x56 .f32) (xs0 : Vec F S768x56 .f32) : Vec F S768x56 .f32 :=
  VO3_8.read (Elt F) (VO3_8.writes (Elt F) VO3_8.junk (kernelRun3_B c i arg2 harg2 arg3 harg3 arg4 harg4 arg5 harg5 arg6 harg6 arg7 harg7 arg8 harg8 arg9 harg9 arg10 harg10 arg11 harg11 hc0 hc1 x0 x1 x2 x3 x4 x5 x6 xs0).2.1)

/-- Case B's pieces for scratch `arg11`, which the kernel carries between points, cover it: 4 pieces of `S768x56` tiling it (Lib/Ring.lean `Piece.tiledL`). -/
theorem scover3_B_0 (c : Dev nD) (i : grid3.Coords) (arg2 : Memref sig .tc .vmem S768x6144 .bf16) (harg2 : arg2.IsWhole) (arg3 : Memref sig .tc .vmem S6144x512 .bf16) (harg3 : arg3.IsWhole) (arg4 : Memref sig .tc .vmem S768x512 .f32) (harg4 : arg4.IsWhole) (arg5 : Memref sig .tc .vmem S768x56 .f32) (harg5 : arg5.IsWhole) (arg6 : Memref sig .tc .vmem S768x56 .f32) (harg6 : arg6.IsWhole) (arg7 : Memref sig .tc .vmem S768x56 .f32) (harg7 : arg7.IsWhole) (arg8 : Memref sig .tc .vmem S768x56 .f32) (harg8 : arg8.IsWhole) (arg9 : Memref sig .tc .vmem S768x56 .f32) (harg9 : arg9.IsWhole) (arg10 : Memref sig .tc .vmem S768x56 .f32) (harg10 : arg10.IsWhole) (arg11 : Memref sig .tc .vmem S768x56 .f32) (harg11 : arg11.IsWhole) (hc0 : ¬cond3_0 i) (hc1 : ¬cond3_1 i)
    (x0 : Vec F S768x6144 .bf16) (x1 : Vec F S6144x512 .bf16) (x2 : Vec F S768x512 .f32) (x3 : Vec F S768x56 .f32) (x4 : Vec F S768x56 .f32) (x5 : Vec F S768x56 .f32) (x6 : Vec F S768x56 .f32) (xs0 : Vec F S768x56 .f32) (y : S768x56.Idx) :
    ∃ pc ∈ (kernelRun3_B c i arg2 harg2 arg3 harg3 arg4 harg4 arg5 harg5 arg6 harg6 arg7 harg7 arg8 harg8 arg9 harg9 arg10 harg10 arg11 harg11 hc0 hc1 x0 x1 x2 x3 x4 x5 x6 xs0).2.2.1, y ∈ pc.1.set :=
  View.cover_of_tiledL (kernelRun3_B c i arg2 harg2 arg3 harg3 arg4 harg4 arg5 harg5 arg6 harg6 arg7 harg7 arg8 harg8 arg9 harg9 arg10 harg10 arg11 harg11 hc0 hc1 x0 x1 x2 x3 x4 x5 x6 xs0).2.2.1 S768x56.size (by sl_kernel_rfl) y

/-- What case B leaves in scratch `arg11`: its pieces read back over junk. -/
def sout3_B_0 (c : Dev nD) (i : grid3.Coords) (arg2 : Memref sig .tc .vmem S768x6144 .bf16) (harg2 : arg2.IsWhole) (arg3 : Memref sig .tc .vmem S6144x512 .bf16) (harg3 : arg3.IsWhole) (arg4 : Memref sig .tc .vmem S768x512 .f32) (harg4 : arg4.IsWhole) (arg5 : Memref sig .tc .vmem S768x56 .f32) (harg5 : arg5.IsWhole) (arg6 : Memref sig .tc .vmem S768x56 .f32) (harg6 : arg6.IsWhole) (arg7 : Memref sig .tc .vmem S768x56 .f32) (harg7 : arg7.IsWhole) (arg8 : Memref sig .tc .vmem S768x56 .f32) (harg8 : arg8.IsWhole) (arg9 : Memref sig .tc .vmem S768x56 .f32) (harg9 : arg9.IsWhole) (arg10 : Memref sig .tc .vmem S768x56 .f32) (harg10 : arg10.IsWhole) (arg11 : Memref sig .tc .vmem S768x56 .f32) (harg11 : arg11.IsWhole) (hc0 : ¬cond3_0 i) (hc1 : ¬cond3_1 i)
    (x0 : Vec F S768x6144 .bf16) (x1 : Vec F S6144x512 .bf16) (x2 : Vec F S768x512 .f32) (x3 : Vec F S768x56 .f32) (x4 : Vec F S768x56 .f32) (x5 : Vec F S768x56 .f32) (x6 : Vec F S768x56 .f32) (xs0 : Vec F S768x56 .f32) : Vec F S768x56 .f32 :=
  VS3_0.read (Elt F) (VS3_0.writes (Elt F) VS3_0.junk (kernelRun3_B c i arg2 harg2 arg3 harg3 arg4 harg4 arg5 harg5 arg6 harg6 arg7 harg7 arg8 harg8 arg9 harg9 arg10 harg10 arg11 harg11 hc0 hc1 x0 x1 x2 x3 x4 x5 x6 xs0).2.2.1)

-- (the run's proof term is large: the definition's epilogue — `abstractNestedProofs` — walks it past the default budget)
set_option maxHeartbeats 1000000 in
/-- What the body's stores leave in each output's staging memref, as pieces (last first) IN CASE C (`scf.if` 0 not taken, `scf.if` 1 taken: points 13, 27, … 335: 24 of 336), WITH the
    proof that on whole staging memrefs — the inputs' at their contents, the other outputs' at
    anything, a carried scratch at the contents the point before left (`xs·`) or at anything, the other scratch at anything, the body runs to the continuation holding the inputs' as they were,
    a carried scratch it stored into with its pieces written (`LS·`), the other scratch at some contents, each output's buffer with its pieces written: the printed functions are their skeletons
    (`Gen.*_eq_skeleton`), which `sl_exec` runs (Lib/Exec.lean) — each `scf.if` decided by the case's hypotheses `hc·`; the pieces are
    the witness that run finds (assigned when `iexact` hands the buffer to the continuation). -/
noncomputable def kernelRun3_C (c : Dev nD) (i : grid3.Coords) (arg2 : Memref sig .tc .vmem S768x6144 .bf16) (harg2 : arg2.IsWhole) (arg3 : Memref sig .tc .vmem S6144x512 .bf16) (harg3 : arg3.IsWhole) (arg4 : Memref sig .tc .vmem S768x512 .f32) (harg4 : arg4.IsWhole) (arg5 : Memref sig .tc .vmem S768x56 .f32) (harg5 : arg5.IsWhole) (arg6 : Memref sig .tc .vmem S768x56 .f32) (harg6 : arg6.IsWhole) (arg7 : Memref sig .tc .vmem S768x56 .f32) (harg7 : arg7.IsWhole) (arg8 : Memref sig .tc .vmem S768x56 .f32) (harg8 : arg8.IsWhole) (arg9 : Memref sig .tc .vmem S768x56 .f32) (harg9 : arg9.IsWhole) (arg10 : Memref sig .tc .vmem S768x56 .f32) (harg10 : arg10.IsWhole) (arg11 : Memref sig .tc .vmem S768x56 .f32) (harg11 : arg11.IsWhole) (hc0 : ¬cond3_0 i) (hc1 : cond3_1 i)
    (x0 : Vec F S768x6144 .bf16) (x1 : Vec F S6144x512 .bf16) (x2 : Vec F S768x512 .f32) (x3 : Vec F S768x56 .f32) (x4 : Vec F S768x56 .f32) (x5 : Vec F S768x56 .f32) (x6 : Vec F S768x56 .f32) (xs0 : Vec F S768x56 .f32) :
    Σ' (L7 : List (View.Piece (Elt F) S768x56 .f32)), Σ' (L8 : List (View.Piece (Elt F) S768x56 .f32)), { LS0 : List (View.Piece (Elt F) S768x56 .f32) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ (∃ d, owns (c : Thread nD τ) arg9 fullShare d) ∗ (∃ d, owns (c : Thread nD τ) arg10 fullShare d) ∗ owns (c : Thread nD τ) arg11 fullShare xs0
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ (∃ f, arg9.view.loc (c : Thread nD τ) ↦[arg9.view.set]{fullShare} arg9.view.writes (Elt F) f L7) ∗ (∃ f, arg10.view.loc (c : Thread nD τ) ↦[arg10.view.set]{fullShare} arg10.view.writes (Elt F) f L8) ∗ (∃ f, arg11.view.loc (c : Thread nD τ) ↦[arg11.view.set]{fullShare} arg11.view.writes (Elt F) f LS0)) -∗ K ⟨⟩))
          ⊢ wp frame (wpE (defs₀ (F := F)) Variants.none c none) E (cc3_backward i arg2 harg2 arg3 harg3 arg4 harg4 arg5 harg5 arg6 harg6 arg7 harg7 arg8 harg8 arg9 harg9 arg10 harg10 arg11 harg11) K } := by
  refine ⟨?_, ?_, ?_, fun E K => ?run⟩
  case run =>
    simp only [cc3_backward_eq_skeleton]; unfold cc3_backward_skel
    simp only [k3_part1_eq_skeleton, k3_part2_eq_skeleton, k3_part3_eq_skeleton, k3_part4_eq_skeleton, k3_part5_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%d7, %f7, -, H7⟩, ⟨%d8, %f8, -, H8⟩, ⟨%fs0, %hfs0, HS0⟩, Hk⟩
    obtain rfl := harg2.eq_unread hf0; obtain rfl := harg3.eq_unread hf1; obtain rfl := harg4.eq_unread hf2; obtain rfl := harg5.eq_unread hf3; obtain rfl := harg6.eq_unread hf4; obtain rfl := harg7.eq_unread hf5; obtain rfl := harg8.eq_unread hf6; obtain rfl := harg11.eq_unread hfs0
    sl_exec (disch := first | sl_exact hc0 | sl_exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; · ipureintro; exact harg7.read_unread _
      iexact H5
    isplitl [H6]
    · iexists _; isplitr; · ipureintro; exact harg8.read_unread _
      iexact H6
    isplitl [H7]; · iexists _; iexact H7
    isplitl [H8]; · iexists _; iexact H8
    iexists _; iexact HS0

/-- Case C's pieces for output 7 tile its block (1 store of `S768x56`, checked by the kernel's evaluation: Lib/Ring.lean `Piece.tiledL`, linear in the pieces, through a loop's `@[irreducible]` trip theorem too), so they cover it. -/
theorem cover3_C_7 (c : Dev nD) (i : grid3.Coords) (arg2 : Memref sig .tc .vmem S768x6144 .bf16) (harg2 : arg2.IsWhole) (arg3 : Memref sig .tc .vmem S6144x512 .bf16) (harg3 : arg3.IsWhole) (arg4 : Memref sig .tc .vmem S768x512 .f32) (harg4 : arg4.IsWhole) (arg5 : Memref sig .tc .vmem S768x56 .f32) (harg5 : arg5.IsWhole) (arg6 : Memref sig .tc .vmem S768x56 .f32) (harg6 : arg6.IsWhole) (arg7 : Memref sig .tc .vmem S768x56 .f32) (harg7 : arg7.IsWhole) (arg8 : Memref sig .tc .vmem S768x56 .f32) (harg8 : arg8.IsWhole) (arg9 : Memref sig .tc .vmem S768x56 .f32) (harg9 : arg9.IsWhole) (arg10 : Memref sig .tc .vmem S768x56 .f32) (harg10 : arg10.IsWhole) (arg11 : Memref sig .tc .vmem S768x56 .f32) (harg11 : arg11.IsWhole) (hc0 : ¬cond3_0 i) (hc1 : cond3_1 i)
    (x0 : Vec F S768x6144 .bf16) (x1 : Vec F S6144x512 .bf16) (x2 : Vec F S768x512 .f32) (x3 : Vec F S768x56 .f32) (x4 : Vec F S768x56 .f32) (x5 : Vec F S768x56 .f32) (x6 : Vec F S768x56 .f32) (xs0 : Vec F S768x56 .f32) (y : S768x56.Idx) :
    ∃ pc ∈ (kernelRun3_C c i arg2 harg2 arg3 harg3 arg4 harg4 arg5 harg5 arg6 harg6 arg7 harg7 arg8 harg8 arg9 harg9 arg10 harg10 arg11 harg11 hc0 hc1 x0 x1 x2 x3 x4 x5 x6 xs0).1, y ∈ pc.1.set :=
  View.cover_of_tiledL (kernelRun3_C c i arg2 harg2 arg3 harg3 arg4 harg4 arg5 harg5 arg6 harg6 arg7 harg7 arg8 harg8 arg9 harg9 arg10 harg10 arg11 harg11 hc0 hc1 x0 x1 x2 x3 x4 x5 x6 xs0).1 S768x56.size (by sl_kernel_rfl) y

/-- What case C leaves in output 7's staging buffer: its pieces read back over junk. -/
def out3_C_7 (c : Dev nD) (i : grid3.Coords) (arg2 : Memref sig .tc .vmem S768x6144 .bf16) (harg2 : arg2.IsWhole) (arg3 : Memref sig .tc .vmem S6144x512 .bf16) (harg3 : arg3.IsWhole) (arg4 : Memref sig .tc .vmem S768x512 .f32) (harg4 : arg4.IsWhole) (arg5 : Memref sig .tc .vmem S768x56 .f32) (harg5 : arg5.IsWhole) (arg6 : Memref sig .tc .vmem S768x56 .f32) (harg6 : arg6.IsWhole) (arg7 : Memref sig .tc .vmem S768x56 .f32) (harg7 : arg7.IsWhole) (arg8 : Memref sig .tc .vmem S768x56 .f32) (harg8 : arg8.IsWhole) (arg9 : Memref sig .tc .vmem S768x56 .f32) (harg9 : arg9.IsWhole) (arg10 : Memref sig .tc .vmem S768x56 .f32) (harg10 : arg10.IsWhole) (arg11 : Memref sig .tc .vmem S768x56 .f32) (harg11 : arg11.IsWhole) (hc0 : ¬cond3_0 i) (hc1 : cond3_1 i)
    (x0 : Vec F S768x6144 .bf16) (x1 : Vec F S6144x512 .bf16) (x2 : Vec F S768x512 .f32) (x3 : Vec F S768x56 .f32) (x4 : Vec F S768x56 .f32) (x5 : Vec F S768x56 .f32) (x6 : Vec F S768x56 .f32) (xs0 : Vec F S768x56 .f32) : Vec F S768x56 .f32 :=
  VO3_7.read (Elt F) (VO3_7.writes (Elt F) VO3_7.junk (kernelRun3_C c i arg2 harg2 arg3 harg3 arg4 harg4 arg5 harg5 arg6 harg6 arg7 harg7 arg8 harg8 arg9 harg9 arg10 harg10 arg11 harg11 hc0 hc1 x0 x1 x2 x3 x4 x5 x6 xs0).1)

/-- Case C's pieces for output 8 tile its block (1 store of `S768x56`, checked by the kernel's evaluation: Lib/Ring.lean `Piece.tiledL`, linear in the pieces, through a loop's `@[irreducible]` trip theorem too), so they cover it. -/
theorem cover3_C_8 (c : Dev nD) (i : grid3.Coords) (arg2 : Memref sig .tc .vmem S768x6144 .bf16) (harg2 : arg2.IsWhole) (arg3 : Memref sig .tc .vmem S6144x512 .bf16) (harg3 : arg3.IsWhole) (arg4 : Memref sig .tc .vmem S768x512 .f32) (harg4 : arg4.IsWhole) (arg5 : Memref sig .tc .vmem S768x56 .f32) (harg5 : arg5.IsWhole) (arg6 : Memref sig .tc .vmem S768x56 .f32) (harg6 : arg6.IsWhole) (arg7 : Memref sig .tc .vmem S768x56 .f32) (harg7 : arg7.IsWhole) (arg8 : Memref sig .tc .vmem S768x56 .f32) (harg8 : arg8.IsWhole) (arg9 : Memref sig .tc .vmem S768x56 .f32) (harg9 : arg9.IsWhole) (arg10 : Memref sig .tc .vmem S768x56 .f32) (harg10 : arg10.IsWhole) (arg11 : Memref sig .tc .vmem S768x56 .f32) (harg11 : arg11.IsWhole) (hc0 : ¬cond3_0 i) (hc1 : cond3_1 i)
    (x0 : Vec F S768x6144 .bf16) (x1 : Vec F S6144x512 .bf16) (x2 : Vec F S768x512 .f32) (x3 : Vec F S768x56 .f32) (x4 : Vec F S768x56 .f32) (x5 : Vec F S768x56 .f32) (x6 : Vec F S768x56 .f32) (xs0 : Vec F S768x56 .f32) (y : S768x56.Idx) :
    ∃ pc ∈ (kernelRun3_C c i arg2 harg2 arg3 harg3 arg4 harg4 arg5 harg5 arg6 harg6 arg7 harg7 arg8 harg8 arg9 harg9 arg10 harg10 arg11 harg11 hc0 hc1 x0 x1 x2 x3 x4 x5 x6 xs0).2.1, y ∈ pc.1.set :=
  View.cover_of_tiledL (kernelRun3_C c i arg2 harg2 arg3 harg3 arg4 harg4 arg5 harg5 arg6 harg6 arg7 harg7 arg8 harg8 arg9 harg9 arg10 harg10 arg11 harg11 hc0 hc1 x0 x1 x2 x3 x4 x5 x6 xs0).2.1 S768x56.size (by sl_kernel_rfl) y

/-- What case C leaves in output 8's staging buffer: its pieces read back over junk. -/
def out3_C_8 (c : Dev nD) (i : grid3.Coords) (arg2 : Memref sig .tc .vmem S768x6144 .bf16) (harg2 : arg2.IsWhole) (arg3 : Memref sig .tc .vmem S6144x512 .bf16) (harg3 : arg3.IsWhole) (arg4 : Memref sig .tc .vmem S768x512 .f32) (harg4 : arg4.IsWhole) (arg5 : Memref sig .tc .vmem S768x56 .f32) (harg5 : arg5.IsWhole) (arg6 : Memref sig .tc .vmem S768x56 .f32) (harg6 : arg6.IsWhole) (arg7 : Memref sig .tc .vmem S768x56 .f32) (harg7 : arg7.IsWhole) (arg8 : Memref sig .tc .vmem S768x56 .f32) (harg8 : arg8.IsWhole) (arg9 : Memref sig .tc .vmem S768x56 .f32) (harg9 : arg9.IsWhole) (arg10 : Memref sig .tc .vmem S768x56 .f32) (harg10 : arg10.IsWhole) (arg11 : Memref sig .tc .vmem S768x56 .f32) (harg11 : arg11.IsWhole) (hc0 : ¬cond3_0 i) (hc1 : cond3_1 i)
    (x0 : Vec F S768x6144 .bf16) (x1 : Vec F S6144x512 .bf16) (x2 : Vec F S768x512 .f32) (x3 : Vec F S768x56 .f32) (x4 : Vec F S768x56 .f32) (x5 : Vec F S768x56 .f32) (x6 : Vec F S768x56 .f32) (xs0 : Vec F S768x56 .f32) : Vec F S768x56 .f32 :=
  VO3_8.read (Elt F) (VO3_8.writes (Elt F) VO3_8.junk (kernelRun3_C c i arg2 harg2 arg3 harg3 arg4 harg4 arg5 harg5 arg6 harg6 arg7 harg7 arg8 harg8 arg9 harg9 arg10 harg10 arg11 harg11 hc0 hc1 x0 x1 x2 x3 x4 x5 x6 xs0).2.1)

/-- Case C's pieces for scratch `arg11`, which the kernel carries between points, cover it: 4 pieces of `S768x56` tiling it (Lib/Ring.lean `Piece.tiledL`). -/
theorem scover3_C_0 (c : Dev nD) (i : grid3.Coords) (arg2 : Memref sig .tc .vmem S768x6144 .bf16) (harg2 : arg2.IsWhole) (arg3 : Memref sig .tc .vmem S6144x512 .bf16) (harg3 : arg3.IsWhole) (arg4 : Memref sig .tc .vmem S768x512 .f32) (harg4 : arg4.IsWhole) (arg5 : Memref sig .tc .vmem S768x56 .f32) (harg5 : arg5.IsWhole) (arg6 : Memref sig .tc .vmem S768x56 .f32) (harg6 : arg6.IsWhole) (arg7 : Memref sig .tc .vmem S768x56 .f32) (harg7 : arg7.IsWhole) (arg8 : Memref sig .tc .vmem S768x56 .f32) (harg8 : arg8.IsWhole) (arg9 : Memref sig .tc .vmem S768x56 .f32) (harg9 : arg9.IsWhole) (arg10 : Memref sig .tc .vmem S768x56 .f32) (harg10 : arg10.IsWhole) (arg11 : Memref sig .tc .vmem S768x56 .f32) (harg11 : arg11.IsWhole) (hc0 : ¬cond3_0 i) (hc1 : cond3_1 i)
    (x0 : Vec F S768x6144 .bf16) (x1 : Vec F S6144x512 .bf16) (x2 : Vec F S768x512 .f32) (x3 : Vec F S768x56 .f32) (x4 : Vec F S768x56 .f32) (x5 : Vec F S768x56 .f32) (x6 : Vec F S768x56 .f32) (xs0 : Vec F S768x56 .f32) (y : S768x56.Idx) :
    ∃ pc ∈ (kernelRun3_C c i arg2 harg2 arg3 harg3 arg4 harg4 arg5 harg5 arg6 harg6 arg7 harg7 arg8 harg8 arg9 harg9 arg10 harg10 arg11 harg11 hc0 hc1 x0 x1 x2 x3 x4 x5 x6 xs0).2.2.1, y ∈ pc.1.set :=
  View.cover_of_tiledL (kernelRun3_C c i arg2 harg2 arg3 harg3 arg4 harg4 arg5 harg5 arg6 harg6 arg7 harg7 arg8 harg8 arg9 harg9 arg10 harg10 arg11 harg11 hc0 hc1 x0 x1 x2 x3 x4 x5 x6 xs0).2.2.1 S768x56.size (by sl_kernel_rfl) y

/-- What case C leaves in scratch `arg11`: its pieces read back over junk. -/
def sout3_C_0 (c : Dev nD) (i : grid3.Coords) (arg2 : Memref sig .tc .vmem S768x6144 .bf16) (harg2 : arg2.IsWhole) (arg3 : Memref sig .tc .vmem S6144x512 .bf16) (harg3 : arg3.IsWhole) (arg4 : Memref sig .tc .vmem S768x512 .f32) (harg4 : arg4.IsWhole) (arg5 : Memref sig .tc .vmem S768x56 .f32) (harg5 : arg5.IsWhole) (arg6 : Memref sig .tc .vmem S768x56 .f32) (harg6 : arg6.IsWhole) (arg7 : Memref sig .tc .vmem S768x56 .f32) (harg7 : arg7.IsWhole) (arg8 : Memref sig .tc .vmem S768x56 .f32) (harg8 : arg8.IsWhole) (arg9 : Memref sig .tc .vmem S768x56 .f32) (harg9 : arg9.IsWhole) (arg10 : Memref sig .tc .vmem S768x56 .f32) (harg10 : arg10.IsWhole) (arg11 : Memref sig .tc .vmem S768x56 .f32) (harg11 : arg11.IsWhole) (hc0 : ¬cond3_0 i) (hc1 : cond3_1 i)
    (x0 : Vec F S768x6144 .bf16) (x1 : Vec F S6144x512 .bf16) (x2 : Vec F S768x512 .f32) (x3 : Vec F S768x56 .f32) (x4 : Vec F S768x56 .f32) (x5 : Vec F S768x56 .f32) (x6 : Vec F S768x56 .f32) (xs0 : Vec F S768x56 .f32) : Vec F S768x56 .f32 :=
  VS3_0.read (Elt F) (VS3_0.writes (Elt F) VS3_0.junk (kernelRun3_C c i arg2 harg2 arg3 harg3 arg4 harg4 arg5 harg5 arg6 harg6 arg7 harg7 arg8 harg8 arg9 harg9 arg10 harg10 arg11 harg11 hc0 hc1 x0 x1 x2 x3 x4 x5 x6 xs0).2.2.1)

/-! ## What the outputs hold after each point -/

/-- THE ACCUMULATION. What the outputs' staging buffers and the scratch the kernel carries between points hold after the body at position `n` (a tuple: the outputs in window order, then the scratch):
    the case the closed forms select at `n`, run at the point's memrefs and input blocks, an output it reads before covering
    at what this leaves at `n - 1` (its buffer is not written back between: `before3_W_κ`). An assignment of the conditions no point meets is no case (`False.elim`). -/
def outsAt3 (c : Dev nD) : (n : ℕ) → n < cfg3.N → Vec F S768x56 .f32 × Vec F S768x56 .f32 × Vec F S768x56 .f32
  | 0, hn => (out3_A_7 c (grid3.coords ⟨0, hn⟩) (ms3_0 ⟨0, hn⟩) (hs3_0 ⟨0, hn⟩) (ms3_1 ⟨0, hn⟩) (hs3_1 ⟨0, hn⟩) (ms3_2 ⟨0, hn⟩) (hs3_2 ⟨0, hn⟩) (ms3_3 ⟨0, hn⟩) (hs3_3 ⟨0, hn⟩) (ms3_4 ⟨0, hn⟩) (hs3_4 ⟨0, hn⟩) (ms3_5 ⟨0, hn⟩) (hs3_5 ⟨0, hn⟩) (ms3_6 ⟨0, hn⟩) (hs3_6 ⟨0, hn⟩) (ms3_7 ⟨0, hn⟩) (hs3_7 ⟨0, hn⟩) (ms3_8 ⟨0, hn⟩) (hs3_8 ⟨0, hn⟩) scM3_0 (Memref.isWhole_whole _) ((hcond3_0 ⟨0, hn⟩).mpr (Nat.zero_mod _)) (fun h => (fun h => by (try dsimp only at h); omega) ((hcond3_1 ⟨0, hn⟩).mp h)) (iblk3 V c 0 ⟨0, hn⟩) (iblk3 V c 1 ⟨0, hn⟩) (iblk3 V c 2 ⟨0, hn⟩) (iblk3 V c 3 ⟨0, hn⟩) (iblk3 V c 4 ⟨0, hn⟩) (iblk3 V c 5 ⟨0, hn⟩) (iblk3 V c 6 ⟨0, hn⟩), out3_A_8 c (grid3.coords ⟨0, hn⟩) (ms3_0 ⟨0, hn⟩) (hs3_0 ⟨0, hn⟩) (ms3_1 ⟨0, hn⟩) (hs3_1 ⟨0, hn⟩) (ms3_2 ⟨0, hn⟩) (hs3_2 ⟨0, hn⟩) (ms3_3 ⟨0, hn⟩) (hs3_3 ⟨0, hn⟩) (ms3_4 ⟨0, hn⟩) (hs3_4 ⟨0, hn⟩) (ms3_5 ⟨0, hn⟩) (hs3_5 ⟨0, hn⟩) (ms3_6 ⟨0, hn⟩) (hs3_6 ⟨0, hn⟩) (ms3_7 ⟨0, hn⟩) (hs3_7 ⟨0, hn⟩) (ms3_8 ⟨0, hn⟩) (hs3_8 ⟨0, hn⟩) scM3_0 (Memref.isWhole_whole _) ((hcond3_0 ⟨0, hn⟩).mpr (Nat.zero_mod _)) (fun h => (fun h => by (try dsimp only at h); omega) ((hcond3_1 ⟨0, hn⟩).mp h)) (iblk3 V c 0 ⟨0, hn⟩) (iblk3 V c 1 ⟨0, hn⟩) (iblk3 V c 2 ⟨0, hn⟩) (iblk3 V c 3 ⟨0, hn⟩) (iblk3 V c 4 ⟨0, hn⟩) (iblk3 V c 5 ⟨0, hn⟩) (iblk3 V c 6 ⟨0, hn⟩), sout3_A_0 c (grid3.coords ⟨0, hn⟩) (ms3_0 ⟨0, hn⟩) (hs3_0 ⟨0, hn⟩) (ms3_1 ⟨0, hn⟩) (hs3_1 ⟨0, hn⟩) (ms3_2 ⟨0, hn⟩) (hs3_2 ⟨0, hn⟩) (ms3_3 ⟨0, hn⟩) (hs3_3 ⟨0, hn⟩) (ms3_4 ⟨0, hn⟩) (hs3_4 ⟨0, hn⟩) (ms3_5 ⟨0, hn⟩) (hs3_5 ⟨0, hn⟩) (ms3_6 ⟨0, hn⟩) (hs3_6 ⟨0, hn⟩) (ms3_7 ⟨0, hn⟩) (hs3_7 ⟨0, hn⟩) (ms3_8 ⟨0, hn⟩) (hs3_8 ⟨0, hn⟩) scM3_0 (Memref.isWhole_whole _) ((hcond3_0 ⟨0, hn⟩).mpr (Nat.zero_mod _)) (fun h => (fun h => by (try dsimp only at h); omega) ((hcond3_1 ⟨0, hn⟩).mp h)) (iblk3 V c 0 ⟨0, hn⟩) (iblk3 V c 1 ⟨0, hn⟩) (iblk3 V c 2 ⟨0, hn⟩) (iblk3 V c 3 ⟨0, hn⟩) (iblk3 V c 4 ⟨0, hn⟩) (iblk3 V c 5 ⟨0, hn⟩) (iblk3 V c 6 ⟨0, hn⟩))
  | n + 1, hn =>
    if h0 : (n + 1) % 14 = 0 then
      if h1 : (n + 1) % 14 = 13 then
        False.elim (by have hN : n + 1 < 336 := lt_of_lt_of_eq hn (show cfg3.N = 336 from N_3); omega)
      else
        (out3_A_7 c (grid3.coords ⟨n + 1, hn⟩) (ms3_0 ⟨n + 1, hn⟩) (hs3_0 ⟨n + 1, hn⟩) (ms3_1 ⟨n + 1, hn⟩) (hs3_1 ⟨n + 1, hn⟩) (ms3_2 ⟨n + 1, hn⟩) (hs3_2 ⟨n + 1, hn⟩) (ms3_3 ⟨n + 1, hn⟩) (hs3_3 ⟨n + 1, hn⟩) (ms3_4 ⟨n + 1, hn⟩) (hs3_4 ⟨n + 1, hn⟩) (ms3_5 ⟨n + 1, hn⟩) (hs3_5 ⟨n + 1, hn⟩) (ms3_6 ⟨n + 1, hn⟩) (hs3_6 ⟨n + 1, hn⟩) (ms3_7 ⟨n + 1, hn⟩) (hs3_7 ⟨n + 1, hn⟩) (ms3_8 ⟨n + 1, hn⟩) (hs3_8 ⟨n + 1, hn⟩) scM3_0 (Memref.isWhole_whole _) ((hcond3_0 ⟨n + 1, hn⟩).mpr h0) (fun h => h1 ((hcond3_1 ⟨n + 1, hn⟩).mp h)) (iblk3 V c 0 ⟨n + 1, hn⟩) (iblk3 V c 1 ⟨n + 1, hn⟩) (iblk3 V c 2 ⟨n + 1, hn⟩) (iblk3 V c 3 ⟨n + 1, hn⟩) (iblk3 V c 4 ⟨n + 1, hn⟩) (iblk3 V c 5 ⟨n + 1, hn⟩) (iblk3 V c 6 ⟨n + 1, hn⟩), out3_A_8 c (grid3.coords ⟨n + 1, hn⟩) (ms3_0 ⟨n + 1, hn⟩) (hs3_0 ⟨n + 1, hn⟩) (ms3_1 ⟨n + 1, hn⟩) (hs3_1 ⟨n + 1, hn⟩) (ms3_2 ⟨n + 1, hn⟩) (hs3_2 ⟨n + 1, hn⟩) (ms3_3 ⟨n + 1, hn⟩) (hs3_3 ⟨n + 1, hn⟩) (ms3_4 ⟨n + 1, hn⟩) (hs3_4 ⟨n + 1, hn⟩) (ms3_5 ⟨n + 1, hn⟩) (hs3_5 ⟨n + 1, hn⟩) (ms3_6 ⟨n + 1, hn⟩) (hs3_6 ⟨n + 1, hn⟩) (ms3_7 ⟨n + 1, hn⟩) (hs3_7 ⟨n + 1, hn⟩) (ms3_8 ⟨n + 1, hn⟩) (hs3_8 ⟨n + 1, hn⟩) scM3_0 (Memref.isWhole_whole _) ((hcond3_0 ⟨n + 1, hn⟩).mpr h0) (fun h => h1 ((hcond3_1 ⟨n + 1, hn⟩).mp h)) (iblk3 V c 0 ⟨n + 1, hn⟩) (iblk3 V c 1 ⟨n + 1, hn⟩) (iblk3 V c 2 ⟨n + 1, hn⟩) (iblk3 V c 3 ⟨n + 1, hn⟩) (iblk3 V c 4 ⟨n + 1, hn⟩) (iblk3 V c 5 ⟨n + 1, hn⟩) (iblk3 V c 6 ⟨n + 1, hn⟩), sout3_A_0 c (grid3.coords ⟨n + 1, hn⟩) (ms3_0 ⟨n + 1, hn⟩) (hs3_0 ⟨n + 1, hn⟩) (ms3_1 ⟨n + 1, hn⟩) (hs3_1 ⟨n + 1, hn⟩) (ms3_2 ⟨n + 1, hn⟩) (hs3_2 ⟨n + 1, hn⟩) (ms3_3 ⟨n + 1, hn⟩) (hs3_3 ⟨n + 1, hn⟩) (ms3_4 ⟨n + 1, hn⟩) (hs3_4 ⟨n + 1, hn⟩) (ms3_5 ⟨n + 1, hn⟩) (hs3_5 ⟨n + 1, hn⟩) (ms3_6 ⟨n + 1, hn⟩) (hs3_6 ⟨n + 1, hn⟩) (ms3_7 ⟨n + 1, hn⟩) (hs3_7 ⟨n + 1, hn⟩) (ms3_8 ⟨n + 1, hn⟩) (hs3_8 ⟨n + 1, hn⟩) scM3_0 (Memref.isWhole_whole _) ((hcond3_0 ⟨n + 1, hn⟩).mpr h0) (fun h => h1 ((hcond3_1 ⟨n + 1, hn⟩).mp h)) (iblk3 V c 0 ⟨n + 1, hn⟩) (iblk3 V c 1 ⟨n + 1, hn⟩) (iblk3 V c 2 ⟨n + 1, hn⟩) (iblk3 V c 3 ⟨n + 1, hn⟩) (iblk3 V c 4 ⟨n + 1, hn⟩) (iblk3 V c 5 ⟨n + 1, hn⟩) (iblk3 V c 6 ⟨n + 1, hn⟩))
    else
      if h1 : (n + 1) % 14 = 13 then
        (out3_C_7 c (grid3.coords ⟨n + 1, hn⟩) (ms3_0 ⟨n + 1, hn⟩) (hs3_0 ⟨n + 1, hn⟩) (ms3_1 ⟨n + 1, hn⟩) (hs3_1 ⟨n + 1, hn⟩) (ms3_2 ⟨n + 1, hn⟩) (hs3_2 ⟨n + 1, hn⟩) (ms3_3 ⟨n + 1, hn⟩) (hs3_3 ⟨n + 1, hn⟩) (ms3_4 ⟨n + 1, hn⟩) (hs3_4 ⟨n + 1, hn⟩) (ms3_5 ⟨n + 1, hn⟩) (hs3_5 ⟨n + 1, hn⟩) (ms3_6 ⟨n + 1, hn⟩) (hs3_6 ⟨n + 1, hn⟩) (ms3_7 ⟨n + 1, hn⟩) (hs3_7 ⟨n + 1, hn⟩) (ms3_8 ⟨n + 1, hn⟩) (hs3_8 ⟨n + 1, hn⟩) scM3_0 (Memref.isWhole_whole _) (fun h => h0 ((hcond3_0 ⟨n + 1, hn⟩).mp h)) ((hcond3_1 ⟨n + 1, hn⟩).mpr h1) (iblk3 V c 0 ⟨n + 1, hn⟩) (iblk3 V c 1 ⟨n + 1, hn⟩) (iblk3 V c 2 ⟨n + 1, hn⟩) (iblk3 V c 3 ⟨n + 1, hn⟩) (iblk3 V c 4 ⟨n + 1, hn⟩) (iblk3 V c 5 ⟨n + 1, hn⟩) (iblk3 V c 6 ⟨n + 1, hn⟩) (outsAt3 c n (Nat.lt_of_succ_lt hn)).2.2, out3_C_8 c (grid3.coords ⟨n + 1, hn⟩) (ms3_0 ⟨n + 1, hn⟩) (hs3_0 ⟨n + 1, hn⟩) (ms3_1 ⟨n + 1, hn⟩) (hs3_1 ⟨n + 1, hn⟩) (ms3_2 ⟨n + 1, hn⟩) (hs3_2 ⟨n + 1, hn⟩) (ms3_3 ⟨n + 1, hn⟩) (hs3_3 ⟨n + 1, hn⟩) (ms3_4 ⟨n + 1, hn⟩) (hs3_4 ⟨n + 1, hn⟩) (ms3_5 ⟨n + 1, hn⟩) (hs3_5 ⟨n + 1, hn⟩) (ms3_6 ⟨n + 1, hn⟩) (hs3_6 ⟨n + 1, hn⟩) (ms3_7 ⟨n + 1, hn⟩) (hs3_7 ⟨n + 1, hn⟩) (ms3_8 ⟨n + 1, hn⟩) (hs3_8 ⟨n + 1, hn⟩) scM3_0 (Memref.isWhole_whole _) (fun h => h0 ((hcond3_0 ⟨n + 1, hn⟩).mp h)) ((hcond3_1 ⟨n + 1, hn⟩).mpr h1) (iblk3 V c 0 ⟨n + 1, hn⟩) (iblk3 V c 1 ⟨n + 1, hn⟩) (iblk3 V c 2 ⟨n + 1, hn⟩) (iblk3 V c 3 ⟨n + 1, hn⟩) (iblk3 V c 4 ⟨n + 1, hn⟩) (iblk3 V c 5 ⟨n + 1, hn⟩) (iblk3 V c 6 ⟨n + 1, hn⟩) (outsAt3 c n (Nat.lt_of_succ_lt hn)).2.2, sout3_C_0 c (grid3.coords ⟨n + 1, hn⟩) (ms3_0 ⟨n + 1, hn⟩) (hs3_0 ⟨n + 1, hn⟩) (ms3_1 ⟨n + 1, hn⟩) (hs3_1 ⟨n + 1, hn⟩) (ms3_2 ⟨n + 1, hn⟩) (hs3_2 ⟨n + 1, hn⟩) (ms3_3 ⟨n + 1, hn⟩) (hs3_3 ⟨n + 1, hn⟩) (ms3_4 ⟨n + 1, hn⟩) (hs3_4 ⟨n + 1, hn⟩) (ms3_5 ⟨n + 1, hn⟩) (hs3_5 ⟨n + 1, hn⟩) (ms3_6 ⟨n + 1, hn⟩) (hs3_6 ⟨n + 1, hn⟩) (ms3_7 ⟨n + 1, hn⟩) (hs3_7 ⟨n + 1, hn⟩) (ms3_8 ⟨n + 1, hn⟩) (hs3_8 ⟨n + 1, hn⟩) scM3_0 (Memref.isWhole_whole _) (fun h => h0 ((hcond3_0 ⟨n + 1, hn⟩).mp h)) ((hcond3_1 ⟨n + 1, hn⟩).mpr h1) (iblk3 V c 0 ⟨n + 1, hn⟩) (iblk3 V c 1 ⟨n + 1, hn⟩) (iblk3 V c 2 ⟨n + 1, hn⟩) (iblk3 V c 3 ⟨n + 1, hn⟩) (iblk3 V c 4 ⟨n + 1, hn⟩) (iblk3 V c 5 ⟨n + 1, hn⟩) (iblk3 V c 6 ⟨n + 1, hn⟩) (outsAt3 c n (Nat.lt_of_succ_lt hn)).2.2)
      else
        (out3_B_7 c (grid3.coords ⟨n + 1, hn⟩) (ms3_0 ⟨n + 1, hn⟩) (hs3_0 ⟨n + 1, hn⟩) (ms3_1 ⟨n + 1, hn⟩) (hs3_1 ⟨n + 1, hn⟩) (ms3_2 ⟨n + 1, hn⟩) (hs3_2 ⟨n + 1, hn⟩) (ms3_3 ⟨n + 1, hn⟩) (hs3_3 ⟨n + 1, hn⟩) (ms3_4 ⟨n + 1, hn⟩) (hs3_4 ⟨n + 1, hn⟩) (ms3_5 ⟨n + 1, hn⟩) (hs3_5 ⟨n + 1, hn⟩) (ms3_6 ⟨n + 1, hn⟩) (hs3_6 ⟨n + 1, hn⟩) (ms3_7 ⟨n + 1, hn⟩) (hs3_7 ⟨n + 1, hn⟩) (ms3_8 ⟨n + 1, hn⟩) (hs3_8 ⟨n + 1, hn⟩) scM3_0 (Memref.isWhole_whole _) (fun h => h0 ((hcond3_0 ⟨n + 1, hn⟩).mp h)) (fun h => h1 ((hcond3_1 ⟨n + 1, hn⟩).mp h)) (iblk3 V c 0 ⟨n + 1, hn⟩) (iblk3 V c 1 ⟨n + 1, hn⟩) (iblk3 V c 2 ⟨n + 1, hn⟩) (iblk3 V c 3 ⟨n + 1, hn⟩) (iblk3 V c 4 ⟨n + 1, hn⟩) (iblk3 V c 5 ⟨n + 1, hn⟩) (iblk3 V c 6 ⟨n + 1, hn⟩) (outsAt3 c n (Nat.lt_of_succ_lt hn)).2.2, out3_B_8 c (grid3.coords ⟨n + 1, hn⟩) (ms3_0 ⟨n + 1, hn⟩) (hs3_0 ⟨n + 1, hn⟩) (ms3_1 ⟨n + 1, hn⟩) (hs3_1 ⟨n + 1, hn⟩) (ms3_2 ⟨n + 1, hn⟩) (hs3_2 ⟨n + 1, hn⟩) (ms3_3 ⟨n + 1, hn⟩) (hs3_3 ⟨n + 1, hn⟩) (ms3_4 ⟨n + 1, hn⟩) (hs3_4 ⟨n + 1, hn⟩) (ms3_5 ⟨n + 1, hn⟩) (hs3_5 ⟨n + 1, hn⟩) (ms3_6 ⟨n + 1, hn⟩) (hs3_6 ⟨n + 1, hn⟩) (ms3_7 ⟨n + 1, hn⟩) (hs3_7 ⟨n + 1, hn⟩) (ms3_8 ⟨n + 1, hn⟩) (hs3_8 ⟨n + 1, hn⟩) scM3_0 (Memref.isWhole_whole _) (fun h => h0 ((hcond3_0 ⟨n + 1, hn⟩).mp h)) (fun h => h1 ((hcond3_1 ⟨n + 1, hn⟩).mp h)) (iblk3 V c 0 ⟨n + 1, hn⟩) (iblk3 V c 1 ⟨n + 1, hn⟩) (iblk3 V c 2 ⟨n + 1, hn⟩) (iblk3 V c 3 ⟨n + 1, hn⟩) (iblk3 V c 4 ⟨n + 1, hn⟩) (iblk3 V c 5 ⟨n + 1, hn⟩) (iblk3 V c 6 ⟨n + 1, hn⟩) (outsAt3 c n (Nat.lt_of_succ_lt hn)).2.2, sout3_B_0 c (grid3.coords ⟨n + 1, hn⟩) (ms3_0 ⟨n + 1, hn⟩) (hs3_0 ⟨n + 1, hn⟩) (ms3_1 ⟨n + 1, hn⟩) (hs3_1 ⟨n + 1, hn⟩) (ms3_2 ⟨n + 1, hn⟩) (hs3_2 ⟨n + 1, hn⟩) (ms3_3 ⟨n + 1, hn⟩) (hs3_3 ⟨n + 1, hn⟩) (ms3_4 ⟨n + 1, hn⟩) (hs3_4 ⟨n + 1, hn⟩) (ms3_5 ⟨n + 1, hn⟩) (hs3_5 ⟨n + 1, hn⟩) (ms3_6 ⟨n + 1, hn⟩) (hs3_6 ⟨n + 1, hn⟩) (ms3_7 ⟨n + 1, hn⟩) (hs3_7 ⟨n + 1, hn⟩) (ms3_8 ⟨n + 1, hn⟩) (hs3_8 ⟨n + 1, hn⟩) scM3_0 (Memref.isWhole_whole _) (fun h => h0 ((hcond3_0 ⟨n + 1, hn⟩).mp h)) (fun h => h1 ((hcond3_1 ⟨n + 1, hn⟩).mp h)) (iblk3 V c 0 ⟨n + 1, hn⟩) (iblk3 V c 1 ⟨n + 1, hn⟩) (iblk3 V c 2 ⟨n + 1, hn⟩) (iblk3 V c 3 ⟨n + 1, hn⟩) (iblk3 V c 4 ⟨n + 1, hn⟩) (iblk3 V c 5 ⟨n + 1, hn⟩) (iblk3 V c 6 ⟨n + 1, hn⟩) (outsAt3 c n (Nat.lt_of_succ_lt hn)).2.2)

/-- `outsAt3` at a point of case A: that case's contents. -/
theorem outsAt3_A (c : Dev nD) (t : Fin cfg3.N) (h0 : t.val % 14 = 0) (h1 : ¬t.val % 14 = 13) :
    outsAt3 V c t.val t.isLt = (out3_A_7 c (grid3.coords t) (ms3_0 t) (hs3_0 t) (ms3_1 t) (hs3_1 t) (ms3_2 t) (hs3_2 t) (ms3_3 t) (hs3_3 t) (ms3_4 t) (hs3_4 t) (ms3_5 t) (hs3_5 t) (ms3_6 t) (hs3_6 t) (ms3_7 t) (hs3_7 t) (ms3_8 t) (hs3_8 t) scM3_0 (Memref.isWhole_whole _) ((hcond3_0 t).mpr h0) (fun h => h1 ((hcond3_1 t).mp h)) (iblk3 V c 0 t) (iblk3 V c 1 t) (iblk3 V c 2 t) (iblk3 V c 3 t) (iblk3 V c 4 t) (iblk3 V c 5 t) (iblk3 V c 6 t), out3_A_8 c (grid3.coords t) (ms3_0 t) (hs3_0 t) (ms3_1 t) (hs3_1 t) (ms3_2 t) (hs3_2 t) (ms3_3 t) (hs3_3 t) (ms3_4 t) (hs3_4 t) (ms3_5 t) (hs3_5 t) (ms3_6 t) (hs3_6 t) (ms3_7 t) (hs3_7 t) (ms3_8 t) (hs3_8 t) scM3_0 (Memref.isWhole_whole _) ((hcond3_0 t).mpr h0) (fun h => h1 ((hcond3_1 t).mp h)) (iblk3 V c 0 t) (iblk3 V c 1 t) (iblk3 V c 2 t) (iblk3 V c 3 t) (iblk3 V c 4 t) (iblk3 V c 5 t) (iblk3 V c 6 t), sout3_A_0 c (grid3.coords t) (ms3_0 t) (hs3_0 t) (ms3_1 t) (hs3_1 t) (ms3_2 t) (hs3_2 t) (ms3_3 t) (hs3_3 t) (ms3_4 t) (hs3_4 t) (ms3_5 t) (hs3_5 t) (ms3_6 t) (hs3_6 t) (ms3_7 t) (hs3_7 t) (ms3_8 t) (hs3_8 t) scM3_0 (Memref.isWhole_whole _) ((hcond3_0 t).mpr h0) (fun h => h1 ((hcond3_1 t).mp h)) (iblk3 V c 0 t) (iblk3 V c 1 t) (iblk3 V c 2 t) (iblk3 V c 3 t) (iblk3 V c 4 t) (iblk3 V c 5 t) (iblk3 V c 6 t)) := by
  obtain ⟨n, hn⟩ := t
  cases n with
  | zero => exact rfl
  | succ n => exact (dif_pos h0).trans ((dif_neg h1).trans rfl)

/-- `outsAt3` at a point of case B: that case's contents, over what the point before left. -/
theorem outsAt3_B (c : Dev nD) (t : Fin cfg3.N) (h0 : ¬t.val % 14 = 0) (h1 : ¬t.val % 14 = 13) :
    outsAt3 V c t.val t.isLt = (out3_B_7 c (grid3.coords t) (ms3_0 t) (hs3_0 t) (ms3_1 t) (hs3_1 t) (ms3_2 t) (hs3_2 t) (ms3_3 t) (hs3_3 t) (ms3_4 t) (hs3_4 t) (ms3_5 t) (hs3_5 t) (ms3_6 t) (hs3_6 t) (ms3_7 t) (hs3_7 t) (ms3_8 t) (hs3_8 t) scM3_0 (Memref.isWhole_whole _) (fun h => h0 ((hcond3_0 t).mp h)) (fun h => h1 ((hcond3_1 t).mp h)) (iblk3 V c 0 t) (iblk3 V c 1 t) (iblk3 V c 2 t) (iblk3 V c 3 t) (iblk3 V c 4 t) (iblk3 V c 5 t) (iblk3 V c 6 t) (outsAt3 V c (t.val - 1) (Nat.lt_of_le_of_lt (Nat.sub_le _ _) t.isLt)).2.2, out3_B_8 c (grid3.coords t) (ms3_0 t) (hs3_0 t) (ms3_1 t) (hs3_1 t) (ms3_2 t) (hs3_2 t) (ms3_3 t) (hs3_3 t) (ms3_4 t) (hs3_4 t) (ms3_5 t) (hs3_5 t) (ms3_6 t) (hs3_6 t) (ms3_7 t) (hs3_7 t) (ms3_8 t) (hs3_8 t) scM3_0 (Memref.isWhole_whole _) (fun h => h0 ((hcond3_0 t).mp h)) (fun h => h1 ((hcond3_1 t).mp h)) (iblk3 V c 0 t) (iblk3 V c 1 t) (iblk3 V c 2 t) (iblk3 V c 3 t) (iblk3 V c 4 t) (iblk3 V c 5 t) (iblk3 V c 6 t) (outsAt3 V c (t.val - 1) (Nat.lt_of_le_of_lt (Nat.sub_le _ _) t.isLt)).2.2, sout3_B_0 c (grid3.coords t) (ms3_0 t) (hs3_0 t) (ms3_1 t) (hs3_1 t) (ms3_2 t) (hs3_2 t) (ms3_3 t) (hs3_3 t) (ms3_4 t) (hs3_4 t) (ms3_5 t) (hs3_5 t) (ms3_6 t) (hs3_6 t) (ms3_7 t) (hs3_7 t) (ms3_8 t) (hs3_8 t) scM3_0 (Memref.isWhole_whole _) (fun h => h0 ((hcond3_0 t).mp h)) (fun h => h1 ((hcond3_1 t).mp h)) (iblk3 V c 0 t) (iblk3 V c 1 t) (iblk3 V c 2 t) (iblk3 V c 3 t) (iblk3 V c 4 t) (iblk3 V c 5 t) (iblk3 V c 6 t) (outsAt3 V c (t.val - 1) (Nat.lt_of_le_of_lt (Nat.sub_le _ _) t.isLt)).2.2) := by
  obtain ⟨n, hn⟩ := t
  cases n with
  | zero => exact (by exfalso; (try dsimp only at h0); exact absurd (Nat.zero_mod _) h0)
  | succ n => exact (dif_neg h0).trans ((dif_neg h1).trans rfl)

/-- `outsAt3` at a point of case C: that case's contents, over what the point before left. -/
theorem outsAt3_C (c : Dev nD) (t : Fin cfg3.N) (h0 : ¬t.val % 14 = 0) (h1 : t.val % 14 = 13) :
    outsAt3 V c t.val t.isLt = (out3_C_7 c (grid3.coords t) (ms3_0 t) (hs3_0 t) (ms3_1 t) (hs3_1 t) (ms3_2 t) (hs3_2 t) (ms3_3 t) (hs3_3 t) (ms3_4 t) (hs3_4 t) (ms3_5 t) (hs3_5 t) (ms3_6 t) (hs3_6 t) (ms3_7 t) (hs3_7 t) (ms3_8 t) (hs3_8 t) scM3_0 (Memref.isWhole_whole _) (fun h => h0 ((hcond3_0 t).mp h)) ((hcond3_1 t).mpr h1) (iblk3 V c 0 t) (iblk3 V c 1 t) (iblk3 V c 2 t) (iblk3 V c 3 t) (iblk3 V c 4 t) (iblk3 V c 5 t) (iblk3 V c 6 t) (outsAt3 V c (t.val - 1) (Nat.lt_of_le_of_lt (Nat.sub_le _ _) t.isLt)).2.2, out3_C_8 c (grid3.coords t) (ms3_0 t) (hs3_0 t) (ms3_1 t) (hs3_1 t) (ms3_2 t) (hs3_2 t) (ms3_3 t) (hs3_3 t) (ms3_4 t) (hs3_4 t) (ms3_5 t) (hs3_5 t) (ms3_6 t) (hs3_6 t) (ms3_7 t) (hs3_7 t) (ms3_8 t) (hs3_8 t) scM3_0 (Memref.isWhole_whole _) (fun h => h0 ((hcond3_0 t).mp h)) ((hcond3_1 t).mpr h1) (iblk3 V c 0 t) (iblk3 V c 1 t) (iblk3 V c 2 t) (iblk3 V c 3 t) (iblk3 V c 4 t) (iblk3 V c 5 t) (iblk3 V c 6 t) (outsAt3 V c (t.val - 1) (Nat.lt_of_le_of_lt (Nat.sub_le _ _) t.isLt)).2.2, sout3_C_0 c (grid3.coords t) (ms3_0 t) (hs3_0 t) (ms3_1 t) (hs3_1 t) (ms3_2 t) (hs3_2 t) (ms3_3 t) (hs3_3 t) (ms3_4 t) (hs3_4 t) (ms3_5 t) (hs3_5 t) (ms3_6 t) (hs3_6 t) (ms3_7 t) (hs3_7 t) (ms3_8 t) (hs3_8 t) scM3_0 (Memref.isWhole_whole _) (fun h => h0 ((hcond3_0 t).mp h)) ((hcond3_1 t).mpr h1) (iblk3 V c 0 t) (iblk3 V c 1 t) (iblk3 V c 2 t) (iblk3 V c 3 t) (iblk3 V c 4 t) (iblk3 V c 5 t) (iblk3 V c 6 t) (outsAt3 V c (t.val - 1) (Nat.lt_of_le_of_lt (Nat.sub_le _ _) t.isLt)).2.2) := by
  obtain ⟨n, hn⟩ := t
  cases n with
  | zero => exact (by exfalso; (try dsimp only at h0); exact absurd (Nat.zero_mod _) h0)
  | succ n => exact (dif_neg h0).trans ((dif_pos h1).trans rfl)

/-- The region invariant before position `n` with a scratch the kernel CARRIES between points: before the first point the
    class's (Lib/Pipeline/Frame.lean `ΦA`: every scratch at anything); afterwards the scoped rest with each carried scratch
    at what the point before left in it (`outsAt3`'s scratch components), the others at anything, and the generator register
    at some state. -/
def PhiS (c : Dev nD) : (n : ℕ) → n ≤ cfg3.N → sProp 𝕄
  | 0, _ => Pipeline.ΦA spec3 c
  | n + 1, hn => iprop(iprop((∃ f : Buf (Elt F) ((c : Thread nD τ).loc cc0_stg0_0), ((c : Thread nD τ).loc cc0_stg0_0) ↦{fullShare} f) ∗ (∃ f : Buf (Elt F) ((c : Thread nD τ).loc cc0_stg0_1), ((c : Thread nD τ).loc cc0_stg0_1) ↦{fullShare} f) ∗ (∃ f : Buf (Elt F) ((c : Thread nD τ).loc cc0_stg1_0), ((c : Thread nD τ).loc cc0_stg1_0) ↦{fullShare} f) ∗ (∃ f : Buf (Elt F) ((c : Thread nD τ).loc cc0_stg1_1), ((c : Thread nD τ).loc cc0_stg1_1) ↦{fullShare} f) ∗ (∃ f : Buf (Elt F) ((c : Thread nD τ).loc cc0_stg2_0), ((c : Thread nD τ).loc cc0_stg2_0) ↦{fullShare} f) ∗ (∃ f : Buf (Elt F) ((c : Thread nD τ).loc cc0_stg2_1), ((c : Thread nD τ).loc cc0_stg2_1) ↦{fullShare} f) ∗ (∃ f : Buf (Elt F) ((c : Thread nD τ).loc cc1_stg0_0), ((c : Thread nD τ).loc cc1_stg0_0) ↦{fullShare} f) ∗ (∃ f : Buf (Elt F) ((c : Thread nD τ).loc cc1_stg0_1), ((c : Thread nD τ).loc cc1_stg0_1) ↦{fullShare} f) ∗ (∃ f : Buf (Elt F) ((c : Thread nD τ).loc cc1_stg1_0), ((c : Thread nD τ).loc cc1_stg1_0) ↦{fullShare} f) ∗ (∃ f : Buf (Elt F) ((c : Thread nD τ).loc cc1_stg1_1), ((c : Thread nD τ).loc cc1_stg1_1) ↦{fullShare} f) ∗ (∃ f : Buf (Elt F) ((c : Thread nD τ).loc cc1_stg2_0), ((c : Thread nD τ).loc cc1_stg2_0) ↦{fullShare} f) ∗ (∃ f : Buf (Elt F) ((c : Thread nD τ).loc cc1_stg2_1), ((c : Thread nD τ).loc cc1_stg2_1) ↦{fullShare} f) ∗ (∃ f : Buf (Elt F) ((c : Thread nD τ).loc cc1_stg3_0), ((c : Thread nD τ).loc cc1_stg3_0) ↦{fullShare} f) ∗ (∃ f : Buf (Elt F) ((c : Thread nD τ).loc cc1_stg3_1), ((c : Thread nD τ).loc cc1_stg3_1) ↦{fullShare} f) ∗ (∃ f : Buf (Elt F) ((c : Thread nD τ).loc cc1_stg4_0), ((c : Thread nD τ).loc cc1_stg4_0) ↦{fullShare} f) ∗ (∃ f : Buf (Elt F) ((c : Thread nD τ).loc cc1_stg4_1), ((c : Thread nD τ).loc cc1_stg4_1) ↦{fullShare} f) ∗ (∃ f : Buf (Elt F) ((c : Thread nD τ).loc cc1_stg5_0), ((c : Thread nD τ).loc cc1_stg5_0) ↦{fullShare} f) ∗ (∃ f : Buf (Elt F) ((c : Thread nD τ).loc cc1_stg5_1), ((c : Thread nD τ).loc cc1_stg5_1) ↦{fullShare} f) ∗ (∃ f : Buf (Elt F) ((c : Thread nD τ).loc cc1_stg6_0), ((c : Thread nD τ).loc cc1_stg6_0) ↦{fullShare} f) ∗ (∃ f : Buf (Elt F) ((c : Thread nD τ).loc cc1_stg6_1), ((c : Thread nD τ).loc cc1_stg6_1) ↦{fullShare} f) ∗ (∃ f : Buf (Elt F) ((c : Thread nD τ).loc cc1_stg7_0), ((c : Thread nD τ).loc cc1_stg7_0) ↦{fullShare} f) ∗ (∃ f : Buf (Elt F) ((c : Thread nD τ).loc cc1_stg7_1), ((c : Thread nD τ).loc cc1_stg7_1) ↦{fullShare} f) ∗ (∃ f : Buf (Elt F) ((c : Thread nD τ).loc cc1_stg8_0), ((c : Thread nD τ).loc cc1_stg8_0) ↦{fullShare} f) ∗ (∃ f : Buf (Elt F) ((c : Thread nD τ).loc cc1_stg8_1), ((c : Thread nD τ).loc cc1_stg8_1) ↦{fullShare} f) ∗ (∃ f : Buf (Elt F) ((c : Thread nD τ).loc cc2_stg0_0), ((c : Thread nD τ).loc cc2_stg0_0) ↦{fullShare} f) ∗ (∃ f : Buf (Elt F) ((c : Thread nD τ).loc cc2_stg0_1), ((c : Thread nD τ).loc cc2_stg0_1) ↦{fullShare} f) ∗ (∃ f : Buf (Elt F) ((c : Thread nD τ).loc cc2_stg1_0), ((c : Thread nD τ).loc cc2_stg1_0) ↦{fullShare} f) ∗ (∃ f : Buf (Elt F) ((c : Thread nD τ).loc cc2_stg1_1), ((c : Thread nD τ).loc cc2_stg1_1) ↦{fullShare} f) ∗ (∃ f : Buf (Elt F) ((c : Thread nD τ).loc cc2_stg2_0), ((c : Thread nD τ).loc cc2_stg2_0) ↦{fullShare} f) ∗ (∃ f : Buf (Elt F) ((c : Thread nD τ).loc cc2_stg2_1), ((c : Thread nD τ).loc cc2_stg2_1) ↦{fullShare} f) ∗ (∃ f : Buf (Elt F) ((c : Thread nD τ).loc cc2_stg3_0), ((c : Thread nD τ).loc cc2_stg3_0) ↦{fullShare} f) ∗ (∃ f : Buf (Elt F) ((c : Thread nD τ).loc cc2_stg3_1), ((c : Thread nD τ).loc cc2_stg3_1) ↦{fullShare} f) ∗ (∃ f : Buf (Elt F) ((c : Thread nD τ).loc cc2_stg4_0), ((c : Thread nD τ).loc cc2_stg4_0) ↦{fullShare} f) ∗ owns (c : Thread nD τ) scM3_0 fullShare ((outsAt3 V c n hn).2.2)) ∗ (∃ r, prngReg c r))

theorem PhiS_zero (c : Dev nD) (n : ℕ) (h : n ≤ cfg3.N) (hz : n = 0) : PhiS V c n h = Pipeline.ΦA spec3 c := by
  subst hz; rfl

/-- After point `n` (before point `n + 1`): the carried scratch at that point's contents. -/
theorem PhiS_succ (c : Dev nD) (n : ℕ) (hn : n < cfg3.N) :
    PhiS V c (n + 1) hn = iprop(iprop((∃ f : Buf (Elt F) ((c : Thread nD τ).loc cc0_stg0_0), ((c : Thread nD τ).loc cc0_stg0_0) ↦{fullShare} f) ∗ (∃ f : Buf (Elt F) ((c : Thread nD τ).loc cc0_stg0_1), ((c : Thread nD τ).loc cc0_stg0_1) ↦{fullShare} f) ∗ (∃ f : Buf (Elt F) ((c : Thread nD τ).loc cc0_stg1_0), ((c : Thread nD τ).loc cc0_stg1_0) ↦{fullShare} f) ∗ (∃ f : Buf (Elt F) ((c : Thread nD τ).loc cc0_stg1_1), ((c : Thread nD τ).loc cc0_stg1_1) ↦{fullShare} f) ∗ (∃ f : Buf (Elt F) ((c : Thread nD τ).loc cc0_stg2_0), ((c : Thread nD τ).loc cc0_stg2_0) ↦{fullShare} f) ∗ (∃ f : Buf (Elt F) ((c : Thread nD τ).loc cc0_stg2_1), ((c : Thread nD τ).loc cc0_stg2_1) ↦{fullShare} f) ∗ (∃ f : Buf (Elt F) ((c : Thread nD τ).loc cc1_stg0_0), ((c : Thread nD τ).loc cc1_stg0_0) ↦{fullShare} f) ∗ (∃ f : Buf (Elt F) ((c : Thread nD τ).loc cc1_stg0_1), ((c : Thread nD τ).loc cc1_stg0_1) ↦{fullShare} f) ∗ (∃ f : Buf (Elt F) ((c : Thread nD τ).loc cc1_stg1_0), ((c : Thread nD τ).loc cc1_stg1_0) ↦{fullShare} f) ∗ (∃ f : Buf (Elt F) ((c : Thread nD τ).loc cc1_stg1_1), ((c : Thread nD τ).loc cc1_stg1_1) ↦{fullShare} f) ∗ (∃ f : Buf (Elt F) ((c : Thread nD τ).loc cc1_stg2_0), ((c : Thread nD τ).loc cc1_stg2_0) ↦{fullShare} f) ∗ (∃ f : Buf (Elt F) ((c : Thread nD τ).loc cc1_stg2_1), ((c : Thread nD τ).loc cc1_stg2_1) ↦{fullShare} f) ∗ (∃ f : Buf (Elt F) ((c : Thread nD τ).loc cc1_stg3_0), ((c : Thread nD τ).loc cc1_stg3_0) ↦{fullShare} f) ∗ (∃ f : Buf (Elt F) ((c : Thread nD τ).loc cc1_stg3_1), ((c : Thread nD τ).loc cc1_stg3_1) ↦{fullShare} f) ∗ (∃ f : Buf (Elt F) ((c : Thread nD τ).loc cc1_stg4_0), ((c : Thread nD τ).loc cc1_stg4_0) ↦{fullShare} f) ∗ (∃ f : Buf (Elt F) ((c : Thread nD τ).loc cc1_stg4_1), ((c : Thread nD τ).loc cc1_stg4_1) ↦{fullShare} f) ∗ (∃ f : Buf (Elt F) ((c : Thread nD τ).loc cc1_stg5_0), ((c : Thread nD τ).loc cc1_stg5_0) ↦{fullShare} f) ∗ (∃ f : Buf (Elt F) ((c : Thread nD τ).loc cc1_stg5_1), ((c : Thread nD τ).loc cc1_stg5_1) ↦{fullShare} f) ∗ (∃ f : Buf (Elt F) ((c : Thread nD τ).loc cc1_stg6_0), ((c : Thread nD τ).loc cc1_stg6_0) ↦{fullShare} f) ∗ (∃ f : Buf (Elt F) ((c : Thread nD τ).loc cc1_stg6_1), ((c : Thread nD τ).loc cc1_stg6_1) ↦{fullShare} f) ∗ (∃ f : Buf (Elt F) ((c : Thread nD τ).loc cc1_stg7_0), ((c : Thread nD τ).loc cc1_stg7_0) ↦{fullShare} f) ∗ (∃ f : Buf (Elt F) ((c : Thread nD τ).loc cc1_stg7_1), ((c : Thread nD τ).loc cc1_stg7_1) ↦{fullShare} f) ∗ (∃ f : Buf (Elt F) ((c : Thread nD τ).loc cc1_stg8_0), ((c : Thread nD τ).loc cc1_stg8_0) ↦{fullShare} f) ∗ (∃ f : Buf (Elt F) ((c : Thread nD τ).loc cc1_stg8_1), ((c : Thread nD τ).loc cc1_stg8_1) ↦{fullShare} f) ∗ (∃ f : Buf (Elt F) ((c : Thread nD τ).loc cc2_stg0_0), ((c : Thread nD τ).loc cc2_stg0_0) ↦{fullShare} f) ∗ (∃ f : Buf (Elt F) ((c : Thread nD τ).loc cc2_stg0_1), ((c : Thread nD τ).loc cc2_stg0_1) ↦{fullShare} f) ∗ (∃ f : Buf (Elt F) ((c : Thread nD τ).loc cc2_stg1_0), ((c : Thread nD τ).loc cc2_stg1_0) ↦{fullShare} f) ∗ (∃ f : Buf (Elt F) ((c : Thread nD τ).loc cc2_stg1_1), ((c : Thread nD τ).loc cc2_stg1_1) ↦{fullShare} f) ∗ (∃ f : Buf (Elt F) ((c : Thread nD τ).loc cc2_stg2_0), ((c : Thread nD τ).loc cc2_stg2_0) ↦{fullShare} f) ∗ (∃ f : Buf (Elt F) ((c : Thread nD τ).loc cc2_stg2_1), ((c : Thread nD τ).loc cc2_stg2_1) ↦{fullShare} f) ∗ (∃ f : Buf (Elt F) ((c : Thread nD τ).loc cc2_stg3_0), ((c : Thread nD τ).loc cc2_stg3_0) ↦{fullShare} f) ∗ (∃ f : Buf (Elt F) ((c : Thread nD τ).loc cc2_stg3_1), ((c : Thread nD τ).loc cc2_stg3_1) ↦{fullShare} f) ∗ (∃ f : Buf (Elt F) ((c : Thread nD τ).loc cc2_stg4_0), ((c : Thread nD τ).loc cc2_stg4_0) ↦{fullShare} f) ∗ owns (c : Thread nD τ) scM3_0 fullShare ((outsAt3 V c n hn).2.2)) ∗ (∃ r, prngReg c r)) := rfl

/-- Before a point that is not the first: the carried scratch at what the point before left. -/
theorem PhiS_pos (c : Dev nD) (n : ℕ) (h : n ≤ cfg3.N) (hz : n ≠ 0) :
    PhiS V c n h = iprop(iprop((∃ f : Buf (Elt F) ((c : Thread nD τ).loc cc0_stg0_0), ((c : Thread nD τ).loc cc0_stg0_0) ↦{fullShare} f) ∗ (∃ f : Buf (Elt F) ((c : Thread nD τ).loc cc0_stg0_1), ((c : Thread nD τ).loc cc0_stg0_1) ↦{fullShare} f) ∗ (∃ f : Buf (Elt F) ((c : Thread nD τ).loc cc0_stg1_0), ((c : Thread nD τ).loc cc0_stg1_0) ↦{fullShare} f) ∗ (∃ f : Buf (Elt F) ((c : Thread nD τ).loc cc0_stg1_1), ((c : Thread nD τ).loc cc0_stg1_1) ↦{fullShare} f) ∗ (∃ f : Buf (Elt F) ((c : Thread nD τ).loc cc0_stg2_0), ((c : Thread nD τ).loc cc0_stg2_0) ↦{fullShare} f) ∗ (∃ f : Buf (Elt F) ((c : Thread nD τ).loc cc0_stg2_1), ((c : Thread nD τ).loc cc0_stg2_1) ↦{fullShare} f) ∗ (∃ f : Buf (Elt F) ((c : Thread nD τ).loc cc1_stg0_0), ((c : Thread nD τ).loc cc1_stg0_0) ↦{fullShare} f) ∗ (∃ f : Buf (Elt F) ((c : Thread nD τ).loc cc1_stg0_1), ((c : Thread nD τ).loc cc1_stg0_1) ↦{fullShare} f) ∗ (∃ f : Buf (Elt F) ((c : Thread nD τ).loc cc1_stg1_0), ((c : Thread nD τ).loc cc1_stg1_0) ↦{fullShare} f) ∗ (∃ f : Buf (Elt F) ((c : Thread nD τ).loc cc1_stg1_1), ((c : Thread nD τ).loc cc1_stg1_1) ↦{fullShare} f) ∗ (∃ f : Buf (Elt F) ((c : Thread nD τ).loc cc1_stg2_0), ((c : Thread nD τ).loc cc1_stg2_0) ↦{fullShare} f) ∗ (∃ f : Buf (Elt F) ((c : Thread nD τ).loc cc1_stg2_1), ((c : Thread nD τ).loc cc1_stg2_1) ↦{fullShare} f) ∗ (∃ f : Buf (Elt F) ((c : Thread nD τ).loc cc1_stg3_0), ((c : Thread nD τ).loc cc1_stg3_0) ↦{fullShare} f) ∗ (∃ f : Buf (Elt F) ((c : Thread nD τ).loc cc1_stg3_1), ((c : Thread nD τ).loc cc1_stg3_1) ↦{fullShare} f) ∗ (∃ f : Buf (Elt F) ((c : Thread nD τ).loc cc1_stg4_0), ((c : Thread nD τ).loc cc1_stg4_0) ↦{fullShare} f) ∗ (∃ f : Buf (Elt F) ((c : Thread nD τ).loc cc1_stg4_1), ((c : Thread nD τ).loc cc1_stg4_1) ↦{fullShare} f) ∗ (∃ f : Buf (Elt F) ((c : Thread nD τ).loc cc1_stg5_0), ((c : Thread nD τ).loc cc1_stg5_0) ↦{fullShare} f) ∗ (∃ f : Buf (Elt F) ((c : Thread nD τ).loc cc1_stg5_1), ((c : Thread nD τ).loc cc1_stg5_1) ↦{fullShare} f) ∗ (∃ f : Buf (Elt F) ((c : Thread nD τ).loc cc1_stg6_0), ((c : Thread nD τ).loc cc1_stg6_0) ↦{fullShare} f) ∗ (∃ f : Buf (Elt F) ((c : Thread nD τ).loc cc1_stg6_1), ((c : Thread nD τ).loc cc1_stg6_1) ↦{fullShare} f) ∗ (∃ f : Buf (Elt F) ((c : Thread nD τ).loc cc1_stg7_0), ((c : Thread nD τ).loc cc1_stg7_0) ↦{fullShare} f) ∗ (∃ f : Buf (Elt F) ((c : Thread nD τ).loc cc1_stg7_1), ((c : Thread nD τ).loc cc1_stg7_1) ↦{fullShare} f) ∗ (∃ f : Buf (Elt F) ((c : Thread nD τ).loc cc1_stg8_0), ((c : Thread nD τ).loc cc1_stg8_0) ↦{fullShare} f) ∗ (∃ f : Buf (Elt F) ((c : Thread nD τ).loc cc1_stg8_1), ((c : Thread nD τ).loc cc1_stg8_1) ↦{fullShare} f) ∗ (∃ f : Buf (Elt F) ((c : Thread nD τ).loc cc2_stg0_0), ((c : Thread nD τ).loc cc2_stg0_0) ↦{fullShare} f) ∗ (∃ f : Buf (Elt F) ((c : Thread nD τ).loc cc2_stg0_1), ((c : Thread nD τ).loc cc2_stg0_1) ↦{fullShare} f) ∗ (∃ f : Buf (Elt F) ((c : Thread nD τ).loc cc2_stg1_0), ((c : Thread nD τ).loc cc2_stg1_0) ↦{fullShare} f) ∗ (∃ f : Buf (Elt F) ((c : Thread nD τ).loc cc2_stg1_1), ((c : Thread nD τ).loc cc2_stg1_1) ↦{fullShare} f) ∗ (∃ f : Buf (Elt F) ((c : Thread nD τ).loc cc2_stg2_0), ((c : Thread nD τ).loc cc2_stg2_0) ↦{fullShare} f) ∗ (∃ f : Buf (Elt F) ((c : Thread nD τ).loc cc2_stg2_1), ((c : Thread nD τ).loc cc2_stg2_1) ↦{fullShare} f) ∗ (∃ f : Buf (Elt F) ((c : Thread nD τ).loc cc2_stg3_0), ((c : Thread nD τ).loc cc2_stg3_0) ↦{fullShare} f) ∗ (∃ f : Buf (Elt F) ((c : Thread nD τ).loc cc2_stg3_1), ((c : Thread nD τ).loc cc2_stg3_1) ↦{fullShare} f) ∗ (∃ f : Buf (Elt F) ((c : Thread nD τ).loc cc2_stg4_0), ((c : Thread nD τ).loc cc2_stg4_0) ↦{fullShare} f) ∗ owns (c : Thread nD τ) scM3_0 fullShare ((outsAt3 V c (n - 1) (by omega)).2.2)) ∗ (∃ r, prngReg c r)) := by
  cases n with
  | zero => exact absurd rfl hz
  | succ n => rfl

/-! ## The pipeline's proof data -/

/-- The proof data of pipeline 3 on core `c`: the arrays as the region finds them (`V`); after the body at
    point `t` each input's buffer at its block and the outputs' at `outsAt3`; the invariant the class's
    (`PhiS`: the class's `ΦA` before the first point, then the scoped rest with the carried scratch at `outsAt3`'s component);
    nothing owed; full shares. -/
def dat3 (c : Dev nD) : Dat τ (Elt F) Unit ℕ (UR sig nD τ) ℕ cfg3 c where
  A w := V c (Pipeline.arrRef spec3 w)
  after w t := match w with
    | ⟨0, _⟩ => iblk3 V c 0 t
    | ⟨1, _⟩ => iblk3 V c 1 t
    | ⟨2, _⟩ => iblk3 V c 2 t
    | ⟨3, _⟩ => iblk3 V c 3 t
    | ⟨4, _⟩ => iblk3 V c 4 t
    | ⟨5, _⟩ => iblk3 V c 5 t
    | ⟨6, _⟩ => iblk3 V c 6 t
    | ⟨7, _⟩ => (outsAt3 V c t.val t.isLt).1
    | ⟨8, _⟩ => (outsAt3 V c t.val t.isLt).2.1
  Φ t := PhiS V c t.val (Nat.le_of_lt_succ t.isLt)
  q _ := fullShare
  owed _ := 0

/-- The proof data's arrays are the region-entry contents, by projecting the definition (`dsimp`): a region record cites
    this for its arrays rather than have Lean unfold `V`, the fold through @main up to the region's entry. -/
theorem A_eq3 (c : Dev nD) (w : Fin cfg3.W) : (dat3 V c).A w = V c (Pipeline.arrRef spec3 w) := by
  dsimp only [dat3]

/-- The invariant at a point's start (the proof data at `t.castSucc`), restated at `t.val`. -/
theorem PhiS_castSucc (c : Dev nD) (t : Fin cfg3.N) :
    (dat3 V c).Φ t.castSucc = PhiS V c t.val (Nat.le_of_lt t.isLt) := by
  dsimp only [dat3]; exact Pipeline.Dat.Φ_castSucc (PhiS V c) t

/-- What the body leaves, window by window (the proof data's `match` reduced by `dsimp`). -/
theorem after3_0 (c : Dev nD) (t : Fin cfg3.N) : (dat3 V c).after 0 t = iblk3 V c 0 t := by dsimp only [dat3]
theorem after3_1 (c : Dev nD) (t : Fin cfg3.N) : (dat3 V c).after 1 t = iblk3 V c 1 t := by dsimp only [dat3]
theorem after3_2 (c : Dev nD) (t : Fin cfg3.N) : (dat3 V c).after 2 t = iblk3 V c 2 t := by dsimp only [dat3]
theorem after3_3 (c : Dev nD) (t : Fin cfg3.N) : (dat3 V c).after 3 t = iblk3 V c 3 t := by dsimp only [dat3]
theorem after3_4 (c : Dev nD) (t : Fin cfg3.N) : (dat3 V c).after 4 t = iblk3 V c 4 t := by dsimp only [dat3]
theorem after3_5 (c : Dev nD) (t : Fin cfg3.N) : (dat3 V c).after 5 t = iblk3 V c 5 t := by dsimp only [dat3]
theorem after3_6 (c : Dev nD) (t : Fin cfg3.N) : (dat3 V c).after 6 t = iblk3 V c 6 t := by dsimp only [dat3]
theorem after3_7 (c : Dev nD) (t : Fin cfg3.N) : (dat3 V c).after 7 t = (outsAt3 V c t.val t.isLt).1 := by dsimp only [dat3]
theorem after3_8 (c : Dev nD) (t : Fin cfg3.N) : (dat3 V c).after 8 t = (outsAt3 V c t.val t.isLt).2.1 := by dsimp only [dat3]

/-- Each input's current staging buffer holds its block at every point, fetched there or not (`beforeK_W_of`). -/
theorem before3_0 (c : Dev nD) (t : Fin cfg3.N) (d) : (dat3 V c).before 0 t d = iblk3 V c 0 t :=
  before3_0_of V (dat3 V c) (A_eq3 V c 0) (after3_0 V c) t d
theorem before3_1 (c : Dev nD) (t : Fin cfg3.N) (d) : (dat3 V c).before 1 t d = iblk3 V c 1 t :=
  before3_1_of V (dat3 V c) (A_eq3 V c 1) (after3_1 V c) t d
theorem before3_2 (c : Dev nD) (t : Fin cfg3.N) (d) : (dat3 V c).before 2 t d = iblk3 V c 2 t :=
  before3_2_of V (dat3 V c) (A_eq3 V c 2) (after3_2 V c) t d
theorem before3_3 (c : Dev nD) (t : Fin cfg3.N) (d) : (dat3 V c).before 3 t d = iblk3 V c 3 t :=
  before3_3_of V (dat3 V c) (A_eq3 V c 3) (after3_3 V c) t d
theorem before3_4 (c : Dev nD) (t : Fin cfg3.N) (d) : (dat3 V c).before 4 t d = iblk3 V c 4 t :=
  before3_4_of V (dat3 V c) (A_eq3 V c 4) (after3_4 V c) t d
theorem before3_5 (c : Dev nD) (t : Fin cfg3.N) (d) : (dat3 V c).before 5 t d = iblk3 V c 5 t :=
  before3_5_of V (dat3 V c) (A_eq3 V c 5) (after3_5 V c) t d
theorem before3_6 (c : Dev nD) (t : Fin cfg3.N) (d) : (dat3 V c).before 6 t d = iblk3 V c 6 t :=
  before3_6_of V (dat3 V c) (A_eq3 V c 6) (after3_6 V c) t d

/-! ## The body obligation, at a generic point -/

/-- What the body is called with at point `t` (Lib/Pipeline.lean `BodyObligation`'s precondition, the windows one by one), -/
def bodyPre3 (c : Dev nD) (t : Fin cfg3.N) : sProp 𝕄 :=
  iprop((dat3 V c).Φ t.castSucc ∗ (dat3 V c).owesAt () t.castSucc
    ∗ (∃ d, owns (c : Thread nD τ) (ms3_0 t) fullShare ((dat3 V c).before 0 t d))
    ∗ (∃ d, owns (c : Thread nD τ) (ms3_1 t) fullShare ((dat3 V c).before 1 t d))
    ∗ (∃ d, owns (c : Thread nD τ) (ms3_2 t) fullShare ((dat3 V c).before 2 t d))
    ∗ (∃ d, owns (c : Thread nD τ) (ms3_3 t) fullShare ((dat3 V c).before 3 t d))
    ∗ (∃ d, owns (c : Thread nD τ) (ms3_4 t) fullShare ((dat3 V c).before 4 t d))
    ∗ (∃ d, owns (c : Thread nD τ) (ms3_5 t) fullShare ((dat3 V c).before 5 t d))
    ∗ (∃ d, owns (c : Thread nD τ) (ms3_6 t) fullShare ((dat3 V c).before 6 t d))
    ∗ (∃ d, owns (c : Thread nD τ) (ms3_7 t) fullShare ((dat3 V c).before 7 t d))
    ∗ (∃ d, owns (c : Thread nD τ) (ms3_8 t) fullShare ((dat3 V c).before 8 t d)))

/-- and what it returns. -/
def bodyPost3 (c : Dev nD) (t : Fin cfg3.N) : sProp 𝕄 :=
  iprop((dat3 V c).Φ t.succ ∗ (dat3 V c).owesAt () t.succ
    ∗ (dat3 V c).leavesExact 0 t
    ∗ (dat3 V c).leavesExact 1 t
    ∗ (dat3 V c).leavesExact 2 t
    ∗ (dat3 V c).leavesExact 3 t
    ∗ (dat3 V c).leavesExact 4 t
    ∗ (dat3 V c).leavesExact 5 t
    ∗ (dat3 V c).leavesExact 6 t
    ∗ (dat3 V c).leavesExact 7 t
    ∗ (dat3 V c).leavesExact 8 t)

set_option maxHeartbeats 9600000 in
/-- The body at any point: the inputs' memrefs hold their blocks (`before3_W`); the closed forms say which case the point is in (`by_cases`), an output the case reads before covering holds what the point before left (`before3_W_κ`); so the
    run applies; the invariant hands the body the carried scratch at what the point before left (`PhiS_pos`; at anything at the first point, `PhiS_zero`), the other scratch buffers and the generator register at some state, and takes the carried scratch back at this point's contents (`PhiS_succ`, by `scoverK_κ_N`); the core owes nothing throughout. -/
theorem sound_body3 (c : Dev nD) (t : Fin cfg3.N) :
    bodyPre3 V c t ⊢ wp frame (wpE (defs₀ (F := F)) Variants.none c none) Set.univ (bodyAt3 t) (fun _ => bodyPost3 V c t) := by
  unfold bodyPre3 bodyPost3 bodyAt3
  simp only [before3_0, before3_1, before3_2, before3_3, before3_4, before3_5, before3_6]
  rw [show (dat3 V c).owesAt () t.succ = (dat3 V c).owesAt () t.castSucc from rfl]
  rw [show (dat3 V c).Φ t.succ = PhiS V c (t.val + 1) t.isLt from rfl, PhiS_succ]
  have hN : t.val < 336 := lt_of_lt_of_eq t.isLt (show cfg3.N = 336 from N_3)
  by_cases h0 : t.val % 14 = 0
  · by_cases h1 : t.val % 14 = 13
    · exfalso; omega
    · rw [show (dat3 V c).leavesExact 0 t = owns (c : Thread nD τ) (ms3_0 t) fullShare ((dat3 V c).after 0 t) from by
      unfold Dat.leavesExact; rw [liveAt3_0 t], after3_0]
      rw [show (dat3 V c).leavesExact 1 t = owns (c : Thread nD τ) (ms3_1 t) fullShare ((dat3 V c).after 1 t) from by
      unfold Dat.leavesExact; rw [liveAt3_1 t], after3_1]
      rw [show (dat3 V c).leavesExact 2 t = owns (c : Thread nD τ) (ms3_2 t) fullShare ((dat3 V c).after 2 t) from by
      unfold Dat.leavesExact; rw [liveAt3_2 t], after3_2]
      rw [show (dat3 V c).leavesExact 3 t = owns (c : Thread nD τ) (ms3_3 t) fullShare ((dat3 V c).after 3 t) from by
      unfold Dat.leavesExact; rw [liveAt3_3 t], after3_3]
      rw [show (dat3 V c).leavesExact 4 t = owns (c : Thread nD τ) (ms3_4 t) fullShare ((dat3 V c).after 4 t) from by
      unfold Dat.leavesExact; rw [liveAt3_4 t], after3_4]
      rw [show (dat3 V c).leavesExact 5 t = owns (c : Thread nD τ) (ms3_5 t) fullShare ((dat3 V c).after 5 t) from by
      unfold Dat.leavesExact; rw [liveAt3_5 t], after3_5]
      rw [show (dat3 V c).leavesExact 6 t = owns (c : Thread nD τ) (ms3_6 t) fullShare ((dat3 V c).after 6 t) from by
      unfold Dat.leavesExact; rw [liveAt3_6 t], after3_6]
      rw [Dat.leavesExact_idle (dat3 V c) 7 t (idleAt3_7_A t ((hcond3_0 t).mpr h0) (fun h => h1 ((hcond3_1 t).mp h))) (noFlush3_7_A t ((hcond3_0 t).mpr h0) (fun h => h1 ((hcond3_1 t).mp h)))]
      rw [Dat.leavesExact_idle (dat3 V c) 8 t (idleAt3_8_A t ((hcond3_0 t).mpr h0) (fun h => h1 ((hcond3_1 t).mp h))) (noFlush3_8_A t ((hcond3_0 t).mpr h0) (fun h => h1 ((hcond3_1 t).mp h)))]
      by_cases hz : t.val = 0
      · rw [PhiS_castSucc V c t, PhiS_zero V c _ _ hz, PhiA3_eq]
        rw [outsAt3_A V c t h0 h1]
        unfold sout3_A_0; (try dsimp only)
        iintro ⟨⟨⟨HR0, HR1, HR2, HR3, HR4, HR5, HR6, HR7, HR8, HR9, HR10, HR11, HR12, HR13, HR14, HR15, HR16, HR17, HR18, HR19, HR20, HR21, HR22, HR23, HR24, HR25, HR26, HR27, HR28, HR29, HR30, HR31, HR32, HS0⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩⟩
        iapply ((kernelRun3_A c (grid3.coords t) _ _ _ _ _ _ _ _ _ _ _ _ _ _ _ _ _ _ _ _ ((hcond3_0 t).mpr h0) (fun h => h1 ((hcond3_1 t).mp h)) (iblk3 V c 0 t) (iblk3 V c 1 t) (iblk3 V c 2 t) (iblk3 V c 3 t) (iblk3 V c 4 t) (iblk3 V c 5 t) (iblk3 V c 6 t)).2.2.2 _ _ Set.univ _)
        isplitl [H0]; · iexact H0
        isplitl [H1]; · iexact H1
        isplitl [H2]; · iexact H2
        isplitl [H3]; · iexact H3
        isplitl [H4]; · iexact H4
        isplitl [H5]; · iexact H5
        isplitl [H6]; · iexact H6
        isplitl [H7]; · iexact H7
        isplitl [H8]; · iexact H8
        isplitl [HS0]; · iexact HS0
        iintro ⟨H0, H1, H2, H3, H4, H5, H6, H7, H8, ⟨%es0, HS0⟩⟩
        isplitl [HR0 HR1 HR2 HR3 HR4 HR5 HR6 HR7 HR8 HR9 HR10 HR11 HR12 HR13 HR14 HR15 HR16 HR17 HR18 HR19 HR20 HR21 HR22 HR23 HR24 HR25 HR26 HR27 HR28 HR29 HR30 HR31 HR32 HS0 Hg]
        · isplitl [HR0 HR1 HR2 HR3 HR4 HR5 HR6 HR7 HR8 HR9 HR10 HR11 HR12 HR13 HR14 HR15 HR16 HR17 HR18 HR19 HR20 HR21 HR22 HR23 HR24 HR25 HR26 HR27 HR28 HR29 HR30 HR31 HR32 HS0]
          · isplitl [HR0]
            · iexact HR0
            isplitl [HR1]
            · iexact HR1
            isplitl [HR2]
            · iexact HR2
            isplitl [HR3]
            · iexact HR3
            isplitl [HR4]
            · iexact HR4
            isplitl [HR5]
            · iexact HR5
            isplitl [HR6]
            · iexact HR6
            isplitl [HR7]
            · iexact HR7
            isplitl [HR8]
            · iexact HR8
            isplitl [HR9]
            · iexact HR9
            isplitl [HR10]
            · iexact HR10
            isplitl [HR11]
            · iexact HR11
            isplitl [HR12]
            · iexact HR12
            isplitl [HR13]
            · iexact HR13
            isplitl [HR14]
            · iexact HR14
            isplitl [HR15]
            · iexact HR15
            isplitl [HR16]
            · iexact HR16
            isplitl [HR17]
            · iexact HR17
            isplitl [HR18]
            · iexact HR18
            isplitl [HR19]
            · iexact HR19
            isplitl [HR20]
            · iexact HR20
            isplitl [HR21]
            · iexact HR21
            isplitl [HR22]
            · iexact HR22
            isplitl [HR23]
            · iexact HR23
            isplitl [HR24]
            · iexact HR24
            isplitl [HR25]
            · iexact HR25
            isplitl [HR26]
            · iexact HR26
            isplitl [HR27]
            · iexact HR27
            isplitl [HR28]
            · iexact HR28
            isplitl [HR29]
            · iexact HR29
            isplitl [HR30]
            · iexact HR30
            isplitl [HR31]
            · iexact HR31
            isplitl [HR32]
            · iexact HR32
            unfold owns; iexists _; isplitr
            swap; · iexact HS0
            ipureintro; exact View.read_writes_of_cover _ _ _ _ _ (scover3_A_0 c _ _ _ _ _ _ _ _ _ _ _ _ _ _ _ _ _ _ _ _ _ _ _ _ _ _ _ _ _ _)
          iexact Hg
        isplitl [Ho]; · iexact Ho
        isplitl [H0]; · iexact H0
        isplitl [H1]; · iexact H1
        isplitl [H2]; · iexact H2
        isplitl [H3]; · iexact H3
        isplitl [H4]; · iexact H4
        isplitl [H5]; · iexact H5
        isplitl [H6]; · iexact H6
        isplitl [H7]; · iexists _; iexact H7
        iexists _; iexact H8
      · rw [PhiS_castSucc V c t, PhiS_pos V c _ _ hz]
        rw [outsAt3_A V c t h0 h1]
        unfold sout3_A_0; (try dsimp only)
        iintro ⟨⟨⟨HR0, HR1, HR2, HR3, HR4, HR5, HR6, HR7, HR8, HR9, HR10, HR11, HR12, HR13, HR14, HR15, HR16, HR17, HR18, HR19, HR20, HR21, HR22, HR23, HR24, HR25, HR26, HR27, HR28, HR29, HR30, HR31, HR32, HS0⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩⟩
        iapply ((kernelRun3_A c (grid3.coords t) _ _ _ _ _ _ _ _ _ _ _ _ _ _ _ _ _ _ _ _ ((hcond3_0 t).mpr h0) (fun h => h1 ((hcond3_1 t).mp h)) (iblk3 V c 0 t) (iblk3 V c 1 t) (iblk3 V c 2 t) (iblk3 V c 3 t) (iblk3 V c 4 t) (iblk3 V c 5 t) (iblk3 V c 6 t)).2.2.2 _ _ Set.univ _)
        isplitl [H0]; · iexact H0
        isplitl [H1]; · iexact H1
        isplitl [H2]; · iexact H2
        isplitl [H3]; · iexact H3
        isplitl [H4]; · iexact H4
        isplitl [H5]; · iexact H5
        isplitl [H6]; · iexact H6
        isplitl [H7]; · iexact H7
        isplitl [H8]; · iexact H8
        isplitl [HS0]; · iexists _; iexact HS0
        iintro ⟨H0, H1, H2, H3, H4, H5, H6, H7, H8, ⟨%es0, HS0⟩⟩
        isplitl [HR0 HR1 HR2 HR3 HR4 HR5 HR6 HR7 HR8 HR9 HR10 HR11 HR12 HR13 HR14 HR15 HR16 HR17 HR18 HR19 HR20 HR21 HR22 HR23 HR24 HR25 HR26 HR27 HR28 HR29 HR30 HR31 HR32 HS0 Hg]
        · isplitl [HR0 HR1 HR2 HR3 HR4 HR5 HR6 HR7 HR8 HR9 HR10 HR11 HR12 HR13 HR14 HR15 HR16 HR17 HR18 HR19 HR20 HR21 HR22 HR23 HR24 HR25 HR26 HR27 HR28 HR29 HR30 HR31 HR32 HS0]
          · isplitl [HR0]
            · iexact HR0
            isplitl [HR1]
            · iexact HR1
            isplitl [HR2]
            · iexact HR2
            isplitl [HR3]
            · iexact HR3
            isplitl [HR4]
            · iexact HR4
            isplitl [HR5]
            · iexact HR5
            isplitl [HR6]
            · iexact HR6
            isplitl [HR7]
            · iexact HR7
            isplitl [HR8]
            · iexact HR8
            isplitl [HR9]
            · iexact HR9
            isplitl [HR10]
            · iexact HR10
            isplitl [HR11]
            · iexact HR11
            isplitl [HR12]
            · iexact HR12
            isplitl [HR13]
            · iexact HR13
            isplitl [HR14]
            · iexact HR14
            isplitl [HR15]
            · iexact HR15
            isplitl [HR16]
            · iexact HR16
            isplitl [HR17]
            · iexact HR17
            isplitl [HR18]
            · iexact HR18
            isplitl [HR19]
            · iexact HR19
            isplitl [HR20]
            · iexact HR20
            isplitl [HR21]
            · iexact HR21
            isplitl [HR22]
            · iexact HR22
            isplitl [HR23]
            · iexact HR23
            isplitl [HR24]
            · iexact HR24
            isplitl [HR25]
            · iexact HR25
            isplitl [HR26]
            · iexact HR26
            isplitl [HR27]
            · iexact HR27
            isplitl [HR28]
            · iexact HR28
            isplitl [HR29]
            · iexact HR29
            isplitl [HR30]
            · iexact HR30
            isplitl [HR31]
            · iexact HR31
            isplitl [HR32]
            · iexact HR32
            unfold owns; iexists _; isplitr
            swap; · iexact HS0
            ipureintro; exact View.read_writes_of_cover _ _ _ _ _ (scover3_A_0 c _ _ _ _ _ _ _ _ _ _ _ _ _ _ _ _ _ _ _ _ _ _ _ _ _ _ _ _ _ _)
          iexact Hg
        isplitl [Ho]; · iexact Ho
        isplitl [H0]; · iexact H0
        isplitl [H1]; · iexact H1
        isplitl [H2]; · iexact H2
        isplitl [H3]; · iexact H3
        isplitl [H4]; · iexact H4
        isplitl [H5]; · iexact H5
        isplitl [H6]; · iexact H6
        isplitl [H7]; · iexists _; iexact H7
        iexists _; iexact H8
  · by_cases h1 : t.val % 14 = 13
    · rw [show (dat3 V c).leavesExact 0 t = owns (c : Thread nD τ) (ms3_0 t) fullShare ((dat3 V c).after 0 t) from by
      unfold Dat.leavesExact; rw [liveAt3_0 t], after3_0]
      rw [show (dat3 V c).leavesExact 1 t = owns (c : Thread nD τ) (ms3_1 t) fullShare ((dat3 V c).after 1 t) from by
      unfold Dat.leavesExact; rw [liveAt3_1 t], after3_1]
      rw [show (dat3 V c).leavesExact 2 t = owns (c : Thread nD τ) (ms3_2 t) fullShare ((dat3 V c).after 2 t) from by
      unfold Dat.leavesExact; rw [liveAt3_2 t], after3_2]
      rw [show (dat3 V c).leavesExact 3 t = owns (c : Thread nD τ) (ms3_3 t) fullShare ((dat3 V c).after 3 t) from by
      unfold Dat.leavesExact; rw [liveAt3_3 t], after3_3]
      rw [show (dat3 V c).leavesExact 4 t = owns (c : Thread nD τ) (ms3_4 t) fullShare ((dat3 V c).after 4 t) from by
      unfold Dat.leavesExact; rw [liveAt3_4 t], after3_4]
      rw [show (dat3 V c).leavesExact 5 t = owns (c : Thread nD τ) (ms3_5 t) fullShare ((dat3 V c).after 5 t) from by
      unfold Dat.leavesExact; rw [liveAt3_5 t], after3_5]
      rw [show (dat3 V c).leavesExact 6 t = owns (c : Thread nD τ) (ms3_6 t) fullShare ((dat3 V c).after 6 t) from by
      unfold Dat.leavesExact; rw [liveAt3_6 t], after3_6]
      rw [show (dat3 V c).leavesExact 7 t = owns (c : Thread nD τ) (ms3_7 t) fullShare ((dat3 V c).after 7 t) from by
      unfold Dat.leavesExact; rw [liveAt3_7_C t (fun h => h0 ((hcond3_0 t).mp h)) ((hcond3_1 t).mpr h1)], after3_7]
      rw [show (dat3 V c).leavesExact 8 t = owns (c : Thread nD τ) (ms3_8 t) fullShare ((dat3 V c).after 8 t) from by
      unfold Dat.leavesExact; rw [liveAt3_8_C t (fun h => h0 ((hcond3_0 t).mp h)) ((hcond3_1 t).mpr h1)], after3_8]
      by_cases hz : t.val = 0
      · exfalso; have hN : t.val < 336 := lt_of_lt_of_eq t.isLt (show cfg3.N = 336 from N_3); omega
      · rw [PhiS_castSucc V c t, PhiS_pos V c _ _ hz]
        rw [outsAt3_C V c t h0 h1]
        unfold out3_C_7 out3_C_8 sout3_C_0; (try dsimp only)
        iintro ⟨⟨⟨HR0, HR1, HR2, HR3, HR4, HR5, HR6, HR7, HR8, HR9, HR10, HR11, HR12, HR13, HR14, HR15, HR16, HR17, HR18, HR19, HR20, HR21, HR22, HR23, HR24, HR25, HR26, HR27, HR28, HR29, HR30, HR31, HR32, HS0⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩⟩
        iapply ((kernelRun3_C c (grid3.coords t) _ _ _ _ _ _ _ _ _ _ _ _ _ _ _ _ _ _ _ _ (fun h => h0 ((hcond3_0 t).mp h)) ((hcond3_1 t).mpr h1) (iblk3 V c 0 t) (iblk3 V c 1 t) (iblk3 V c 2 t) (iblk3 V c 3 t) (iblk3 V c 4 t) (iblk3 V c 5 t) (iblk3 V c 6 t) _).2.2.2 Set.univ _)
        isplitl [H0]; · iexact H0
        isplitl [H1]; · iexact H1
        isplitl [H2]; · iexact H2
        isplitl [H3]; · iexact H3
        isplitl [H4]; · iexact H4
        isplitl [H5]; · iexact H5
        isplitl [H6]; · iexact H6
        isplitl [H7]; · iexists _; iexact H7
        isplitl [H8]; · iexists _; iexact H8
        isplitl [HS0]; · iexact HS0
        iintro ⟨H0, H1, H2, H3, H4, H5, H6, ⟨%e7, H7⟩, ⟨%e8, H8⟩, ⟨%es0, HS0⟩⟩
        isplitl [HR0 HR1 HR2 HR3 HR4 HR5 HR6 HR7 HR8 HR9 HR10 HR11 HR12 HR13 HR14 HR15 HR16 HR17 HR18 HR19 HR20 HR21 HR22 HR23 HR24 HR25 HR26 HR27 HR28 HR29 HR30 HR31 HR32 HS0 Hg]
        · isplitl [HR0 HR1 HR2 HR3 HR4 HR5 HR6 HR7 HR8 HR9 HR10 HR11 HR12 HR13 HR14 HR15 HR16 HR17 HR18 HR19 HR20 HR21 HR22 HR23 HR24 HR25 HR26 HR27 HR28 HR29 HR30 HR31 HR32 HS0]
          · isplitl [HR0]
            · iexact HR0
            isplitl [HR1]
            · iexact HR1
            isplitl [HR2]
            · iexact HR2
            isplitl [HR3]
            · iexact HR3
            isplitl [HR4]
            · iexact HR4
            isplitl [HR5]
            · iexact HR5
            isplitl [HR6]
            · iexact HR6
            isplitl [HR7]
            · iexact HR7
            isplitl [HR8]
            · iexact HR8
            isplitl [HR9]
            · iexact HR9
            isplitl [HR10]
            · iexact HR10
            isplitl [HR11]
            · iexact HR11
            isplitl [HR12]
            · iexact HR12
            isplitl [HR13]
            · iexact HR13
            isplitl [HR14]
            · iexact HR14
            isplitl [HR15]
            · iexact HR15
            isplitl [HR16]
            · iexact HR16
            isplitl [HR17]
            · iexact HR17
            isplitl [HR18]
            · iexact HR18
            isplitl [HR19]
            · iexact HR19
            isplitl [HR20]
            · iexact HR20
            isplitl [HR21]
            · iexact HR21
            isplitl [HR22]
            · iexact HR22
            isplitl [HR23]
            · iexact HR23
            isplitl [HR24]
            · iexact HR24
            isplitl [HR25]
            · iexact HR25
            isplitl [HR26]
            · iexact HR26
            isplitl [HR27]
            · iexact HR27
            isplitl [HR28]
            · iexact HR28
            isplitl [HR29]
            · iexact HR29
            isplitl [HR30]
            · iexact HR30
            isplitl [HR31]
            · iexact HR31
            isplitl [HR32]
            · iexact HR32
            unfold owns; iexists _; isplitr
            swap; · iexact HS0
            ipureintro; exact View.read_writes_of_cover _ _ _ _ _ (scover3_C_0 c _ _ _ _ _ _ _ _ _ _ _ _ _ _ _ _ _ _ _ _ _ _ _ _ _ _ _ _ _ _ _)
          iexact Hg
        isplitl [Ho]; · iexact Ho
        isplitl [H0]; · iexact H0
        isplitl [H1]; · iexact H1
        isplitl [H2]; · iexact H2
        isplitl [H3]; · iexact H3
        isplitl [H4]; · iexact H4
        isplitl [H5]; · iexact H5
        isplitl [H6]; · iexact H6
        isplitl [H7]
        · unfold owns; iexists _; isplitr
          swap; · iexact H7
          ipureintro; exact View.read_writes_of_cover _ _ _ _ _ (cover3_C_7 c _ _ _ _ _ _ _ _ _ _ _ _ _ _ _ _ _ _ _ _ _ _ _ _ _ _ _ _ _ _ _)
        unfold owns; iexists _; isplitr
        swap; · iexact H8
        ipureintro; exact View.read_writes_of_cover _ _ _ _ _ (cover3_C_8 c _ _ _ _ _ _ _ _ _ _ _ _ _ _ _ _ _ _ _ _ _ _ _ _ _ _ _ _ _ _ _)
    · rw [show (dat3 V c).leavesExact 0 t = owns (c : Thread nD τ) (ms3_0 t) fullShare ((dat3 V c).after 0 t) from by
      unfold Dat.leavesExact; rw [liveAt3_0 t], after3_0]
      rw [show (dat3 V c).leavesExact 1 t = owns (c : Thread nD τ) (ms3_1 t) fullShare ((dat3 V c).after 1 t) from by
      unfold Dat.leavesExact; rw [liveAt3_1 t], after3_1]
      rw [show (dat3 V c).leavesExact 2 t = owns (c : Thread nD τ) (ms3_2 t) fullShare ((dat3 V c).after 2 t) from by
      unfold Dat.leavesExact; rw [liveAt3_2 t], after3_2]
      rw [show (dat3 V c).leavesExact 3 t = owns (c : Thread nD τ) (ms3_3 t) fullShare ((dat3 V c).after 3 t) from by
      unfold Dat.leavesExact; rw [liveAt3_3 t], after3_3]
      rw [show (dat3 V c).leavesExact 4 t = owns (c : Thread nD τ) (ms3_4 t) fullShare ((dat3 V c).after 4 t) from by
      unfold Dat.leavesExact; rw [liveAt3_4 t], after3_4]
      rw [show (dat3 V c).leavesExact 5 t = owns (c : Thread nD τ) (ms3_5 t) fullShare ((dat3 V c).after 5 t) from by
      unfold Dat.leavesExact; rw [liveAt3_5 t], after3_5]
      rw [show (dat3 V c).leavesExact 6 t = owns (c : Thread nD τ) (ms3_6 t) fullShare ((dat3 V c).after 6 t) from by
      unfold Dat.leavesExact; rw [liveAt3_6 t], after3_6]
      rw [Dat.leavesExact_idle (dat3 V c) 7 t (idleAt3_7_B t (fun h => h0 ((hcond3_0 t).mp h)) (fun h => h1 ((hcond3_1 t).mp h))) (noFlush3_7_B t (fun h => h0 ((hcond3_0 t).mp h)) (fun h => h1 ((hcond3_1 t).mp h)))]
      rw [Dat.leavesExact_idle (dat3 V c) 8 t (idleAt3_8_B t (fun h => h0 ((hcond3_0 t).mp h)) (fun h => h1 ((hcond3_1 t).mp h))) (noFlush3_8_B t (fun h => h0 ((hcond3_0 t).mp h)) (fun h => h1 ((hcond3_1 t).mp h)))]
      by_cases hz : t.val = 0
      · exfalso; have hN : t.val < 336 := lt_of_lt_of_eq t.isLt (show cfg3.N = 336 from N_3); omega
      · rw [PhiS_castSucc V c t, PhiS_pos V c _ _ hz]
        rw [outsAt3_B V c t h0 h1]
        unfold sout3_B_0; (try dsimp only)
        iintro ⟨⟨⟨HR0, HR1, HR2, HR3, HR4, HR5, HR6, HR7, HR8, HR9, HR10, HR11, HR12, HR13, HR14, HR15, HR16, HR17, HR18, HR19, HR20, HR21, HR22, HR23, HR24, HR25, HR26, HR27, HR28, HR29, HR30, HR31, HR32, HS0⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩⟩
        iapply ((kernelRun3_B c (grid3.coords t) _ _ _ _ _ _ _ _ _ _ _ _ _ _ _ _ _ _ _ _ (fun h => h0 ((hcond3_0 t).mp h)) (fun h => h1 ((hcond3_1 t).mp h)) (iblk3 V c 0 t) (iblk3 V c 1 t) (iblk3 V c 2 t) (iblk3 V c 3 t) (iblk3 V c 4 t) (iblk3 V c 5 t) (iblk3 V c 6 t) _).2.2.2 _ _ Set.univ _)
        isplitl [H0]; · iexact H0
        isplitl [H1]; · iexact H1
        isplitl [H2]; · iexact H2
        isplitl [H3]; · iexact H3
        isplitl [H4]; · iexact H4
        isplitl [H5]; · iexact H5
        isplitl [H6]; · iexact H6
        isplitl [H7]; · iexact H7
        isplitl [H8]; · iexact H8
        isplitl [HS0]; · iexact HS0
        iintro ⟨H0, H1, H2, H3, H4, H5, H6, H7, H8, ⟨%es0, HS0⟩⟩
        isplitl [HR0 HR1 HR2 HR3 HR4 HR5 HR6 HR7 HR8 HR9 HR10 HR11 HR12 HR13 HR14 HR15 HR16 HR17 HR18 HR19 HR20 HR21 HR22 HR23 HR24 HR25 HR26 HR27 HR28 HR29 HR30 HR31 HR32 HS0 Hg]
        · isplitl [HR0 HR1 HR2 HR3 HR4 HR5 HR6 HR7 HR8 HR9 HR10 HR11 HR12 HR13 HR14 HR15 HR16 HR17 HR18 HR19 HR20 HR21 HR22 HR23 HR24 HR25 HR26 HR27 HR28 HR29 HR30 HR31 HR32 HS0]
          · isplitl [HR0]
            · iexact HR0
            isplitl [HR1]
            · iexact HR1
            isplitl [HR2]
            · iexact HR2
            isplitl [HR3]
            · iexact HR3
            isplitl [HR4]
            · iexact HR4
            isplitl [HR5]
            · iexact HR5
            isplitl [HR6]
            · iexact HR6
            isplitl [HR7]
            · iexact HR7
            isplitl [HR8]
            · iexact HR8
            isplitl [HR9]
            · iexact HR9
            isplitl [HR10]
            · iexact HR10
            isplitl [HR11]
            · iexact HR11
            isplitl [HR12]
            · iexact HR12
            isplitl [HR13]
            · iexact HR13
            isplitl [HR14]
            · iexact HR14
            isplitl [HR15]
            · iexact HR15
            isplitl [HR16]
            · iexact HR16
            isplitl [HR17]
            · iexact HR17
            isplitl [HR18]
            · iexact HR18
            isplitl [HR19]
            · iexact HR19
            isplitl [HR20]
            · iexact HR20
            isplitl [HR21]
            · iexact HR21
            isplitl [HR22]
            · iexact HR22
            isplitl [HR23]
            · iexact HR23
            isplitl [HR24]
            · iexact HR24
            isplitl [HR25]
            · iexact HR25
            isplitl [HR26]
            · iexact HR26
            isplitl [HR27]
            · iexact HR27
            isplitl [HR28]
            · iexact HR28
            isplitl [HR29]
            · iexact HR29
            isplitl [HR30]
            · iexact HR30
            isplitl [HR31]
            · iexact HR31
            isplitl [HR32]
            · iexact HR32
            unfold owns; iexists _; isplitr
            swap; · iexact HS0
            ipureintro; exact View.read_writes_of_cover _ _ _ _ _ (scover3_B_0 c _ _ _ _ _ _ _ _ _ _ _ _ _ _ _ _ _ _ _ _ _ _ _ _ _ _ _ _ _ _ _)
          iexact Hg
        isplitl [Ho]; · iexact Ho
        isplitl [H0]; · iexact H0
        isplitl [H1]; · iexact H1
        isplitl [H2]; · iexact H2
        isplitl [H3]; · iexact H3
        isplitl [H4]; · iexact H4
        isplitl [H5]; · iexact H5
        isplitl [H6]; · iexact H6
        isplitl [H7]; · iexists _; iexact H7
        iexists _; iexact H8

/-- The body table's row at point `t`'s slots is the body as `bodyAt3` spells it. -/
theorem defs₀_row3 (t : Fin cfg3.N) :
    defs₀ (F := F) .tc cfg3.body (cfg3.bodyArgs t (cfg3.slots t)) = bodyAt3 t := by
  unfold defs₀; rw [Defs.onTc_tc]

/-- The library's body obligation, at every point: the body's triple restated (Lib/Pipeline/FrameBody.lean `triple_restated`). -/
theorem body_obligation3 (c : Dev nD) : BodyObligation (dat3 (F := F) V c) (defs₀ (F := F)) Variants.none () Set.univ := fun t => by
  rw [bigSep_W3, bigSep_W3, defs₀_row3]
  exact triple_restated (sound_body3 V c t) rfl .rfl fun _ => .rfl

/-- What the launch hands the region (`ΦA`) is the invariant before the first point. -/
theorem hin (c : Dev nD) : Pipeline.ΦA spec3 c ⊢ (dat3 V c).Φ 0 := by
  rw [show (dat3 V c).Φ 0 = PhiS V c 0 (Nat.zero_le _) from rfl, PhiS_zero V c 0 _ rfl]
  try exact Idealize.SL.BI.Entails.refl _

/-- After any point but the first the invariant gives `ΦA` back: the carried scratch's named contents are forgotten. -/
theorem Phi_out (c : Dev nD) (t : Fin (cfg3.N + 1)) (ht : t.val ≠ 0) : (dat3 V c).Φ t ⊢ Pipeline.ΦA spec3 c := by
  rw [show (dat3 V c).Φ t = PhiS V c t.val (Nat.le_of_lt_succ t.isLt) from rfl, PhiS_pos V c _ _ ht, PhiA3_eq]
  iintro ⟨⟨HR0, HR1, HR2, HR3, HR4, HR5, HR6, HR7, HR8, HR9, HR10, HR11, HR12, HR13, HR14, HR15, HR16, HR17, HR18, HR19, HR20, HR21, HR22, HR23, HR24, HR25, HR26, HR27, HR28, HR29, HR30, HR31, HR32, HS0⟩, Hg⟩
  isplitl [HR0 HR1 HR2 HR3 HR4 HR5 HR6 HR7 HR8 HR9 HR10 HR11 HR12 HR13 HR14 HR15 HR16 HR17 HR18 HR19 HR20 HR21 HR22 HR23 HR24 HR25 HR26 HR27 HR28 HR29 HR30 HR31 HR32 HS0]
  · isplitl [HR0]
    · iexact HR0
    isplitl [HR1]
    · iexact HR1
    isplitl [HR2]
    · iexact HR2
    isplitl [HR3]
    · iexact HR3
    isplitl [HR4]
    · iexact HR4
    isplitl [HR5]
    · iexact HR5
    isplitl [HR6]
    · iexact HR6
    isplitl [HR7]
    · iexact HR7
    isplitl [HR8]
    · iexact HR8
    isplitl [HR9]
    · iexact HR9
    isplitl [HR10]
    · iexact HR10
    isplitl [HR11]
    · iexact HR11
    isplitl [HR12]
    · iexact HR12
    isplitl [HR13]
    · iexact HR13
    isplitl [HR14]
    · iexact HR14
    isplitl [HR15]
    · iexact HR15
    isplitl [HR16]
    · iexact HR16
    isplitl [HR17]
    · iexact HR17
    isplitl [HR18]
    · iexact HR18
    isplitl [HR19]
    · iexact HR19
    isplitl [HR20]
    · iexact HR20
    isplitl [HR21]
    · iexact HR21
    isplitl [HR22]
    · iexact HR22
    isplitl [HR23]
    · iexact HR23
    isplitl [HR24]
    · iexact HR24
    isplitl [HR25]
    · iexact HR25
    isplitl [HR26]
    · iexact HR26
    isplitl [HR27]
    · iexact HR27
    isplitl [HR28]
    · iexact HR28
    isplitl [HR29]
    · iexact HR29
    isplitl [HR30]
    · iexact HR30
    isplitl [HR31]
    · iexact HR31
    isplitl [HR32]
    · iexact HR32
    iexists _; iexact HS0
  iexact Hg

/-- The same after the last point. -/
theorem hout (c : Dev nD) : (dat3 V c).Φ (Fin.last cfg3.N) ⊢ Pipeline.ΦA spec3 c :=
  Phi_out V c _ (by rw [Fin.val_last]; have : cfg3.N = 336 := N_3; omega)

end Regions

end Cert.KernelIdeal.Gen

end
-- ==== Proof.KernelIdeal.Hosts0.lean ====
/- The host stretches: what each writes. -/
module

public import proofs.«01_k».proof.Proof.Gen.KernelIdeal.Launch
public import proofs.«01_k».proof.Proof.Gen.KernelIdeal.Skeleton
public import proofs.«01_k».proof.Proof.Gen.KernelIdeal.Points
public import Idealize.ShloMosaic.Lib.Pipeline.FrameBody
public import Idealize.ShloMosaic.Lib.Pipeline.RegionsLoop
public import Idealize.ShloMosaic.Lib.Pipeline.FrameSuffix
public import Idealize.ShloMosaic.Lib.Ring
public import Idealize.ShloMosaic.Lib.Tactic
public import Idealize.ShloMosaic.Lib.UnfoldOut
public import Idealize.ShloMosaic.Lib.WordCmp

@[expose] public section

-- membership in a rectangle of production extents (`View.cover_of_tiled`): the elaborator's structural look
-- recurses once per coordinate of the long axes
set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! # THE RUN: @main's segments from the launch to the return (Lib/Pipeline/Regions.lean `θ_run_regions_kit`) -/

/-- @main's argument arrays, as TensorCore references: what the frame claim reads back. -/
abbrev argRefs : List (Ref sig .tc) := [main_arg0, main_arg1, main_arg2, main_arg3, main_arg4, main_arg5]

/-! ## The host stretches: none allocates a buffer, and each lists the references its operations write, in order,
    so that a reference absent from the list keeps its contents across the stretch (Lib/StableHlo/Run.lean
    `after_of_writes_sub`) -/

/-- No operation of `hostOps0` allocates a buffer. -/
theorem hostOps0_fresh : (hostOps0 : List (HloOp τ sig (Elt F))).Forall fun op => op.fresh = ∅ := by
  simp only [List.Forall]; repeat' constructor
/-- The reference each operation of `hostOps0` writes, in order. -/
abbrev hostOps0_W : List (Ref sig .tc) := [main_v0, main_v1]
theorem hostOps0_writes : (hostOps0 : List (HloOp τ sig (Elt F))).Forall fun op => op.writes ⊆ (hostOps0_W.map (Proc.devRef (τ := τ) .tc)).toFinset :=
  StableHlo.forall_writes_sub_of_map rfl
/-- `hostOps0` writes none of the argument arrays (checked: each argument against each reference it writes). -/
theorem hostOps0_args : ∀ a ∈ argRefs, a ∉ hostOps0_W := ListAll.forall_mem_of_all_decide (by decide +kernel)

/-- No operation of `hostOps2` allocates a buffer. -/
theorem hostOps2_fresh : (hostOps2 : List (HloOp τ sig (Elt F))).Forall fun op => op.fresh = ∅ := by
  simp only [List.Forall]; repeat' constructor
/-- The reference each operation of `hostOps2` writes, in order. -/
abbrev hostOps2_W : List (Ref sig .tc) := [main_v4]
theorem hostOps2_writes : (hostOps2 : List (HloOp τ sig (Elt F))).Forall fun op => op.writes ⊆ (hostOps2_W.map (Proc.devRef (τ := τ) .tc)).toFinset :=
  StableHlo.forall_writes_sub_of_map rfl
/-- `hostOps2` writes none of the argument arrays (checked: each argument against each reference it writes). -/
theorem hostOps2_args : ∀ a ∈ argRefs, a ∉ hostOps2_W := ListAll.forall_mem_of_all_decide (by decide +kernel)

/-- No operation of `hostOps4` allocates a buffer. -/
theorem hostOps4_fresh : (hostOps4 : List (HloOp τ sig (Elt F))).Forall fun op => op.fresh = ∅ := by
  simp only [List.Forall]; repeat' constructor
/-- The reference each operation of `hostOps4` writes, in order. -/
abbrev hostOps4_W : List (Ref sig .tc) := [main_cst, main_v7, main_cst_0, main_v8]
theorem hostOps4_writes : (hostOps4 : List (HloOp τ sig (Elt F))).Forall fun op => op.writes ⊆ (hostOps4_W.map (Proc.devRef (τ := τ) .tc)).toFinset :=
  StableHlo.forall_writes_sub_of_map rfl
/-- `hostOps4` writes none of the argument arrays (checked: each argument against each reference it writes). -/
theorem hostOps4_args : ∀ a ∈ argRefs, a ∉ hostOps4_W := ListAll.forall_mem_of_all_decide (by decide +kernel)

end Cert.KernelIdeal.Gen

end
-- ==== Proof.KernelIdeal.Fold0.lean ====
/- The buffers' contents between the items of the program, each region's arrays at its exit, and the arguments read back. -/
module

public import proofs.«01_k».proof.Proof.KernelIdeal.Region0
public import proofs.«01_k».proof.Proof.KernelIdeal.Region1
public import proofs.«01_k».proof.Proof.KernelIdeal.Region2
public import proofs.«01_k».proof.Proof.KernelIdeal.Region3
public import proofs.«01_k».proof.Proof.KernelIdeal.Hosts0

@[expose] public section

-- membership in a rectangle of production extents (`View.cover_of_tiled`): the elaborator's structural look
-- recurses once per coordinate of the long axes
set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The buffer contents at each segment boundary: a fold through @main, and what each item leaves unchanged -/

/-- Core `c`'s buffers at launch. -/
abbrev W0 : Dev nD → Valuation τ sig (Elt F) := fun c b => (s₀ m ρ).mem ((c : Dev nD), b)
theorem W0_args (c : Dev nD) : ∀ a ∈ argRefs, W0 m ρ c (Proc.devRef .tc a) = m ((c : Thread nD τ).loc a) := fun _ _ => rfl
/-- After `hostOps0` (region 0's entry). -/
abbrev W1 : Dev nD → Valuation τ sig (Elt F) := fun c => StableHlo.after hostOps0 (W0 m ρ c)
/-- A reference `hostOps0` does not write keeps its contents across it. -/
theorem W1_of (c : Dev nD) (r : Ref sig .tc) (h : r ∉ hostOps0_W) : W1 m ρ c (Proc.devRef .tc r) = W0 m ρ c (Proc.devRef .tc r) :=
  StableHlo.after_of_writes_sub hostOps0 _ hostOps0_writes h
theorem W1_args (c : Dev nD) : ∀ a ∈ argRefs, W1 m ρ c (Proc.devRef .tc a) = m ((c : Thread nD τ).loc a) :=
  fun a ha => (W1_of m ρ c a (hostOps0_args a ha)).trans (W0_args m ρ c a ha)
/-- The same read at the TensorCore's references (what region 0's proof data take). -/
abbrev V1 : (c : Dev nD) → (b : Ref sig .tc) → Buf (Elt F) ((c : Thread nD τ).loc b) := fun c b => W1 m ρ c b
/-- At region 0's exit: its arrays at what the pipeline leaves (the inputs as entered, each output's write-backs
    folded: `Dat.arrAt … N`), every other buffer as entered (Lib/Pipeline/FrameSuffix.lean `withArrays`) (region 1's entry). -/
def W2 (c : Dev nD) : Valuation τ sig (Elt F) :=
  Pipeline.withArrays spec0 c (W1 m ρ c) fun w => (dat0 (V1 m ρ) c).arrAt w cfg0.N
theorem W2_arr (c : Dev nD) (w : Fin cfg0.W) :
    W2 m ρ c (Proc.devRef .tc (Pipeline.arrRef spec0 w)) = (dat0 (V1 m ρ) c).arrAt w cfg0.N := by
  unfold W2; exact Pipeline.withArrays_arr spec0 launch0.win.arr_inj c _ _ w
theorem W2_of_ne (c : Dev nD) (b : Ref sig .tc) (hb : ∀ w, Pipeline.arrRef spec0 w ≠ b) :
    W2 m ρ c (Proc.devRef .tc b) = W1 m ρ c (Proc.devRef .tc b) := by
  unfold W2; exact Pipeline.withArrays_of_ne spec0 c _ _ b hb
/-- A reference that is none of region 0's OUTPUT arrays keeps its entry contents across it: an input window's
    array is never written back (`Dat.arrAt_in`, `A_eq0`); any other buffer is left as is. -/
theorem W2_of (c : Dev nD) (r : Ref sig .tc) (h : ∀ w : Fin cfg0.W, Pipeline.arrRef spec0 w = r → (cfg0.win w).isOut = false) :
    W2 m ρ c (Proc.devRef .tc r) = W1 m ρ c (Proc.devRef .tc r) := by
  by_cases hw : ∃ w : Fin cfg0.W, Pipeline.arrRef spec0 w = r
  · obtain ⟨w, rfl⟩ := hw
    exact (W2_arr m ρ c w).trans (((dat0 (V1 m ρ) c).arrAt_in w (h w rfl) _).trans (A_eq0 (V1 m ρ) c w))
  · exact W2_of_ne m ρ c r fun w e => hw ⟨w, e⟩
/-- Every argument among region 0's arrays is an input window's (checked: each argument against each window). -/
theorem argsIn0 : ∀ a ∈ argRefs, ∀ w : Fin cfg0.W, Pipeline.arrRef spec0 w = a → (cfg0.win w).isOut = false :=
  ListAll.forall_mem_of_all_decide (by decide +kernel)
theorem W2_args (c : Dev nD) : ∀ a ∈ argRefs, W2 m ρ c (Proc.devRef .tc a) = m ((c : Thread nD τ).loc a) :=
  fun a ha => (W2_of m ρ c a (argsIn0 a ha)).trans (W1_args m ρ c a ha)
/-- The same read at the TensorCore's references (region 0's exit contents). -/
abbrev V2 : (c : Dev nD) → (b : Ref sig .tc) → Buf (Elt F) ((c : Thread nD τ).loc b) := fun c b => W2 m ρ c b
/-- At region 0's exit each of its arrays holds what the pipeline leaves (`hF0`) and every other buffer what it
    held at entry (`hrest0`): the two hypotheses of Lib/Pipeline/RegionsLoop.lean `unscopedBufs_of_arrays`. -/
theorem hF0 (c : Dev nD) (w : Fin cfg0.W) : (dat0 (V1 m ρ) c).arrAt w cfg0.N = V2 m ρ c (Pipeline.arrRef spec0 w) :=
  (W2_arr m ρ c w).symm
theorem hrest0 (c : Dev nD) : ∀ b, b ∉ Finset.univ.image (Pipeline.arrRef spec0) → V2 m ρ c b = V1 m ρ c b :=
  fun b hb => W2_of_ne m ρ c b fun w e => hb (Finset.mem_image.mpr ⟨w, Finset.mem_univ _, e⟩)

/-- At region 1's exit: its arrays at what the pipeline leaves (the inputs as entered, each output's write-backs
    folded: `Dat.arrAt … N`), every other buffer as entered (Lib/Pipeline/FrameSuffix.lean `withArrays`). -/
def W3 (c : Dev nD) : Valuation τ sig (Elt F) :=
  Pipeline.withArrays spec1 c (W2 m ρ c) fun w => (dat1 (V2 m ρ) c).arrAt w cfg1.N
theorem W3_arr (c : Dev nD) (w : Fin cfg1.W) :
    W3 m ρ c (Proc.devRef .tc (Pipeline.arrRef spec1 w)) = (dat1 (V2 m ρ) c).arrAt w cfg1.N := by
  unfold W3; exact Pipeline.withArrays_arr spec1 launch1.win.arr_inj c _ _ w
theorem W3_of_ne (c : Dev nD) (b : Ref sig .tc) (hb : ∀ w, Pipeline.arrRef spec1 w ≠ b) :
    W3 m ρ c (Proc.devRef .tc b) = W2 m ρ c (Proc.devRef .tc b) := by
  unfold W3; exact Pipeline.withArrays_of_ne spec1 c _ _ b hb
/-- A reference that is none of region 1's OUTPUT arrays keeps its entry contents across it: an input window's
    array is never written back (`Dat.arrAt_in`, `A_eq1`); any other buffer is left as is. -/
theorem W3_of (c : Dev nD) (r : Ref sig .tc) (h : ∀ w : Fin cfg1.W, Pipeline.arrRef spec1 w = r → (cfg1.win w).isOut = false) :
    W3 m ρ c (Proc.devRef .tc r) = W2 m ρ c (Proc.devRef .tc r) := by
  by_cases hw : ∃ w : Fin cfg1.W, Pipeline.arrRef spec1 w = r
  · obtain ⟨w, rfl⟩ := hw
    exact (W3_arr m ρ c w).trans (((dat1 (V2 m ρ) c).arrAt_in w (h w rfl) _).trans (A_eq1 (V2 m ρ) c w))
  · exact W3_of_ne m ρ c r fun w e => hw ⟨w, e⟩
/-- Every argument among region 1's arrays is an input window's (checked: each argument against each window). -/
theorem argsIn1 : ∀ a ∈ argRefs, ∀ w : Fin cfg1.W, Pipeline.arrRef spec1 w = a → (cfg1.win w).isOut = false :=
  ListAll.forall_mem_of_all_decide (by decide +kernel)
theorem W3_args (c : Dev nD) : ∀ a ∈ argRefs, W3 m ρ c (Proc.devRef .tc a) = m ((c : Thread nD τ).loc a) :=
  fun a ha => (W3_of m ρ c a (argsIn1 a ha)).trans (W2_args m ρ c a ha)
/-- The same read at the TensorCore's references (region 1's exit contents). -/
abbrev V3 : (c : Dev nD) → (b : Ref sig .tc) → Buf (Elt F) ((c : Thread nD τ).loc b) := fun c b => W3 m ρ c b
/-- At region 1's exit each of its arrays holds what the pipeline leaves (`hF1`) and every other buffer what it
    held at entry (`hrest1`): the two hypotheses of Lib/Pipeline/RegionsLoop.lean `unscopedBufs_of_arrays`. -/
theorem hF1 (c : Dev nD) (w : Fin cfg1.W) : (dat1 (V2 m ρ) c).arrAt w cfg1.N = V3 m ρ c (Pipeline.arrRef spec1 w) :=
  (W3_arr m ρ c w).symm
theorem hrest1 (c : Dev nD) : ∀ b, b ∉ Finset.univ.image (Pipeline.arrRef spec1) → V3 m ρ c b = V2 m ρ c b :=
  fun b hb => W3_of_ne m ρ c b fun w e => hb (Finset.mem_image.mpr ⟨w, Finset.mem_univ _, e⟩)

/-- After `hostOps2` (region 2's entry). -/
abbrev W4 : Dev nD → Valuation τ sig (Elt F) := fun c => StableHlo.after hostOps2 (W3 m ρ c)
/-- A reference `hostOps2` does not write keeps its contents across it. -/
theorem W4_of (c : Dev nD) (r : Ref sig .tc) (h : r ∉ hostOps2_W) : W4 m ρ c (Proc.devRef .tc r) = W3 m ρ c (Proc.devRef .tc r) :=
  StableHlo.after_of_writes_sub hostOps2 _ hostOps2_writes h
theorem W4_args (c : Dev nD) : ∀ a ∈ argRefs, W4 m ρ c (Proc.devRef .tc a) = m ((c : Thread nD τ).loc a) :=
  fun a ha => (W4_of m ρ c a (hostOps2_args a ha)).trans (W3_args m ρ c a ha)
/-- The same read at the TensorCore's references (what region 2's proof data take). -/
abbrev V4 : (c : Dev nD) → (b : Ref sig .tc) → Buf (Elt F) ((c : Thread nD τ).loc b) := fun c b => W4 m ρ c b
/-- At region 2's exit: its arrays at what the pipeline leaves (the inputs as entered, each output's write-backs
    folded: `Dat.arrAt … N`), every other buffer as entered (Lib/Pipeline/FrameSuffix.lean `withArrays`) (region 3's entry). -/
def W5 (c : Dev nD) : Valuation τ sig (Elt F) :=
  Pipeline.withArrays spec2 c (W4 m ρ c) fun w => (dat2 (V4 m ρ) c).arrAt w cfg2.N
theorem W5_arr (c : Dev nD) (w : Fin cfg2.W) :
    W5 m ρ c (Proc.devRef .tc (Pipeline.arrRef spec2 w)) = (dat2 (V4 m ρ) c).arrAt w cfg2.N := by
  unfold W5; exact Pipeline.withArrays_arr spec2 launch2.win.arr_inj c _ _ w
theorem W5_of_ne (c : Dev nD) (b : Ref sig .tc) (hb : ∀ w, Pipeline.arrRef spec2 w ≠ b) :
    W5 m ρ c (Proc.devRef .tc b) = W4 m ρ c (Proc.devRef .tc b) := by
  unfold W5; exact Pipeline.withArrays_of_ne spec2 c _ _ b hb
/-- A reference that is none of region 2's OUTPUT arrays keeps its entry contents across it: an input window's
    array is never written back (`Dat.arrAt_in`, `A_eq2`); any other buffer is left as is. -/
theorem W5_of (c : Dev nD) (r : Ref sig .tc) (h : ∀ w : Fin cfg2.W, Pipeline.arrRef spec2 w = r → (cfg2.win w).isOut = false) :
    W5 m ρ c (Proc.devRef .tc r) = W4 m ρ c (Proc.devRef .tc r) := by
  by_cases hw : ∃ w : Fin cfg2.W, Pipeline.arrRef spec2 w = r
  · obtain ⟨w, rfl⟩ := hw
    exact (W5_arr m ρ c w).trans (((dat2 (V4 m ρ) c).arrAt_in w (h w rfl) _).trans (A_eq2 (V4 m ρ) c w))
  · exact W5_of_ne m ρ c r fun w e => hw ⟨w, e⟩
/-- Every argument among region 2's arrays is an input window's (checked: each argument against each window). -/
theorem argsIn2 : ∀ a ∈ argRefs, ∀ w : Fin cfg2.W, Pipeline.arrRef spec2 w = a → (cfg2.win w).isOut = false :=
  ListAll.forall_mem_of_all_decide (by decide +kernel)
theorem W5_args (c : Dev nD) : ∀ a ∈ argRefs, W5 m ρ c (Proc.devRef .tc a) = m ((c : Thread nD τ).loc a) :=
  fun a ha => (W5_of m ρ c a (argsIn2 a ha)).trans (W4_args m ρ c a ha)
/-- The same read at the TensorCore's references (region 2's exit contents). -/
abbrev V5 : (c : Dev nD) → (b : Ref sig .tc) → Buf (Elt F) ((c : Thread nD τ).loc b) := fun c b => W5 m ρ c b
/-- At region 2's exit each of its arrays holds what the pipeline leaves (`hF2`) and every other buffer what it
    held at entry (`hrest2`): the two hypotheses of Lib/Pipeline/RegionsLoop.lean `unscopedBufs_of_arrays`. -/
theorem hF2 (c : Dev nD) (w : Fin cfg2.W) : (dat2 (V4 m ρ) c).arrAt w cfg2.N = V5 m ρ c (Pipeline.arrRef spec2 w) :=
  (W5_arr m ρ c w).symm
theorem hrest2 (c : Dev nD) : ∀ b, b ∉ Finset.univ.image (Pipeline.arrRef spec2) → V5 m ρ c b = V4 m ρ c b :=
  fun b hb => W5_of_ne m ρ c b fun w e => hb (Finset.mem_image.mpr ⟨w, Finset.mem_univ _, e⟩)

/-- At region 3's exit: its arrays at what the pipeline leaves (the inputs as entered, each output's write-backs
    folded: `Dat.arrAt … N`), every other buffer as entered (Lib/Pipeline/FrameSuffix.lean `withArrays`). -/
def W6 (c : Dev nD) : Valuation τ sig (Elt F) :=
  Pipeline.withArrays spec3 c (W5 m ρ c) fun w => (dat3 (V5 m ρ) c).arrAt w cfg3.N
theorem W6_arr (c : Dev nD) (w : Fin cfg3.W) :
    W6 m ρ c (Proc.devRef .tc (Pipeline.arrRef spec3 w)) = (dat3 (V5 m ρ) c).arrAt w cfg3.N := by
  unfold W6; exact Pipeline.withArrays_arr spec3 launch3.win.arr_inj c _ _ w
theorem W6_of_ne (c : Dev nD) (b : Ref sig .tc) (hb : ∀ w, Pipeline.arrRef spec3 w ≠ b) :
    W6 m ρ c (Proc.devRef .tc b) = W5 m ρ c (Proc.devRef .tc b) := by
  unfold W6; exact Pipeline.withArrays_of_ne spec3 c _ _ b hb
/-- A reference that is none of region 3's OUTPUT arrays keeps its entry contents across it: an input window's
    array is never written back (`Dat.arrAt_in`, `A_eq3`); any other buffer is left as is. -/
theorem W6_of (c : Dev nD) (r : Ref sig .tc) (h : ∀ w : Fin cfg3.W, Pipeline.arrRef spec3 w = r → (cfg3.win w).isOut = false) :
    W6 m ρ c (Proc.devRef .tc r) = W5 m ρ c (Proc.devRef .tc r) := by
  by_cases hw : ∃ w : Fin cfg3.W, Pipeline.arrRef spec3 w = r
  · obtain ⟨w, rfl⟩ := hw
    exact (W6_arr m ρ c w).trans (((dat3 (V5 m ρ) c).arrAt_in w (h w rfl) _).trans (A_eq3 (V5 m ρ) c w))
  · exact W6_of_ne m ρ c r fun w e => hw ⟨w, e⟩
/-- Every argument among region 3's arrays is an input window's (checked: each argument against each window). -/
theorem argsIn3 : ∀ a ∈ argRefs, ∀ w : Fin cfg3.W, Pipeline.arrRef spec3 w = a → (cfg3.win w).isOut = false :=
  ListAll.forall_mem_of_all_decide (by decide +kernel)
theorem W6_args (c : Dev nD) : ∀ a ∈ argRefs, W6 m ρ c (Proc.devRef .tc a) = m ((c : Thread nD τ).loc a) :=
  fun a ha => (W6_of m ρ c a (argsIn3 a ha)).trans (W5_args m ρ c a ha)
/-- The same read at the TensorCore's references (region 3's exit contents). -/
abbrev V6 : (c : Dev nD) → (b : Ref sig .tc) → Buf (Elt F) ((c : Thread nD τ).loc b) := fun c b => W6 m ρ c b
/-- At region 3's exit each of its arrays holds what the pipeline leaves (`hF3`) and every other buffer what it
    held at entry (`hrest3`): the two hypotheses of Lib/Pipeline/RegionsLoop.lean `unscopedBufs_of_arrays`. -/
theorem hF3 (c : Dev nD) (w : Fin cfg3.W) : (dat3 (V5 m ρ) c).arrAt w cfg3.N = V6 m ρ c (Pipeline.arrRef spec3 w) :=
  (W6_arr m ρ c w).symm
theorem hrest3 (c : Dev nD) : ∀ b, b ∉ Finset.univ.image (Pipeline.arrRef spec3) → V6 m ρ c b = V5 m ρ c b :=
  fun b hb => W6_of_ne m ρ c b fun w e => hb (Finset.mem_image.mpr ⟨w, Finset.mem_univ _, e⟩)

/-- After `hostOps4`. -/
abbrev W7 : Dev nD → Valuation τ sig (Elt F) := fun c => StableHlo.after hostOps4 (W6 m ρ c)
/-- A reference `hostOps4` does not write keeps its contents across it. -/
theorem W7_of (c : Dev nD) (r : Ref sig .tc) (h : r ∉ hostOps4_W) : W7 m ρ c (Proc.devRef .tc r) = W6 m ρ c (Proc.devRef .tc r) :=
  StableHlo.after_of_writes_sub hostOps4 _ hostOps4_writes h
theorem W7_args (c : Dev nD) : ∀ a ∈ argRefs, W7 m ρ c (Proc.devRef .tc a) = m ((c : Thread nD τ).loc a) :=
  fun a ha => (W7_of m ρ c a (hostOps4_args a ha)).trans (W6_args m ρ c a ha)

/-! ### The arguments end as launched: no host stretch writes one and no region may change one (a region reads it
    through an input window or bypasses it) -/

theorem W7_main_arg0 (c : Dev nD) : W7 m ρ c (Proc.devRef .tc main_arg0) = m ((c : Thread nD τ).loc main_arg0) :=
  W7_args m ρ c main_arg0 (by decide)
theorem W7_main_arg1 (c : Dev nD) : W7 m ρ c (Proc.devRef .tc main_arg1) = m ((c : Thread nD τ).loc main_arg1) :=
  W7_args m ρ c main_arg1 (by decide)
theorem W7_main_arg2 (c : Dev nD) : W7 m ρ c (Proc.devRef .tc main_arg2) = m ((c : Thread nD τ).loc main_arg2) :=
  W7_args m ρ c main_arg2 (by decide)
theorem W7_main_arg3 (c : Dev nD) : W7 m ρ c (Proc.devRef .tc main_arg3) = m ((c : Thread nD τ).loc main_arg3) :=
  W7_args m ρ c main_arg3 (by decide)
theorem W7_main_arg4 (c : Dev nD) : W7 m ρ c (Proc.devRef .tc main_arg4) = m ((c : Thread nD τ).loc main_arg4) :=
  W7_args m ρ c main_arg4 (by decide)
theorem W7_main_arg5 (c : Dev nD) : W7 m ρ c (Proc.devRef .tc main_arg5) = m ((c : Thread nD τ).loc main_arg5) :=
  W7_args m ρ c main_arg5 (by decide)
end Cert.KernelIdeal.Gen

end
-- ==== Proof.KernelIdeal.State.lean ====
/- The proof data of the four regions and the state between two items. -/
module

public import proofs.«01_k».proof.Proof.KernelIdeal.Fold0

@[expose] public section

-- membership in a rectangle of production extents (`View.cover_of_tiled`): the elaborator's structural look
-- recurses once per coordinate of the long axes
set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The proof data family and the thread state -/

/-- The prefetched tables' admissible contents: no pipeline has a table. -/
abbrev adm : (p : Fin 4) → (pcfgs (F := F) p).Adm := fun p => (cfgs p).toPCfg_adm
/-- Every pipeline's proof data, each at its region's entry contents — a literal `match`, so that the kit's
    `Pipeline.pin pcfgs adm p` at a numeral reduces to the printed configuration. -/
def pdats : (p : Fin 4) → (c : Dev nD) → Dat τ (Elt F) Unit ℕ (UR sig nD τ) ℕ (Pipeline.pin (pcfgs (F := F)) adm p) c
  | ⟨0, _⟩ => fun c => dat0 (V1 m ρ) c
  | ⟨1, _⟩ => fun c => dat1 (V2 m ρ) c
  | ⟨2, _⟩ => fun c => dat2 (V4 m ρ) c
  | ⟨3, _⟩ => fun c => dat3 (V5 m ρ) c
abbrev 𝒱₀ : Variants := Variants.none
/-- No core owes another anything: no level is assigned. -/
abbrev L : GSem nD τ sig → Finset Unit := fun _ => ∅
abbrev lv : GSem nD τ sig → Unit → ℕ := fun _ _ => 0
/-- What rides beside the buffers through every segment: the core's generator register at some state (the class-A
    invariant takes it in and gives it back) and its `owes`, at nothing. -/
abbrev R (c : Dev nD) : sProp 𝕄 := iprop((∃ r, prngReg c r) ∗ ∃ W, owes (c : Thread nD τ) (0 : CellTallies nD τ sig Unit) W)
/-- A host stretch as a segment: `HostSeg.ofOps` over the unscoped references from the contents `W`, `R` riding along
    (its `post` is then those references at `StableHlo.after ops (W c)`: the next boundary's contents by name). -/
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R

/-- An unscoped TensorCore reference is among those the thread state holds. -/
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
/-- The last thread state without the `owes` (the kit's chain ends at it BESIDE the core owing nothing): every unscoped
    buffer at the last boundary's contents `W7`, the generator register at some state. -/
abbrev Tₙ (c : Dev nD) : sProp 𝕄 := iprop(StableHlo.held (c : Thread nD τ) (Pipeline.ucRefs τ sig) (W7 m ρ c) ∗ ∃ r, prngReg c r)

end Cert.KernelIdeal.Gen

end
-- ==== Proof.KernelIdeal.Record0.lean ====
/- Region 0 as a segment of the run. -/
module

public import proofs.«01_k».proof.Proof.KernelIdeal.State

@[expose] public section

-- membership in a rectangle of production extents (`View.cover_of_tiled`): the elaborator's structural look
-- recurses once per coordinate of the long axes
set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The regions as segments -/

-- `iapply` of a library lemma stated over `pin pcs a p` unifies with the pinned configuration only when unification may
-- unfold plain definitions in a metavariable's type
set_option backward.isDefEq.respectTransparency.types false in
/-- REGION 0 (custom_call 0) over the thread state: entered from every unscoped buffer at `W1`, left at `W2`
    (what the next segment is entered from). Its arrays split out of the unscoped buffers
    (`arrays_of_unscopedBufs`) and put back at the exit contents (`unscopedBufs_of_arrays`); the generator register into the
    class invariant `ΦA` and out; nothing owed; no semaphore of the kernel's own. -/
def reg0 : Pipeline.RegionSeg (pcfgs (F := F)) adm (pdats m ρ) () defs₀ 𝒱₀ L lv 0 where
  win := launch0.win.to₀
  block_pos := launch0.block_pos
  stage_whole := launch0.stage_whole
  K := PEmpty
  osem k := k.elim
  ho := Pipeline.OwnSemFacts.none _
  hbody c := (body_obligation0 (V1 m ρ) c).loose
  hwaits := Pipeline.hwaits_of_owed_zero _ _ _ _ L lv 0 fun _ _ => rfl
  pre c := iprop(StableHlo.held (c : Thread nD τ) (Pipeline.ucRefs τ sig) (W1 m ρ c) ∗ R c)
  post c := iprop(StableHlo.held (c : Thread nD τ) (Pipeline.ucRefs τ sig) (W2 m ρ c) ∗ R c)
  X c := iprop(∃ r, prngReg c r)
  Y c := iprop(∃ r, prngReg c r)
  Z c := Pipeline.unscopedRest (Ix := Unit) (Name := ℕ) (U := UR sig nD τ) (Lvl := ℕ) spec0 c (V1 m ρ c)
  hentry c := by
    rw [Pipeline.ownSems0_none]
    have hsplit := Pipeline.arrays_of_unscopedBufs (p := 0) (pcfgs (F := F)) adm (pdats m ρ) launch0.win launch0.arr_whole c
      ((pdats m ρ 0 c).share_full fun _ => rfl) (V1 m ρ c) (A_eq0 (V1 m ρ) c)
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m ρ 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m ρ) ((pdats m ρ 0 c).share_full fun _ => rfl)
      (V1 m ρ c) (V2 m ρ c) ((pdats m ρ 0 c).arrAt · cfg0.N) (hF0 m ρ c) (hrest0 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

end Cert.KernelIdeal.Gen

end
-- ==== Proof.KernelIdeal.Record1.lean ====
/- Region 1 as a segment of the run. -/
module

public import proofs.«01_k».proof.Proof.KernelIdeal.State

@[expose] public section

-- membership in a rectangle of production extents (`View.cover_of_tiled`): the elaborator's structural look
-- recurses once per coordinate of the long axes
set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

-- `iapply` of a library lemma stated over `pin pcs a p` unifies with the pinned configuration only when unification may
-- unfold plain definitions in a metavariable's type
set_option backward.isDefEq.respectTransparency.types false in
/-- REGION 1 (custom_call 1) over the thread state: entered from every unscoped buffer at `W2`, left at `W3`
    (what the next segment is entered from). Its arrays split out of the unscoped buffers
    (`arrays_of_unscopedBufs`) and put back at the exit contents (`unscopedBufs_of_arrays`); the generator register into the
    class invariant `ΦA` and out; nothing owed; no semaphore of the kernel's own. -/
def reg1 : Pipeline.RegionSeg (pcfgs (F := F)) adm (pdats m ρ) () defs₀ 𝒱₀ L lv 1 where
  win := launch1.win.to₀
  block_pos := launch1.block_pos
  stage_whole := launch1.stage_whole
  K := PEmpty
  osem k := k.elim
  ho := Pipeline.OwnSemFacts.none _
  hbody c := (body_obligation1 (V2 m ρ) c).loose
  hwaits := Pipeline.hwaits_of_owed_zero _ _ _ _ L lv 1 fun _ _ => rfl
  pre c := iprop(StableHlo.held (c : Thread nD τ) (Pipeline.ucRefs τ sig) (W2 m ρ c) ∗ R c)
  post c := iprop(StableHlo.held (c : Thread nD τ) (Pipeline.ucRefs τ sig) (W3 m ρ c) ∗ R c)
  X c := iprop(∃ r, prngReg c r)
  Y c := iprop(∃ r, prngReg c r)
  Z c := Pipeline.unscopedRest (Ix := Unit) (Name := ℕ) (U := UR sig nD τ) (Lvl := ℕ) spec1 c (V2 m ρ c)
  hentry c := by
    rw [Pipeline.ownSems0_none]
    have hsplit := Pipeline.arrays_of_unscopedBufs (p := 1) (pcfgs (F := F)) adm (pdats m ρ) launch1.win launch1.arr_whole c
      ((pdats m ρ 1 c).share_full fun _ => rfl) (V2 m ρ c) (A_eq1 (V2 m ρ) c)
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 1 c).Φ 0 = Pipeline.ΦA spec1 c from rfl]; unfold Pipeline.ΦA
    iintro ⟨Hp, -, Hr⟩
    isplitl [Hr]; · iexact Hr
    iexact Hp
  hout c := by
    rw [Pipeline.ownSems0_none, show (pdats m ρ 1 c).Φ (Fin.last _) = Pipeline.ΦA spec1 c from rfl]; unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m ρ) ((pdats m ρ 1 c).share_full fun _ => rfl)
      (V2 m ρ c) (V3 m ρ c) ((pdats m ρ 1 c).arrAt · cfg1.N) (hF1 m ρ c) (hrest1 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

end Cert.KernelIdeal.Gen

end
-- ==== Proof.KernelIdeal.Record2.lean ====
/- Region 2 as a segment of the run. -/
module

public import proofs.«01_k».proof.Proof.KernelIdeal.State

@[expose] public section

-- membership in a rectangle of production extents (`View.cover_of_tiled`): the elaborator's structural look
-- recurses once per coordinate of the long axes
set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

-- `iapply` of a library lemma stated over `pin pcs a p` unifies with the pinned configuration only when unification may
-- unfold plain definitions in a metavariable's type
set_option backward.isDefEq.respectTransparency.types false in
/-- REGION 2 (custom_call 2) over the thread state: entered from every unscoped buffer at `W4`, left at `W5`
    (what the next segment is entered from). Its arrays split out of the unscoped buffers
    (`arrays_of_unscopedBufs`) and put back at the exit contents (`unscopedBufs_of_arrays`); the generator register into the
    class invariant `ΦA` and out; nothing owed; no semaphore of the kernel's own. -/
def reg2 : Pipeline.RegionSeg (pcfgs (F := F)) adm (pdats m ρ) () defs₀ 𝒱₀ L lv 2 where
  win := launch2.win.to₀
  block_pos := launch2.block_pos
  stage_whole := launch2.stage_whole
  K := PEmpty
  osem k := k.elim
  ho := Pipeline.OwnSemFacts.none _
  hbody c := (body_obligation2 (V4 m ρ) c).loose
  hwaits := Pipeline.hwaits_of_owed_zero _ _ _ _ L lv 2 fun _ _ => rfl
  pre c := iprop(StableHlo.held (c : Thread nD τ) (Pipeline.ucRefs τ sig) (W4 m ρ c) ∗ R c)
  post c := iprop(StableHlo.held (c : Thread nD τ) (Pipeline.ucRefs τ sig) (W5 m ρ c) ∗ R c)
  X c := iprop(∃ r, prngReg c r)
  Y c := iprop(∃ r, prngReg c r)
  Z c := Pipeline.unscopedRest (Ix := Unit) (Name := ℕ) (U := UR sig nD τ) (Lvl := ℕ) spec2 c (V4 m ρ c)
  hentry c := by
    rw [Pipeline.ownSems0_none]
    have hsplit := Pipeline.arrays_of_unscopedBufs (p := 2) (pcfgs (F := F)) adm (pdats m ρ) launch2.win launch2.arr_whole c
      ((pdats m ρ 2 c).share_full fun _ => rfl) (V4 m ρ c) (A_eq2 (V4 m ρ) c)
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 2 c).Φ 0 = Pipeline.ΦA spec2 c from rfl]; unfold Pipeline.ΦA
    iintro ⟨Hp, -, Hr⟩
    isplitl [Hr]; · iexact Hr
    iexact Hp
  hout c := by
    rw [Pipeline.ownSems0_none, show (pdats m ρ 2 c).Φ (Fin.last _) = Pipeline.ΦA spec2 c from rfl]; unfold Pipeline.ΦA
    iintro ⟨Hr, Hp⟩
    isplitl [Hp]; · iexact Hp
    isplitr; · iempintro
    iexact Hr
  hexit c := by
    have hjoin := Pipeline.unscopedBufs_of_arrays (p := 2) (pcfgs (F := F)) adm (Ix := Unit) (Name := ℕ) (U := UR sig nD τ) (Lvl := ℕ)
      launch2.win launch2.arr_whole c (pdats m ρ) ((pdats m ρ 2 c).share_full fun _ => rfl)
      (V4 m ρ c) (V5 m ρ c) ((pdats m ρ 2 c).arrAt · cfg2.N) (hF2 m ρ c) (hrest2 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

end Cert.KernelIdeal.Gen

end
-- ==== Proof.KernelIdeal.Record3.lean ====
/- Region 3 as a segment of the run. -/
module

public import proofs.«01_k».proof.Proof.KernelIdeal.State

@[expose] public section

-- membership in a rectangle of production extents (`View.cover_of_tiled`): the elaborator's structural look
-- recurses once per coordinate of the long axes
set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

-- `iapply` of a library lemma stated over `pin pcs a p` unifies with the pinned configuration only when unification may
-- unfold plain definitions in a metavariable's type
set_option backward.isDefEq.respectTransparency.types false in
/-- REGION 3 (custom_call 3) over the thread state: entered from every unscoped buffer at `W5`, left at `W6`
    (what the next segment is entered from). Its arrays split out of the unscoped buffers
    (`arrays_of_unscopedBufs`) and put back at the exit contents (`unscopedBufs_of_arrays`); the generator register into the
    class invariant `ΦA` and out; nothing owed; no semaphore of the kernel's own. -/
def reg3 : Pipeline.RegionSeg (pcfgs (F := F)) adm (pdats m ρ) () defs₀ 𝒱₀ L lv 3 where
  win := launch3.win.to₀
  block_pos := launch3.block_pos
  stage_whole := launch3.stage_whole
  K := PEmpty
  osem k := k.elim
  ho := Pipeline.OwnSemFacts.none _
  hbody c := (body_obligation3 (V5 m ρ) c).loose
  hwaits := Pipeline.hwaits_of_owed_zero _ _ _ _ L lv 3 fun _ _ => rfl
  pre c := iprop(StableHlo.held (c : Thread nD τ) (Pipeline.ucRefs τ sig) (W5 m ρ c) ∗ R c)
  post c := iprop(StableHlo.held (c : Thread nD τ) (Pipeline.ucRefs τ sig) (W6 m ρ c) ∗ R c)
  X c := iprop(∃ r, prngReg c r)
  Y c := iprop(∃ r, prngReg c r)
  Z c := Pipeline.unscopedRest (Ix := Unit) (Name := ℕ) (U := UR sig nD τ) (Lvl := ℕ) spec3 c (V5 m ρ c)
  hentry c := by
    rw [Pipeline.ownSems0_none]
    have hsplit := Pipeline.arrays_of_unscopedBufs (p := 3) (pcfgs (F := F)) adm (pdats m ρ) launch3.win launch3.arr_whole c
      ((pdats m ρ 3 c).share_full fun _ => rfl) (V5 m ρ c) (A_eq3 (V5 m ρ) c)
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    refine BIBase.Entails.trans ?_ (hin (V5 m ρ) c)
    unfold Pipeline.ΦA
    iintro ⟨Hp, -, Hr⟩
    isplitl [Hr]; · iexact Hr
    iexact Hp
  hout c := by
    refine BIBase.Entails.trans (hout (V5 m ρ) c) ?_
    rw [Pipeline.ownSems0_none]; unfold Pipeline.ΦA
    iintro ⟨Hr, Hp⟩
    isplitl [Hp]; · iexact Hp
    isplitr; · iempintro
    iexact Hr
  hexit c := by
    have hjoin := Pipeline.unscopedBufs_of_arrays (p := 3) (pcfgs (F := F)) adm (Ix := Unit) (Name := ℕ) (U := UR sig nD τ) (Lvl := ℕ)
      launch3.win launch3.arr_whole c (pdats m ρ) ((pdats m ρ 3 c).share_full fun _ => rfl)
      (V5 m ρ c) (V6 m ρ c) ((pdats m ρ 3 c).arrAt · cfg3.N) (hF3 m ρ c) (hrest3 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

end Cert.KernelIdeal.Gen

end
-- ==== Proof.KernelIdeal.Whole.lean ====
/- The whole run: from any memory the program ends with every buffer that outlives it at `W7`. -/
module

public import proofs.«01_k».proof.Proof.KernelIdeal.Record0
public import proofs.«01_k».proof.Proof.KernelIdeal.Record1
public import proofs.«01_k».proof.Proof.KernelIdeal.Record2
public import proofs.«01_k».proof.Proof.KernelIdeal.Record3

@[expose] public section

-- membership in a rectangle of production extents (`View.cover_of_tiled`): the elaborator's structural look
-- recurses once per coordinate of the long axes
set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## @main as segments, and the launch -/

/-- @main's 7 segments in order: a host segment per stretch from its boundary's contents, a region per pallas_call. -/
abbrev segs : List (Pipeline.Seg (pcfgs (F := F)) adm (pdats m ρ) () defs₀ 𝒱₀ L lv) :=
  [ .host (hseg hostOps0 hostOps0_sub hostOps0_fresh (W0 m ρ)),
    .region (reg0 m ρ),
    .region (reg1 m ρ),
    .host (hseg hostOps2 hostOps2_sub hostOps2_fresh (W3 m ρ)),
    .region (reg2 m ρ),
    .region (reg3 m ρ),
    .host (hseg hostOps4 hostOps4_sub hostOps4_fresh (W6 m ρ)) ]
/-- @main IS the run of the segments: `Gen.main_chain`, then the segments' run against that chain by the kernel's
    definitional check (`chain_rfl`). -/
theorem main_run (c : Dev nD) : main (F := F) c = Pipeline.Seg.run (segs m ρ) := (main_chain c).trans (by chain_rfl)

/-- The TensorCore has no unscoped semaphore. -/
theorem no_unscoped : ∀ sm : SemLoc sig, sm.isScoped .tc = true := by decide

-- `θ_run_regions_kit_sems`'s implicit arguments are found by unifying its conclusion with this one, which takes unfolding
-- plain definitions in a metavariable's type
set_option backward.isDefEq.respectTransparency.types false in
/-- The whole run: every execution ends, nothing faults, every buffer ends at the last valuation of the fold, and every
    counter is zero. -/
theorem whole : θ_run defs (onTc (τ := τ) (main (F := F))) ⟨m, fun _ => 0, ρ⟩ (fun r => (∀ c : Dev nD, ∀ b ∈ Pipeline.ucRefs τ sig,
      r.2.mem (((c : Thread nD τ)).1, b) = W7 m ρ c b) ∧ r.2.sem = fun _ => 0) :=
  Pipeline.θ_run_regions_kit_sems (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun c => by
      dsimp only [Pipeline.Seg.post, hseg, Pipeline.HostSeg.ofOps]
      iintro ⟨Hh, Hp, HO⟩
      isplitl [Hh Hp]
      · isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W7 m ρ c b)
    (hfin := fun c s' => by
      iintro ⟨⟨Hh, -⟩, HSI⟩
      unfold StableHlo.held
      imodintro
      iapply (pointsTo_read_all (Pipeline.ucRefs τ sig) (fun b => (((c : Thread nD τ)).1, b)) (W7 m ρ c) s')
      isplitl [Hh] <;> iassumption)
    (hQ := fun s h hz => ⟨h, funext fun g => hz g (.inr (no_unscoped g.2))⟩)

/-- The frame, over any floats: every execution terminates, nothing faulting, the argument arrays end as launched and every
    counter is zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5))
      ∧ r.2.sem = fun _ => 0) :=
  (θ_run defs _ _).mono (fun _ h => ⟨fun c =>
      ⟨(h.1 c _ (mem_uc main_arg0 (by decide))).trans (W7_main_arg0 m ρ c),
       (h.1 c _ (mem_uc main_arg1 (by decide))).trans (W7_main_arg1 m ρ c),
       (h.1 c _ (mem_uc main_arg2 (by decide))).trans (W7_main_arg2 m ρ c),
       (h.1 c _ (mem_uc main_arg3 (by decide))).trans (W7_main_arg3 m ρ c),
       (h.1 c _ (mem_uc main_arg4 (by decide))).trans (W7_main_arg4 m ρ c),
       (h.1 c _ (mem_uc main_arg5 (by decide))).trans (W7_main_arg5 m ρ c)⟩, h.2⟩) (whole m ρ)

/-- `frame` without the counters: the argument arrays end unchanged. -/
theorem unchanged : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  (θ_run defs _ _).mono (fun _ h => h.1) (frame m ρ)

end Cert.KernelIdeal.Gen

end
-- ==== Proof.Same.lean ====
/- The kernel and the idealized kernel are one program: nothing was rewritten. What is shown of the second over any floats
   is so of the first. -/
module

public import proofs.«01_k».proof.Defs
public import proofs.«01_k».proof.Proof.KernelIdeal.Whole

@[expose] public section

set_option maxRecDepth 65536
set_option maxHeartbeats 4000000

noncomputable section

namespace Cert.Same

open Idealize.ShloMosaic Idealize.ShloMosaic.TcCoe Idealize.SL.Sem

variable (hK : Cert.Kernel.Facts) (hI : Cert.KernelIdeal.Facts)

/-- The four bodies are the same. -/
theorem defs₀_eq : @Cert.Kernel.defs₀ Bits _ hK = @Cert.KernelIdeal.defs₀ Bits _ hI := by
  unfold Cert.Kernel.defs₀ Cert.KernelIdeal.defs₀
  congr 1
  funext l x
  obtain ⟨_ | _ | _ | _ | l, h⟩ := l
  · rfl
  · rfl
  · rfl
  · rfl
  · exact absurd h (by omega)

theorem defs_eq : @Cert.Kernel.defs Bits _ hK = @Cert.KernelIdeal.defs Bits _ hI := by
  unfold Cert.Kernel.defs Cert.KernelIdeal.defs
  exact congrArg (Pipeline.defs (Cert.KernelIdeal.pcfgs (F := Bits))) (defs₀_eq hK hI)

theorem main_eq : @Cert.Kernel.main Bits _ hK = @Cert.KernelIdeal.main Bits _ hI := rfl

/-- The kernel's frame. -/
theorem frame (m : (ℓ : Loc Cert.Kernel.nD Cert.Kernel.τ Cert.Kernel.sig) → Buf (Elt Bits) ℓ)
    (ρ : Dev Cert.Kernel.nD → PrngReg) :
    θ_run (@Cert.Kernel.defs Bits _ hK) (onTc (τ := Cert.Kernel.τ) (@Cert.Kernel.main Bits _ hK)) ⟨m, fun _ => 0, ρ⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))
      ∧ r.2.sem = fun _ => 0) := by
  rw [defs_eq hK Cert.KernelIdeal.Gen.facts, main_eq hK Cert.KernelIdeal.Gen.facts]
  exact Cert.KernelIdeal.Gen.frame (F := Bits) m ρ

end Cert.Same

end
-- ==== Proof.Spec.lean ====
/- The mathematics of the two programs, entry by entry over the extended reals: the quantiser, the two products, the loss
   and the two gradients, as functions of the six argument arrays. -/
module

public import Idealize.ShloMosaic.Lib.Pointwise

@[expose] public section

noncomputable section

namespace Spec

open Idealize.ShloMosaic

/-- The argument arrays, entry by entry: input codes and scales, the weight, the two clipping parameters, the target. -/
structure Args where
  x : Fin 8 → Fin 768 → Fin 7168 → EReal
  sc : Fin 8 → Fin 768 → Fin 56 → EReal
  w : Fin 18432 → Fin 7168 → EReal
  ga : Fin 18432 → Fin 56 → EReal
  be : Fin 18432 → Fin 56 → EReal
  y : Fin 8 → Fin 768 → Fin 18432 → EReal

/-- The largest code, 15. -/
def c15 : EReal := Ideal.ofBits .f32 0x41700000#32
/-- The number of entries of the error. -/
def cn : EReal := Ideal.ofBits .f32 0x4CD80000#32
/-- The factor of the gradient, 2 over the number of entries. -/
def c2n : EReal := Ideal.ofBits .f32 0x3297B426#32
/-- Rounding to the nearest integer, ties to even. -/
def rnd (x : EReal) : EReal := Ideal.liftRound Ideal.roundHalfEven x
/-- The logistic function. -/
def sigm (x : EReal) : EReal := Ideal.div 1 (1 + Ideal.exp (-x))

/-- The column of lane `l` of group `k`. -/
def col (k : Fin 56) (l : Fin 128) : Fin 7168 := ⟨k.val * 128 + l.val, by omega⟩
/-- The group of a column. -/
def grp (d : Fin 7168) : Fin 56 := ⟨d.val / 128, by omega⟩
/-- The lane of a column in its group. -/
def lane (d : Fin 7168) : Fin 128 := ⟨d.val % 128, by omega⟩

@[simp] theorem grp_col (k : Fin 56) (l : Fin 128) : grp (col k l) = k := by
  apply Fin.ext; simp only [grp, col]; omega
@[simp] theorem lane_col (k : Fin 56) (l : Fin 128) : lane (col k l) = l := by
  apply Fin.ext; simp only [lane, col]; omega
@[simp] theorem col_grp (d : Fin 7168) : col (grp d) (lane d) = d := by
  apply Fin.ext; simp only [grp, col, lane]; omega

/-- The sequence and the position of a token. -/
def tb (t : Fin 6144) : Fin 8 := ⟨t.val / 768, by omega⟩
def ts (t : Fin 6144) : Fin 768 := ⟨t.val % 768, by omega⟩

variable (A : Args)

/-- The largest and the smallest weight of a group. -/
def wmax (o : Fin 18432) (k : Fin 56) : EReal :=
  Finset.fold max (Ideal.ofBits .f32 0xFF800000#32) (fun l : Fin 128 => A.w o (col k l)) Finset.univ
def wmin (o : Fin 18432) (k : Fin 56) : EReal :=
  Finset.fold min (Ideal.ofBits .f32 0x7F800000#32) (fun l : Fin 128 => A.w o (col k l)) Finset.univ
def sg (o : Fin 18432) (k : Fin 56) : EReal := sigm (A.ga o k)
def sb (o : Fin 18432) (k : Fin 56) : EReal := sigm (A.be o k)
/-- The step of a group. -/
def h (o : Fin 18432) (k : Fin 56) : EReal := Ideal.div (sg A o k * wmax A o k - sb A o k * wmin A o k) c15
/-- The zero point of a group. -/
def z (o : Fin 18432) (k : Fin 56) : EReal := -rnd (Ideal.div (sb A o k * wmin A o k) (h A o k))
def u (o : Fin 18432) (d : Fin 7168) : EReal := Ideal.div (A.w o d) (h A o (grp d))
/-- The code before clipping. -/
def cc (o : Fin 18432) (d : Fin 7168) : EReal := rnd (u A o d) + z A o (grp d)
/-- The code. -/
def q (o : Fin 18432) (d : Fin 7168) : EReal := min c15 (max 0 (cc A o d))
def qi (o : Fin 18432) (d : Fin 7168) : BitVec 8 := FloatOps.fptosi (F := Ideal) (φ := .f32) 8 (q A o d)
/-- The dequantised weight. -/
def what (o : Fin 18432) (d : Fin 7168) : EReal := (q A o d - z A o (grp d)) * h A o (grp d)
/-- The dequantised input. -/
def xs (b : Fin 8) (s : Fin 768) (d : Fin 7168) : EReal := A.x b s d * A.sc b s (grp d)
/-- The error of the forward product. -/
def err (b : Fin 8) (s : Fin 768) (o : Fin 18432) : EReal := (∑ d, xs A b s d * what A o d) - A.y b s o
def loss : EReal := Ideal.div (∑ b, ∑ s, ∑ o, err A b s o * err A b s o) cn
/-- The gradient of the dequantised weight. -/
def g (o : Fin 18432) (d : Fin 7168) : EReal := (∑ b, ∑ s, err A b s o * xs A b s d) * c2n
/-- The factor of a column: the code less the zero point, less the ratio where the code was not clipped. -/
def v (o : Fin 18432) (d : Fin 7168) : EReal :=
  q A o d - z A o (grp d) - (if 0 ≤ cc A o d ∧ cc A o d ≤ c15 then u A o d else 0)
/-- The sum over a group. -/
def S (o : Fin 18432) (k : Fin 56) : EReal := ∑ l : Fin 128, g A o (col k l) * v A o (col k l)
def dg (o : Fin 18432) (k : Fin 56) : EReal := Ideal.div (S A o k * sg A o k * (1 - sg A o k) * wmax A o k) c15
def db (o : Fin 18432) (k : Fin 56) : EReal := Ideal.div (-S A o k * sb A o k * (1 - sb A o k) * wmin A o k) c15

/-! ## The constants and the codes -/

theorem c15_eq : c15 = ((15 : ℝ) : EReal) := by
  have h1 : ((0x41700000#32).extractLsb' 31 1 == 1#1) = false := by decide
  have h2 : ((0x41700000#32).extractLsb' 23 8).toNat = 130 := by decide
  have h3 : ((0x41700000#32).extractLsb' 0 23).toNat = 7340032 := by decide
  show Ideal.ieee 8 23 (0x41700000#32) = _
  unfold Ideal.ieee
  dsimp only
  rw [h1, h2, h3]
  norm_num

theorem c15_ne : c15 ≠ 0 := by
  rw [c15_eq]; exact_mod_cast (by norm_num : (15 : ℝ) ≠ 0)

theorem div_c15 (x : EReal) : Ideal.div x c15 = x * c15⁻¹ := by
  unfold Ideal.div; rw [if_neg c15_ne]

/-- A rounded value is an integer or an infinity. -/
theorem rnd_cases (x : EReal) : rnd x = ⊥ ∨ rnd x = ⊤ ∨ ∃ n : ℤ, rnd x = ((n : ℝ) : EReal) := by
  induction x with
  | bot => left; rfl
  | top => right; left; rfl
  | coe r => right; right; exact ⟨Ideal.roundHalfEven r, rfl⟩

/-- Every code is one of the integers 0 to 15. -/
theorem q_nat (o : Fin 18432) (d : Fin 7168) : ∃ n : ℕ, n ≤ 15 ∧ q A o d = ((n : ℝ) : EReal) := by
  have key : ∀ x : EReal, (x = ⊥ ∨ x = ⊤ ∨ ∃ n : ℤ, x = ((n : ℝ) : EReal)) →
      ∃ n : ℕ, n ≤ 15 ∧ min c15 (max 0 x) = ((n : ℝ) : EReal) := by
    intro x hx
    rw [c15_eq]
    rcases hx with rfl | rfl | ⟨n, rfl⟩
    · refine ⟨0, by omega, ?_⟩
      rw [max_eq_left bot_le, min_eq_right (by exact_mod_cast (by norm_num : (0 : ℝ) ≤ 15))]; simp
    · refine ⟨15, le_refl _, ?_⟩
      rw [max_eq_right le_top, min_eq_left le_top]; norm_num
    · refine ⟨(min 15 (max 0 n)).toNat, by omega, ?_⟩
      have h1 : (((min 15 (max 0 n)).toNat : ℕ) : ℝ) = ((min 15 (max 0 n) : ℤ) : ℝ) := by
        have : (((min 15 (max 0 n)).toNat : ℤ)) = min 15 (max 0 n) := Int.toNat_of_nonneg (by omega)
        exact_mod_cast congrArg (fun i : ℤ => (i : ℝ)) this
      rw [h1]
      push_cast
      rfl
  apply key
  unfold cc z
  rcases rnd_cases (u A o d) with h1 | h1 | ⟨n, h1⟩ <;>
    rcases rnd_cases (Ideal.div (sb A o (grp d) * wmin A o (grp d)) (h A o (grp d))) with h2 | h2 | ⟨k, h2⟩ <;>
    rw [h1, h2]
  · simp
  · simp
  · simp
  · simp
  · simp
  · right; left; rw [← EReal.coe_neg]; exact EReal.top_add_coe _
  · right; left; simp
  · left; simp
  · right; right; refine ⟨n - k, ?_⟩
    push_cast; rw [sub_eq_add_neg]

theorem fptosi_nat (w : ℕ) (hw : 6 ≤ w) (n : ℕ) (hn : n ≤ 15) : Ideal.fptosi w ((n : ℝ) : EReal) = BitVec.ofNat w n := by
  unfold Ideal.fptosi
  rw [Ideal.toIntClamped_coe, if_pos (Nat.cast_nonneg n), Int.floor_natCast]
  have h2 : (2:ℕ) ^ 5 ≤ 2 ^ (w - 1) := Nat.pow_le_pow_right (by omega) (by omega)
  have : max (-((2 ^ (w - 1) : ℕ) : ℤ)) (min (((2 ^ (w - 1) : ℕ) : ℤ) - 1) (n : ℤ)) = (n : ℤ) := by omega
  rw [this]; simp

/-- The code read as an 8-bit integer and back is the code. -/
theorem sitofp_qi (o : Fin 18432) (d : Fin 7168) : FloatOps.sitofp (F := Ideal) .f32 (qi A o d) = q A o d := by
  obtain ⟨n, hn, e⟩ := q_nat A o d
  unfold qi
  rw [e]
  show FloatOps.sitofp (F := Ideal) .f32 (Ideal.fptosi 8 ((n : ℝ) : EReal)) = _
  rw [fptosi_nat 8 (by omega) n hn]
  show ((((BitVec.ofNat 8 n).toInt : ℤ) : ℝ) : EReal) = _
  have : (BitVec.ofNat 8 n).toInt = (n : ℤ) := by
    interval_cases n <;> rfl
  rw [this]; simp

/-- By way of a 32-bit integer the code is the same 8-bit integer. -/
theorem trunc_q (o : Fin 18432) (d : Fin 7168) :
    BitVec.setWidth 8 (FloatOps.fptosi (F := Ideal) (φ := .f32) 32 (q A o d)) = qi A o d := by
  obtain ⟨n, hn, e⟩ := q_nat A o d
  unfold qi
  rw [e]
  show BitVec.setWidth 8 (Ideal.fptosi 32 ((n : ℝ) : EReal)) = Ideal.fptosi 8 ((n : ℝ) : EReal)
  rw [fptosi_nat 8 (by omega) n hn, fptosi_nat 32 (by omega) n hn]
  interval_cases n <;> rfl

theorem mul_div_c15 (a b : EReal) : a * Ideal.div b c15 = Ideal.div (a * b) c15 := by
  rw [div_c15, div_c15, mul_assoc]

end Spec

end
-- ==== Proof.Dequant.lean ====
/- Region 0: the dequantised input, token by token. -/
module

public import proofs.«01_k».proof.Proof.KernelIdeal.Region0
public import proofs.«01_k».proof.Proof.Spec
public import Idealize.ShloMosaic.Lib.Pipeline.ValueKit
public import Idealize.ShloMosaic.Lib.Pipeline.ReadBack
public import Idealize.ShloMosaic.Lib.Pointwise

@[expose] public section

set_option maxRecDepth 16384

noncomputable section

namespace Cert.KernelIdeal.Val
open Cert.KernelIdeal Cert.KernelIdeal.Gen Idealize.ShloMosaic Idealize.ShloMosaic.TcCoe Idealize.SL.Sem

variable (V : (c : Dev nD) → (b : Ref sig .tc) → Buf (Elt Ideal) ((c : Thread nD τ).loc b)) (c : Dev nD) (A : Spec.Args)

theorem deq_at (x0 : Vec Ideal S256x7168 .fp8e4m3) (x1 : Vec Ideal S256x56 .f32) {a a' : Fin 256} {d d' : Fin 7168} {k : Fin 56}
    (h0 : a.val = a'.val) (h1 : d.val = d'.val) (h2 : d.val / 128 = k.val) :
    (x0 (ix2 a' d') : EReal) * (x1 (ix2 a' k) : EReal) = (x0 (ix2 a d) : EReal) * (x1 (ix2 a (Spec.grp d)) : EReal) := by
  obtain rfl := Fin.ext h0
  obtain rfl := Fin.ext h1
  obtain rfl : Spec.grp d = k := Fin.ext h2
  rfl

/-- What one grid point leaves in its block of the output: each code times the scale of its group. -/
theorem deq (x0 : Vec Ideal S256x7168 .fp8e4m3) (x1 : Vec Ideal S256x56 .f32) (a : Fin 256) (d : Fin 7168) :
    (out0_2 x0 x1 (ix2 a d) : EReal) = (x0 (ix2 a d) : EReal) * (x1 (ix2 a (Spec.grp d)) : EReal) := by
  canon_tiles x h
  all_goals
    have e0 : a.val = (x 0).val := h0
    have e1 := (rfl : d.val = (ix2 a d 1).val).trans h1
    unfold_payloads
    pointwise
    refine deq_at x0 x1 e0 e1 ?_
    rw [e1]
    have := x1_lt
    simp only [Fin.val_ofNat, Fin.isValue]
    omega

/-! ## The blocks of a grid point -/

theorem i0_0 : ∀ t : Fin grid0.N, win0_0.index t 0 = t.val ∧ win0_0.index t 1 = 0 := by decide +kernel
theorem i0_1 : ∀ t : Fin grid0.N, win0_1.index t 0 = t.val ∧ win0_1.index t 1 = 0 := by decide +kernel
theorem i0_2 : ∀ t : Fin grid0.N, win0_2.index t 0 = t.val ∧ win0_2.index t 1 = 0 := by decide +kernel
theorem lt0 (t : Fin cfg0.N) : t.val < 24 := t.isLt
/-- Row `a` of tile `p` of the tokens. -/
def tok (p : ℕ) (hp : p < 24) (a : Fin 256) : Fin 6144 := ⟨p * 256 + a.val, by omega⟩
theorem b0_0 (p : Fin cfg0.N) (a : Fin 256) (d : Fin 7168) :
    iblk0 V c 0 p (ix2 a d) = V c main_v0 (ix2 (tok p.val (lt0 p) a) d) := by
  have e0 := (i0_0 p).1
  have e1 := (i0_0 p).2
  unfold tok
  blk_ext [iblk0, e0, e1]
theorem b0_1 (p : Fin cfg0.N) (a : Fin 256) (k : Fin 56) :
    iblk0 V c 1 p (ix2 a k) = V c main_v1 (ix2 (tok p.val (lt0 p) a) k) := by
  have e0 := (i0_1 p).1
  have e1 := (i0_1 p).2
  unfold tok
  blk_ext [iblk0, e0, e1]

variable (hx : ∀ t d, (V c main_v0 (ix2 t d) : EReal) = A.x (Spec.tb t) (Spec.ts t) d)
  (hs : ∀ t k, (V c main_v1 (ix2 t k) : EReal) = A.sc (Spec.tb t) (Spec.ts t) k)

include hx hs in
/-- The region's output, from inputs that are the flattened codes and scales. -/
theorem xs_arr (t : Fin 6144) (d : Fin 7168) :
    ((dat0 V c).arrAt 2 cfg0.N (ix2 t d) : EReal) = Spec.xs A (Spec.tb t) (Spec.ts t) d := by
  rw [(dat0 V c).arrAt_eq_of_covers 2 (fun j => (Spec.xs A (Spec.tb (j 0)) (Spec.ts (j 0)) (j 1) : EReal)) (by decide +kernel)
    fun p hf y => ?_]
  · rfl
  · blk_simp
    rw [after0_2]
    idx_vars y
    have e0 : ((win0_2.blk p).view.emb (ix2 y0 y1) 0) = tok p.val (lt0 p) y0 := Fin.ext (by
      show win0_2.index p 0 * 256 + 1 * y0.val = p.val * 256 + y0.val
      rw [(i0_2 p).1, Nat.one_mul])
    have e1 : ((win0_2.blk p).view.emb (ix2 y0 y1) 1) = y1 := Fin.ext (by
      show win0_2.index p 1 * 7168 + 1 * y1.val = y1.val
      rw [(i0_2 p).2, Nat.one_mul, Nat.zero_mul, Nat.zero_add])
    refine Eq.trans ?_ (congrArg₂ (fun (t : Fin 6144) (d : Fin 7168) => Spec.xs A (Spec.tb t) (Spec.ts t) d) e0 e1).symm
    refine (deq _ _ y0 y1).trans ?_
    rw [b0_0, b0_1, hx, hs]
    rfl

end Cert.KernelIdeal.Val
end
-- ==== Proof.Quant.lean ====
/- Region 1: the quantised weight, row by row. -/
module

public import proofs.«01_k».proof.Proof.KernelIdeal.Region1
public import proofs.«01_k».proof.Proof.Spec
public import Idealize.ShloMosaic.Lib.Pipeline.ValueKit
public import Idealize.ShloMosaic.Lib.Pipeline.ReadBack
public import Idealize.ShloMosaic.Lib.Pointwise

@[expose] public section

set_option maxRecDepth 16384

noncomputable section

namespace Cert.KernelIdeal.Val
open Cert.KernelIdeal Cert.KernelIdeal.Gen Idealize.ShloMosaic Idealize.ShloMosaic.TcCoe Idealize.SL.Sem

variable (A : Spec.Args)

section Blocks

/-! ## The largest and the smallest weight of a group, chosen lane by lane -/

/-- One link of a chain of choices by the lane's number. -/
theorem sel_step {k : Fin 56} (g : ℕ) (hg : g < 56) {x r v : EReal} (hx : k.val = g → x = v) (hr : k.val ≠ g → r = v) :
    Scalar.select (IntOp.cmpi .eq (BitVec.ofNat 32 k.val) (BitVec.ofNat 32 g)) x r = v := by
  by_cases h : k.val = g
  · rw [h]
    unfold Scalar.select IntOp.cmpi
    simpa using hx h
  · have : ¬BitVec.ofNat 32 k.val = BitVec.ofNat 32 g := fun e => h (by
      have e' := congrArg BitVec.toNat e
      simp only [BitVec.toNat_ofNat] at e'
      omega)
    have e : IntOp.cmpi .eq (BitVec.ofNat 32 k.val) (BitVec.ofNat 32 g) = 0#1 := by
      show BitVec.ofBool (BitVec.ofNat 32 k.val == BitVec.ofNat 32 g) = 0#1
      rw [beq_eq_false_iff_ne.mpr this]
      rfl
    rw [e]
    exact hr h

variable (x0 : Vec Ideal S64x7168 .f32) (x1 x2 : Vec Ideal S64x56 .f32) (a : Fin 64) (o : Fin 18432)
  (hw : ∀ d, (x0 (ix2 a d) : EReal) = A.w o d) (hg : ∀ k, (x1 (ix2 a k) : EReal) = A.ga o k)
  (hb : ∀ k, (x2 (ix2 a k) : EReal) = A.be o k)

include hw in
theorem at_max (k : Fin 56) (f : Fin 128 → EReal) (d : Fin 128 → Fin 7168) (hf : ∀ l, f l = x0 (ix2 a (d l)))
    (hd : ∀ l, (d l).val = k.val * 128 + l.val) :
    Finset.fold max (Ideal.ofBits .f32 4286578688#32) f Finset.univ = Spec.wmax A o k := by
  unfold Spec.wmax
  have e : f = fun l => A.w o (Spec.col k l) := funext fun l => by
    rw [hf, hw]
    exact congrArg _ (Fin.ext (hd l))
  rw [e]
include hw in
theorem at_min (k : Fin 56) (f : Fin 128 → EReal) (d : Fin 128 → Fin 7168) (hf : ∀ l, f l = x0 (ix2 a (d l)))
    (hd : ∀ l, (d l).val = k.val * 128 + l.val) :
    Finset.fold min (Ideal.ofBits .f32 2139095040#32) f Finset.univ = Spec.wmin A o k := by
  unfold Spec.wmin
  have e : f = fun l => A.w o (Spec.col k l) := funext fun l => by
    rw [hf, hw]
    exact congrArg _ (Fin.ext (hd l))
  rw [e]

include hw in
theorem max_at (k : Fin 56) : (k1_pay363 x0 x1 x2 (ix2 a k) : EReal) = Spec.wmax A o k := by
  unfold_payloads
  pointwise
  iterate 56
    refine sel_step _ (by decide)
      (fun e => at_max A x0 a o hw k _ _ (fun l => rfl) (fun l => by rw [e]; try (show l.val = 0 * 128 + l.val; omega))) (fun _ => ?_)
  exfalso
  have := k.isLt
  omega
include hw in
theorem min_at (k : Fin 56) : (k1_pay364 x0 x1 x2 (ix2 a k) : EReal) = Spec.wmin A o k := by
  unfold_payloads
  pointwise
  iterate 56
    refine sel_step _ (by decide)
      (fun e => at_min A x0 a o hw k _ _ (fun l => rfl) (fun l => by rw [e]; try (show l.val = 0 * 128 + l.val; omega))) (fun _ => ?_)
  exfalso
  have := k.isLt
  omega

/-! ## The step, the zero point and the two factors of the gradients -/

include hw hg hb in
theorem h_at (k : Fin 56) : (k1_pay367 x0 x1 x2 (ix2 a k) : EReal) = Spec.h A o k := by
  have e : (k1_pay367 x0 x1 x2 (ix2 a k) : EReal) =
      Ideal.div (Ideal.div 1 (1 + Ideal.exp (0 - x1 (ix2 a k))) * k1_pay363 x0 x1 x2 (ix2 a k) -
        Ideal.div 1 (1 + Ideal.exp (0 - x2 (ix2 a k))) * k1_pay364 x0 x1 x2 (ix2 a k)) Spec.c15 := by
    open_payloads
    pointwise
    rfl
  rw [e, max_at A x0 x1 x2 a o hw, min_at A x0 x1 x2 a o hw, hg, hb, zero_sub, zero_sub]
  rfl
include hw hg hb in
theorem z_at (k : Fin 56) : (k1_pay368 x0 x1 x2 (ix2 a k) : EReal) = Spec.z A o k := by
  have e : (k1_pay368 x0 x1 x2 (ix2 a k) : EReal) =
      0 - Spec.rnd (Ideal.div (Ideal.div 1 (1 + Ideal.exp (0 - x2 (ix2 a k))) * k1_pay364 x0 x1 x2 (ix2 a k))
        (Ideal.div (Ideal.div 1 (1 + Ideal.exp (0 - x1 (ix2 a k))) * k1_pay363 x0 x1 x2 (ix2 a k) -
        Ideal.div 1 (1 + Ideal.exp (0 - x2 (ix2 a k))) * k1_pay364 x0 x1 x2 (ix2 a k)) Spec.c15)) := by
    open_payloads
    pointwise
    rfl
  rw [e, max_at A x0 x1 x2 a o hw, min_at A x0 x1 x2 a o hw, hg, hb, zero_sub, zero_sub, zero_sub]
  rfl
include hw hg hb in
theorem o5 (k : Fin 56) : (out1_5 x0 x1 x2 (ix2 a k) : EReal) = Spec.h A o k := by
  canon_tiles x h
  rw [← h_at A x0 x1 x2 a o hw hg hb k, show x = ix2 a k from funext fun b => by
    match b with
    | ⟨0, _⟩ => exact Fin.ext h0.symm
    | ⟨1, _⟩ => exact Fin.ext h1.symm]
  rfl
include hw hg hb in
theorem o6 (k : Fin 56) : (out1_6 x0 x1 x2 (ix2 a k) : EReal) = Spec.z A o k := by
  canon_tiles x h
  rw [← z_at A x0 x1 x2 a o hw hg hb k, show x = ix2 a k from funext fun b => by
    match b with
    | ⟨0, _⟩ => exact Fin.ext h0.symm
    | ⟨1, _⟩ => exact Fin.ext h1.symm]
  rfl
include hw hg in
theorem o7 (k : Fin 56) : (out1_7 x0 x1 x2 (ix2 a k) : EReal)
    = Ideal.div (Spec.sg A o k * (1 - Spec.sg A o k) * Spec.wmax A o k) Spec.c15 := by
  have e : (out1_7 x0 x1 x2 (ix2 a k) : EReal) =
      Ideal.div (Ideal.div 1 (1 + Ideal.exp (0 - x1 (ix2 a k))) * (1 - Ideal.div 1 (1 + Ideal.exp (0 - x1 (ix2 a k))))
        * k1_pay363 x0 x1 x2 (ix2 a k)) Spec.c15 := by
    canon_tiles x h
    rw [show x = ix2 a k from funext fun b => by
      match b with
      | ⟨0, _⟩ => exact Fin.ext h0.symm
      | ⟨1, _⟩ => exact Fin.ext h1.symm]
    open_payloads
    pointwise
    rfl
  rw [e, max_at A x0 x1 x2 a o hw, hg, zero_sub]
  rfl
include hw hb in
theorem o8 (k : Fin 56) : (out1_8 x0 x1 x2 (ix2 a k) : EReal)
    = -Ideal.div (Spec.sb A o k * (1 - Spec.sb A o k) * Spec.wmin A o k) Spec.c15 := by
  have e : (out1_8 x0 x1 x2 (ix2 a k) : EReal) =
      0 - Ideal.div (Ideal.div 1 (1 + Ideal.exp (0 - x2 (ix2 a k))) * (1 - Ideal.div 1 (1 + Ideal.exp (0 - x2 (ix2 a k))))
        * k1_pay364 x0 x1 x2 (ix2 a k)) Spec.c15 := by
    canon_tiles x h
    rw [show x = ix2 a k from funext fun b => by
      match b with
      | ⟨0, _⟩ => exact Fin.ext h0.symm
      | ⟨1, _⟩ => exact Fin.ext h1.symm]
    open_payloads
    pointwise
    rfl
  rw [e, min_at A x0 x1 x2 a o hw, hb, zero_sub, zero_sub]
  rfl

/-! ## The codes and the dequantised weight, one block of columns after another -/

theorem q_piece (H Z : Vec Ideal S64x56 .f32) {a a' : Fin 64} {d d' : Fin 7168} {k : Fin 56}
    (h0 : a.val = a'.val) (h1 : d.val = d'.val) (h2 : d.val / 128 = k.val) :
    BitVec.setWidth 8 (FloatOps.fptosi (F := Ideal) (φ := .f32) 32 (min (Ideal.ofBits .f32 1097859072#32) (max 0
      (Ideal.liftRound Ideal.roundHalfEven (Ideal.div (x0 (ix2 a' d')) (H (ix2 a' k))) + Z (ix2 a' k)))))
    = BitVec.setWidth 8 (FloatOps.fptosi (F := Ideal) (φ := .f32) 32 (min Spec.c15 (max 0
      (Spec.rnd (Ideal.div (x0 (ix2 a d)) (H (ix2 a (Spec.grp d)))) + Z (ix2 a (Spec.grp d)))))) := by
  obtain rfl := Fin.ext h0
  obtain rfl := Fin.ext h1
  obtain rfl : Spec.grp d = k := Fin.ext h2
  rfl
theorem w_piece (H Z : Vec Ideal S64x56 .f32) {a a' : Fin 64} {d d' : Fin 7168} {k : Fin 56}
    (h0 : a.val = a'.val) (h1 : d.val = d'.val) (h2 : d.val / 128 = k.val) :
    (min (Ideal.ofBits .f32 1097859072#32) (max 0
      (Ideal.liftRound Ideal.roundHalfEven (Ideal.div (x0 (ix2 a' d')) (H (ix2 a' k))) + Z (ix2 a' k))) - Z (ix2 a' k)) * H (ix2 a' k)
    = (min Spec.c15 (max 0
      (Spec.rnd (Ideal.div (x0 (ix2 a d)) (H (ix2 a (Spec.grp d)))) + Z (ix2 a (Spec.grp d)))) - Z (ix2 a (Spec.grp d))) * H (ix2 a (Spec.grp d)) := by
  obtain rfl := Fin.ext h0
  obtain rfl := Fin.ext h1
  obtain rfl : Spec.grp d = k := Fin.ext h2
  rfl

include hw hg hb in
set_option maxHeartbeats 4000000 in
theorem o3 (d : Fin 7168) : (out1_3 x0 x1 x2 (ix2 a d) : BitVec 8) = Spec.qi A o d := by
  have e : (out1_3 x0 x1 x2 (ix2 a d) : BitVec 8) = BitVec.setWidth 8 (FloatOps.fptosi (F := Ideal) (φ := .f32) 32
      (min Spec.c15 (max 0 (Spec.rnd (Ideal.div (x0 (ix2 a d)) (k1_pay66 (k1_pay363 x0 x1 x2) (k1_pay364 x0 x1 x2) (k1_pay365 x0 x1 x2) (View.ld x2 r1_56) (k1_pay366 x0 x1 x2) (ix2 a (Spec.grp d))))
        + k1_pay67 (k1_pay363 x0 x1 x2) (k1_pay364 x0 x1 x2) (k1_pay365 x0 x1 x2) (View.ld x2 r1_56) (k1_pay366 x0 x1 x2) (ix2 a (Spec.grp d)))))) := by
    canon_tiles x h
    all_goals
      have e0 : a.val = (x 0).val := h0
      have e1 := (rfl : d.val = (ix2 a d 1).val).trans h1
      open_payloads
      generalize k1_pay66 (k1_pay363 x0 x1 x2) (k1_pay364 x0 x1 x2) (k1_pay365 x0 x1 x2) x2 (k1_pay366 x0 x1 x2) = H
      generalize k1_pay67 (k1_pay363 x0 x1 x2) (k1_pay364 x0 x1 x2) (k1_pay365 x0 x1 x2) x2 (k1_pay366 x0 x1 x2) = Z
      pointwise
      refine q_piece x0 H Z e0 e1 ?_
      rw [e1]
      have := x1_lt
      simp only [Fin.val_ofNat, Fin.isValue]
      omega
  rw [e, show k1_pay66 (k1_pay363 x0 x1 x2) (k1_pay364 x0 x1 x2) (k1_pay365 x0 x1 x2) (View.ld x2 r1_56) (k1_pay366 x0 x1 x2) = k1_pay367 x0 x1 x2 from rfl,
    show k1_pay67 (k1_pay363 x0 x1 x2) (k1_pay364 x0 x1 x2) (k1_pay365 x0 x1 x2) (View.ld x2 r1_56) (k1_pay366 x0 x1 x2) = k1_pay368 x0 x1 x2 from rfl, h_at A x0 x1 x2 a o hw hg hb, z_at A x0 x1 x2 a o hw hg hb, hw]
  exact Spec.trunc_q A o d
include hw hg hb in
set_option maxHeartbeats 4000000 in
theorem o4 (d : Fin 7168) : (out1_4 x0 x1 x2 (ix2 a d) : EReal) = Spec.what A o d := by
  have e : (out1_4 x0 x1 x2 (ix2 a d) : EReal) = (min Spec.c15 (max 0 (Spec.rnd (Ideal.div (x0 (ix2 a d))
      (k1_pay66 (k1_pay363 x0 x1 x2) (k1_pay364 x0 x1 x2) (k1_pay365 x0 x1 x2) (View.ld x2 r1_56) (k1_pay366 x0 x1 x2) (ix2 a (Spec.grp d)))) + k1_pay67 (k1_pay363 x0 x1 x2) (k1_pay364 x0 x1 x2) (k1_pay365 x0 x1 x2) (View.ld x2 r1_56) (k1_pay366 x0 x1 x2) (ix2 a (Spec.grp d))))
        - k1_pay67 (k1_pay363 x0 x1 x2) (k1_pay364 x0 x1 x2) (k1_pay365 x0 x1 x2) (View.ld x2 r1_56) (k1_pay366 x0 x1 x2) (ix2 a (Spec.grp d))) * k1_pay66 (k1_pay363 x0 x1 x2) (k1_pay364 x0 x1 x2) (k1_pay365 x0 x1 x2) (View.ld x2 r1_56) (k1_pay366 x0 x1 x2) (ix2 a (Spec.grp d)) := by
    canon_tiles x h
    all_goals
      have e0 : a.val = (x 0).val := h0
      have e1 := (rfl : d.val = (ix2 a d 1).val).trans h1
      open_payloads
      generalize k1_pay66 (k1_pay363 x0 x1 x2) (k1_pay364 x0 x1 x2) (k1_pay365 x0 x1 x2) x2 (k1_pay366 x0 x1 x2) = H
      generalize k1_pay67 (k1_pay363 x0 x1 x2) (k1_pay364 x0 x1 x2) (k1_pay365 x0 x1 x2) x2 (k1_pay366 x0 x1 x2) = Z
      pointwise
      refine w_piece x0 H Z e0 e1 ?_
      rw [e1]
      have := x1_lt
      simp only [Fin.val_ofNat, Fin.isValue]
      omega
  rw [e, show k1_pay66 (k1_pay363 x0 x1 x2) (k1_pay364 x0 x1 x2) (k1_pay365 x0 x1 x2) (View.ld x2 r1_56) (k1_pay366 x0 x1 x2) = k1_pay367 x0 x1 x2 from rfl,
    show k1_pay67 (k1_pay363 x0 x1 x2) (k1_pay364 x0 x1 x2) (k1_pay365 x0 x1 x2) (View.ld x2 r1_56) (k1_pay366 x0 x1 x2) = k1_pay368 x0 x1 x2 from rfl, h_at A x0 x1 x2 a o hw hg hb, z_at A x0 x1 x2 a o hw hg hb, hw]
  rfl

end Blocks

/-! ## The blocks of a grid point, and the arrays -/

variable (V : (c : Dev nD) → (b : Ref sig .tc) → Buf (Elt Ideal) ((c : Thread nD τ).loc b)) (c : Dev nD)

theorem lt1 (t : Fin cfg1.N) : t.val < 288 := t.isLt
/-- Row `a` of tile `p` of the weight's rows. -/
def row1 (p : ℕ) (hp : p < 288) (a : Fin 64) : Fin 18432 := ⟨p * 64 + a.val, by omega⟩
theorem i1_0 : ∀ t : Fin grid1.N, win1_0.index t 0 = t.val ∧ win1_0.index t 1 = 0 := by decide +kernel
theorem i1_1 : ∀ t : Fin grid1.N, win1_1.index t 0 = t.val ∧ win1_1.index t 1 = 0 := by decide +kernel
theorem i1_2 : ∀ t : Fin grid1.N, win1_2.index t 0 = t.val ∧ win1_2.index t 1 = 0 := by decide +kernel
theorem i1_3 : ∀ t : Fin grid1.N, win1_3.index t 0 = t.val ∧ win1_3.index t 1 = 0 := by decide +kernel
theorem i1_4 : ∀ t : Fin grid1.N, win1_4.index t 0 = t.val ∧ win1_4.index t 1 = 0 := by decide +kernel
theorem i1_5 : ∀ t : Fin grid1.N, win1_5.index t 0 = t.val ∧ win1_5.index t 1 = 0 := by decide +kernel
theorem i1_6 : ∀ t : Fin grid1.N, win1_6.index t 0 = t.val ∧ win1_6.index t 1 = 0 := by decide +kernel
theorem i1_7 : ∀ t : Fin grid1.N, win1_7.index t 0 = t.val ∧ win1_7.index t 1 = 0 := by decide +kernel
theorem i1_8 : ∀ t : Fin grid1.N, win1_8.index t 0 = t.val ∧ win1_8.index t 1 = 0 := by decide +kernel
theorem b1_0 (p : Fin cfg1.N) (a : Fin 64) (d : Fin 7168) :
    iblk1 V c 0 p (ix2 a d) = V c main_arg2 (ix2 (row1 p.val (lt1 p) a) d) := by
  have e0 := (i1_0 p).1
  have e1 := (i1_0 p).2
  unfold row1
  blk_ext [iblk1, e0, e1]
theorem b1_1 (p : Fin cfg1.N) (a : Fin 64) (d : Fin 56) :
    iblk1 V c 1 p (ix2 a d) = V c main_arg3 (ix2 (row1 p.val (lt1 p) a) d) := by
  have e0 := (i1_1 p).1
  have e1 := (i1_1 p).2
  unfold row1
  blk_ext [iblk1, e0, e1]
theorem b1_2 (p : Fin cfg1.N) (a : Fin 64) (d : Fin 56) :
    iblk1 V c 2 p (ix2 a d) = V c main_arg4 (ix2 (row1 p.val (lt1 p) a) d) := by
  have e0 := (i1_2 p).1
  have e1 := (i1_2 p).2
  unfold row1
  blk_ext [iblk1, e0, e1]

variable (hw : ∀ o d, (V c main_arg2 (ix2 o d) : EReal) = A.w o d)
  (hg : ∀ o k, (V c main_arg3 (ix2 o k) : EReal) = A.ga o k)
  (hb : ∀ o k, (V c main_arg4 (ix2 o k) : EReal) = A.be o k)

include hw hg hb in
theorem q_arr (o : Fin 18432) (d : Fin 7168) : ((dat1 V c).arrAt 3 cfg1.N (ix2 o d) : BitVec 8) = Spec.qi A o d := by
  rw [(dat1 V c).arrAt_eq_of_covers 3 (fun j => (Spec.qi A (j 0) (j 1) : BitVec 8)) (by decide +kernel)
    fun p hf y => ?_]
  · rfl
  · blk_simp
    rw [after1_3]
    idx_vars y
    have e0 : ((win1_3.blk p).view.emb (ix2 y0 y1) 0) = row1 p.val (lt1 p) y0 := Fin.ext (by
      show win1_3.index p 0 * 64 + 1 * y0.val = p.val * 64 + y0.val
      rw [(i1_3 p).1, Nat.one_mul])
    have e1 : ((win1_3.blk p).view.emb (ix2 y0 y1) 1) = y1 := Fin.ext (by
      show win1_3.index p 1 * 7168 + 1 * y1.val = y1.val
      rw [(i1_3 p).2, Nat.one_mul, Nat.zero_mul, Nat.zero_add])
    refine Eq.trans ?_ (congrArg₂ (fun (o : Fin 18432) (d : Fin 7168) => (Spec.qi A o d : BitVec 8)) e0 e1).symm
    exact o3 A _ _ _ y0 _ (fun k => (b1_0 V c p y0 k).trans (hw _ k)) (fun k => (b1_1 V c p y0 k).trans (hg _ k)) (fun k => (b1_2 V c p y0 k).trans (hb _ k)) y1

include hw hg hb in
theorem what_arr (o : Fin 18432) (d : Fin 7168) : ((dat1 V c).arrAt 4 cfg1.N (ix2 o d) : EReal) = Spec.what A o d := by
  rw [(dat1 V c).arrAt_eq_of_covers 4 (fun j => (Spec.what A (j 0) (j 1) : EReal)) (by decide +kernel)
    fun p hf y => ?_]
  · rfl
  · blk_simp
    rw [after1_4]
    idx_vars y
    have e0 : ((win1_4.blk p).view.emb (ix2 y0 y1) 0) = row1 p.val (lt1 p) y0 := Fin.ext (by
      show win1_4.index p 0 * 64 + 1 * y0.val = p.val * 64 + y0.val
      rw [(i1_4 p).1, Nat.one_mul])
    have e1 : ((win1_4.blk p).view.emb (ix2 y0 y1) 1) = y1 := Fin.ext (by
      show win1_4.index p 1 * 7168 + 1 * y1.val = y1.val
      rw [(i1_4 p).2, Nat.one_mul, Nat.zero_mul, Nat.zero_add])
    refine Eq.trans ?_ (congrArg₂ (fun (o : Fin 18432) (d : Fin 7168) => (Spec.what A o d : EReal)) e0 e1).symm
    exact o4 A _ _ _ y0 _ (fun k => (b1_0 V c p y0 k).trans (hw _ k)) (fun k => (b1_1 V c p y0 k).trans (hg _ k)) (fun k => (b1_2 V c p y0 k).trans (hb _ k)) y1

include hw hg hb in
theorem h_arr (o : Fin 18432) (d : Fin 56) : ((dat1 V c).arrAt 5 cfg1.N (ix2 o d) : EReal) = Spec.h A o d := by
  rw [(dat1 V c).arrAt_eq_of_covers 5 (fun j => (Spec.h A (j 0) (j 1) : EReal)) (by decide +kernel)
    fun p hf y => ?_]
  · rfl
  · blk_simp
    rw [after1_5]
    idx_vars y
    have e0 : ((win1_5.blk p).view.emb (ix2 y0 y1) 0) = row1 p.val (lt1 p) y0 := Fin.ext (by
      show win1_5.index p 0 * 64 + 1 * y0.val = p.val * 64 + y0.val
      rw [(i1_5 p).1, Nat.one_mul])
    have e1 : ((win1_5.blk p).view.emb (ix2 y0 y1) 1) = y1 := Fin.ext (by
      show win1_5.index p 1 * 56 + 1 * y1.val = y1.val
      rw [(i1_5 p).2, Nat.one_mul, Nat.zero_mul, Nat.zero_add])
    refine Eq.trans ?_ (congrArg₂ (fun (o : Fin 18432) (d : Fin 56) => (Spec.h A o d : EReal)) e0 e1).symm
    exact o5 A _ _ _ y0 _ (fun k => (b1_0 V c p y0 k).trans (hw _ k)) (fun k => (b1_1 V c p y0 k).trans (hg _ k)) (fun k => (b1_2 V c p y0 k).trans (hb _ k)) y1

include hw hg hb in
theorem z_arr (o : Fin 18432) (d : Fin 56) : ((dat1 V c).arrAt 6 cfg1.N (ix2 o d) : EReal) = Spec.z A o d := by
  rw [(dat1 V c).arrAt_eq_of_covers 6 (fun j => (Spec.z A (j 0) (j 1) : EReal)) (by decide +kernel)
    fun p hf y => ?_]
  · rfl
  · blk_simp
    rw [after1_6]
    idx_vars y
    have e0 : ((win1_6.blk p).view.emb (ix2 y0 y1) 0) = row1 p.val (lt1 p) y0 := Fin.ext (by
      show win1_6.index p 0 * 64 + 1 * y0.val = p.val * 64 + y0.val
      rw [(i1_6 p).1, Nat.one_mul])
    have e1 : ((win1_6.blk p).view.emb (ix2 y0 y1) 1) = y1 := Fin.ext (by
      show win1_6.index p 1 * 56 + 1 * y1.val = y1.val
      rw [(i1_6 p).2, Nat.one_mul, Nat.zero_mul, Nat.zero_add])
    refine Eq.trans ?_ (congrArg₂ (fun (o : Fin 18432) (d : Fin 56) => (Spec.z A o d : EReal)) e0 e1).symm
    exact o6 A _ _ _ y0 _ (fun k => (b1_0 V c p y0 k).trans (hw _ k)) (fun k => (b1_1 V c p y0 k).trans (hg _ k)) (fun k => (b1_2 V c p y0 k).trans (hb _ k)) y1

include hw hg in
theorem ca_arr (o : Fin 18432) (d : Fin 56) : ((dat1 V c).arrAt 7 cfg1.N (ix2 o d) : EReal) = Ideal.div (Spec.sg A o d * (1 - Spec.sg A o d) * Spec.wmax A o d) Spec.c15 := by
  rw [(dat1 V c).arrAt_eq_of_covers 7 (fun j => (Ideal.div (Spec.sg A (j 0) (j 1) * (1 - Spec.sg A (j 0) (j 1)) * Spec.wmax A (j 0) (j 1)) Spec.c15 : EReal)) (by decide +kernel)
    fun p hf y => ?_]
  · rfl
  · blk_simp
    rw [after1_7]
    idx_vars y
    have e0 : ((win1_7.blk p).view.emb (ix2 y0 y1) 0) = row1 p.val (lt1 p) y0 := Fin.ext (by
      show win1_7.index p 0 * 64 + 1 * y0.val = p.val * 64 + y0.val
      rw [(i1_7 p).1, Nat.one_mul])
    have e1 : ((win1_7.blk p).view.emb (ix2 y0 y1) 1) = y1 := Fin.ext (by
      show win1_7.index p 1 * 56 + 1 * y1.val = y1.val
      rw [(i1_7 p).2, Nat.one_mul, Nat.zero_mul, Nat.zero_add])
    refine Eq.trans ?_ (congrArg₂ (fun (o : Fin 18432) (d : Fin 56) => (Ideal.div (Spec.sg A o d * (1 - Spec.sg A o d) * Spec.wmax A o d) Spec.c15 : EReal)) e0 e1).symm
    exact o7 A _ _ _ y0 _ (fun k => (b1_0 V c p y0 k).trans (hw _ k)) (fun k => (b1_1 V c p y0 k).trans (hg _ k)) y1

include hw hb in
theorem cb_arr (o : Fin 18432) (d : Fin 56) : ((dat1 V c).arrAt 8 cfg1.N (ix2 o d) : EReal) = -Ideal.div (Spec.sb A o d * (1 - Spec.sb A o d) * Spec.wmin A o d) Spec.c15 := by
  rw [(dat1 V c).arrAt_eq_of_covers 8 (fun j => (-Ideal.div (Spec.sb A (j 0) (j 1) * (1 - Spec.sb A (j 0) (j 1)) * Spec.wmin A (j 0) (j 1)) Spec.c15 : EReal)) (by decide +kernel)
    fun p hf y => ?_]
  · rfl
  · blk_simp
    rw [after1_8]
    idx_vars y
    have e0 : ((win1_8.blk p).view.emb (ix2 y0 y1) 0) = row1 p.val (lt1 p) y0 := Fin.ext (by
      show win1_8.index p 0 * 64 + 1 * y0.val = p.val * 64 + y0.val
      rw [(i1_8 p).1, Nat.one_mul])
    have e1 : ((win1_8.blk p).view.emb (ix2 y0 y1) 1) = y1 := Fin.ext (by
      show win1_8.index p 1 * 56 + 1 * y1.val = y1.val
      rw [(i1_8 p).2, Nat.one_mul, Nat.zero_mul, Nat.zero_add])
    refine Eq.trans ?_ (congrArg₂ (fun (o : Fin 18432) (d : Fin 56) => (-Ideal.div (Spec.sb A o d * (1 - Spec.sb A o d) * Spec.wmin A o d) Spec.c15 : EReal)) e0 e1).symm
    exact o8 A _ _ _ y0 _ (fun k => (b1_0 V c p y0 k).trans (hw _ k)) (fun k => (b1_2 V c p y0 k).trans (hb _ k)) y1

end Cert.KernelIdeal.Val
end
-- ==== Proof.Forward.lean ====
/- Region 2: the error of the forward product and the sums of its squares. -/
module

public import proofs.«01_k».proof.Proof.KernelIdeal.Region2
public import proofs.«01_k».proof.Proof.Spec
public import Idealize.ShloMosaic.Lib.Pipeline.ValueKit
public import Idealize.ShloMosaic.Lib.Pipeline.ReadBack
public import Idealize.ShloMosaic.Lib.Pointwise

@[expose] public section

set_option maxRecDepth 16384

noncomputable section

namespace Cert.KernelIdeal.Val
open Cert.KernelIdeal Cert.KernelIdeal.Gen Idealize.ShloMosaic Idealize.ShloMosaic.TcCoe Idealize.SL.Sem

variable (V : (c : Dev nD) → (b : Ref sig .tc) → Buf (Elt Ideal) ((c : Thread nD τ).loc b)) (c : Dev nD) (A : Spec.Args)

theorem i2_0 : ∀ t : Fin grid2.N, win2_0.index t 0 = t.val / 12 ∧ win2_0.index t 1 = 0 := by decide +kernel
theorem i2_1 : ∀ t : Fin grid2.N, win2_1.index t 0 = t.val % 12 ∧ win2_1.index t 1 = 0 := by decide +kernel
theorem i2_2 : ∀ t : Fin grid2.N, win2_2.index t 0 = t.val % 12 ∧ win2_2.index t 1 = t.val / 12 := by decide +kernel
theorem i2_3 : ∀ t : Fin grid2.N, win2_3.index t 0 = t.val / 12 ∧ win2_3.index t 1 = t.val % 12 := by decide +kernel
theorem i2_4 : ∀ t : Fin grid2.N, win2_4.index t 0 = 0 ∧ win2_4.index t 1 = 0 := by decide +kernel
theorem lt2 (t : Fin cfg2.N) : t.val < 288 := t.isLt

/-- Row `a` of the block of the weight's rows, and token `b` of the block of tokens, of point `p`. -/
def row2 (p : ℕ) (hp : p < 288) (a : Fin 768) : Fin 18432 := ⟨p / 12 * 768 + a.val, by omega⟩
def tok2 (p : ℕ) (b : Fin 512) : Fin 6144 := ⟨p % 12 * 512 + b.val, by omega⟩

theorem b2_0 (p : Fin cfg2.N) (a : Fin 768) (d : Fin 7168) :
    iblk2 V c 0 p (ix2 a d) = V c main_v3_1 (ix2 (row2 p.val (lt2 p) a) d) := by
  have e0 := (i2_0 p).1
  have e1 := (i2_0 p).2
  unfold row2
  blk_ext [iblk2, e0, e1]
theorem b2_1 (p : Fin cfg2.N) (b : Fin 512) (d : Fin 7168) :
    iblk2 V c 1 p (ix2 b d) = V c main_v2 (ix2 (tok2 p.val b) d) := by
  have e0 := (i2_1 p).1
  have e1 := (i2_1 p).2
  unfold tok2
  blk_ext [iblk2, e0, e1]
theorem b2_2 (p : Fin cfg2.N) (b : Fin 512) (a : Fin 768) :
    iblk2 V c 2 p (ix2 b a) = V c main_v4 (ix2 (tok2 p.val b) (row2 p.val (lt2 p) a)) := by
  have e0 := (i2_2 p).1
  have e1 := (i2_2 p).2
  unfold tok2 row2
  blk_ext [iblk2, e0, e1]

/-- The error at row `o` and token `t`. -/
def E (o : Fin 18432) (t : Fin 6144) : EReal := Spec.err A (Spec.tb t) (Spec.ts t) o

variable (hw : ∀ o d, (V c main_v3_1 (ix2 o d) : EReal) = Spec.what A o d)
  (hx : ∀ t d, (V c main_v2 (ix2 t d) : EReal) = Spec.xs A (Spec.tb t) (Spec.ts t) d)
  (hy : ∀ t o, (V c main_v4 (ix2 t o) : EReal) = A.y (Spec.tb t) (Spec.ts t) o)

include hw hx hy in
theorem e_blk (p : Fin cfg2.N) (f g : Fin 7168 → EReal) (y : EReal) (a : Fin 768) (b : Fin 512)
    (hf : ∀ d, f d = iblk2 V c 0 p (ix2 a d)) (hg : ∀ d, g d = iblk2 V c 1 p (ix2 b d)) (h : y = iblk2 V c 2 p (ix2 b a)) :
    (∑ d, f d * g d) - y = E A (row2 p.val (lt2 p) a) (tok2 p.val b) := by
  have h1 : ∀ d, f d = Spec.what A (row2 p.val (lt2 p) a) d := fun d => (hf d).trans ((b2_0 V c p a d).trans (hw _ _))
  have h2 : ∀ d, g d = Spec.xs A (Spec.tb (tok2 p.val b)) (Spec.ts (tok2 p.val b)) d :=
    fun d => (hg d).trans ((b2_1 V c p b d).trans (hx _ _))
  have h3 : y = A.y (Spec.tb (tok2 p.val b)) (Spec.ts (tok2 p.val b)) (row2 p.val (lt2 p) a) :=
    h.trans ((b2_2 V c p b a).trans (hy _ _))
  unfold E Spec.err
  rw [h3]
  refine congrArg (· - _) (Finset.sum_congr rfl fun d _ => ?_)
  rw [h1, h2, mul_comm]

include hw hx hy in
theorem err_at (t : Fin cfg2.N) (a : Fin 768) (b : Fin 512) :
    ((outsAt2 V c t.val t.isLt).1 (ix2 a b) : EReal) = E A (row2 t.val (lt2 t) a) (tok2 t.val b) := by
  by_cases h0 : t.val % 288 = 0
  · rw [outsAt2_A V c t h0]
    frame_out
    unfold_payloads
    pointwise
    exact e_blk V c A hw hx hy t _ _ _ a b (fun _ => rfl) (fun _ => rfl) rfl
  · rw [outsAt2_B V c t h0]
    frame_out
    unfold_payloads
    pointwise
    exact e_blk V c A hw hx hy t _ _ _ a b (fun _ => rfl) (fun _ => rfl) rfl

/-- What point `p` adds to entry `(a, b)` of the sums of squares. -/
def sq2 (p : ℕ) (hp : p < 288) (a : Fin 8) (b : Fin 512) : EReal :=
  ∑ x : Fin 96, E A (row2 p hp ⟨x.val * 8 + a.val, by omega⟩) (tok2 p b) * E A (row2 p hp ⟨x.val * 8 + a.val, by omega⟩) (tok2 p b)

include hw hx hy in
theorem loss_A (t : Fin cfg2.N) (h0 : t.val % 288 = 0) (a : Fin 8) (b : Fin 512) :
    ((outsAt2 V c t.val t.isLt).2 (ix2 a b) : EReal) = sq2 A t.val (lt2 t) a b := by
  rw [outsAt2_A V c t h0]
  frame_out
  unfold_payloads
  pointwise
  unfold sq2
  refine Finset.sum_congr rfl fun x _ => ?_
  refine congrArg₂ (fun p q : EReal => p * q) ?_ ?_ <;>
    exact e_blk V c A hw hx hy t _ _ _ _ b (fun _ => rfl) (fun _ => rfl) rfl
include hw hx hy in
theorem loss_B (t : Fin cfg2.N) (h0 : ¬t.val % 288 = 0) (a : Fin 8) (b : Fin 512) :
    ((outsAt2 V c t.val t.isLt).2 (ix2 a b) : EReal) =
      (outsAt2 V c (t.val - 1) (Nat.lt_of_le_of_lt (Nat.sub_le _ _) t.isLt)).2 (ix2 a b) + sq2 A t.val (lt2 t) a b := by
  rw [outsAt2_B V c t h0]
  frame_out
  unfold_payloads
  pointwise
  unfold sq2
  refine congrArg₂ (fun p q : EReal => p + q) rfl ?_
  refine Finset.sum_congr rfl fun x _ => ?_
  refine congrArg₂ (fun p q : EReal => p * q) ?_ ?_ <;>
    exact e_blk V c A hw hx hy t _ _ _ _ b (fun _ => rfl) (fun _ => rfl) rfl

/-! ## The arrays -/

include hw hx hy in
theorem err_arr (o : Fin 18432) (t : Fin 6144) : ((dat2 V c).arrAt 3 cfg2.N (ix2 o t) : EReal) = E A o t := by
  rw [(dat2 V c).arrAt_eq_of_covers 3 (fun j => (E A (j 0) (j 1) : EReal)) (by decide +kernel) fun p hf y => ?_]
  · rfl
  · blk_simp
    rw [after2_3]
    idx_vars y
    have e0 : ((win2_3.blk p).view.emb (ix2 y0 y1) 0) = row2 p.val (lt2 p) y0 := Fin.ext (by
      show win2_3.index p 0 * 768 + 1 * y0.val = p.val / 12 * 768 + y0.val
      rw [(i2_3 p).1, Nat.one_mul])
    have e1 : ((win2_3.blk p).view.emb (ix2 y0 y1) 1) = tok2 p.val y1 := Fin.ext (by
      show win2_3.index p 1 * 512 + 1 * y1.val = p.val % 12 * 512 + y1.val
      rw [(i2_3 p).2, Nat.one_mul])
    refine Eq.trans ?_ (congrArg₂ (fun (o : Fin 18432) (t : Fin 6144) => E A o t) e0 e1).symm
    exact err_at V c A hw hx hy p y0 y1

include hw hx hy in
theorem loss_last (t : Fin cfg2.N) (ht : t.val + 1 = 288) (a : Fin 8) (b : Fin 512) :
    ((outsAt2 V c t.val t.isLt).2 (ix2 a b) : EReal) = ∑ p : Fin 288, sq2 A p.val p.isLt a b := by
  have := Pipeline.eq_sum_fin_of_reset_step_apply_last (M := EReal) (ι := Fin 8 × Fin 512) (N := cfg2.N)
    (fun n h i => ((outsAt2 V c n h).2 (ix2 i.1 i.2) : EReal)) 288 (fun _ => 0) (fun p i => sq2 A p.val (lt2 p) i.1 i.2)
    (fun t h i => (loss_A V c A hw hx hy t h i.1 i.2).trans (zero_add _).symm)
    (fun t h i => loss_B V c A hw hx hy t h i.1 i.2) (le_of_eq rfl) t ht (a, b)
  exact this.trans (zero_add _)

include hw hx hy in
theorem loss_arr (a : Fin 8) (b : Fin 512) :
    ((dat2 V c).arrAt 4 cfg2.N (ix2 a b) : EReal) = ∑ p : Fin 288, sq2 A p.val p.isLt a b := by
  rw [(dat2 V c).arrAt_eq_of_covers 4 (fun j => ((∑ p : Fin 288, sq2 A p.val p.isLt (j 0) (j 1) : EReal))) (by decide +kernel)
    fun p hf y => ?_]
  · rfl
  · have hp : p.val + 1 = 288 := by
      have h1 := (flush2_4 p).mp hf
      have h2 := lt2 p
      omega
    blk_simp
    rw [after2_4]
    idx_vars y
    have e0 : ((win2_4.blk p).view.emb (ix2 y0 y1) 0) = y0 := Fin.ext (by
      show win2_4.index p 0 * 8 + 1 * y0.val = y0.val
      rw [(i2_4 p).1, Nat.one_mul, Nat.zero_mul, Nat.zero_add])
    have e1 : ((win2_4.blk p).view.emb (ix2 y0 y1) 1) = y1 := Fin.ext (by
      show win2_4.index p 1 * 512 + 1 * y1.val = y1.val
      rw [(i2_4 p).2, Nat.one_mul, Nat.zero_mul, Nat.zero_add])
    refine Eq.trans ?_ (congrArg₂ (fun (a : Fin 8) (b : Fin 512) => ∑ p : Fin 288, sq2 A p.val p.isLt a b) e0 e1).symm
    exact loss_last V c A hw hx hy p hp y0 y1

/-! ## The sum of the sums of squares -/

/-- A sum over tokens is a sum over sequences and positions. -/
theorem sum_tok (f : Fin 8 → Fin 768 → EReal) : ∑ t : Fin 6144, f (Spec.tb t) (Spec.ts t) = ∑ b, ∑ s, f b s :=
  Fin.sum_divmod_fin 768 f

theorem sum_tiles (F : Fin 18432 → Fin 6144 → EReal) :
    ∑ a : Fin 8, ∑ b : Fin 512, ∑ p : Fin 288, ∑ x : Fin 96,
      F (row2 p.val p.isLt ⟨x.val * 8 + a.val, by omega⟩) (tok2 p.val b) = ∑ t, ∑ o, F o t := by
  have h1 : ∀ (p : Fin 288) (b : Fin 512), ∑ x : Fin 96, ∑ a : Fin 8,
      F (row2 p.val p.isLt ⟨x.val * 8 + a.val, by omega⟩) (tok2 p.val b) = ∑ r : Fin 768, F (row2 p.val p.isLt r) (tok2 p.val b) :=
    fun p b => Fin.sum_mul_add_fin 96 8 (fun r : Fin 768 => F (row2 p.val p.isLt r) (tok2 p.val b))
  have h2 : ∑ p : Fin 288, ∑ b : Fin 512, ∑ r : Fin 768, F (row2 p.val p.isLt r) (tok2 p.val b)
      = ∑ k : Fin 24, ∑ t : Fin 6144, ∑ r : Fin 768, F ⟨k.val * 768 + r.val, by omega⟩ t :=
    Fin.sum_points_lanes_fin 12 (fun (k : Fin 24) (t : Fin 6144) => ∑ r : Fin 768, F ⟨k.val * 768 + r.val, by omega⟩ t)
  have h3 : ∀ t : Fin 6144, ∑ k : Fin 24, ∑ r : Fin 768, F ⟨k.val * 768 + r.val, by omega⟩ t = ∑ o, F o t :=
    fun t => Fin.sum_mul_add_fin 24 768 (fun o => F o t)
  calc _ = ∑ p : Fin 288, ∑ b : Fin 512, ∑ x : Fin 96, ∑ a : Fin 8,
        F (row2 p.val p.isLt ⟨x.val * 8 + a.val, by omega⟩) (tok2 p.val b) := by
        rw [Finset.sum_comm]
        rw [Finset.sum_congr rfl fun b _ => Finset.sum_comm]
        rw [Finset.sum_comm]
        exact Finset.sum_congr rfl fun p _ => Finset.sum_congr rfl fun b _ => Finset.sum_comm
    _ = ∑ k : Fin 24, ∑ t : Fin 6144, ∑ r : Fin 768, F ⟨k.val * 768 + r.val, by omega⟩ t :=
        (Finset.sum_congr rfl fun p _ => Finset.sum_congr rfl fun b _ => h1 p b).trans h2
    _ = ∑ t, ∑ o, F o t := by
        rw [Finset.sum_comm]
        exact Finset.sum_congr rfl fun t _ => h3 t

theorem sum_sq : ∑ a : Fin 8, ∑ b : Fin 512, ∑ p : Fin 288, sq2 A p.val p.isLt a b =
    ∑ b, ∑ s, ∑ o, Spec.err A b s o * Spec.err A b s o :=
  (sum_tiles fun o t => E A o t * E A o t).trans (sum_tok fun b s => ∑ o, Spec.err A b s o * Spec.err A b s o)

end Cert.KernelIdeal.Val
end
-- ==== Proof.Backward.lean ====
/- Region 3: the gradients of the two clipping parameters. -/
module

public import proofs.«01_k».proof.Proof.KernelIdeal.Region3
public import proofs.«01_k».proof.Proof.Forward
public import Idealize.ShloMosaic.Lib.Pipeline.ValueKit
public import Idealize.ShloMosaic.Lib.Pipeline.ReadBack
public import Idealize.ShloMosaic.Lib.Pointwise

@[expose] public section

set_option maxRecDepth 16384

noncomputable section

namespace Cert.KernelIdeal.Val
open Cert.KernelIdeal Cert.KernelIdeal.Gen Idealize.ShloMosaic Idealize.ShloMosaic.TcCoe Idealize.SL.Sem

variable (A : Spec.Args)

/-! ## One group of a step -/

theorem word (j q : ℕ) : Scalar.addi (Scalar.muli (BitVec.ofNat 32 j) 4#32) (BitVec.ofNat 32 q) = BitVec.ofNat 32 (j * 4 + q) := by
  unfold Scalar.addi Scalar.muli IntOp.addi IntOp.muli
  rw [BitVec.ofNat_add, BitVec.ofNat_mul]

theorem sel_if {k : Fin 56} {g : ℕ} (hg : g < 56) (x r : EReal) :
    Scalar.select (IntOp.cmpi .eq (BitVec.ofNat 32 k.val) (BitVec.ofNat 32 g)) x r = if k.val = g then x else r := by
  by_cases h : k.val = g
  · rw [if_pos h, h]
    unfold Scalar.select IntOp.cmpi
    simp
  · have : ¬BitVec.ofNat 32 k.val = BitVec.ofNat 32 g := fun e => h (by
      have e' := congrArg BitVec.toNat e
      simp only [BitVec.toNat_ofNat] at e'
      omega)
    rw [if_neg h]
    have e : IntOp.cmpi .eq (BitVec.ofNat 32 k.val) (BitVec.ofNat 32 g) = 0#1 := by
      show BitVec.ofBool (BitVec.ofNat 32 k.val == BitVec.ofNat 32 g) = 0#1
      rw [beq_eq_false_iff_ne.mpr this]
      rfl
    rw [e]
    rfl

/-- A sum over the groups with all but one left out. -/
theorem sum_sel (k : Fin 56) (f : Fin 56 → EReal) :
    (∑ x : Fin 56, Scalar.select (IntOp.cmpi .eq (BitVec.ofNat 32 x.val) (BitVec.ofNat 32 k.val)) (f x) 0) = f k := by
  rw [Finset.sum_congr rfl fun x _ => sel_if k.isLt (f x) 0]
  rw [Finset.sum_eq_single k (fun b _ hb => if_neg fun e => hb (Fin.ext e)) (fun h => absurd (Finset.mem_univ k) h), if_pos rfl]

theorem sel_and (p q : Prop) [Decidable p] [Decidable q] (x : EReal) :
    Scalar.select (IntOp.andi (BitVec.ofBool (decide p)) (BitVec.ofBool (decide q))) x 0 = if p ∧ q then x else 0 := by
  by_cases hp : p <;> by_cases hq : q <;> simp [hp, hq, Scalar.select, IntOp.andi]

/-- The factor of a column, from its weight and its group's step and zero point. -/
def VV (w h z : EReal) : EReal :=
  min Spec.c15 (max 0 (Spec.rnd (Ideal.div w h) + z)) - z
    - (if 0 ≤ Spec.rnd (Ideal.div w h) + z ∧ Spec.rnd (Ideal.div w h) + z ≤ Spec.c15 then Ideal.div w h else 0)

theorem step_gen {j q : ℕ} (kk : Fin 56) (hk : kk.val = j * 4 + q) {w : BitVec 32} (hw : w = BitVec.ofNat 32 (j * 4 + q))
    (Gf Wf : Fin 128 → EReal) (Hf Zf : Fin 56 → EReal) (p : EReal) (k : Fin 56) :
    Scalar.select (IntOp.cmpi .eq (BitVec.ofNat 32 k.val) w)
      (∑ x : Fin 128, Gf x *
        (min (Ideal.ofBits .f32 1097859072#32) (max 0 (Ideal.liftRound Ideal.roundHalfEven (Ideal.div (Wf x)
              (∑ x : Fin 56, Scalar.select (IntOp.cmpi .eq (BitVec.ofNat 32 x.val) w) (Hf x) 0))
            + ∑ x : Fin 56, Scalar.select (IntOp.cmpi .eq (BitVec.ofNat 32 x.val) w) (Zf x) 0))
          - (∑ x : Fin 56, Scalar.select (IntOp.cmpi .eq (BitVec.ofNat 32 x.val) w) (Zf x) 0)
          - Scalar.select (IntOp.andi
              (BitVec.ofBool (decide (0 ≤ Ideal.liftRound Ideal.roundHalfEven (Ideal.div (Wf x)
                  (∑ x : Fin 56, Scalar.select (IntOp.cmpi .eq (BitVec.ofNat 32 x.val) w) (Hf x) 0))
                + ∑ x : Fin 56, Scalar.select (IntOp.cmpi .eq (BitVec.ofNat 32 x.val) w) (Zf x) 0)))
              (BitVec.ofBool (decide (Ideal.liftRound Ideal.roundHalfEven (Ideal.div (Wf x)
                  (∑ x : Fin 56, Scalar.select (IntOp.cmpi .eq (BitVec.ofNat 32 x.val) w) (Hf x) 0))
                + ∑ x : Fin 56, Scalar.select (IntOp.cmpi .eq (BitVec.ofNat 32 x.val) w) (Zf x) 0 ≤ Ideal.ofBits .f32 1097859072#32))))
            (Ideal.div (Wf x) (∑ x : Fin 56, Scalar.select (IntOp.cmpi .eq (BitVec.ofNat 32 x.val) w) (Hf x) 0)) 0)) p
    = if k.val = j * 4 + q then ∑ l, Gf l * VV (Wf l) (Hf kk) (Zf kk) else p := by
  rw [hw, ← hk, sum_sel, sum_sel, sel_if kk.isLt]
  refine if_congr Iff.rfl (Finset.sum_congr rfl fun l _ => ?_) rfl
  rw [sel_and]
  rfl

section Step
variable (G : FVec Ideal S768x512 .f32) (H Z P : Vec Ideal S768x56 .f32) (W : Vec Ideal S768x512 .f32) (i : grid3.Coords)

/-- The scratch after each group of a step, from the scratch before it. -/
def P0 : FVec Ideal S768x56 .f32 := k3_pay11 G (k3_pay6 i) (k3_pay7 i Z) (k3_pay8 i H (View.ld W (Rect.unit ![0, 0] ![768, 128] inb_S768x512_S768x128_0_0))) (k3_pay9 i H Z (View.ld W (Rect.unit ![0, 0] ![768, 128] inb_S768x512_S768x128_0_0)))
  (FloatOps.ofBits FTy.f32 1097859072#32) (k3_pay10 i H Z (View.ld W (Rect.unit ![0, 0] ![768, 128] inb_S768x512_S768x128_0_0))) P
def P1 : FVec Ideal S768x56 .f32 := k3_pay15 G (k3_pay12 (BitVec.ofNat 32 (i 1).val) (iota Kind.tc S768x56 32 [1] iota_S768x56_d1_w32)) (k3_pay13 (BitVec.ofNat 32 (i 1).val) (iota Kind.tc S768x56 32 [1] iota_S768x56_d1_w32) H)
  (k3_pay14 (BitVec.ofNat 32 (i 1).val) (iota Kind.tc S768x56 32 [1] iota_S768x56_d1_w32) Z) (View.ld W (Rect.unit ![0, 128] ![768, 128] inb_S768x512_S768x128_0_128)) P
def P2 : FVec Ideal S768x56 .f32 := k3_pay18 G (k3_pay16 (BitVec.ofNat 32 (i 1).val) (iota Kind.tc S768x56 32 [1] iota_S768x56_d1_w32)) (k3_pay17 (BitVec.ofNat 32 (i 1).val) (iota Kind.tc S768x56 32 [1] iota_S768x56_d1_w32) H)
  Z (View.ld W (Rect.unit ![0, 256] ![768, 128] inb_S768x512_S768x128_0_256)) P
def P3 : FVec Ideal S768x56 .f32 := k3_pay1 (k3_pay20 G (k3_pay19 (BitVec.ofNat 32 (i 1).val) (iota Kind.tc S768x56 32 [1] iota_S768x56_d1_w32)) H Z (View.ld W (Rect.unit ![0, 384] ![768, 128] inb_S768x512_S768x128_0_384)) P)
/-- The scratch after a step. -/
def PP : FVec Ideal S768x56 .f32 := P3 G H Z (P2 G H Z (P1 G H Z (P0 G H Z P W i) W i) W i) W i

variable (a : Fin 768) (o : Fin 18432) (hG : ∀ d : Fin 512, (G (ix2 a d) : EReal) = Spec.g A o ⟨(i 1).val * 512 + d.val, by have : (i 1).val < 14 := (i 1).isLt; omega⟩)
  (hW : ∀ d : Fin 512, (W (ix2 a d) : EReal) = A.w o ⟨(i 1).val * 512 + d.val, by have : (i 1).val < 14 := (i 1).isLt; omega⟩)
  (hH : ∀ k, (H (ix2 a k) : EReal) = Spec.h A o k) (hZ : ∀ k, (Z (ix2 a k) : EReal) = Spec.z A o k)

include hG hW hH hZ in
theorem S_of (k : Fin 56) (q : ℕ) (hq : q < 4) (hk : k.val = (i 1).val * 4 + q) (d : Fin 128 → Fin 512) (hd : ∀ l, (d l).val = q * 128 + l.val) :
    ∑ l, (G (ix2 a (d l)) : EReal) * VV (W (ix2 a (d l))) (H (ix2 a k)) (Z (ix2 a k)) = Spec.S A o k := by
  unfold Spec.S
  refine Finset.sum_congr rfl fun l _ => ?_
  have e : (⟨(i 1).val * 512 + (d l).val, by have : (i 1).val < 14 := (i 1).isLt; omega⟩ : Fin 7168) = Spec.col k l := Fin.ext (by
    show (i 1).val * 512 + (d l).val = k.val * 128 + l.val
    rw [hd, hk]
    omega)
  have hg : Spec.grp (Spec.col k l) = k := Spec.grp_col k l
  rw [hG, hW, hH, hZ, e]
  unfold VV Spec.v Spec.q Spec.cc Spec.u
  rw [hg]

include hG hW hH hZ in
theorem step0 (k : Fin 56) : (P0 G H Z P W i (ix2 a k) : EReal) = if k.val = (i 1).val * 4 + 0 then Spec.S A o k else P (ix2 a k) := by
  have hi : (i 1).val < 14 := (i 1).isLt
  have e : (P0 G H Z P W i (ix2 a k) : EReal) = if k.val = (i 1).val * 4 + 0 then
      ∑ l : Fin 128, (G (ix2 a ⟨l.val, by omega⟩) : EReal) * VV (W (ix2 a ⟨l.val, by omega⟩)) (H (ix2 a ⟨(i 1).val * 4 + 0, by omega⟩)) (Z (ix2 a ⟨(i 1).val * 4 + 0, by omega⟩))
      else P (ix2 a k) := by
    unfold P0
    unfold_payloads
    pointwise
    exact step_gen (j := (i 1).val) (q := 0) ⟨(i 1).val * 4 + 0, by omega⟩ rfl (word _ 0) (fun l => G (ix2 a ⟨l.val, by omega⟩)) (fun l => W (ix2 a ⟨l.val, by omega⟩))
      (fun k => H (ix2 a k)) (fun k => Z (ix2 a k)) _ k
  rw [e]
  by_cases hk : k.val = (i 1).val * 4 + 0
  · rw [if_pos hk, if_pos hk, ← S_of A G H Z W i a o hG hW hH hZ k 0 (by omega) hk (fun l => ⟨l.val, by omega⟩) (fun l => by
      show l.val = 0 * 128 + l.val
      omega)]
    rw [show (⟨(i 1).val * 4 + 0, by omega⟩ : Fin 56) = k from Fin.ext hk.symm]
  · rw [if_neg hk, if_neg hk]
include hG hW hH hZ in
theorem step1 (k : Fin 56) : (P1 G H Z P W i (ix2 a k) : EReal) = if k.val = (i 1).val * 4 + 1 then Spec.S A o k else P (ix2 a k) := by
  have hi : (i 1).val < 14 := (i 1).isLt
  have e : (P1 G H Z P W i (ix2 a k) : EReal) = if k.val = (i 1).val * 4 + 1 then
      ∑ l : Fin 128, (G (ix2 a ⟨128 + l.val, by omega⟩) : EReal) * VV (W (ix2 a ⟨128 + l.val, by omega⟩)) (H (ix2 a ⟨(i 1).val * 4 + 1, by omega⟩)) (Z (ix2 a ⟨(i 1).val * 4 + 1, by omega⟩))
      else P (ix2 a k) := by
    unfold P1
    unfold_payloads
    pointwise
    exact step_gen (j := (i 1).val) (q := 1) ⟨(i 1).val * 4 + 1, by omega⟩ rfl (word _ 1) (fun l => G (ix2 a ⟨128 + l.val, by omega⟩)) (fun l => W (ix2 a ⟨128 + l.val, by omega⟩))
      (fun k => H (ix2 a k)) (fun k => Z (ix2 a k)) _ k
  rw [e]
  by_cases hk : k.val = (i 1).val * 4 + 1
  · rw [if_pos hk, if_pos hk, ← S_of A G H Z W i a o hG hW hH hZ k 1 (by omega) hk (fun l => ⟨128 + l.val, by omega⟩) (fun l => by
      show 128 + l.val = 1 * 128 + l.val
      omega)]
    rw [show (⟨(i 1).val * 4 + 1, by omega⟩ : Fin 56) = k from Fin.ext hk.symm]
  · rw [if_neg hk, if_neg hk]
include hG hW hH hZ in
theorem step2 (k : Fin 56) : (P2 G H Z P W i (ix2 a k) : EReal) = if k.val = (i 1).val * 4 + 2 then Spec.S A o k else P (ix2 a k) := by
  have hi : (i 1).val < 14 := (i 1).isLt
  have e : (P2 G H Z P W i (ix2 a k) : EReal) = if k.val = (i 1).val * 4 + 2 then
      ∑ l : Fin 128, (G (ix2 a ⟨256 + l.val, by omega⟩) : EReal) * VV (W (ix2 a ⟨256 + l.val, by omega⟩)) (H (ix2 a ⟨(i 1).val * 4 + 2, by omega⟩)) (Z (ix2 a ⟨(i 1).val * 4 + 2, by omega⟩))
      else P (ix2 a k) := by
    unfold P2
    unfold_payloads
    pointwise
    exact step_gen (j := (i 1).val) (q := 2) ⟨(i 1).val * 4 + 2, by omega⟩ rfl (word _ 2) (fun l => G (ix2 a ⟨256 + l.val, by omega⟩)) (fun l => W (ix2 a ⟨256 + l.val, by omega⟩))
      (fun k => H (ix2 a k)) (fun k => Z (ix2 a k)) _ k
  rw [e]
  by_cases hk : k.val = (i 1).val * 4 + 2
  · rw [if_pos hk, if_pos hk, ← S_of A G H Z W i a o hG hW hH hZ k 2 (by omega) hk (fun l => ⟨256 + l.val, by omega⟩) (fun l => by
      show 256 + l.val = 2 * 128 + l.val
      omega)]
    rw [show (⟨(i 1).val * 4 + 2, by omega⟩ : Fin 56) = k from Fin.ext hk.symm]
  · rw [if_neg hk, if_neg hk]
include hG hW hH hZ in
theorem step3 (k : Fin 56) : (P3 G H Z P W i (ix2 a k) : EReal) = if k.val = (i 1).val * 4 + 3 then Spec.S A o k else P (ix2 a k) := by
  have hi : (i 1).val < 14 := (i 1).isLt
  have e : (P3 G H Z P W i (ix2 a k) : EReal) = if k.val = (i 1).val * 4 + 3 then
      ∑ l : Fin 128, (G (ix2 a ⟨384 + l.val, by omega⟩) : EReal) * VV (W (ix2 a ⟨384 + l.val, by omega⟩)) (H (ix2 a ⟨(i 1).val * 4 + 3, by omega⟩)) (Z (ix2 a ⟨(i 1).val * 4 + 3, by omega⟩))
      else P (ix2 a k) := by
    unfold P3
    unfold_payloads
    pointwise
    exact step_gen (j := (i 1).val) (q := 3) ⟨(i 1).val * 4 + 3, by omega⟩ rfl (word _ 3) (fun l => G (ix2 a ⟨384 + l.val, by omega⟩)) (fun l => W (ix2 a ⟨384 + l.val, by omega⟩))
      (fun k => H (ix2 a k)) (fun k => Z (ix2 a k)) _ k
  rw [e]
  by_cases hk : k.val = (i 1).val * 4 + 3
  · rw [if_pos hk, if_pos hk, ← S_of A G H Z W i a o hG hW hH hZ k 3 (by omega) hk (fun l => ⟨384 + l.val, by omega⟩) (fun l => by
      show 384 + l.val = 3 * 128 + l.val
      omega)]
    rw [show (⟨(i 1).val * 4 + 3, by omega⟩ : Fin 56) = k from Fin.ext hk.symm]
  · rw [if_neg hk, if_neg hk]

include hG hW hH hZ in
theorem step (k : Fin 56) : (PP G H Z P W i (ix2 a k) : EReal) = if k.val / 4 = (i 1).val then Spec.S A o k else P (ix2 a k) := by
  unfold PP
  rw [step3 A G H Z _ W i a o hG hW hH hZ, step2 A G H Z _ W i a o hG hW hH hZ, step1 A G H Z _ W i a o hG hW hH hZ,
    step0 A G H Z _ W i a o hG hW hH hZ]
  by_cases h : k.val / 4 = (i 1).val
  · rw [if_pos h]
    have : k.val = (i 1).val * 4 + 3 ∨ k.val = (i 1).val * 4 + 2 ∨ k.val = (i 1).val * 4 + 1 ∨ k.val = (i 1).val * 4 + 0 := by omega
    split_ifs <;> first | rfl | (exfalso; omega)
  · rw [if_neg h, if_neg (by omega), if_neg (by omega), if_neg (by omega), if_neg (by omega)]

end Step

theorem g_at (x : Vec Ideal S768x6144 .bf16) (y : Vec Ideal S6144x512 .bf16) (a : Fin 768) (d : Fin 512) (X Y : Fin 6144 → EReal)
    (hX : ∀ t, x (ix2 a t) = X t) (hY : ∀ t, y (ix2 t d) = Y t) :
    (k3_pay5 x y (ix2 a d) : EReal) = (∑ t, X t * Y t) * Spec.c2n := by
  unfold_payloads
  pointwise
  refine congrArg (fun s : EReal => s * _) (Finset.sum_congr rfl fun t _ => ?_)
  exact congrArg₂ (fun p q : EReal => p * q) (hX t) (hY t)
theorem pay2_at (x y : Vec Ideal S768x56 .f32) (a : Fin 768) (k : Fin 56) :
    (k3_pay2 x y (ix2 a k) : EReal) = (x (ix2 a k) : EReal) * (y (ix2 a k) : EReal) := by
  unfold_payloads
  pointwise
theorem pay3_at (x y : Vec Ideal S768x56 .f32) (a : Fin 768) (k : Fin 56) :
    (k3_pay3 x y (ix2 a k) : EReal) = (x (ix2 a k) : EReal) * (y (ix2 a k) : EReal) := by
  unfold_payloads
  pointwise

/-! ## The blocks of a grid point -/

variable (V : (c : Dev nD) → (b : Ref sig .tc) → Buf (Elt Ideal) ((c : Thread nD τ).loc b)) (c : Dev nD)

theorem lt3 (t : Fin cfg3.N) : t.val < 336 := t.isLt
theorem c3 : ∀ t : Fin cfg3.N, (grid3.coords t 1).val = t.val % 14 := by decide +kernel
/-- Row `a` of the block of the weight's rows, and column `d` of the block of its columns, of point `p`. -/
def row3 (p : ℕ) (hp : p < 336) (a : Fin 768) : Fin 18432 := ⟨p / 14 * 768 + a.val, by omega⟩
def col3 (p : ℕ) (d : Fin 512) : Fin 7168 := ⟨p % 14 * 512 + d.val, by omega⟩
theorem i3_0 : ∀ t : Fin grid3.N, win3_0.index t 0 = t.val / 14 ∧ win3_0.index t 1 = 0 := by decide +kernel
theorem i3_1 : ∀ t : Fin grid3.N, win3_1.index t 0 = 0 ∧ win3_1.index t 1 = t.val % 14 := by decide +kernel
theorem i3_2 : ∀ t : Fin grid3.N, win3_2.index t 0 = t.val / 14 ∧ win3_2.index t 1 = t.val % 14 := by decide +kernel
theorem i3_3 : ∀ t : Fin grid3.N, win3_3.index t 0 = t.val / 14 ∧ win3_3.index t 1 = 0 := by decide +kernel
theorem i3_4 : ∀ t : Fin grid3.N, win3_4.index t 0 = t.val / 14 ∧ win3_4.index t 1 = 0 := by decide +kernel
theorem i3_5 : ∀ t : Fin grid3.N, win3_5.index t 0 = t.val / 14 ∧ win3_5.index t 1 = 0 := by decide +kernel
theorem i3_6 : ∀ t : Fin grid3.N, win3_6.index t 0 = t.val / 14 ∧ win3_6.index t 1 = 0 := by decide +kernel
theorem i3_7 : ∀ t : Fin grid3.N, win3_7.index t 0 = t.val / 14 ∧ win3_7.index t 1 = 0 := by decide +kernel
theorem i3_8 : ∀ t : Fin grid3.N, win3_8.index t 0 = t.val / 14 ∧ win3_8.index t 1 = 0 := by decide +kernel
theorem b3_0 (p : Fin cfg3.N) (a : Fin 768) (d : Fin 6144) : iblk3 V c 0 p (ix2 a d) = V c main_v5_0 (ix2 (row3 p.val (lt3 p) a) d) := by
  have e0 := (i3_0 p).1
  have e1 := (i3_0 p).2
  unfold row3
  blk_ext [iblk3, e0, e1]
theorem b3_1 (p : Fin cfg3.N) (a : Fin 6144) (d : Fin 512) : iblk3 V c 1 p (ix2 a d) = V c main_v2 (ix2 a (col3 p.val d)) := by
  have e0 := (i3_1 p).1
  have e1 := (i3_1 p).2
  unfold col3
  blk_ext [iblk3, e0, e1]
theorem b3_2 (p : Fin cfg3.N) (a : Fin 768) (d : Fin 512) : iblk3 V c 2 p (ix2 a d) = V c main_arg2 (ix2 (row3 p.val (lt3 p) a) (col3 p.val d)) := by
  have e0 := (i3_2 p).1
  have e1 := (i3_2 p).2
  unfold row3 col3
  blk_ext [iblk3, e0, e1]
theorem b3_3 (p : Fin cfg3.N) (a : Fin 768) (d : Fin 56) : iblk3 V c 3 p (ix2 a d) = V c main_v3_2 (ix2 (row3 p.val (lt3 p) a) d) := by
  have e0 := (i3_3 p).1
  have e1 := (i3_3 p).2
  unfold row3
  blk_ext [iblk3, e0, e1]
theorem b3_4 (p : Fin cfg3.N) (a : Fin 768) (d : Fin 56) : iblk3 V c 4 p (ix2 a d) = V c main_v3_3 (ix2 (row3 p.val (lt3 p) a) d) := by
  have e0 := (i3_4 p).1
  have e1 := (i3_4 p).2
  unfold row3
  blk_ext [iblk3, e0, e1]
theorem b3_5 (p : Fin cfg3.N) (a : Fin 768) (d : Fin 56) : iblk3 V c 5 p (ix2 a d) = V c main_v3_4 (ix2 (row3 p.val (lt3 p) a) d) := by
  have e0 := (i3_5 p).1
  have e1 := (i3_5 p).2
  unfold row3
  blk_ext [iblk3, e0, e1]
theorem b3_6 (p : Fin cfg3.N) (a : Fin 768) (d : Fin 56) : iblk3 V c 6 p (ix2 a d) = V c main_v3_5 (ix2 (row3 p.val (lt3 p) a) d) := by
  have e0 := (i3_6 p).1
  have e1 := (i3_6 p).2
  unfold row3
  blk_ext [iblk3, e0, e1]

variable (he : ∀ o t, (V c main_v5_0 (ix2 o t) : EReal) = E A o t)
  (hx : ∀ t d, (V c main_v2 (ix2 t d) : EReal) = Spec.xs A (Spec.tb t) (Spec.ts t) d)
  (hw : ∀ o d, (V c main_arg2 (ix2 o d) : EReal) = A.w o d)
  (hh : ∀ o k, (V c main_v3_2 (ix2 o k) : EReal) = Spec.h A o k)
  (hz : ∀ o k, (V c main_v3_3 (ix2 o k) : EReal) = Spec.z A o k)
  (hca : ∀ o k, (V c main_v3_4 (ix2 o k) : EReal) = Ideal.div (Spec.sg A o k * (1 - Spec.sg A o k) * Spec.wmax A o k) Spec.c15)
  (hcb : ∀ o k, (V c main_v3_5 (ix2 o k) : EReal) = -Ideal.div (Spec.sb A o k * (1 - Spec.sb A o k) * Spec.wmin A o k) Spec.c15)

include he hx in
theorem g_blk (p : Fin cfg3.N) (a : Fin 768) (d : Fin 512) :
    (k3_pay5 (iblk3 V c 0 p) (iblk3 V c 1 p) (ix2 a d) : EReal) = Spec.g A (row3 p.val (lt3 p) a) (col3 p.val d) := by
  refine (g_at _ _ a d (fun t => E A (row3 p.val (lt3 p) a) t) (fun t => Spec.xs A (Spec.tb t) (Spec.ts t) (col3 p.val d))
    (fun t => (b3_0 V c p a t).trans (he _ _)) (fun t => (b3_1 V c p t d).trans (hx _ _))).trans ?_
  unfold Spec.g
  exact congrArg (fun s : EReal => s * _)
    (sum_tok fun b s => Spec.err A b s (row3 p.val (lt3 p) a) * Spec.xs A b s (col3 p.val d))

/-- The scratch after point `p`, from what it holds at its start. -/
def S3 (p : Fin cfg3.N) (P : Vec Ideal S768x56 .f32) : FVec Ideal S768x56 .f32 :=
  PP (k3_pay5 (iblk3 V c 0 p) (iblk3 V c 1 p)) (iblk3 V c 3 p) (iblk3 V c 4 p) P (iblk3 V c 2 p) (grid3.coords p)

include he hx hw hh hz in
theorem S3_at (p : Fin cfg3.N) (P : Vec Ideal S768x56 .f32) (a : Fin 768) (k : Fin 56) :
    (S3 V c p P (ix2 a k) : EReal) = if k.val / 4 = p.val % 14 then Spec.S A (row3 p.val (lt3 p) a) k else P (ix2 a k) := by
  have ec : ∀ d : Fin 512, (⟨(grid3.coords p 1).val * 512 + d.val, by have : (grid3.coords p 1).val < 14 := (grid3.coords p 1).isLt; omega⟩ : Fin 7168)
      = col3 p.val d := fun d => Fin.ext (by
    show (grid3.coords p 1).val * 512 + d.val = p.val % 14 * 512 + d.val
    rw [c3 p])
  refine (step A _ _ _ P _ (grid3.coords p) a (row3 p.val (lt3 p) a) (fun d => ?_) (fun d => ?_) (fun k => ?_) (fun k => ?_) k).trans ?_
  · rw [ec]; exact g_blk A V c he hx p a d
  · rw [ec]; exact (b3_2 V c p a d).trans (hw _ _)
  · exact (b3_3 V c p a k).trans (hh _ _)
  · exact (b3_4 V c p a k).trans (hz _ _)
  · rw [c3 p]

theorem scr_A (t : Fin cfg3.N) (h0 : t.val % 14 = 0) : (outsAt3 V c t.val t.isLt).2.2 = S3 V c t (k3_pay4 (F := Ideal)) := by
  rw [outsAt3_A V c t h0 (by omega)]
  frame_out
  rfl
theorem scr_B (t : Fin cfg3.N) (h0 : ¬t.val % 14 = 0) (h1 : ¬t.val % 14 = 13) :
    (outsAt3 V c t.val t.isLt).2.2 = S3 V c t (outsAt3 V c (t.val - 1) (Nat.lt_of_le_of_lt (Nat.sub_le _ _) t.isLt)).2.2 := by
  rw [outsAt3_B V c t h0 h1]
  frame_out
  rw [read_unread_whole]
  rfl
theorem scr_C (t : Fin cfg3.N) (h0 : ¬t.val % 14 = 0) (h1 : t.val % 14 = 13) :
    (outsAt3 V c t.val t.isLt).2.2 = S3 V c t (outsAt3 V c (t.val - 1) (Nat.lt_of_le_of_lt (Nat.sub_le _ _) t.isLt)).2.2 := by
  rw [outsAt3_C V c t h0 h1]
  frame_out
  rw [read_unread_whole]
  rfl
theorem dg_C (t : Fin cfg3.N) (h1 : t.val % 14 = 13) : (outsAt3 V c t.val t.isLt).1
    = k3_pay2 (S3 V c t (outsAt3 V c (t.val - 1) (Nat.lt_of_le_of_lt (Nat.sub_le _ _) t.isLt)).2.2) (iblk3 V c 5 t) := by
  rw [outsAt3_C V c t (by omega) h1]
  frame_out
  rw [read_unread_whole]
  rfl
theorem db_C (t : Fin cfg3.N) (h1 : t.val % 14 = 13) : (outsAt3 V c t.val t.isLt).2.1
    = k3_pay3 (S3 V c t (outsAt3 V c (t.val - 1) (Nat.lt_of_le_of_lt (Nat.sub_le _ _) t.isLt)).2.2) (iblk3 V c 6 t) := by
  rw [outsAt3_C V c t (by omega) h1]
  frame_out
  rw [read_unread_whole]
  rfl

include he hx hw hh hz in
/-- After point `n` the scratch holds the sums of all the groups that the block of rows has met. -/
theorem scr_at (n : ℕ) (hn : n < 336) (a : Fin 768) (k : Fin 56) (hk : k.val / 4 ≤ n % 14) :
    ((outsAt3 V c n hn).2.2 (ix2 a k) : EReal) = Spec.S A (row3 n hn a) k := by
  induction n with
  | zero =>
    refine (congrFun (scr_A V c ⟨0, hn⟩ rfl) (ix2 a k)).trans ((S3_at A V c he hx hw hh hz ⟨0, hn⟩ _ a k).trans ?_)
    exact if_pos (by show k.val / 4 = 0; omega)
  | succ n ih =>
    have ih' := ih (by omega)
    by_cases h0 : (n + 1) % 14 = 0
    · refine (congrFun (scr_A V c ⟨n + 1, hn⟩ h0) (ix2 a k)).trans ((S3_at A V c he hx hw hh hz ⟨n + 1, hn⟩ _ a k).trans ?_)
      exact if_pos (by show k.val / 4 = (n + 1) % 14; omega)
    · have e : (outsAt3 V c (n + 1) hn).2.2 = S3 V c ⟨n + 1, hn⟩ (outsAt3 V c n (Nat.lt_of_succ_lt hn)).2.2 := by
        by_cases h1 : (n + 1) % 14 = 13
        · exact scr_C V c ⟨n + 1, hn⟩ h0 h1
        · exact scr_B V c ⟨n + 1, hn⟩ h0 h1
      refine (congrFun e (ix2 a k)).trans ((S3_at A V c he hx hw hh hz ⟨n + 1, hn⟩ _ a k).trans ?_)
      by_cases h2 : k.val / 4 = (n + 1) % 14
      · exact if_pos h2
      · refine (if_neg h2).trans ((ih' (by omega)).trans ?_)
        rw [show row3 n (by omega) a = row3 (n + 1) hn a from Fin.ext (by
          show n / 14 * 768 + a.val = (n + 1) / 14 * 768 + a.val
          have : n / 14 = (n + 1) / 14 := by omega
          rw [this])]

include he hx hw hh hz in
theorem S3_last (t : Fin cfg3.N) (h1 : t.val % 14 = 13) (a : Fin 768) (k : Fin 56) :
    (S3 V c t (outsAt3 V c (t.val - 1) (Nat.lt_of_le_of_lt (Nat.sub_le _ _) t.isLt)).2.2 (ix2 a k) : EReal)
      = Spec.S A (row3 t.val (lt3 t) a) k :=
  (congrFun (scr_C V c t (by omega) h1) (ix2 a k)).symm.trans (scr_at A V c he hx hw hh hz t.val (lt3 t) a k (by omega))

include he hx hw hh hz hca in
theorem dg_at (t : Fin cfg3.N) (h1 : t.val % 14 = 13) (a : Fin 768) (k : Fin 56) :
    ((outsAt3 V c t.val t.isLt).1 (ix2 a k) : EReal) = Spec.dg A (row3 t.val (lt3 t) a) k := by
  rw [dg_C V c t h1]
  refine (pay2_at _ _ a k).trans ?_
  refine (congrArg₂ (fun p q : EReal => p * q) (S3_last A V c he hx hw hh hz t h1 a k) ((b3_5 V c t a k).trans (hca _ _))).trans ?_
  unfold Spec.dg
  rw [Spec.div_c15, Spec.div_c15]
  simp only [mul_assoc]
include he hx hw hh hz hcb in
theorem db_at (t : Fin cfg3.N) (h1 : t.val % 14 = 13) (a : Fin 768) (k : Fin 56) :
    ((outsAt3 V c t.val t.isLt).2.1 (ix2 a k) : EReal) = Spec.db A (row3 t.val (lt3 t) a) k := by
  rw [db_C V c t h1]
  refine (pay3_at _ _ a k).trans ?_
  refine (congrArg₂ (fun p q : EReal => p * q) (S3_last A V c he hx hw hh hz t h1 a k) ((b3_6 V c t a k).trans (hcb _ _))).trans ?_
  unfold Spec.db
  rw [Spec.div_c15, Spec.div_c15]
  simp only [mul_assoc, mul_neg, neg_mul]

/-! ## The arrays -/

include he hx hw hh hz hca in
theorem dg_arr (o : Fin 18432) (k : Fin 56) : ((dat3 V c).arrAt 7 cfg3.N (ix2 o k) : EReal) = Spec.dg A o k := by
  rw [(dat3 V c).arrAt_eq_of_covers 7 (fun j => (Spec.dg A (j 0) (j 1) : EReal)) (by decide +kernel) fun p hf y => ?_]
  · rfl
  · have hp := (flush3_7 p).mp hf
    blk_simp
    rw [after3_7]
    idx_vars y
    have e0 : ((win3_7.blk p).view.emb (ix2 y0 y1) 0) = row3 p.val (lt3 p) y0 := Fin.ext (by
      show win3_7.index p 0 * 768 + 1 * y0.val = p.val / 14 * 768 + y0.val
      rw [(i3_7 p).1, Nat.one_mul])
    have e1 : ((win3_7.blk p).view.emb (ix2 y0 y1) 1) = y1 := Fin.ext (by
      show win3_7.index p 1 * 56 + 1 * y1.val = y1.val
      rw [(i3_7 p).2, Nat.one_mul, Nat.zero_mul, Nat.zero_add])
    refine Eq.trans ?_ (congrArg₂ (fun (o : Fin 18432) (k : Fin 56) => Spec.dg A o k) e0 e1).symm
    exact dg_at A V c he hx hw hh hz hca p hp y0 y1

include he hx hw hh hz hcb in
theorem db_arr (o : Fin 18432) (k : Fin 56) : ((dat3 V c).arrAt 8 cfg3.N (ix2 o k) : EReal) = Spec.db A o k := by
  rw [(dat3 V c).arrAt_eq_of_covers 8 (fun j => (Spec.db A (j 0) (j 1) : EReal)) (by decide +kernel) fun p hf y => ?_]
  · rfl
  · have hp := (flush3_8 p).mp hf
    blk_simp
    rw [after3_8]
    idx_vars y
    have e0 : ((win3_8.blk p).view.emb (ix2 y0 y1) 0) = row3 p.val (lt3 p) y0 := Fin.ext (by
      show win3_8.index p 0 * 768 + 1 * y0.val = p.val / 14 * 768 + y0.val
      rw [(i3_8 p).1, Nat.one_mul])
    have e1 : ((win3_8.blk p).view.emb (ix2 y0 y1) 1) = y1 := Fin.ext (by
      show win3_8.index p 1 * 56 + 1 * y1.val = y1.val
      rw [(i3_8 p).2, Nat.one_mul, Nat.zero_mul, Nat.zero_add])
    refine Eq.trans ?_ (congrArg₂ (fun (o : Fin 18432) (k : Fin 56) => Spec.db A o k) e0 e1).symm
    exact db_at A V c he hx hw hh hz hcb p hp y0 y1

end Cert.KernelIdeal.Val
end
-- ==== Proof.Value.lean ====
/- The kernel's run, from the launch to the return: its six results as the formulas of `Spec`. -/
module

public import proofs.«01_k».proof.Proof.KernelIdeal.Whole
public import proofs.«01_k».proof.Proof.Dequant
public import proofs.«01_k».proof.Proof.Quant
public import proofs.«01_k».proof.Proof.Forward
public import proofs.«01_k».proof.Proof.Backward
public import Idealize.ShloMosaic.Lib.StableHlo.ReadAt

@[expose] public section

set_option maxRecDepth 16384

noncomputable section

namespace Cert.KernelIdeal.Val
open Cert.KernelIdeal Cert.KernelIdeal.Gen Idealize.ShloMosaic Idealize.ShloMosaic.TcCoe Idealize.SL.Sem

variable (m : (ℓ : Loc nD τ sig) → Buf (Elt Ideal) ℓ) (ρ : Dev nD → PrngReg) (c : Dev nD)

/-- The arguments, entry by entry. -/
def args : Spec.Args where
  x b s d := m ((c : Thread nD τ).loc main_arg0) (ix3 b s d)
  sc b s k := m ((c : Thread nD τ).loc main_arg1) (ix3 b s k)
  w o d := m ((c : Thread nD τ).loc main_arg2) (ix2 o d)
  ga o k := m ((c : Thread nD τ).loc main_arg3) (ix2 o k)
  be o k := m ((c : Thread nD τ).loc main_arg4) (ix2 o k)
  y b s o := m ((c : Thread nD τ).loc main_arg5) (ix3 b s o)

/-! ## Before and after the first region -/

theorem v0 (t : Fin 6144) (d : Fin 7168) :
    (V1 m ρ c main_v0 (ix2 t d) : EReal) = (args m c).x (Spec.tb t) (Spec.ts t) d := by
  show StableHlo.after _ _ _ _ = _
  after_reads_at
  rfl
theorem v1 (t : Fin 6144) (k : Fin 56) :
    (V1 m ρ c main_v1 (ix2 t k) : EReal) = (args m c).sc (Spec.tb t) (Spec.ts t) k := by
  show StableHlo.after _ _ _ _ = _
  after_reads_at
  rfl
theorem v2 (t : Fin 6144) (d : Fin 7168) :
    (V2 m ρ c main_v2 (ix2 t d) : EReal) = Spec.xs (args m c) (Spec.tb t) (Spec.ts t) d :=
  (congrFun (W2_arr m ρ c 2) (ix2 t d)).trans (xs_arr (V1 m ρ) c (args m c) (v0 m ρ c) (v1 m ρ c) t d)
theorem w2 (o : Fin 18432) (d : Fin 7168) : (V2 m ρ c main_arg2 (ix2 o d) : EReal) = (args m c).w o d :=
  congrFun (W2_args m ρ c main_arg2 (by decide)) (ix2 o d)
theorem ga2 (o : Fin 18432) (d : Fin 56) : (V2 m ρ c main_arg3 (ix2 o d) : EReal) = (args m c).ga o d :=
  congrFun (W2_args m ρ c main_arg3 (by decide)) (ix2 o d)
theorem be2 (o : Fin 18432) (d : Fin 56) : (V2 m ρ c main_arg4 (ix2 o d) : EReal) = (args m c).be o d :=
  congrFun (W2_args m ρ c main_arg4 (by decide)) (ix2 o d)

/-! ## After the second region -/

theorem q3 (o : Fin 18432) (d : Fin 7168) : (V3 m ρ c main_v3_0 (ix2 o d) : BitVec 8) = Spec.qi (args m c) o d :=
  (congrFun (W3_arr m ρ c 3) (ix2 o d)).trans (q_arr (args m c) (V2 m ρ) c (w2 m ρ c) (ga2 m ρ c) (be2 m ρ c) o d)
theorem what3 (o : Fin 18432) (d : Fin 7168) : (V3 m ρ c main_v3_1 (ix2 o d) : EReal) = Spec.what (args m c) o d :=
  (congrFun (W3_arr m ρ c 4) (ix2 o d)).trans (what_arr (args m c) (V2 m ρ) c (w2 m ρ c) (ga2 m ρ c) (be2 m ρ c) o d)
theorem h3 (o : Fin 18432) (k : Fin 56) : (V3 m ρ c main_v3_2 (ix2 o k) : EReal) = Spec.h (args m c) o k :=
  (congrFun (W3_arr m ρ c 5) (ix2 o k)).trans (h_arr (args m c) (V2 m ρ) c (w2 m ρ c) (ga2 m ρ c) (be2 m ρ c) o k)
theorem z3 (o : Fin 18432) (k : Fin 56) : (V3 m ρ c main_v3_3 (ix2 o k) : EReal) = Spec.z (args m c) o k :=
  (congrFun (W3_arr m ρ c 6) (ix2 o k)).trans (z_arr (args m c) (V2 m ρ) c (w2 m ρ c) (ga2 m ρ c) (be2 m ρ c) o k)
theorem ca3 (o : Fin 18432) (k : Fin 56) : (V3 m ρ c main_v3_4 (ix2 o k) : EReal)
    = Ideal.div (Spec.sg (args m c) o k * (1 - Spec.sg (args m c) o k) * Spec.wmax (args m c) o k) Spec.c15 :=
  (congrFun (W3_arr m ρ c 7) (ix2 o k)).trans (ca_arr (args m c) (V2 m ρ) c (w2 m ρ c) (ga2 m ρ c) o k)
theorem cb3 (o : Fin 18432) (k : Fin 56) : (V3 m ρ c main_v3_5 (ix2 o k) : EReal)
    = -Ideal.div (Spec.sb (args m c) o k * (1 - Spec.sb (args m c) o k) * Spec.wmin (args m c) o k) Spec.c15 :=
  (congrFun (W3_arr m ρ c 8) (ix2 o k)).trans (cb_arr (args m c) (V2 m ρ) c (w2 m ρ c) (be2 m ρ c) o k)

/-! ## Before and after the third region -/

/-- A buffer that the second host stretch and region 2 leave alone. -/
theorem k4 (r : Ref sig .tc) (h : r ∉ hostOps2_W) : V4 m ρ c r = V3 m ρ c r := W4_of m ρ c r h
theorem k5 (r : Ref sig .tc) (h : r ∉ hostOps2_W)
    (h' : ∀ w : Fin cfg2.W, Pipeline.arrRef spec2 w = r → (cfg2.win w).isOut = false) : V5 m ρ c r = V3 m ρ c r :=
  (W5_of m ρ c r h').trans (k4 m ρ c r h)
theorem x3 (t : Fin 6144) (d : Fin 7168) :
    (V3 m ρ c main_v2 (ix2 t d) : EReal) = Spec.xs (args m c) (Spec.tb t) (Spec.ts t) d :=
  (congrFun (W3_of m ρ c main_v2 (by decide)) (ix2 t d)).trans (v2 m ρ c t d)
theorem what4 (o : Fin 18432) (d : Fin 7168) : (V4 m ρ c main_v3_1 (ix2 o d) : EReal) = Spec.what (args m c) o d :=
  (congrFun (k4 m ρ c main_v3_1 (by decide)) (ix2 o d)).trans (what3 m ρ c o d)
theorem x4 (t : Fin 6144) (d : Fin 7168) :
    (V4 m ρ c main_v2 (ix2 t d) : EReal) = Spec.xs (args m c) (Spec.tb t) (Spec.ts t) d :=
  (congrFun (k4 m ρ c main_v2 (by decide)) (ix2 t d)).trans (x3 m ρ c t d)
theorem y4 (t : Fin 6144) (o : Fin 18432) :
    (V4 m ρ c main_v4 (ix2 t o) : EReal) = (args m c).y (Spec.tb t) (Spec.ts t) o := by
  refine Eq.trans (b := (W3 m ρ c (Proc.devRef .tc main_arg5) (ix3 (Spec.tb t) (Spec.ts t) o) : EReal)) ?_
    (congrFun (W3_args m ρ c main_arg5 (by decide)) (ix3 (Spec.tb t) (Spec.ts t) o))
  show StableHlo.after _ _ _ _ = _
  after_reads_at
  rfl
theorem e5 (o : Fin 18432) (t : Fin 6144) : (V5 m ρ c main_v5_0 (ix2 o t) : EReal) = E (args m c) o t :=
  (congrFun (W5_arr m ρ c 3) (ix2 o t)).trans (err_arr (V4 m ρ) c (args m c) (what4 m ρ c) (x4 m ρ c) (y4 m ρ c) o t)
theorem l5 (a : Fin 8) (b : Fin 512) : (V5 m ρ c main_v5_1 (ix2 a b) : EReal) = ∑ p : Fin 288, sq2 (args m c) p.val p.isLt a b :=
  (congrFun (W5_arr m ρ c 4) (ix2 a b)).trans (loss_arr (V4 m ρ) c (args m c) (what4 m ρ c) (x4 m ρ c) (y4 m ρ c) a b)

/-! ## After the fourth region -/

theorem x5 (t : Fin 6144) (d : Fin 7168) :
    (V5 m ρ c main_v2 (ix2 t d) : EReal) = Spec.xs (args m c) (Spec.tb t) (Spec.ts t) d :=
  (congrFun (k5 m ρ c main_v2 (by decide) (by decide)) (ix2 t d)).trans (x3 m ρ c t d)
theorem w5 (o : Fin 18432) (d : Fin 7168) : (V5 m ρ c main_arg2 (ix2 o d) : EReal) = (args m c).w o d :=
  congrFun (W5_args m ρ c main_arg2 (by decide)) (ix2 o d)
theorem h5 (o : Fin 18432) (k : Fin 56) : (V5 m ρ c main_v3_2 (ix2 o k) : EReal) = Spec.h (args m c) o k :=
  (congrFun (k5 m ρ c main_v3_2 (by decide) (by decide)) (ix2 o k)).trans (h3 m ρ c o k)
theorem z5 (o : Fin 18432) (k : Fin 56) : (V5 m ρ c main_v3_3 (ix2 o k) : EReal) = Spec.z (args m c) o k :=
  (congrFun (k5 m ρ c main_v3_3 (by decide) (by decide)) (ix2 o k)).trans (z3 m ρ c o k)
theorem ca5 (o : Fin 18432) (k : Fin 56) : (V5 m ρ c main_v3_4 (ix2 o k) : EReal)
    = Ideal.div (Spec.sg (args m c) o k * (1 - Spec.sg (args m c) o k) * Spec.wmax (args m c) o k) Spec.c15 :=
  (congrFun (k5 m ρ c main_v3_4 (by decide) (by decide)) (ix2 o k)).trans (ca3 m ρ c o k)
theorem cb5 (o : Fin 18432) (k : Fin 56) : (V5 m ρ c main_v3_5 (ix2 o k) : EReal)
    = -Ideal.div (Spec.sb (args m c) o k * (1 - Spec.sb (args m c) o k) * Spec.wmin (args m c) o k) Spec.c15 :=
  (congrFun (k5 m ρ c main_v3_5 (by decide) (by decide)) (ix2 o k)).trans (cb3 m ρ c o k)

theorem k7 (r : Ref sig .tc) (h : r ∉ hostOps4_W)
    (h' : ∀ w : Fin cfg3.W, Pipeline.arrRef spec3 w = r → (cfg3.win w).isOut = false) :
    W7 m ρ c (Proc.devRef .tc r) = V5 m ρ c r :=
  (W7_of m ρ c r h).trans (W6_of m ρ c r h')

/-! ## The results -/

theorem dg7 (o : Fin 18432) (k : Fin 56) : (W7 m ρ c (Proc.devRef .tc main_v6_0) (ix2 o k) : EReal) = Spec.dg (args m c) o k :=
  (congrFun ((W7_of m ρ c main_v6_0 (by decide)).trans (W6_arr m ρ c 7)) (ix2 o k)).trans
    (dg_arr (args m c) (V5 m ρ) c (e5 m ρ c) (x5 m ρ c) (w5 m ρ c) (h5 m ρ c) (z5 m ρ c) (ca5 m ρ c) o k)
theorem db7 (o : Fin 18432) (k : Fin 56) : (W7 m ρ c (Proc.devRef .tc main_v6_1) (ix2 o k) : EReal) = Spec.db (args m c) o k :=
  (congrFun ((W7_of m ρ c main_v6_1 (by decide)).trans (W6_arr m ρ c 8)) (ix2 o k)).trans
    (db_arr (args m c) (V5 m ρ) c (e5 m ρ c) (x5 m ρ c) (w5 m ρ c) (h5 m ρ c) (z5 m ρ c) (cb5 m ρ c) o k)
theorem q7 (o : Fin 18432) (d : Fin 7168) : (W7 m ρ c (Proc.devRef .tc main_v3_0) (ix2 o d) : BitVec 8) = Spec.qi (args m c) o d :=
  (congrFun ((k7 m ρ c main_v3_0 (by decide) (by decide)).trans (k5 m ρ c main_v3_0 (by decide) (by decide))) (ix2 o d)).trans
    (q3 m ρ c o d)
theorem h7 (o : Fin 18432) (k : Fin 56) : (W7 m ρ c (Proc.devRef .tc main_v3_2) (ix2 o k) : EReal) = Spec.h (args m c) o k :=
  (congrFun (k7 m ρ c main_v3_2 (by decide) (by decide)) (ix2 o k)).trans (h5 m ρ c o k)
theorem z7 (o : Fin 18432) (k : Fin 56) : (W7 m ρ c (Proc.devRef .tc main_v3_3) (ix2 o k) : EReal) = Spec.z (args m c) o k :=
  (congrFun (k7 m ρ c main_v3_3 (by decide) (by decide)) (ix2 o k)).trans (z5 m ρ c o k)
theorem l6 (a : Fin 8) (b : Fin 512) :
    (W6 m ρ c (Proc.devRef .tc main_v5_1) (ix2 a b) : EReal) = ∑ p : Fin 288, sq2 (args m c) p.val p.isLt a b :=
  (congrFun (W6_of m ρ c main_v5_1 (by decide)) (ix2 a b)).trans (l5 m ρ c a b)
theorem loss7 : (W7 m ρ c (Proc.devRef .tc main_v8) ix0 : EReal) = Spec.loss (args m c) := by
  show StableHlo.after _ _ _ _ = _
  after_reads_at
  simp only [l6 m ρ c]
  rw [sum_sq (args m c)]
  rfl

/-- The kernel's run: the six results as the formulas of `Spec`, the arguments unchanged. -/
theorem run : θ_run defs (onTc (τ := τ) (main (F := Ideal))) ⟨m, fun _ => 0, ρ⟩ (fun r => (∀ c : Dev nD,
      (r.2.mem ((c.tc : Thread nD τ).loc main_v6_0) = fun i => Spec.dg (args m c) (i 0) (i 1))
      ∧ (r.2.mem ((c.tc : Thread nD τ).loc main_v6_1) = fun i => Spec.db (args m c) (i 0) (i 1))
      ∧ (r.2.mem ((c.tc : Thread nD τ).loc main_v8) = fun _ => Spec.loss (args m c))
      ∧ (r.2.mem ((c.tc : Thread nD τ).loc main_v3_0) = fun i => Spec.qi (args m c) (i 0) (i 1))
      ∧ (r.2.mem ((c.tc : Thread nD τ).loc main_v3_2) = fun i => Spec.h (args m c) (i 0) (i 1))
      ∧ (r.2.mem ((c.tc : Thread nD τ).loc main_v3_3) = fun i => Spec.z (args m c) (i 0) (i 1)))
      ∧ ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) := by
  refine θ_run_and ((θ_run defs _ _).mono (fun r h c => ⟨?_, ?_, ?_, ?_, ?_, ?_⟩) (whole m ρ)) (unchanged m ρ)
  · refine (h.1 c _ (mem_uc main_v6_0 (by decide))).trans (funext fun i => ?_)
    idx_vars i
    exact dg7 m ρ c i0 i1
  · refine (h.1 c _ (mem_uc main_v6_1 (by decide))).trans (funext fun i => ?_)
    idx_vars i
    exact db7 m ρ c i0 i1
  · refine (h.1 c _ (mem_uc main_v8 (by decide))).trans (funext fun i => ?_)
    rw [show i = ix0 from funext fun a => a.elim0]
    exact loss7 m ρ c
  · refine (h.1 c _ (mem_uc main_v3_0 (by decide))).trans (funext fun i => ?_)
    idx_vars i
    exact q7 m ρ c i0 i1
  · refine (h.1 c _ (mem_uc main_v3_2 (by decide))).trans (funext fun i => ?_)
    idx_vars i
    exact h7 m ρ c i0 i1
  · refine (h.1 c _ (mem_uc main_v3_3 (by decide))).trans (funext fun i => ?_)
    idx_vars i
    exact z7 m ρ c i0 i1

end Cert.KernelIdeal.Val
end
-- ==== Proof.RefArrays.lean ====
/- The reference up to its last host operations: every buffer they read, entry by entry as the formulas of `Spec`. -/
module

public import proofs.«01_k».proof.Proof.Gen.ReferenceIdeal.Frame
public import proofs.«01_k».proof.Proof.Spec
public import Idealize.ShloMosaic.Lib.Pipeline.ValueKit
public import Idealize.ShloMosaic.Lib.Pipeline.ReadBack
public import Idealize.ShloMosaic.Lib.Pointwise
public import Idealize.ShloMosaic.Lib.StableHlo.ReadAt

@[expose] public section

set_option maxRecDepth 16384

noncomputable section

namespace Cert.ReferenceIdeal.Val
open Cert.ReferenceIdeal Cert.ReferenceIdeal.Gen Idealize.ShloMosaic Idealize.ShloMosaic.TcCoe Idealize.SL.Sem

variable (m : (ℓ : Loc nD τ sig) → Buf (Elt Ideal) ℓ) (ρ : Dev nD → PrngReg) (c : Dev nD)

/-- The arguments, entry by entry. -/
def args : Spec.Args where
  x b s d := m ((c : Thread nD τ).loc main_arg0) (ix3 b s d)
  sc b s k := m ((c : Thread nD τ).loc main_arg1) (ix3 b s k)
  w o d := m ((c : Thread nD τ).loc main_arg2) (ix2 o d)
  ga o k := m ((c : Thread nD τ).loc main_arg3) (ix2 o k)
  be o k := m ((c : Thread nD τ).loc main_arg4) (ix2 o k)
  y b s o := m ((c : Thread nD τ).loc main_arg5) (ix3 b s o)

/-! ## Before the casts -/

theorem V_v1 (o : Fin 18432) (k : Fin 56) : V m c main_v1 (ix2 o k) = Spec.wmax (args m c) o k := by
  show StableHlo.after _ _ _ _ = _
  after_reads_at
  rfl
theorem V_v2 (o : Fin 18432) (k : Fin 56) : V m c main_v2 (ix2 o k) = Spec.wmin (args m c) o k := by
  show StableHlo.after _ _ _ _ = _
  after_reads_at
  rfl
theorem V_v19 (o : Fin 18432) (k : Fin 56) : V m c main_v19 (ix2 o k) = Spec.h (args m c) o k := by
  show StableHlo.after _ _ _ _ = _
  after_reads_at
  rfl
theorem V_v22 (o : Fin 18432) (k : Fin 56) : V m c main_v22 (ix2 o k) = Spec.z (args m c) o k := by
  show StableHlo.after _ _ _ _ = _
  after_reads_at
  rfl
theorem V_v25 (o : Fin 18432) (k : Fin 56) (l : Fin 128) :
    V m c main_v25 (ix3 o k l) = Spec.u (args m c) o (Spec.col k l) := by
  show StableHlo.after _ _ _ _ = _
  after_reads_at
  unfold Spec.u; rw [Spec.grp_col]
  rfl
theorem V_v29 (o : Fin 18432) (k : Fin 56) (l : Fin 128) :
    V m c main_v29 (ix3 o k l) = Spec.cc (args m c) o (Spec.col k l) := by
  show StableHlo.after _ _ _ _ = _
  after_reads_at
  unfold Spec.cc Spec.u; rw [Spec.grp_col]
  rfl

/-! ## The casts -/

theorem o2 (t : Fin cfg0.N) (b : Fin 8) (s : Fin 768) (d : Fin 7168) :
    (outsAt0 m c t).1 (ix3 b s d) = iblk m c 0 t (ix3 b s d) := by
  unfold outsAt0
  frame_out
  unfold_payloads
  pointwise
  rw [read_unread_whole]
theorem o3 (t : Fin cfg0.N) (o : Fin 18432) (k : Fin 56) (l : Fin 128) : (outsAt0 m c t).2.1 (ix3 o k l)
    = FloatOps.fptosi (F := Ideal) (φ := .f32) 8 (min Spec.c15 (max 0 (iblk m c 1 t (ix3 o k l) : EReal))) := by
  unfold outsAt0
  frame_out
  unfold_payloads
  pointwise
  rw [read_unread_whole]
  rfl
theorem o4 (t : Fin cfg0.N) (o : Fin 18432) (k : Fin 56) (l : Fin 128) : (outsAt0 m c t).2.2 (ix3 o k l)
    = FloatOps.sitofp (F := Ideal) .f32
        (FloatOps.fptosi (F := Ideal) (φ := .f32) 8 (min Spec.c15 (max 0 (iblk m c 1 t (ix3 o k l) : EReal)))) := by
  unfold outsAt0
  frame_out
  unfold_payloads
  pointwise
  rw [read_unread_whole]
  rfl

/-- The one point's blocks are the whole arrays. -/
theorem in0 (b : Fin 8) (s : Fin 768) (d : Fin 7168) : iblk m c 0 t0_0 (ix3 b s d) = V m c main_arg0 (ix3 b s d) := by
  have e0 : win0_0.index t0_0 0 = 0 := rfl
  have e1 : win0_0.index t0_0 1 = 0 := rfl
  have e2 : win0_0.index t0_0 2 = 0 := rfl
  blk_ext [iblk, e0, e1, e2]
theorem in1 (o : Fin 18432) (k : Fin 56) (l : Fin 128) : iblk m c 1 t0_0 (ix3 o k l) = V m c main_v29 (ix3 o k l) := by
  have e0 : win0_1.index t0_0 0 = 0 := rfl
  have e1 : win0_1.index t0_0 1 = 0 := rfl
  have e2 : win0_1.index t0_0 2 = 0 := rfl
  blk_ext [iblk, e0, e1, e2]

theorem arr2 (b : Fin 8) (s : Fin 768) (d : Fin 7168) : (dats m 0 c).arrAt 2 cfg0.N (ix3 b s d) = (args m c).x b s d := by
  rw [(dats m 0 c).arrAt_eq_of_after_last 2 t0_0 (by decide +kernel) (fun j => V m c main_arg0 j) fun j => ?_]
  · exact congrFun (V_main_arg0 m c) _
  · idx_vars j
    rw [after0_2]
    exact (o2 m c t0_0 j0 j1 j2).trans (in0 m c j0 j1 j2)
theorem arr3 (o : Fin 18432) (k : Fin 56) (l : Fin 128) :
    (dats m 0 c).arrAt 3 cfg0.N (ix3 o k l) = Spec.qi (args m c) o (Spec.col k l) := by
  rw [(dats m 0 c).arrAt_eq_of_after_last 3 t0_0 (by decide +kernel)
    (fun j => FloatOps.fptosi (F := Ideal) (φ := .f32) 8 (min Spec.c15 (max 0 (V m c main_v29 j : EReal)))) fun j => ?_]
  · show FloatOps.fptosi (F := Ideal) (φ := .f32) 8 (min Spec.c15 (max 0 (V m c main_v29 (ix3 o k l) : EReal))) = _
    rw [V_v29]; rfl
  · idx_vars j
    rw [after0_3]
    have e := o3 m c t0_0 j0 j1 j2
    rw [in1] at e
    exact e
theorem arr4 (o : Fin 18432) (k : Fin 56) (l : Fin 128) :
    (dats m 0 c).arrAt 4 cfg0.N (ix3 o k l) = Spec.q (args m c) o (Spec.col k l) := by
  rw [(dats m 0 c).arrAt_eq_of_after_last 4 t0_0 (by decide +kernel)
    (fun j => FloatOps.sitofp (F := Ideal) .f32
      (FloatOps.fptosi (F := Ideal) (φ := .f32) 8 (min Spec.c15 (max 0 (V m c main_v29 j : EReal))))) fun j => ?_]
  · refine Eq.trans ?_ (Spec.sitofp_qi _ _ _)
    show FloatOps.sitofp (F := Ideal) .f32
      (FloatOps.fptosi (F := Ideal) (φ := .f32) 8 (min Spec.c15 (max 0 (V m c main_v29 (ix3 o k l) : EReal)))) = _
    rw [V_v29]; rfl
  · idx_vars j
    rw [after0_4]
    have e := o4 m c t0_0 j0 j1 j2
    rw [in1] at e
    exact e

/-! ## After the casts -/

/-- What the host operations after the casts start from. -/
def U : Valuation τ sig (Elt Ideal) := Pipeline.withArrays spec0 c (V0 m c) fun w => (dats m 0 c).arrAt w cfg0.N
theorem U_x (b : Fin 8) (s : Fin 768) (d : Fin 7168) : U m c (Proc.devRef .tc main_v30_0) (ix3 b s d) = (args m c).x b s d := by
  rw [← arr2]; exact congrFun (Pipeline.withArrays_arr spec0 launch0.win.arr_inj c _ _ 2) _
theorem U_qi (o : Fin 18432) (k : Fin 56) (l : Fin 128) :
    U m c (Proc.devRef .tc main_v30_1) (ix3 o k l) = Spec.qi (args m c) o (Spec.col k l) := by
  rw [← arr3]; exact congrFun (Pipeline.withArrays_arr spec0 launch0.win.arr_inj c _ _ 3) _
theorem U_q (o : Fin 18432) (k : Fin 56) (l : Fin 128) :
    U m c (Proc.devRef .tc main_v30_2) (ix3 o k l) = Spec.q (args m c) o (Spec.col k l) := by
  rw [← arr4]; exact congrFun (Pipeline.withArrays_arr spec0 launch0.win.arr_inj c _ _ 4) _
theorem U_of (b : Ref sig .tc) (h : ∀ w, Pipeline.arrRef spec0 w ≠ b) : U m c (Proc.devRef .tc b) = V m c b :=
  Pipeline.withArrays_of_ne spec0 c (V0 m c) _ b h
theorem U_arg0 (b : Fin 8) (s : Fin 768) (k : Fin 56) : U m c (Proc.devRef .tc main_arg1) (ix3 b s k) = (args m c).sc b s k := by
  rw [U_of m c main_arg1 (by exact (by decide : ∀ w, Pipeline.arrRef spec0 w ≠ main_arg1)), V_main_arg1]; rfl
theorem U_arg5 (b : Fin 8) (s : Fin 768) (o : Fin 18432) : U m c (Proc.devRef .tc main_arg5) (ix3 b s o) = (args m c).y b s o := by
  rw [U_of m c main_arg5 (by exact (by decide : ∀ w, Pipeline.arrRef spec0 w ≠ main_arg5)), V_main_arg5]; rfl
theorem U_h (o : Fin 18432) (k : Fin 56) : U m c (Proc.devRef .tc main_v19) (ix2 o k) = Spec.h (args m c) o k := by
  rw [U_of m c main_v19 (by exact (by decide : ∀ w, Pipeline.arrRef spec0 w ≠ main_v19)), V_v19]
theorem U_z (o : Fin 18432) (k : Fin 56) : U m c (Proc.devRef .tc main_v22) (ix2 o k) = Spec.z (args m c) o k := by
  rw [U_of m c main_v22 (by exact (by decide : ∀ w, Pipeline.arrRef spec0 w ≠ main_v22)), V_v22]
theorem U_u (o : Fin 18432) (k : Fin 56) (l : Fin 128) :
    U m c (Proc.devRef .tc main_v25) (ix3 o k l) = Spec.u (args m c) o (Spec.col k l) := by
  rw [U_of m c main_v25 (by exact (by decide : ∀ w, Pipeline.arrRef spec0 w ≠ main_v25)), V_v25]
/-- The casts read the code before clipping and leave it as it is. -/
theorem U_c (o : Fin 18432) (k : Fin 56) (l : Fin 128) :
    U m c (Proc.devRef .tc main_v29) (ix3 o k l) = Spec.cc (args m c) o (Spec.col k l) := by
  rw [← V_v29]
  exact congrFun ((Pipeline.withArrays_arr spec0 launch0.win.arr_inj c _ _ 1).trans
    (((dats m 0 c).arrAt_in 1 rfl _).trans (A_eq m c 1))) _
theorem U_wmax (o : Fin 18432) (k : Fin 56) : U m c (Proc.devRef .tc main_v1) (ix2 o k) = Spec.wmax (args m c) o k := by
  rw [U_of m c main_v1 (by exact (by decide : ∀ w, Pipeline.arrRef spec0 w ≠ main_v1)), V_v1]
theorem U_wmin (o : Fin 18432) (k : Fin 56) : U m c (Proc.devRef .tc main_v2) (ix2 o k) = Spec.wmin (args m c) o k := by
  rw [U_of m c main_v2 (by exact (by decide : ∀ w, Pipeline.arrRef spec0 w ≠ main_v2)), V_v2]
theorem U_ga (o : Fin 18432) (k : Fin 56) : U m c (Proc.devRef .tc main_arg3) (ix2 o k) = (args m c).ga o k := by
  rw [U_of m c main_arg3 (by exact (by decide : ∀ w, Pipeline.arrRef spec0 w ≠ main_arg3)), V_main_arg3]; rfl
theorem U_be (o : Fin 18432) (k : Fin 56) : U m c (Proc.devRef .tc main_arg4) (ix2 o k) = (args m c).be o k := by
  rw [U_of m c main_arg4 (by exact (by decide : ∀ w, Pipeline.arrRef spec0 w ≠ main_arg4)), V_main_arg4]; rfl

/-! ## Indices as the reads leave them -/

theorem mk_col (d : Fin 7168) (h : d.val / 128 * 128 + d.val % 128 < 7168) : (⟨d.val / 128 * 128 + d.val % 128, h⟩ : Fin 7168) = d := by
  apply Fin.ext; dsimp only; omega
theorem mk_grp (d : Fin 7168) (h : d.val / 128 < 56) : (⟨d.val / 128, h⟩ : Fin 56) = Spec.grp d := rfl
theorem mk_lane (d : Fin 7168) (h : d.val % 128 < 128) : (⟨d.val % 128, h⟩ : Fin 128) = Spec.lane d := rfl
theorem mk_col2 (k : Fin 56) (l : Fin 128) (h : (k.val * 128 + l.val) / 128 * 128 + (k.val * 128 + l.val) % 128 < 7168) :
    (⟨(k.val * 128 + l.val) / 128 * 128 + (k.val * 128 + l.val) % 128, h⟩ : Fin 7168) = Spec.col k l := by
  apply Fin.ext; simp only [Spec.col]; omega
theorem mk_grp2 (k : Fin 56) (l : Fin 128) (h : (k.val * 128 + l.val) / 128 < 56) :
    (⟨(k.val * 128 + l.val) / 128, h⟩ : Fin 56) = k := by
  apply Fin.ext; dsimp only; omega
/-- A 0/1 mask times a value. -/
theorem mask_mul (a b : Prop) [Decidable a] [Decidable b] (u : EReal) :
    FloatOps.uitofp (F := Ideal) .f32 (IntOp.andi (BitVec.ofBool (decide a)) (BitVec.ofBool (decide b))) * u
      = if a ∧ b then u else 0 := by
  have e1 : FloatOps.uitofp (F := Ideal) .f32 (1#1) = (1 : EReal) := by
    show (((1#1 : BitVec 1).toNat : ℝ) : EReal) = 1
    norm_num
  have e0 : FloatOps.uitofp (F := Ideal) .f32 (0#1) = (0 : EReal) := by
    show (((0#1 : BitVec 1).toNat : ℝ) : EReal) = 0
    norm_num
  by_cases ha : a
  · by_cases hb : b
    · rw [decide_eq_true ha, decide_eq_true hb, if_pos ⟨ha, hb⟩]
      exact (congrArg (· * u) e1).trans (one_mul u)
    · rw [decide_eq_true ha, decide_eq_false hb, if_neg fun h => hb h.2]
      exact (congrArg (· * u) e0).trans (zero_mul u)
  · rw [decide_eq_false ha, if_neg fun h => ha h.1]
    have : IntOp.andi (BitVec.ofBool false) (BitVec.ofBool (decide b)) = 0#1 := by
      cases decide b <;> rfl
    rw [this]
    exact (congrArg (· * u) e0).trans (zero_mul u)

end Cert.ReferenceIdeal.Val
end
-- ==== Proof.RefValue.lean ====
/- What the reference computes: its six results after the run, each entry by entry as the formulas of `Spec`. -/
module

public import proofs.«01_k».proof.Proof.RefArrays

@[expose] public section

set_option maxRecDepth 16384

noncomputable section

namespace Cert.ReferenceIdeal.Val
open Cert.ReferenceIdeal Cert.ReferenceIdeal.Gen Idealize.ShloMosaic Idealize.ShloMosaic.TcCoe Idealize.SL.Sem

variable (m : (ℓ : Loc nD τ sig) → Buf (Elt Ideal) ℓ) (ρ : Dev nD → PrngReg) (c : Dev nD)

/-! ## The results -/

theorem r_q (o : Fin 18432) (d : Fin 7168) :
    StableHlo.after hostOps1 (U m c) (Proc.devRef .tc main_v93) (ix2 o d) = Spec.qi (args m c) o d := by
  after_reads_at
  rw [U_qi, mk_grp, mk_lane, Spec.col_grp]
theorem r_loss :
    StableHlo.after hostOps1 (U m c) (Proc.devRef .tc main_v50) ix0 = Spec.loss (args m c) := by
  after_reads_at
  simp only [U_x m c, U_arg0 m c, U_q m c, U_qi m c, U_arg5 m c, U_h m c, U_z m c, mk_col, mk_grp, mk_lane, Spec.col_grp]
  unfold Spec.loss Spec.err Spec.xs Spec.what Spec.cn
  rfl
theorem r_S (o : Fin 18432) (k : Fin 56) :
    StableHlo.after hostOps1 (U m c) (Proc.devRef .tc main_v65) (ix2 o k) = Spec.S (args m c) o k := by
  after_reads_at
  simp only [U_x m c, U_arg0 m c, U_q m c, U_arg5 m c, U_h m c, U_z m c, U_c m c, U_u m c, mk_col, mk_grp, mk_lane, Spec.col_grp, mk_col2, mk_grp2, mask_mul]
  unfold Spec.S Spec.g Spec.v Spec.err Spec.xs Spec.what Spec.c2n Spec.c15
  simp only [Spec.grp_col]
theorem r_dg (o : Fin 18432) (k : Fin 56) :
    StableHlo.after hostOps1 (U m c) (Proc.devRef .tc main_v84) (ix2 o k) = Spec.dg (args m c) o k := by
  after_reads_at
  simp only [U_x m c, U_arg0 m c, U_q m c, U_arg5 m c, U_h m c, U_z m c, U_c m c, U_u m c, U_wmax m c, U_ga m c, mk_col, mk_grp, mk_lane, Spec.col_grp, mk_col2, mk_grp2, mask_mul]
  unfold Spec.dg Spec.S Spec.g Spec.v Spec.err Spec.xs Spec.what Spec.c2n Spec.c15 Spec.sg Spec.sigm
  simp only [Spec.grp_col]
theorem r_db (o : Fin 18432) (k : Fin 56) :
    StableHlo.after hostOps1 (U m c) (Proc.devRef .tc main_v92) (ix2 o k) = Spec.db (args m c) o k := by
  after_reads_at
  simp only [U_x m c, U_arg0 m c, U_q m c, U_arg5 m c, U_h m c, U_z m c, U_c m c, U_u m c, U_wmin m c, U_be m c, mk_col, mk_grp, mk_lane, Spec.col_grp, mk_col2, mk_grp2, mask_mul]
  unfold Spec.db Spec.S Spec.g Spec.v Spec.err Spec.xs Spec.what Spec.c2n Spec.c15 Spec.sb Spec.sigm
  simp only [Spec.grp_col]
theorem r_h (o : Fin 18432) (k : Fin 56) :
    StableHlo.after hostOps1 (U m c) (Proc.devRef .tc main_v19) (ix2 o k) = Spec.h (args m c) o k := by
  rw [StableHlo.after_of_writes_sub (r := main_v19) hostOps1 _ hostOps1_writes (by decide +kernel), U_h]
theorem r_z (o : Fin 18432) (k : Fin 56) :
    StableHlo.after hostOps1 (U m c) (Proc.devRef .tc main_v22) (ix2 o k) = Spec.z (args m c) o k := by
  rw [StableHlo.after_of_writes_sub (r := main_v22) hostOps1 _ hostOps1_writes (by decide +kernel), U_z]

/-- A buffer that no region array backs, after the run. -/
theorem post_eq (b : Ref sig .tc) (i) :
    Pipeline.afterTail₀ cfgs (dats m) 0 (V0 m) [hostOps1] c b i = StableHlo.after hostOps1 (U m c) (Proc.devRef .tc b) i := by
  unfold Pipeline.afterTail₀
  rw [List.flatten_cons, List.flatten_nil, List.append_nil]
  unfold U
  rfl

/-- The reference's run: the six results as the formulas of `Spec`, the arguments unchanged. -/
theorem run : θ_run defs (onTc (τ := τ) (main (F := Ideal))) ⟨m, fun _ => 0, ρ⟩ (fun r => (∀ c : Dev nD,
      (r.2.mem ((c.tc : Thread nD τ).loc main_v84) = fun i => Spec.dg (args m c) (i 0) (i 1))
      ∧ (r.2.mem ((c.tc : Thread nD τ).loc main_v92) = fun i => Spec.db (args m c) (i 0) (i 1))
      ∧ (r.2.mem ((c.tc : Thread nD τ).loc main_v50) = fun _ => Spec.loss (args m c))
      ∧ (r.2.mem ((c.tc : Thread nD τ).loc main_v93) = fun i => Spec.qi (args m c) (i 0) (i 1))
      ∧ (r.2.mem ((c.tc : Thread nD τ).loc main_v19) = fun i => Spec.h (args m c) (i 0) (i 1))
      ∧ (r.2.mem ((c.tc : Thread nD τ).loc main_v22) = fun i => Spec.z (args m c) (i 0) (i 1)))
      ∧ ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) := by
  refine θ_run_and ((θ_run defs _ _).mono (fun r h c => ⟨?_, ?_, ?_, ?_, ?_, ?_⟩) (run_main m ρ)) (unchanged m ρ)
  · funext i
    rw [(h c).2 main_v84 (Pipeline.mem_restRefs_of main_v84 (by decide) (by decide)), post_eq]
    idx_vars i
    exact r_dg m c i0 i1
  · funext i
    rw [(h c).2 main_v92 (Pipeline.mem_restRefs_of main_v92 (by decide) (by decide)), post_eq]
    idx_vars i
    exact r_db m c i0 i1
  · funext i
    rw [(h c).2 main_v50 (Pipeline.mem_restRefs_of main_v50 (by decide) (by decide)), post_eq, show i = ix0 from funext fun a => a.elim0]
    exact r_loss m c
  · funext i
    rw [(h c).2 main_v93 (Pipeline.mem_restRefs_of main_v93 (by decide) (by decide)), post_eq]
    idx_vars i
    exact r_q m c i0 i1
  · funext i
    rw [(h c).2 main_v19 (Pipeline.mem_restRefs_of main_v19 (by decide) (by decide)), post_eq]
    idx_vars i
    exact r_h m c i0 i1
  · funext i
    rw [(h c).2 main_v22 (Pipeline.mem_restRefs_of main_v22 (by decide) (by decide)), post_eq]
    idx_vars i
    exact r_z m c i0 i1

end Cert.ReferenceIdeal.Val
end
-- ==== Proof.lean ====
module

public import proofs.«01_k».proof.Defs
public import proofs.«01_k».proof.Proof.Same
public import proofs.«01_k».proof.Proof.Gen.Kernel
public import proofs.«01_k».proof.Proof.KernelIdeal.Whole
public import proofs.«01_k».proof.Proof.Gen.ReferenceIdeal.Frame
public import proofs.«01_k».proof.Proof.Value
public import proofs.«01_k».proof.Proof.RefValue
public import Idealize.ShloMosaic.Adequacy
public import Idealize.ShloMosaic.Init

@[expose] public section

noncomputable section

namespace Cert.Proof

open Idealize.ShloMosaic Idealize.SL.Sem Cert.Kernel

/-- Memories that agree on the arguments give the same argument arrays. -/
theorem args_eq (m : (ℓ : Loc Cert.KernelIdeal.nD Cert.KernelIdeal.τ Cert.KernelIdeal.sig) → Buf (Elt Ideal) ℓ)
    (m' : (ℓ : Loc Cert.ReferenceIdeal.nD Cert.ReferenceIdeal.τ Cert.ReferenceIdeal.sig) → Buf (Elt Ideal) ℓ)
    (c : Dev Cert.KernelIdeal.nD)
    (h : m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) :
    Cert.ReferenceIdeal.Val.args m' c = Cert.KernelIdeal.Val.args m c := by
  obtain ⟨h0, h1, h2, h3, h4, h5⟩ := h
  unfold Cert.ReferenceIdeal.Val.args Cert.KernelIdeal.Val.args
  congr 1
  · funext b s d; exact congrFun h0 (ix3 b s d)
  · funext b s k; exact congrFun h1 (ix3 b s k)
  · funext o d; exact congrFun h2 (ix2 o d)
  · funext o k; exact congrFun h3 (ix2 o k)
  · funext o k; exact congrFun h4 (ix2 o k)
  · funext b s o; exact congrFun h5 (ix3 b s o)

theorem claim : Cert.Claim := ⟨Cert.Kernel.Gen.facts, Cert.KernelIdeal.Gen.facts, Cert.ReferenceIdeal.Gen.facts,
  fun m ρ _ => Cert.Same.frame Cert.Kernel.Gen.facts m ρ, fun m ρ _ => Cert.KernelIdeal.Gen.frame m ρ,
  fun m ρ _ => Cert.ReferenceIdeal.Gen.frame m ρ, trivial,
  fun m g m' g' _ hA =>
    ⟨fun c i => Spec.dg (Cert.KernelIdeal.Val.args m c) (i 0) (i 1), fun c i => Spec.db (Cert.KernelIdeal.Val.args m c) (i 0) (i 1),
     fun c _ => Spec.loss (Cert.KernelIdeal.Val.args m c), fun c i => Spec.qi (Cert.KernelIdeal.Val.args m c) (i 0) (i 1),
     fun c i => Spec.h (Cert.KernelIdeal.Val.args m c) (i 0) (i 1), fun c i => Spec.z (Cert.KernelIdeal.Val.args m c) (i 0) (i 1),
     (θ_run Cert.KernelIdeal.defs _ _).mono (fun r h c =>
      ⟨(h.1 c).1, (h.1 c).2.1, (h.1 c).2.2.1, (h.1 c).2.2.2.1, (h.1 c).2.2.2.2.1, (h.1 c).2.2.2.2.2, h.2 c⟩)
      (Cert.KernelIdeal.Val.run m g),
     (θ_run Cert.ReferenceIdeal.defs _ _).mono (fun r h c => by
      have e := args_eq m m' c (hA c)
      have h1 := h.1 c
      rw [e] at h1
      exact ⟨h1.1, h1.2.1, h1.2.2.1, h1.2.2.2.1, h1.2.2.2.2.1, h1.2.2.2.2.2, h.2 c⟩)
      (Cert.ReferenceIdeal.Val.run m' g')⟩⟩

end Cert.Proof

end
